-- ==== Defs.lean ====
def Pre_Kernel [hPre_in_cloud : Cert.Pre_in_cloud.Facts] (m : (ℓ : Loc Cert.Kernel.nD Cert.Kernel.τ Cert.Kernel.sig) → Buf (Elt Bits) ℓ) : Prop :=
  ∀ c : Dev Cert.Kernel.nD,
    (Cert.Pre_in_cloud.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_in_cloud : Cert.Pre_in_cloud.Facts] (m : (ℓ : Loc Cert.KernelIdeal.nD Cert.KernelIdeal.τ Cert.KernelIdeal.sig) → Buf (Elt Ideal) ℓ) : Prop :=
  ∀ c : Dev Cert.KernelIdeal.nD,
    (Cert.Pre_in_cloud.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_in_cloud : Cert.Pre_in_cloud.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_in_cloud.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def Pre_Reference [hPre_in_cloud : Cert.Pre_in_cloud.Facts] (m : (ℓ : Loc Cert.Reference.nD Cert.Reference.τ Cert.Reference.sig) → Buf (Elt Bits) ℓ) : Prop :=
  ∀ c : Dev Cert.Reference.nD,
    (Cert.Pre_in_cloud.fn (F := Bits) (m ((c.tc : Thread Cert.Reference.nD Cert.Reference.τ).loc Cert.Reference.main_arg0)) (m ((c.tc : Thread Cert.Reference.nD Cert.Reference.τ).loc Cert.Reference.main_arg1))) = (fun _ => 1#1)

def Pre_Sample (m : (ℓ : Loc Cert.Sample.nD Cert.Sample.τ Cert.Sample.sig) → Buf (Elt Bits) ℓ) : Prop :=
  True

def Pre_SampleIdeal (m : (ℓ : Loc Cert.SampleIdeal.nD Cert.SampleIdeal.τ Cert.SampleIdeal.sig) → Buf (Elt Ideal) ℓ) : Prop :=
  True

def Pre_SampleReferenceIdeal (m : (ℓ : Loc Cert.SampleReferenceIdeal.nD Cert.SampleReferenceIdeal.τ Cert.SampleReferenceIdeal.sig) → Buf (Elt Ideal) ℓ) : Prop :=
  True

def Pre_Near (m : (ℓ : Loc Cert.Near.nD Cert.Near.τ Cert.Near.sig) → Buf (Elt Bits) ℓ) : Prop :=
  True

def Pre_NearIdeal (m : (ℓ : Loc Cert.NearIdeal.nD Cert.NearIdeal.τ Cert.NearIdeal.sig) → Buf (Elt Ideal) ℓ) : Prop :=
  True

def Pre_NearIdeal_bounded [hPre_bounded : Cert.Pre_bounded.Facts] (m : (ℓ : Loc Cert.NearIdeal.nD Cert.NearIdeal.τ Cert.NearIdeal.sig) → Buf (Elt Ideal) ℓ) : Prop :=
  ∀ c : Dev Cert.NearIdeal.nD,
    (Cert.Pre_bounded.fn (F := Ideal) (m ((c.tc : Thread Cert.NearIdeal.nD Cert.NearIdeal.τ).loc Cert.NearIdeal.main_arg0)) (m ((c.tc : Thread Cert.NearIdeal.nD Cert.NearIdeal.τ).loc Cert.NearIdeal.main_arg1))) = (fun _ => 1#1)

def Pre_NearReferenceIdeal (m : (ℓ : Loc Cert.NearReferenceIdeal.nD Cert.NearReferenceIdeal.τ Cert.NearReferenceIdeal.sig) → Buf (Elt Ideal) ℓ) : Prop :=
  True

def Pre_NearReferenceIdeal_bounded [hPre_bounded : Cert.Pre_bounded.Facts] (m : (ℓ : Loc Cert.NearReferenceIdeal.nD Cert.NearReferenceIdeal.τ Cert.NearReferenceIdeal.sig) → Buf (Elt Ideal) ℓ) : Prop :=
  ∀ c : Dev Cert.NearReferenceIdeal.nD,
    (Cert.Pre_bounded.fn (F := Ideal) (m ((c.tc : Thread Cert.NearReferenceIdeal.nD Cert.NearReferenceIdeal.τ).loc Cert.NearReferenceIdeal.main_arg0)) (m ((c.tc : Thread Cert.NearReferenceIdeal.nD Cert.NearReferenceIdeal.τ).loc Cert.NearReferenceIdeal.main_arg1))) = (fun _ => 1#1)

def Pre_Dense (m : (ℓ : Loc Cert.Dense.nD Cert.Dense.τ Cert.Dense.sig) → Buf (Elt Bits) ℓ) : Prop :=
  True

def Pre_DenseIdeal (m : (ℓ : Loc Cert.DenseIdeal.nD Cert.DenseIdeal.τ Cert.DenseIdeal.sig) → Buf (Elt Ideal) ℓ) : Prop :=
  True

def Pre_DenseIdeal_finite [hPre_finite : Cert.Pre_finite.Facts] (m : (ℓ : Loc Cert.DenseIdeal.nD Cert.DenseIdeal.τ Cert.DenseIdeal.sig) → Buf (Elt Ideal) ℓ) : Prop :=
  ∀ c : Dev Cert.DenseIdeal.nD,
    (Cert.Pre_finite.fn (F := Ideal) (m ((c.tc : Thread Cert.DenseIdeal.nD Cert.DenseIdeal.τ).loc Cert.DenseIdeal.main_arg0)) (m ((c.tc : Thread Cert.DenseIdeal.nD Cert.DenseIdeal.τ).loc Cert.DenseIdeal.main_arg1)) (m ((c.tc : Thread Cert.DenseIdeal.nD Cert.DenseIdeal.τ).loc Cert.DenseIdeal.main_arg2)) (m ((c.tc : Thread Cert.DenseIdeal.nD Cert.DenseIdeal.τ).loc Cert.DenseIdeal.main_arg3)) (m ((c.tc : Thread Cert.DenseIdeal.nD Cert.DenseIdeal.τ).loc Cert.DenseIdeal.main_arg4)) (m ((c.tc : Thread Cert.DenseIdeal.nD Cert.DenseIdeal.τ).loc Cert.DenseIdeal.main_arg5)) (m ((c.tc : Thread Cert.DenseIdeal.nD Cert.DenseIdeal.τ).loc Cert.DenseIdeal.main_arg6)) (m ((c.tc : Thread Cert.DenseIdeal.nD Cert.DenseIdeal.τ).loc Cert.DenseIdeal.main_arg7))) = (fun _ => 1#1)

def Pre_DenseReferenceIdeal (m : (ℓ : Loc Cert.DenseReferenceIdeal.nD Cert.DenseReferenceIdeal.τ Cert.DenseReferenceIdeal.sig) → Buf (Elt Ideal) ℓ) : Prop :=
  True

def Pre_DenseReferenceIdeal_finite [hPre_finite : Cert.Pre_finite.Facts] (m : (ℓ : Loc Cert.DenseReferenceIdeal.nD Cert.DenseReferenceIdeal.τ Cert.DenseReferenceIdeal.sig) → Buf (Elt Ideal) ℓ) : Prop :=
  ∀ c : Dev Cert.DenseReferenceIdeal.nD,
    (Cert.Pre_finite.fn (F := Ideal) (m ((c.tc : Thread Cert.DenseReferenceIdeal.nD Cert.DenseReferenceIdeal.τ).loc Cert.DenseReferenceIdeal.main_arg0)) (m ((c.tc : Thread Cert.DenseReferenceIdeal.nD Cert.DenseReferenceIdeal.τ).loc Cert.DenseReferenceIdeal.main_arg1)) (m ((c.tc : Thread Cert.DenseReferenceIdeal.nD Cert.DenseReferenceIdeal.τ).loc Cert.DenseReferenceIdeal.main_arg2)) (m ((c.tc : Thread Cert.DenseReferenceIdeal.nD Cert.DenseReferenceIdeal.τ).loc Cert.DenseReferenceIdeal.main_arg3)) (m ((c.tc : Thread Cert.DenseReferenceIdeal.nD Cert.DenseReferenceIdeal.τ).loc Cert.DenseReferenceIdeal.main_arg4)) (m ((c.tc : Thread Cert.DenseReferenceIdeal.nD Cert.DenseReferenceIdeal.τ).loc Cert.DenseReferenceIdeal.main_arg5)) (m ((c.tc : Thread Cert.DenseReferenceIdeal.nD Cert.DenseReferenceIdeal.τ).loc Cert.DenseReferenceIdeal.main_arg6)) (m ((c.tc : Thread Cert.DenseReferenceIdeal.nD Cert.DenseReferenceIdeal.τ).loc Cert.DenseReferenceIdeal.main_arg7))) = (fun _ => 1#1)

def quiescent_Kernel [hKernel : Cert.Kernel.Facts] [hPre_in_cloud : Cert.Pre_in_cloud.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] [hPre_in_cloud : Cert.Pre_in_cloud.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] [hPre_in_cloud : Cert.Pre_in_cloud.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_Reference [hReference : Cert.Reference.Facts] [hPre_in_cloud : Cert.Pre_in_cloud.Facts] : Prop :=
  ∀ (m : (ℓ : Loc Cert.Reference.nD Cert.Reference.τ Cert.Reference.sig) → Buf (Elt Bits) ℓ) (g : Dev Cert.Reference.nD → PrngReg), Pre_Reference m →
    θ_run (Cert.Reference.defs (F := Bits)) (onTc (τ := Cert.Reference.τ) (Cert.Reference.main (F := Bits))) ⟨m, fun _ => 0, g⟩ (fun r => (∀ c : Dev Cert.Reference.nD,
      r.2.mem ((c.tc : Thread Cert.Reference.nD Cert.Reference.τ).loc Cert.Reference.main_arg0) = m ((c.tc : Thread Cert.Reference.nD Cert.Reference.τ).loc Cert.Reference.main_arg0)
      ∧ r.2.mem ((c.tc : Thread Cert.Reference.nD Cert.Reference.τ).loc Cert.Reference.main_arg1) = m ((c.tc : Thread Cert.Reference.nD Cert.Reference.τ).loc Cert.Reference.main_arg1))
      ∧ r.2.sem = fun _ => 0)

def quiescent_Sample [hSample : Cert.Sample.Facts] : Prop :=
  ∀ (m : (ℓ : Loc Cert.Sample.nD Cert.Sample.τ Cert.Sample.sig) → Buf (Elt Bits) ℓ) (g : Dev Cert.Sample.nD → PrngReg), Pre_Sample m →
    θ_run (Cert.Sample.defs (F := Bits)) (onTc (τ := Cert.Sample.τ) (Cert.Sample.main (F := Bits))) ⟨m, fun _ => 0, g⟩ (fun r => (∀ c : Dev Cert.Sample.nD,
      r.2.mem ((c.tc : Thread Cert.Sample.nD Cert.Sample.τ).loc Cert.Sample.main_arg0) = m ((c.tc : Thread Cert.Sample.nD Cert.Sample.τ).loc Cert.Sample.main_arg0))
      ∧ r.2.sem = fun _ => 0)

def quiescent_SampleIdeal [hSampleIdeal : Cert.SampleIdeal.Facts] : Prop :=
  ∀ (m : (ℓ : Loc Cert.SampleIdeal.nD Cert.SampleIdeal.τ Cert.SampleIdeal.sig) → Buf (Elt Ideal) ℓ) (g : Dev Cert.SampleIdeal.nD → PrngReg), Pre_SampleIdeal m →
    θ_run (Cert.SampleIdeal.defs (F := Ideal)) (onTc (τ := Cert.SampleIdeal.τ) (Cert.SampleIdeal.main (F := Ideal))) ⟨m, fun _ => 0, g⟩ (fun r => (∀ c : Dev Cert.SampleIdeal.nD,
      r.2.mem ((c.tc : Thread Cert.SampleIdeal.nD Cert.SampleIdeal.τ).loc Cert.SampleIdeal.main_arg0) = m ((c.tc : Thread Cert.SampleIdeal.nD Cert.SampleIdeal.τ).loc Cert.SampleIdeal.main_arg0))
      ∧ r.2.sem = fun _ => 0)

def quiescent_SampleReferenceIdeal [hSampleReferenceIdeal : Cert.SampleReferenceIdeal.Facts] : Prop :=
  ∀ (m : (ℓ : Loc Cert.SampleReferenceIdeal.nD Cert.SampleReferenceIdeal.τ Cert.SampleReferenceIdeal.sig) → Buf (Elt Ideal) ℓ) (g : Dev Cert.SampleReferenceIdeal.nD → PrngReg), Pre_SampleReferenceIdeal m →
    θ_run (Cert.SampleReferenceIdeal.defs (F := Ideal)) (onTc (τ := Cert.SampleReferenceIdeal.τ) (Cert.SampleReferenceIdeal.main (F := Ideal))) ⟨m, fun _ => 0, g⟩ (fun r => (∀ c : Dev Cert.SampleReferenceIdeal.nD,
      r.2.mem ((c.tc : Thread Cert.SampleReferenceIdeal.nD Cert.SampleReferenceIdeal.τ).loc Cert.SampleReferenceIdeal.main_arg0) = m ((c.tc : Thread Cert.SampleReferenceIdeal.nD Cert.SampleReferenceIdeal.τ).loc Cert.SampleReferenceIdeal.main_arg0))
      ∧ r.2.sem = fun _ => 0)

def quiescent_Near [hNear : Cert.Near.Facts] : Prop :=
  ∀ (m : (ℓ : Loc Cert.Near.nD Cert.Near.τ Cert.Near.sig) → Buf (Elt Bits) ℓ) (g : Dev Cert.Near.nD → PrngReg), Pre_Near m →
    θ_run (Cert.Near.defs (F := Bits)) (onTc (τ := Cert.Near.τ) (Cert.Near.main (F := Bits))) ⟨m, fun _ => 0, g⟩ (fun r => (∀ c : Dev Cert.Near.nD,
      r.2.mem ((c.tc : Thread Cert.Near.nD Cert.Near.τ).loc Cert.Near.main_arg0) = m ((c.tc : Thread Cert.Near.nD Cert.Near.τ).loc Cert.Near.main_arg0)
      ∧ r.2.mem ((c.tc : Thread Cert.Near.nD Cert.Near.τ).loc Cert.Near.main_arg1) = m ((c.tc : Thread Cert.Near.nD Cert.Near.τ).loc Cert.Near.main_arg1))
      ∧ r.2.sem = fun _ => 0)

def quiescent_NearIdeal [hNearIdeal : Cert.NearIdeal.Facts] : Prop :=
  ∀ (m : (ℓ : Loc Cert.NearIdeal.nD Cert.NearIdeal.τ Cert.NearIdeal.sig) → Buf (Elt Ideal) ℓ) (g : Dev Cert.NearIdeal.nD → PrngReg), Pre_NearIdeal m →
    θ_run (Cert.NearIdeal.defs (F := Ideal)) (onTc (τ := Cert.NearIdeal.τ) (Cert.NearIdeal.main (F := Ideal))) ⟨m, fun _ => 0, g⟩ (fun r => (∀ c : Dev Cert.NearIdeal.nD,
      r.2.mem ((c.tc : Thread Cert.NearIdeal.nD Cert.NearIdeal.τ).loc Cert.NearIdeal.main_arg0) = m ((c.tc : Thread Cert.NearIdeal.nD Cert.NearIdeal.τ).loc Cert.NearIdeal.main_arg0)
      ∧ r.2.mem ((c.tc : Thread Cert.NearIdeal.nD Cert.NearIdeal.τ).loc Cert.NearIdeal.main_arg1) = m ((c.tc : Thread Cert.NearIdeal.nD Cert.NearIdeal.τ).loc Cert.NearIdeal.main_arg1))
      ∧ r.2.sem = fun _ => 0)

def quiescent_NearIdeal_pre_bounded [hNearIdeal : Cert.NearIdeal.Facts] [hPre_bounded : Cert.Pre_bounded.Facts] : Prop :=
  ∀ (m : (ℓ : Loc Cert.NearIdeal.nD Cert.NearIdeal.τ Cert.NearIdeal.sig) → Buf (Elt Ideal) ℓ) (g : Dev Cert.NearIdeal.nD → PrngReg), Pre_NearIdeal_bounded m →
    θ_run (Cert.NearIdeal.defs (F := Ideal)) (onTc (τ := Cert.NearIdeal.τ) (Cert.NearIdeal.main (F := Ideal))) ⟨m, fun _ => 0, g⟩ (fun r => (∀ c : Dev Cert.NearIdeal.nD,
      r.2.mem ((c.tc : Thread Cert.NearIdeal.nD Cert.NearIdeal.τ).loc Cert.NearIdeal.main_arg0) = m ((c.tc : Thread Cert.NearIdeal.nD Cert.NearIdeal.τ).loc Cert.NearIdeal.main_arg0)
      ∧ r.2.mem ((c.tc : Thread Cert.NearIdeal.nD Cert.NearIdeal.τ).loc Cert.NearIdeal.main_arg1) = m ((c.tc : Thread Cert.NearIdeal.nD Cert.NearIdeal.τ).loc Cert.NearIdeal.main_arg1))
      ∧ r.2.sem = fun _ => 0)

def quiescent_NearReferenceIdeal [hNearReferenceIdeal : Cert.NearReferenceIdeal.Facts] : Prop :=
  ∀ (m : (ℓ : Loc Cert.NearReferenceIdeal.nD Cert.NearReferenceIdeal.τ Cert.NearReferenceIdeal.sig) → Buf (Elt Ideal) ℓ) (g : Dev Cert.NearReferenceIdeal.nD → PrngReg), Pre_NearReferenceIdeal m →
    θ_run (Cert.NearReferenceIdeal.defs (F := Ideal)) (onTc (τ := Cert.NearReferenceIdeal.τ) (Cert.NearReferenceIdeal.main (F := Ideal))) ⟨m, fun _ => 0, g⟩ (fun r => (∀ c : Dev Cert.NearReferenceIdeal.nD,
      r.2.mem ((c.tc : Thread Cert.NearReferenceIdeal.nD Cert.NearReferenceIdeal.τ).loc Cert.NearReferenceIdeal.main_arg0) = m ((c.tc : Thread Cert.NearReferenceIdeal.nD Cert.NearReferenceIdeal.τ).loc Cert.NearReferenceIdeal.main_arg0)
      ∧ r.2.mem ((c.tc : Thread Cert.NearReferenceIdeal.nD Cert.NearReferenceIdeal.τ).loc Cert.NearReferenceIdeal.main_arg1) = m ((c.tc : Thread Cert.NearReferenceIdeal.nD Cert.NearReferenceIdeal.τ).loc Cert.NearReferenceIdeal.main_arg1))
      ∧ r.2.sem = fun _ => 0)

def quiescent_NearReferenceIdeal_pre_bounded [hNearReferenceIdeal : Cert.NearReferenceIdeal.Facts] [hPre_bounded : Cert.Pre_bounded.Facts] : Prop :=
  ∀ (m : (ℓ : Loc Cert.NearReferenceIdeal.nD Cert.NearReferenceIdeal.τ Cert.NearReferenceIdeal.sig) → Buf (Elt Ideal) ℓ) (g : Dev Cert.NearReferenceIdeal.nD → PrngReg), Pre_NearReferenceIdeal_bounded m →
    θ_run (Cert.NearReferenceIdeal.defs (F := Ideal)) (onTc (τ := Cert.NearReferenceIdeal.τ) (Cert.NearReferenceIdeal.main (F := Ideal))) ⟨m, fun _ => 0, g⟩ (fun r => (∀ c : Dev Cert.NearReferenceIdeal.nD,
      r.2.mem ((c.tc : Thread Cert.NearReferenceIdeal.nD Cert.NearReferenceIdeal.τ).loc Cert.NearReferenceIdeal.main_arg0) = m ((c.tc : Thread Cert.NearReferenceIdeal.nD Cert.NearReferenceIdeal.τ).loc Cert.NearReferenceIdeal.main_arg0)
      ∧ r.2.mem ((c.tc : Thread Cert.NearReferenceIdeal.nD Cert.NearReferenceIdeal.τ).loc Cert.NearReferenceIdeal.main_arg1) = m ((c.tc : Thread Cert.NearReferenceIdeal.nD Cert.NearReferenceIdeal.τ).loc Cert.NearReferenceIdeal.main_arg1))
      ∧ r.2.sem = fun _ => 0)

def quiescent_Dense [hDense : Cert.Dense.Facts] : Prop :=
  ∀ (m : (ℓ : Loc Cert.Dense.nD Cert.Dense.τ Cert.Dense.sig) → Buf (Elt Bits) ℓ) (g : Dev Cert.Dense.nD → PrngReg), Pre_Dense m →
    θ_run (Cert.Dense.defs (F := Bits)) (onTc (τ := Cert.Dense.τ) (Cert.Dense.main (F := Bits))) ⟨m, fun _ => 0, g⟩ (fun r => (∀ c : Dev Cert.Dense.nD,
      r.2.mem ((c.tc : Thread Cert.Dense.nD Cert.Dense.τ).loc Cert.Dense.main_arg0) = m ((c.tc : Thread Cert.Dense.nD Cert.Dense.τ).loc Cert.Dense.main_arg0)
      ∧ r.2.mem ((c.tc : Thread Cert.Dense.nD Cert.Dense.τ).loc Cert.Dense.main_arg1) = m ((c.tc : Thread Cert.Dense.nD Cert.Dense.τ).loc Cert.Dense.main_arg1)
      ∧ r.2.mem ((c.tc : Thread Cert.Dense.nD Cert.Dense.τ).loc Cert.Dense.main_arg2) = m ((c.tc : Thread Cert.Dense.nD Cert.Dense.τ).loc Cert.Dense.main_arg2)
      ∧ r.2.mem ((c.tc : Thread Cert.Dense.nD Cert.Dense.τ).loc Cert.Dense.main_arg3) = m ((c.tc : Thread Cert.Dense.nD Cert.Dense.τ).loc Cert.Dense.main_arg3)
      ∧ r.2.mem ((c.tc : Thread Cert.Dense.nD Cert.Dense.τ).loc Cert.Dense.main_arg4) = m ((c.tc : Thread Cert.Dense.nD Cert.Dense.τ).loc Cert.Dense.main_arg4)
      ∧ r.2.mem ((c.tc : Thread Cert.Dense.nD Cert.Dense.τ).loc Cert.Dense.main_arg5) = m ((c.tc : Thread Cert.Dense.nD Cert.Dense.τ).loc Cert.Dense.main_arg5)
      ∧ r.2.mem ((c.tc : Thread Cert.Dense.nD Cert.Dense.τ).loc Cert.Dense.main_arg6) = m ((c.tc : Thread Cert.Dense.nD Cert.Dense.τ).loc Cert.Dense.main_arg6)
      ∧ r.2.mem ((c.tc : Thread Cert.Dense.nD Cert.Dense.τ).loc Cert.Dense.main_arg7) = m ((c.tc : Thread Cert.Dense.nD Cert.Dense.τ).loc Cert.Dense.main_arg7))
      ∧ r.2.sem = fun _ => 0)

def quiescent_DenseIdeal [hDenseIdeal : Cert.DenseIdeal.Facts] : Prop :=
  ∀ (m : (ℓ : Loc Cert.DenseIdeal.nD Cert.DenseIdeal.τ Cert.DenseIdeal.sig) → Buf (Elt Ideal) ℓ) (g : Dev Cert.DenseIdeal.nD → PrngReg), Pre_DenseIdeal m →
    θ_run (Cert.DenseIdeal.defs (F := Ideal)) (onTc (τ := Cert.DenseIdeal.τ) (Cert.DenseIdeal.main (F := Ideal))) ⟨m, fun _ => 0, g⟩ (fun r => (∀ c : Dev Cert.DenseIdeal.nD,
      r.2.mem ((c.tc : Thread Cert.DenseIdeal.nD Cert.DenseIdeal.τ).loc Cert.DenseIdeal.main_arg0) = m ((c.tc : Thread Cert.DenseIdeal.nD Cert.DenseIdeal.τ).loc Cert.DenseIdeal.main_arg0)
      ∧ r.2.mem ((c.tc : Thread Cert.DenseIdeal.nD Cert.DenseIdeal.τ).loc Cert.DenseIdeal.main_arg1) = m ((c.tc : Thread Cert.DenseIdeal.nD Cert.DenseIdeal.τ).loc Cert.DenseIdeal.main_arg1)
      ∧ r.2.mem ((c.tc : Thread Cert.DenseIdeal.nD Cert.DenseIdeal.τ).loc Cert.DenseIdeal.main_arg2) = m ((c.tc : Thread Cert.DenseIdeal.nD Cert.DenseIdeal.τ).loc Cert.DenseIdeal.main_arg2)
      ∧ r.2.mem ((c.tc : Thread Cert.DenseIdeal.nD Cert.DenseIdeal.τ).loc Cert.DenseIdeal.main_arg3) = m ((c.tc : Thread Cert.DenseIdeal.nD Cert.DenseIdeal.τ).loc Cert.DenseIdeal.main_arg3)
      ∧ r.2.mem ((c.tc : Thread Cert.DenseIdeal.nD Cert.DenseIdeal.τ).loc Cert.DenseIdeal.main_arg4) = m ((c.tc : Thread Cert.DenseIdeal.nD Cert.DenseIdeal.τ).loc Cert.DenseIdeal.main_arg4)
      ∧ r.2.mem ((c.tc : Thread Cert.DenseIdeal.nD Cert.DenseIdeal.τ).loc Cert.DenseIdeal.main_arg5) = m ((c.tc : Thread Cert.DenseIdeal.nD Cert.DenseIdeal.τ).loc Cert.DenseIdeal.main_arg5)
      ∧ r.2.mem ((c.tc : Thread Cert.DenseIdeal.nD Cert.DenseIdeal.τ).loc Cert.DenseIdeal.main_arg6) = m ((c.tc : Thread Cert.DenseIdeal.nD Cert.DenseIdeal.τ).loc Cert.DenseIdeal.main_arg6)
      ∧ r.2.mem ((c.tc : Thread Cert.DenseIdeal.nD Cert.DenseIdeal.τ).loc Cert.DenseIdeal.main_arg7) = m ((c.tc : Thread Cert.DenseIdeal.nD Cert.DenseIdeal.τ).loc Cert.DenseIdeal.main_arg7))
      ∧ r.2.sem = fun _ => 0)

def quiescent_DenseIdeal_pre_finite [hDenseIdeal : Cert.DenseIdeal.Facts] [hPre_finite : Cert.Pre_finite.Facts] : Prop :=
  ∀ (m : (ℓ : Loc Cert.DenseIdeal.nD Cert.DenseIdeal.τ Cert.DenseIdeal.sig) → Buf (Elt Ideal) ℓ) (g : Dev Cert.DenseIdeal.nD → PrngReg), Pre_DenseIdeal_finite m →
    θ_run (Cert.DenseIdeal.defs (F := Ideal)) (onTc (τ := Cert.DenseIdeal.τ) (Cert.DenseIdeal.main (F := Ideal))) ⟨m, fun _ => 0, g⟩ (fun r => (∀ c : Dev Cert.DenseIdeal.nD,
      r.2.mem ((c.tc : Thread Cert.DenseIdeal.nD Cert.DenseIdeal.τ).loc Cert.DenseIdeal.main_arg0) = m ((c.tc : Thread Cert.DenseIdeal.nD Cert.DenseIdeal.τ).loc Cert.DenseIdeal.main_arg0)
      ∧ r.2.mem ((c.tc : Thread Cert.DenseIdeal.nD Cert.DenseIdeal.τ).loc Cert.DenseIdeal.main_arg1) = m ((c.tc : Thread Cert.DenseIdeal.nD Cert.DenseIdeal.τ).loc Cert.DenseIdeal.main_arg1)
      ∧ r.2.mem ((c.tc : Thread Cert.DenseIdeal.nD Cert.DenseIdeal.τ).loc Cert.DenseIdeal.main_arg2) = m ((c.tc : Thread Cert.DenseIdeal.nD Cert.DenseIdeal.τ).loc Cert.DenseIdeal.main_arg2)
      ∧ r.2.mem ((c.tc : Thread Cert.DenseIdeal.nD Cert.DenseIdeal.τ).loc Cert.DenseIdeal.main_arg3) = m ((c.tc : Thread Cert.DenseIdeal.nD Cert.DenseIdeal.τ).loc Cert.DenseIdeal.main_arg3)
      ∧ r.2.mem ((c.tc : Thread Cert.DenseIdeal.nD Cert.DenseIdeal.τ).loc Cert.DenseIdeal.main_arg4) = m ((c.tc : Thread Cert.DenseIdeal.nD Cert.DenseIdeal.τ).loc Cert.DenseIdeal.main_arg4)
      ∧ r.2.mem ((c.tc : Thread Cert.DenseIdeal.nD Cert.DenseIdeal.τ).loc Cert.DenseIdeal.main_arg5) = m ((c.tc : Thread Cert.DenseIdeal.nD Cert.DenseIdeal.τ).loc Cert.DenseIdeal.main_arg5)
      ∧ r.2.mem ((c.tc : Thread Cert.DenseIdeal.nD Cert.DenseIdeal.τ).loc Cert.DenseIdeal.main_arg6) = m ((c.tc : Thread Cert.DenseIdeal.nD Cert.DenseIdeal.τ).loc Cert.DenseIdeal.main_arg6)
      ∧ r.2.mem ((c.tc : Thread Cert.DenseIdeal.nD Cert.DenseIdeal.τ).loc Cert.DenseIdeal.main_arg7) = m ((c.tc : Thread Cert.DenseIdeal.nD Cert.DenseIdeal.τ).loc Cert.DenseIdeal.main_arg7))
      ∧ r.2.sem = fun _ => 0)

def quiescent_DenseReferenceIdeal [hDenseReferenceIdeal : Cert.DenseReferenceIdeal.Facts] : Prop :=
  ∀ (m : (ℓ : Loc Cert.DenseReferenceIdeal.nD Cert.DenseReferenceIdeal.τ Cert.DenseReferenceIdeal.sig) → Buf (Elt Ideal) ℓ) (g : Dev Cert.DenseReferenceIdeal.nD → PrngReg), Pre_DenseReferenceIdeal m →
    θ_run (Cert.DenseReferenceIdeal.defs (F := Ideal)) (onTc (τ := Cert.DenseReferenceIdeal.τ) (Cert.DenseReferenceIdeal.main (F := Ideal))) ⟨m, fun _ => 0, g⟩ (fun r => (∀ c : Dev Cert.DenseReferenceIdeal.nD,
      r.2.mem ((c.tc : Thread Cert.DenseReferenceIdeal.nD Cert.DenseReferenceIdeal.τ).loc Cert.DenseReferenceIdeal.main_arg0) = m ((c.tc : Thread Cert.DenseReferenceIdeal.nD Cert.DenseReferenceIdeal.τ).loc Cert.DenseReferenceIdeal.main_arg0)
      ∧ r.2.mem ((c.tc : Thread Cert.DenseReferenceIdeal.nD Cert.DenseReferenceIdeal.τ).loc Cert.DenseReferenceIdeal.main_arg1) = m ((c.tc : Thread Cert.DenseReferenceIdeal.nD Cert.DenseReferenceIdeal.τ).loc Cert.DenseReferenceIdeal.main_arg1)
      ∧ r.2.mem ((c.tc : Thread Cert.DenseReferenceIdeal.nD Cert.DenseReferenceIdeal.τ).loc Cert.DenseReferenceIdeal.main_arg2) = m ((c.tc : Thread Cert.DenseReferenceIdeal.nD Cert.DenseReferenceIdeal.τ).loc Cert.DenseReferenceIdeal.main_arg2)
      ∧ r.2.mem ((c.tc : Thread Cert.DenseReferenceIdeal.nD Cert.DenseReferenceIdeal.τ).loc Cert.DenseReferenceIdeal.main_arg3) = m ((c.tc : Thread Cert.DenseReferenceIdeal.nD Cert.DenseReferenceIdeal.τ).loc Cert.DenseReferenceIdeal.main_arg3)
      ∧ r.2.mem ((c.tc : Thread Cert.DenseReferenceIdeal.nD Cert.DenseReferenceIdeal.τ).loc Cert.DenseReferenceIdeal.main_arg4) = m ((c.tc : Thread Cert.DenseReferenceIdeal.nD Cert.DenseReferenceIdeal.τ).loc Cert.DenseReferenceIdeal.main_arg4)
      ∧ r.2.mem ((c.tc : Thread Cert.DenseReferenceIdeal.nD Cert.DenseReferenceIdeal.τ).loc Cert.DenseReferenceIdeal.main_arg5) = m ((c.tc : Thread Cert.DenseReferenceIdeal.nD Cert.DenseReferenceIdeal.τ).loc Cert.DenseReferenceIdeal.main_arg5)
      ∧ r.2.mem ((c.tc : Thread Cert.DenseReferenceIdeal.nD Cert.DenseReferenceIdeal.τ).loc Cert.DenseReferenceIdeal.main_arg6) = m ((c.tc : Thread Cert.DenseReferenceIdeal.nD Cert.DenseReferenceIdeal.τ).loc Cert.DenseReferenceIdeal.main_arg6)
      ∧ r.2.mem ((c.tc : Thread Cert.DenseReferenceIdeal.nD Cert.DenseReferenceIdeal.τ).loc Cert.DenseReferenceIdeal.main_arg7) = m ((c.tc : Thread Cert.DenseReferenceIdeal.nD Cert.DenseReferenceIdeal.τ).loc Cert.DenseReferenceIdeal.main_arg7))
      ∧ r.2.sem = fun _ => 0)

def quiescent_DenseReferenceIdeal_pre_finite [hDenseReferenceIdeal : Cert.DenseReferenceIdeal.Facts] [hPre_finite : Cert.Pre_finite.Facts] : Prop :=
  ∀ (m : (ℓ : Loc Cert.DenseReferenceIdeal.nD Cert.DenseReferenceIdeal.τ Cert.DenseReferenceIdeal.sig) → Buf (Elt Ideal) ℓ) (g : Dev Cert.DenseReferenceIdeal.nD → PrngReg), Pre_DenseReferenceIdeal_finite m →
    θ_run (Cert.DenseReferenceIdeal.defs (F := Ideal)) (onTc (τ := Cert.DenseReferenceIdeal.τ) (Cert.DenseReferenceIdeal.main (F := Ideal))) ⟨m, fun _ => 0, g⟩ (fun r => (∀ c : Dev Cert.DenseReferenceIdeal.nD,
      r.2.mem ((c.tc : Thread Cert.DenseReferenceIdeal.nD Cert.DenseReferenceIdeal.τ).loc Cert.DenseReferenceIdeal.main_arg0) = m ((c.tc : Thread Cert.DenseReferenceIdeal.nD Cert.DenseReferenceIdeal.τ).loc Cert.DenseReferenceIdeal.main_arg0)
      ∧ r.2.mem ((c.tc : Thread Cert.DenseReferenceIdeal.nD Cert.DenseReferenceIdeal.τ).loc Cert.DenseReferenceIdeal.main_arg1) = m ((c.tc : Thread Cert.DenseReferenceIdeal.nD Cert.DenseReferenceIdeal.τ).loc Cert.DenseReferenceIdeal.main_arg1)
      ∧ r.2.mem ((c.tc : Thread Cert.DenseReferenceIdeal.nD Cert.DenseReferenceIdeal.τ).loc Cert.DenseReferenceIdeal.main_arg2) = m ((c.tc : Thread Cert.DenseReferenceIdeal.nD Cert.DenseReferenceIdeal.τ).loc Cert.DenseReferenceIdeal.main_arg2)
      ∧ r.2.mem ((c.tc : Thread Cert.DenseReferenceIdeal.nD Cert.DenseReferenceIdeal.τ).loc Cert.DenseReferenceIdeal.main_arg3) = m ((c.tc : Thread Cert.DenseReferenceIdeal.nD Cert.DenseReferenceIdeal.τ).loc Cert.DenseReferenceIdeal.main_arg3)
      ∧ r.2.mem ((c.tc : Thread Cert.DenseReferenceIdeal.nD Cert.DenseReferenceIdeal.τ).loc Cert.DenseReferenceIdeal.main_arg4) = m ((c.tc : Thread Cert.DenseReferenceIdeal.nD Cert.DenseReferenceIdeal.τ).loc Cert.DenseReferenceIdeal.main_arg4)
      ∧ r.2.mem ((c.tc : Thread Cert.DenseReferenceIdeal.nD Cert.DenseReferenceIdeal.τ).loc Cert.DenseReferenceIdeal.main_arg5) = m ((c.tc : Thread Cert.DenseReferenceIdeal.nD Cert.DenseReferenceIdeal.τ).loc Cert.DenseReferenceIdeal.main_arg5)
      ∧ r.2.mem ((c.tc : Thread Cert.DenseReferenceIdeal.nD Cert.DenseReferenceIdeal.τ).loc Cert.DenseReferenceIdeal.main_arg6) = m ((c.tc : Thread Cert.DenseReferenceIdeal.nD Cert.DenseReferenceIdeal.τ).loc Cert.DenseReferenceIdeal.main_arg6)
      ∧ r.2.mem ((c.tc : Thread Cert.DenseReferenceIdeal.nD Cert.DenseReferenceIdeal.τ).loc Cert.DenseReferenceIdeal.main_arg7) = m ((c.tc : Thread Cert.DenseReferenceIdeal.nD Cert.DenseReferenceIdeal.τ).loc Cert.DenseReferenceIdeal.main_arg7))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] [hPre_in_cloud : Cert.Pre_in_cloud.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v19)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v19) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v17) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def bitexact_Kernel_Reference [hKernel : Cert.Kernel.Facts] [hReference : Cert.Reference.Facts] [hPre_in_cloud : Cert.Pre_in_cloud.Facts] : Prop :=
  ∀ (m : (ℓ : Loc Cert.Kernel.nD Cert.Kernel.τ Cert.Kernel.sig) → Buf (Elt Bits) ℓ) (g : Dev Cert.Kernel.nD → PrngReg)
    (m' : (ℓ : Loc Cert.Reference.nD Cert.Reference.τ Cert.Reference.sig) → Buf (Elt Bits) ℓ) (g' : Dev Cert.Reference.nD → PrngReg), Pre_Kernel m →
    (∀ c : Dev Cert.Kernel.nD,
      m' ((c.tc : Thread Cert.Reference.nD Cert.Reference.τ).loc Cert.Reference.main_arg0) = m ((c.tc : Thread Cert.Kernel.nD Cert.Kernel.τ).loc Cert.Kernel.main_arg0)
      ∧ m' ((c.tc : Thread Cert.Reference.nD Cert.Reference.τ).loc Cert.Reference.main_arg1) = m ((c.tc : Thread Cert.Kernel.nD Cert.Kernel.τ).loc Cert.Kernel.main_arg1)) →
    ∃ (v0 : (c : Dev Cert.Kernel.nD) → Buf (Elt Bits) ((c.tc : Thread Cert.Kernel.nD Cert.Kernel.τ).loc Cert.Kernel.main_v19)),
      θ_run (Cert.Kernel.defs (F := Bits)) (Cert.Kernel.threads (F := Bits)) ⟨m, fun _ => 0, g⟩ (fun r => ∀ c : Dev Cert.Kernel.nD,
          r.2.mem ((c.tc : Thread Cert.Kernel.nD Cert.Kernel.τ).loc Cert.Kernel.main_v19) = v0 c
          ∧ r.2.mem ((c.tc : Thread Cert.Kernel.nD Cert.Kernel.τ).loc Cert.Kernel.main_arg0) = m ((c.tc : Thread Cert.Kernel.nD Cert.Kernel.τ).loc Cert.Kernel.main_arg0)
          ∧ r.2.mem ((c.tc : Thread Cert.Kernel.nD Cert.Kernel.τ).loc Cert.Kernel.main_arg1) = m ((c.tc : Thread Cert.Kernel.nD Cert.Kernel.τ).loc Cert.Kernel.main_arg1))
      ∧ θ_run (Cert.Reference.defs (F := Bits)) (onTc (τ := Cert.Reference.τ) (Cert.Reference.main (F := Bits))) ⟨m', fun _ => 0, g'⟩ (fun r => ∀ c : Dev Cert.Reference.nD,
          r.2.mem ((c.tc : Thread Cert.Reference.nD Cert.Reference.τ).loc Cert.Reference.main_v17) = v0 c
          ∧ r.2.mem ((c.tc : Thread Cert.Reference.nD Cert.Reference.τ).loc Cert.Reference.main_arg0) = m' ((c.tc : Thread Cert.Reference.nD Cert.Reference.τ).loc Cert.Reference.main_arg0)
          ∧ r.2.mem ((c.tc : Thread Cert.Reference.nD Cert.Reference.τ).loc Cert.Reference.main_arg1) = m' ((c.tc : Thread Cert.Reference.nD Cert.Reference.τ).loc Cert.Reference.main_arg1))

def preserves_Sample_SampleIdeal : Prop :=
  True

def algebraic_SampleIdeal_SampleReferenceIdeal [hSampleIdeal : Cert.SampleIdeal.Facts] [hSampleReferenceIdeal : Cert.SampleReferenceIdeal.Facts] : Prop :=
  ∀ (m : (ℓ : Loc Cert.SampleIdeal.nD Cert.SampleIdeal.τ Cert.SampleIdeal.sig) → Buf (Elt Ideal) ℓ) (g : Dev Cert.SampleIdeal.nD → PrngReg)
    (m' : (ℓ : Loc Cert.SampleReferenceIdeal.nD Cert.SampleReferenceIdeal.τ Cert.SampleReferenceIdeal.sig) → Buf (Elt Ideal) ℓ) (g' : Dev Cert.SampleReferenceIdeal.nD → PrngReg), Pre_SampleIdeal m →
    (∀ c : Dev Cert.SampleIdeal.nD,
      m' ((c.tc : Thread Cert.SampleReferenceIdeal.nD Cert.SampleReferenceIdeal.τ).loc Cert.SampleReferenceIdeal.main_arg0) = m ((c.tc : Thread Cert.SampleIdeal.nD Cert.SampleIdeal.τ).loc Cert.SampleIdeal.main_arg0)) →
    ∃ (v0 : (c : Dev Cert.SampleIdeal.nD) → Buf (Elt Ideal) ((c.tc : Thread Cert.SampleIdeal.nD Cert.SampleIdeal.τ).loc Cert.SampleIdeal.main_v10)),
      θ_run (Cert.SampleIdeal.defs (F := Ideal)) (onTc (τ := Cert.SampleIdeal.τ) (Cert.SampleIdeal.main (F := Ideal))) ⟨m, fun _ => 0, g⟩ (fun r => ∀ c : Dev Cert.SampleIdeal.nD,
          r.2.mem ((c.tc : Thread Cert.SampleIdeal.nD Cert.SampleIdeal.τ).loc Cert.SampleIdeal.main_v10) = v0 c
          ∧ r.2.mem ((c.tc : Thread Cert.SampleIdeal.nD Cert.SampleIdeal.τ).loc Cert.SampleIdeal.main_arg0) = m ((c.tc : Thread Cert.SampleIdeal.nD Cert.SampleIdeal.τ).loc Cert.SampleIdeal.main_arg0))
      ∧ θ_run (Cert.SampleReferenceIdeal.defs (F := Ideal)) (onTc (τ := Cert.SampleReferenceIdeal.τ) (Cert.SampleReferenceIdeal.main (F := Ideal))) ⟨m', fun _ => 0, g'⟩ (fun r => ∀ c : Dev Cert.SampleReferenceIdeal.nD,
          r.2.mem ((c.tc : Thread Cert.SampleReferenceIdeal.nD Cert.SampleReferenceIdeal.τ).loc Cert.SampleReferenceIdeal.main_v20) = v0 c
          ∧ r.2.mem ((c.tc : Thread Cert.SampleReferenceIdeal.nD Cert.SampleReferenceIdeal.τ).loc Cert.SampleReferenceIdeal.main_arg0) = m' ((c.tc : Thread Cert.SampleReferenceIdeal.nD Cert.SampleReferenceIdeal.τ).loc Cert.SampleReferenceIdeal.main_arg0))

def preserves_Near_NearIdeal : Prop :=
  True

def algebraic_NearIdeal_NearReferenceIdeal_pre_bounded [hNearIdeal : Cert.NearIdeal.Facts] [hNearReferenceIdeal : Cert.NearReferenceIdeal.Facts] [hPre_bounded : Cert.Pre_bounded.Facts] : Prop :=
  ∀ (m : (ℓ : Loc Cert.NearIdeal.nD Cert.NearIdeal.τ Cert.NearIdeal.sig) → Buf (Elt Ideal) ℓ) (g : Dev Cert.NearIdeal.nD → PrngReg)
    (m' : (ℓ : Loc Cert.NearReferenceIdeal.nD Cert.NearReferenceIdeal.τ Cert.NearReferenceIdeal.sig) → Buf (Elt Ideal) ℓ) (g' : Dev Cert.NearReferenceIdeal.nD → PrngReg), Pre_NearIdeal_bounded m →
    (∀ c : Dev Cert.NearIdeal.nD,
      m' ((c.tc : Thread Cert.NearReferenceIdeal.nD Cert.NearReferenceIdeal.τ).loc Cert.NearReferenceIdeal.main_arg0) = m ((c.tc : Thread Cert.NearIdeal.nD Cert.NearIdeal.τ).loc Cert.NearIdeal.main_arg0)
      ∧ m' ((c.tc : Thread Cert.NearReferenceIdeal.nD Cert.NearReferenceIdeal.τ).loc Cert.NearReferenceIdeal.main_arg1) = m ((c.tc : Thread Cert.NearIdeal.nD Cert.NearIdeal.τ).loc Cert.NearIdeal.main_arg1)) →
    ∃ (v0 : (c : Dev Cert.NearIdeal.nD) → Buf (Elt Ideal) ((c.tc : Thread Cert.NearIdeal.nD Cert.NearIdeal.τ).loc Cert.NearIdeal.main_v20)),
      θ_run (Cert.NearIdeal.defs (F := Ideal)) (onTc (τ := Cert.NearIdeal.τ) (Cert.NearIdeal.main (F := Ideal))) ⟨m, fun _ => 0, g⟩ (fun r => ∀ c : Dev Cert.NearIdeal.nD,
          r.2.mem ((c.tc : Thread Cert.NearIdeal.nD Cert.NearIdeal.τ).loc Cert.NearIdeal.main_v20) = v0 c
          ∧ r.2.mem ((c.tc : Thread Cert.NearIdeal.nD Cert.NearIdeal.τ).loc Cert.NearIdeal.main_arg0) = m ((c.tc : Thread Cert.NearIdeal.nD Cert.NearIdeal.τ).loc Cert.NearIdeal.main_arg0)
          ∧ r.2.mem ((c.tc : Thread Cert.NearIdeal.nD Cert.NearIdeal.τ).loc Cert.NearIdeal.main_arg1) = m ((c.tc : Thread Cert.NearIdeal.nD Cert.NearIdeal.τ).loc Cert.NearIdeal.main_arg1))
      ∧ θ_run (Cert.NearReferenceIdeal.defs (F := Ideal)) (onTc (τ := Cert.NearReferenceIdeal.τ) (Cert.NearReferenceIdeal.main (F := Ideal))) ⟨m', fun _ => 0, g'⟩ (fun r => ∀ c : Dev Cert.NearReferenceIdeal.nD,
          r.2.mem ((c.tc : Thread Cert.NearReferenceIdeal.nD Cert.NearReferenceIdeal.τ).loc Cert.NearReferenceIdeal.main_v21) = v0 c
          ∧ r.2.mem ((c.tc : Thread Cert.NearReferenceIdeal.nD Cert.NearReferenceIdeal.τ).loc Cert.NearReferenceIdeal.main_arg0) = m' ((c.tc : Thread Cert.NearReferenceIdeal.nD Cert.NearReferenceIdeal.τ).loc Cert.NearReferenceIdeal.main_arg0)
          ∧ r.2.mem ((c.tc : Thread Cert.NearReferenceIdeal.nD Cert.NearReferenceIdeal.τ).loc Cert.NearReferenceIdeal.main_arg1) = m' ((c.tc : Thread Cert.NearReferenceIdeal.nD Cert.NearReferenceIdeal.τ).loc Cert.NearReferenceIdeal.main_arg1))

def preserves_Dense_DenseIdeal : Prop :=
  True

def algebraic_DenseIdeal_DenseReferenceIdeal_pre_finite [hDenseIdeal : Cert.DenseIdeal.Facts] [hDenseReferenceIdeal : Cert.DenseReferenceIdeal.Facts] [hPre_finite : Cert.Pre_finite.Facts] : Prop :=
  ∀ (m : (ℓ : Loc Cert.DenseIdeal.nD Cert.DenseIdeal.τ Cert.DenseIdeal.sig) → Buf (Elt Ideal) ℓ) (g : Dev Cert.DenseIdeal.nD → PrngReg)
    (m' : (ℓ : Loc Cert.DenseReferenceIdeal.nD Cert.DenseReferenceIdeal.τ Cert.DenseReferenceIdeal.sig) → Buf (Elt Ideal) ℓ) (g' : Dev Cert.DenseReferenceIdeal.nD → PrngReg), Pre_DenseIdeal_finite m →
    (∀ c : Dev Cert.DenseIdeal.nD,
      m' ((c.tc : Thread Cert.DenseReferenceIdeal.nD Cert.DenseReferenceIdeal.τ).loc Cert.DenseReferenceIdeal.main_arg0) = m ((c.tc : Thread Cert.DenseIdeal.nD Cert.DenseIdeal.τ).loc Cert.DenseIdeal.main_arg0)
      ∧ m' ((c.tc : Thread Cert.DenseReferenceIdeal.nD Cert.DenseReferenceIdeal.τ).loc Cert.DenseReferenceIdeal.main_arg1) = m ((c.tc : Thread Cert.DenseIdeal.nD Cert.DenseIdeal.τ).loc Cert.DenseIdeal.main_arg1)
      ∧ m' ((c.tc : Thread Cert.DenseReferenceIdeal.nD Cert.DenseReferenceIdeal.τ).loc Cert.DenseReferenceIdeal.main_arg2) = m ((c.tc : Thread Cert.DenseIdeal.nD Cert.DenseIdeal.τ).loc Cert.DenseIdeal.main_arg2)
      ∧ m' ((c.tc : Thread Cert.DenseReferenceIdeal.nD Cert.DenseReferenceIdeal.τ).loc Cert.DenseReferenceIdeal.main_arg3) = m ((c.tc : Thread Cert.DenseIdeal.nD Cert.DenseIdeal.τ).loc Cert.DenseIdeal.main_arg3)
      ∧ m' ((c.tc : Thread Cert.DenseReferenceIdeal.nD Cert.DenseReferenceIdeal.τ).loc Cert.DenseReferenceIdeal.main_arg4) = m ((c.tc : Thread Cert.DenseIdeal.nD Cert.DenseIdeal.τ).loc Cert.DenseIdeal.main_arg4)
      ∧ m' ((c.tc : Thread Cert.DenseReferenceIdeal.nD Cert.DenseReferenceIdeal.τ).loc Cert.DenseReferenceIdeal.main_arg5) = m ((c.tc : Thread Cert.DenseIdeal.nD Cert.DenseIdeal.τ).loc Cert.DenseIdeal.main_arg5)
      ∧ m' ((c.tc : Thread Cert.DenseReferenceIdeal.nD Cert.DenseReferenceIdeal.τ).loc Cert.DenseReferenceIdeal.main_arg6) = m ((c.tc : Thread Cert.DenseIdeal.nD Cert.DenseIdeal.τ).loc Cert.DenseIdeal.main_arg6)
      ∧ m' ((c.tc : Thread Cert.DenseReferenceIdeal.nD Cert.DenseReferenceIdeal.τ).loc Cert.DenseReferenceIdeal.main_arg7) = m ((c.tc : Thread Cert.DenseIdeal.nD Cert.DenseIdeal.τ).loc Cert.DenseIdeal.main_arg7)) →
    ∃ (v0 : (c : Dev Cert.DenseIdeal.nD) → Buf (Elt Ideal) ((c.tc : Thread Cert.DenseIdeal.nD Cert.DenseIdeal.τ).loc Cert.DenseIdeal.main_v36)),
      θ_run (Cert.DenseIdeal.defs (F := Ideal)) (onTc (τ := Cert.DenseIdeal.τ) (Cert.DenseIdeal.main (F := Ideal))) ⟨m, fun _ => 0, g⟩ (fun r => ∀ c : Dev Cert.DenseIdeal.nD,
          r.2.mem ((c.tc : Thread Cert.DenseIdeal.nD Cert.DenseIdeal.τ).loc Cert.DenseIdeal.main_v36) = v0 c
          ∧ r.2.mem ((c.tc : Thread Cert.DenseIdeal.nD Cert.DenseIdeal.τ).loc Cert.DenseIdeal.main_arg0) = m ((c.tc : Thread Cert.DenseIdeal.nD Cert.DenseIdeal.τ).loc Cert.DenseIdeal.main_arg0)
          ∧ r.2.mem ((c.tc : Thread Cert.DenseIdeal.nD Cert.DenseIdeal.τ).loc Cert.DenseIdeal.main_arg1) = m ((c.tc : Thread Cert.DenseIdeal.nD Cert.DenseIdeal.τ).loc Cert.DenseIdeal.main_arg1)
          ∧ r.2.mem ((c.tc : Thread Cert.DenseIdeal.nD Cert.DenseIdeal.τ).loc Cert.DenseIdeal.main_arg2) = m ((c.tc : Thread Cert.DenseIdeal.nD Cert.DenseIdeal.τ).loc Cert.DenseIdeal.main_arg2)
          ∧ r.2.mem ((c.tc : Thread Cert.DenseIdeal.nD Cert.DenseIdeal.τ).loc Cert.DenseIdeal.main_arg3) = m ((c.tc : Thread Cert.DenseIdeal.nD Cert.DenseIdeal.τ).loc Cert.DenseIdeal.main_arg3)
          ∧ r.2.mem ((c.tc : Thread Cert.DenseIdeal.nD Cert.DenseIdeal.τ).loc Cert.DenseIdeal.main_arg4) = m ((c.tc : Thread Cert.DenseIdeal.nD Cert.DenseIdeal.τ).loc Cert.DenseIdeal.main_arg4)
          ∧ r.2.mem ((c.tc : Thread Cert.DenseIdeal.nD Cert.DenseIdeal.τ).loc Cert.DenseIdeal.main_arg5) = m ((c.tc : Thread Cert.DenseIdeal.nD Cert.DenseIdeal.τ).loc Cert.DenseIdeal.main_arg5)
          ∧ r.2.mem ((c.tc : Thread Cert.DenseIdeal.nD Cert.DenseIdeal.τ).loc Cert.DenseIdeal.main_arg6) = m ((c.tc : Thread Cert.DenseIdeal.nD Cert.DenseIdeal.τ).loc Cert.DenseIdeal.main_arg6)
          ∧ r.2.mem ((c.tc : Thread Cert.DenseIdeal.nD Cert.DenseIdeal.τ).loc Cert.DenseIdeal.main_arg7) = m ((c.tc : Thread Cert.DenseIdeal.nD Cert.DenseIdeal.τ).loc Cert.DenseIdeal.main_arg7))
      ∧ θ_run (Cert.DenseReferenceIdeal.defs (F := Ideal)) (onTc (τ := Cert.DenseReferenceIdeal.τ) (Cert.DenseReferenceIdeal.main (F := Ideal))) ⟨m', fun _ => 0, g'⟩ (fun r => ∀ c : Dev Cert.DenseReferenceIdeal.nD,
          r.2.mem ((c.tc : Thread Cert.DenseReferenceIdeal.nD Cert.DenseReferenceIdeal.τ).loc Cert.DenseReferenceIdeal.main_v43) = v0 c
          ∧ r.2.mem ((c.tc : Thread Cert.DenseReferenceIdeal.nD Cert.DenseReferenceIdeal.τ).loc Cert.DenseReferenceIdeal.main_arg0) = m' ((c.tc : Thread Cert.DenseReferenceIdeal.nD Cert.DenseReferenceIdeal.τ).loc Cert.DenseReferenceIdeal.main_arg0)
          ∧ r.2.mem ((c.tc : Thread Cert.DenseReferenceIdeal.nD Cert.DenseReferenceIdeal.τ).loc Cert.DenseReferenceIdeal.main_arg1) = m' ((c.tc : Thread Cert.DenseReferenceIdeal.nD Cert.DenseReferenceIdeal.τ).loc Cert.DenseReferenceIdeal.main_arg1)
          ∧ r.2.mem ((c.tc : Thread Cert.DenseReferenceIdeal.nD Cert.DenseReferenceIdeal.τ).loc Cert.DenseReferenceIdeal.main_arg2) = m' ((c.tc : Thread Cert.DenseReferenceIdeal.nD Cert.DenseReferenceIdeal.τ).loc Cert.DenseReferenceIdeal.main_arg2)
          ∧ r.2.mem ((c.tc : Thread Cert.DenseReferenceIdeal.nD Cert.DenseReferenceIdeal.τ).loc Cert.DenseReferenceIdeal.main_arg3) = m' ((c.tc : Thread Cert.DenseReferenceIdeal.nD Cert.DenseReferenceIdeal.τ).loc Cert.DenseReferenceIdeal.main_arg3)
          ∧ r.2.mem ((c.tc : Thread Cert.DenseReferenceIdeal.nD Cert.DenseReferenceIdeal.τ).loc Cert.DenseReferenceIdeal.main_arg4) = m' ((c.tc : Thread Cert.DenseReferenceIdeal.nD Cert.DenseReferenceIdeal.τ).loc Cert.DenseReferenceIdeal.main_arg4)
          ∧ r.2.mem ((c.tc : Thread Cert.DenseReferenceIdeal.nD Cert.DenseReferenceIdeal.τ).loc Cert.DenseReferenceIdeal.main_arg5) = m' ((c.tc : Thread Cert.DenseReferenceIdeal.nD Cert.DenseReferenceIdeal.τ).loc Cert.DenseReferenceIdeal.main_arg5)
          ∧ r.2.mem ((c.tc : Thread Cert.DenseReferenceIdeal.nD Cert.DenseReferenceIdeal.τ).loc Cert.DenseReferenceIdeal.main_arg6) = m' ((c.tc : Thread Cert.DenseReferenceIdeal.nD Cert.DenseReferenceIdeal.τ).loc Cert.DenseReferenceIdeal.main_arg6)
          ∧ r.2.mem ((c.tc : Thread Cert.DenseReferenceIdeal.nD Cert.DenseReferenceIdeal.τ).loc Cert.DenseReferenceIdeal.main_arg7) = m' ((c.tc : Thread Cert.DenseReferenceIdeal.nD Cert.DenseReferenceIdeal.τ).loc Cert.DenseReferenceIdeal.main_arg7))

def Claim : Prop :=
  ∃ (hKernel : Cert.Kernel.Facts) (hKernelIdeal : Cert.KernelIdeal.Facts) (hReferenceIdeal : Cert.ReferenceIdeal.Facts) (hReference : Cert.Reference.Facts) (hSample : Cert.Sample.Facts) (hSampleIdeal : Cert.SampleIdeal.Facts) (hSampleReferenceIdeal : Cert.SampleReferenceIdeal.Facts) (hNear : Cert.Near.Facts) (hNearIdeal : Cert.NearIdeal.Facts) (hNearReferenceIdeal : Cert.NearReferenceIdeal.Facts) (hDense : Cert.Dense.Facts) (hDenseIdeal : Cert.DenseIdeal.Facts) (hDenseReferenceIdeal : Cert.DenseReferenceIdeal.Facts) (hPre_in_cloud : Cert.Pre_in_cloud.Facts) (hPre_bounded : Cert.Pre_bounded.Facts) (hPre_finite : Cert.Pre_finite.Facts),
    quiescent_Kernel (hKernel := hKernel) (hPre_in_cloud := hPre_in_cloud)
    ∧ quiescent_KernelIdeal (hKernelIdeal := hKernelIdeal) (hPre_in_cloud := hPre_in_cloud)
    ∧ quiescent_ReferenceIdeal (hReferenceIdeal := hReferenceIdeal) (hPre_in_cloud := hPre_in_cloud)
    ∧ quiescent_Reference (hReference := hReference) (hPre_in_cloud := hPre_in_cloud)
    ∧ quiescent_Sample (hSample := hSample)
    ∧ quiescent_SampleIdeal (hSampleIdeal := hSampleIdeal)
    ∧ quiescent_SampleReferenceIdeal (hSampleReferenceIdeal := hSampleReferenceIdeal)
    ∧ quiescent_Near (hNear := hNear)
    ∧ quiescent_NearIdeal (hNearIdeal := hNearIdeal)
    ∧ quiescent_NearIdeal_pre_bounded (hNearIdeal := hNearIdeal) (hPre_bounded := hPre_bounded)
    ∧ quiescent_NearReferenceIdeal (hNearReferenceIdeal := hNearReferenceIdeal)
    ∧ quiescent_NearReferenceIdeal_pre_bounded (hNearReferenceIdeal := hNearReferenceIdeal) (hPre_bounded := hPre_bounded)
    ∧ quiescent_Dense (hDense := hDense)
    ∧ quiescent_DenseIdeal (hDenseIdeal := hDenseIdeal)
    ∧ quiescent_DenseIdeal_pre_finite (hDenseIdeal := hDenseIdeal) (hPre_finite := hPre_finite)
    ∧ quiescent_DenseReferenceIdeal (hDenseReferenceIdeal := hDenseReferenceIdeal)
    ∧ quiescent_DenseReferenceIdeal_pre_finite (hDenseReferenceIdeal := hDenseReferenceIdeal) (hPre_finite := hPre_finite)
    ∧ preserves_Kernel_KernelIdeal
    ∧ algebraic_KernelIdeal_ReferenceIdeal (hKernelIdeal := hKernelIdeal) (hReferenceIdeal := hReferenceIdeal) (hPre_in_cloud := hPre_in_cloud)
    ∧ bitexact_Kernel_Reference (hKernel := hKernel) (hReference := hReference) (hPre_in_cloud := hPre_in_cloud)
    ∧ preserves_Sample_SampleIdeal
    ∧ algebraic_SampleIdeal_SampleReferenceIdeal (hSampleIdeal := hSampleIdeal) (hSampleReferenceIdeal := hSampleReferenceIdeal)
    ∧ preserves_Near_NearIdeal
    ∧ algebraic_NearIdeal_NearReferenceIdeal_pre_bounded (hNearIdeal := hNearIdeal) (hNearReferenceIdeal := hNearReferenceIdeal) (hPre_bounded := hPre_bounded)
    ∧ preserves_Dense_DenseIdeal
    ∧ algebraic_DenseIdeal_DenseReferenceIdeal_pre_finite (hDenseIdeal := hDenseIdeal) (hDenseReferenceIdeal := hDenseReferenceIdeal) (hPre_finite := hPre_finite)
-- ==== Pre_bounded.lean ====
abbrev S8x4096x3 : Shape := ⟨3, ![8, 4096, 3]⟩
abbrev S8x1024x3 : Shape := ⟨3, ![8, 1024, 3]⟩
abbrev S_ : Shape := ⟨0, ![]⟩

class Facts : Prop where
  bcast_S_S8x4096x3 : S_.BroadcastsInDim S8x4096x3 (![] : Fin 0 → Fin S8x4096x3.rank)
  reducesTo_S8x4096x3_S_d0_1_2 : S8x4096x3.ReducesTo [0, 1, 2] S_
  h_S_ : 0 < S_.numel
  bcast_S_S8x1024x3 : S_.BroadcastsInDim S8x1024x3 (![] : Fin 0 → Fin S8x1024x3.rank)
  reducesTo_S8x1024x3_S_d0_1_2 : S8x1024x3.ReducesTo [0, 1, 2] S_

variable [Facts]

def fn {F : FTy → Type} [FloatOps F] (main_arg0 : FVec F S8x4096x3 .f32) (main_arg1 : FVec F S8x1024x3 .f32) : IVec S_ 1 :=
  let main_v0 : FVec F S8x4096x3 .f32 := Host.absf main_arg0
  let main_cst : FVec F S_ .f32 := constant S_ .f32 0x56B5E621#32
  let main_v1 : FVec F S8x4096x3 .f32 := broadcastInDim S8x4096x3 ![] bcast_S_S8x4096x3 main_cst
  let main_v2 : IVec S8x4096x3 1 := cmpf .ole main_v0 main_v1
  let main_c : IVec S_ 1 := constantI S_ 1 1#1
  let main_v3 : IVec S_ 1 := (fun x v => Host.reduce IntOp.andi x v reducesTo_S8x4096x3_S_d0_1_2 h_S_) main_v2 main_c
  let main_v4 : FVec F S8x1024x3 .f32 := Host.absf main_arg1
  let main_cst_0 : FVec F S_ .f32 := constant S_ .f32 0x56B5E621#32
  let main_v5 : FVec F S8x1024x3 .f32 := broadcastInDim S8x1024x3 ![] bcast_S_S8x1024x3 main_cst_0
  let main_v6 : IVec S8x1024x3 1 := cmpf .ole main_v4 main_v5
  let main_c_1 : IVec S_ 1 := constantI S_ 1 1#1
  let main_v7 : IVec S_ 1 := (fun x v => Host.reduce IntOp.andi x v reducesTo_S8x1024x3_S_d0_1_2 h_S_) main_v6 main_c_1
  let main_v8 : IVec S_ 1 := andi main_v3 main_v7
  main_v8
-- ==== Pre_finite.lean ====
abbrev S8x1024x16x128 : Shape := ⟨4, ![8, 1024, 16, 128]⟩
abbrev S8x1024x3 : Shape := ⟨3, ![8, 1024, 3]⟩
abbrev S131x256 : Shape := ⟨2, ![131, 256]⟩
abbrev S256 : Shape := ⟨1, ![256]⟩
abbrev S256x256 : Shape := ⟨2, ![256, 256]⟩
abbrev S_ : Shape := ⟨0, ![]⟩
abbrev S3x256 : Shape := ⟨2, ![3, 256]⟩

class Facts : Prop where
  bcast_S_S8x1024x3 : S_.BroadcastsInDim S8x1024x3 (![] : Fin 0 → Fin S8x1024x3.rank)
  reducesTo_S8x1024x3_S_d0_1_2 : S8x1024x3.ReducesTo [0, 1, 2] S_
  h_S_ : 0 < S_.numel
  slices_S131x256_S3x256_0_0 : S131x256.Slices ![0, 0] S3x256
  bcast_S_S3x256 : S_.BroadcastsInDim S3x256 (![] : Fin 0 → Fin S3x256.rank)
  reducesTo_S3x256_S_d0_1 : S3x256.ReducesTo [0, 1] S_

variable [Facts]

def fn {F : FTy → Type} [FloatOps F] (main_arg0 : IVec S8x1024x16x128 32) (main_arg1 : FVec F S8x1024x3 .f32) (main_arg2 : FVec F S131x256 .f32) (main_arg3 : FVec F S256 .f32) (main_arg4 : FVec F S256x256 .f32) (main_arg5 : FVec F S256 .f32) (main_arg6 : FVec F S256 .f32) (main_arg7 : FVec F S256 .f32) : IVec S_ 1 :=
  let main_v0 : FVec F S8x1024x3 .f32 := Host.absf main_arg1
  let main_cst : FVec F S_ .f32 := constant S_ .f32 0x7F800000#32
  let main_v1 : FVec F S8x1024x3 .f32 := broadcastInDim S8x1024x3 ![] bcast_S_S8x1024x3 main_cst
  let main_v2 : IVec S8x1024x3 1 := cmpf .olt main_v0 main_v1
  let main_c : IVec S_ 1 := constantI S_ 1 1#1
  let main_v3 : IVec S_ 1 := (fun x v => Host.reduce IntOp.andi x v reducesTo_S8x1024x3_S_d0_1_2 h_S_) main_v2 main_c
  let main_v4 : FVec F S3x256 .f32 := (extractStridedSlice S3x256 ![0, 0] · slices_S131x256_S3x256_0_0) main_arg2
  let main_v5 : FVec F S3x256 .f32 := Host.absf main_v4
  let main_cst_0 : FVec F S_ .f32 := constant S_ .f32 0x7F800000#32
  let main_v6 : FVec F S3x256 .f32 := broadcastInDim S3x256 ![] bcast_S_S3x256 main_cst_0
  let main_v7 : IVec S3x256 1 := cmpf .olt main_v5 main_v6
  let main_c_1 : IVec S_ 1 := constantI S_ 1 1#1
  let main_v8 : IVec S_ 1 := (fun x v => Host.reduce IntOp.andi x v reducesTo_S3x256_S_d0_1 h_S_) main_v7 main_c_1
  let main_v9 : IVec S_ 1 := andi main_v3 main_v8
  main_v9
-- ==== Pre_in_cloud.lean ====
abbrev S32768x128 : Shape := ⟨2, ![32768, 128]⟩
abbrev S8x1024x16 : Shape := ⟨3, ![8, 1024, 16]⟩
abbrev S_ : Shape := ⟨0, ![]⟩

class Facts : Prop where
  bcast_S_S8x1024x16 : S_.BroadcastsInDim S8x1024x16 (![] : Fin 0 → Fin S8x1024x16.rank)
  reducesTo_S8x1024x16_S_d0_1_2 : S8x1024x16.ReducesTo [0, 1, 2] S_
  h_S_ : 0 < S_.numel

variable [Facts]

def fn {F : FTy → Type} [FloatOps F] (main_arg0 : IVec S32768x128 32) (main_arg1 : IVec S8x1024x16 32) : IVec S_ 1 :=
  let main_c : IVec S_ 32 := constantI S_ 32 0#32
  let main_v0 : IVec S8x1024x16 32 := broadcastInDim S8x1024x16 ![] bcast_S_S8x1024x16 main_c
  let main_v1 : IVec S8x1024x16 1 := cmpi .sge main_arg1 main_v0
  let main_c_0 : IVec S_ 32 := constantI S_ 32 4096#32
  let main_v2 : IVec S8x1024x16 32 := broadcastInDim S8x1024x16 ![] bcast_S_S8x1024x16 main_c_0
  let main_v3 : IVec S8x1024x16 1 := cmpi .slt main_arg1 main_v2
  let main_v4 : IVec S8x1024x16 1 := andi main_v1 main_v3
  let main_c_1 : IVec S_ 1 := constantI S_ 1 1#1
  let main_v5 : IVec S_ 1 := (fun x v => Host.reduce IntOp.andi x v reducesTo_S8x1024x16_S_d0_1_2 h_S_) main_v4 main_c_1
  main_v5
-- ==== Kernel.lean ====
abbrev S32768x128 : Shape := ⟨2, ![32768, 128]⟩
abbrev S8x1024x16 : Shape := ⟨3, ![8, 1024, 16]⟩
abbrev S4x1024x16 : Shape := ⟨3, ![4, 1024, 16]⟩
abbrev S_ : Shape := ⟨0, ![]⟩
abbrev S1x65536 : Shape := ⟨2, ![1, 65536]⟩
abbrev S65536x128 : Shape := ⟨2, ![65536, 128]⟩
abbrev S2x1x256 : Shape := ⟨3, ![2, 1, 256]⟩
abbrev S2 : Shape := ⟨1, ![2]⟩
abbrev S2x256x128 : Shape := ⟨3, ![2, 256, 128]⟩
abbrev S1x1x256 : Shape := ⟨3, ![1, 1, 256]⟩
abbrev S1x256 : Shape := ⟨2, ![1, 256]⟩
abbrev S1 : Shape := ⟨1, ![1]⟩
abbrev S1x256x128 : Shape := ⟨3, ![1, 256, 128]⟩
abbrev S256x128 : Shape := ⟨2, ![256, 128]⟩
abbrev S256 : Shape := ⟨1, ![256]⟩
abbrev S131072x128 : Shape := ⟨2, ![131072, 128]⟩
abbrev S8x1024x16x128 : Shape := ⟨4, ![8, 1024, 16, 128]⟩

abbrev nBuf : Table → Nat
  | .hbm => 26
  | .local .scVector .vmem => 4
  | _ => 0

abbrev bufTy : (tb : Table) → Fin (nBuf tb) → BufTy
  | .hbm, ⟨0, _⟩ => ⟨S32768x128, .i32⟩
  | .hbm, ⟨1, _⟩ => ⟨S8x1024x16, .i32⟩
  | .hbm, ⟨2, _⟩ => ⟨S4x1024x16, .i32⟩
  | .hbm, ⟨3, _⟩ => ⟨S_, .i32⟩
  | .hbm, ⟨4, _⟩ => ⟨S4x1024x16, .i32⟩
  | .hbm, ⟨5, _⟩ => ⟨S4x1024x16, .i32⟩
  | .hbm, ⟨6, _⟩ => ⟨S4x1024x16, .i32⟩
  | .hbm, ⟨7, _⟩ => ⟨S_, .i32⟩
  | .hbm, ⟨8, _⟩ => ⟨S4x1024x16, .i32⟩
  | .hbm, ⟨9, _⟩ => ⟨S4x1024x16, .i32⟩
  | .hbm, ⟨10, _⟩ => ⟨S4x1024x16, .i32⟩
  | .hbm, ⟨11, _⟩ => ⟨S1x65536, .i32⟩
  | .hbm, ⟨12, _⟩ => ⟨S65536x128, .i32⟩
  | .hbm, ⟨13, _⟩ => ⟨S4x1024x16, .i32⟩
  | .hbm, ⟨14, _⟩ => ⟨S_, .i32⟩
  | .hbm, ⟨15, _⟩ => ⟨S4x1024x16, .i32⟩
  | .hbm, ⟨16, _⟩ => ⟨S4x1024x16, .i32⟩
  | .hbm, ⟨17, _⟩ => ⟨S4x1024x16, .i32⟩
  | .hbm, ⟨18, _⟩ => ⟨S_, .i32⟩
  | .hbm, ⟨19, _⟩ => ⟨S4x1024x16, .i32⟩
  | .hbm, ⟨20, _⟩ => ⟨S4x1024x16, .i32⟩
  | .hbm, ⟨21, _⟩ => ⟨S4x1024x16, .i32⟩
  | .hbm, ⟨22, _⟩ => ⟨S1x65536, .i32⟩
  | .hbm, ⟨23, _⟩ => ⟨S65536x128, .i32⟩
  | .hbm, ⟨24, _⟩ => ⟨S131072x128, .i32⟩
  | .hbm, ⟨25, _⟩ => ⟨S8x1024x16x128, .i32⟩
  | .local .scVector .vmem, ⟨0, _⟩ => ⟨S2x1x256, .i32⟩
  | .local .scVector .vmem, ⟨1, _⟩ => ⟨S2x256x128, .i32⟩
  | .local .scVector .vmem, ⟨2, _⟩ => ⟨S2x1x256, .i32⟩
  | .local .scVector .vmem, ⟨3, _⟩ => ⟨S2x256x128, .i32⟩
  | _, _ => ⟨S32768x128, .i32⟩

abbrev bufScoped : (cs : CoreSpace) → Fin (nBuf (.local .tc cs)) → Bool
  | _, _ => false

abbrev semScoped : Fin 4 → Bool
  | ⟨0, _⟩ => false
  | ⟨1, _⟩ => false
  | ⟨2, _⟩ => false
  | ⟨3, _⟩ => false
  | _ => false

abbrev dmaSemScoped : Fin 10 → Bool
  | ⟨0, _⟩ => false
  | ⟨1, _⟩ => false
  | ⟨2, _⟩ => false
  | ⟨3, _⟩ => false
  | ⟨4, _⟩ => false
  | ⟨5, _⟩ => false
  | ⟨6, _⟩ => false
  | ⟨7, _⟩ => false
  | ⟨8, _⟩ => false
  | ⟨9, _⟩ => false
  | _ => false

abbrev sig : RefSig :=
  ofTables nBuf rfl bufTy 4 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_c : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_c_0 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_c_1 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_c_2 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_arg0_scv : Ref sig .scVector := ⟨.hbm, 0, rfl⟩
abbrev main_v7_scv : Ref sig .scVector := ⟨.hbm, 11, rfl⟩
abbrev main_v8_scv : Ref sig .scVector := ⟨.hbm, 12, rfl⟩
abbrev main_v16_scv : Ref sig .scVector := ⟨.hbm, 22, rfl⟩
abbrev main_v17_scv : Ref sig .scVector := ⟨.hbm, 23, rfl⟩
abbrev cc0_scoped0 : Ref sig .scVector := ⟨.vmem, 0, rfl⟩
abbrev cc0_scoped2 : Ref sig .scVector := ⟨.vmem, 1, rfl⟩
abbrev cc1_scoped0 : Ref sig .scVector := ⟨.vmem, 2, rfl⟩
abbrev cc1_scoped2 : Ref sig .scVector := ⟨.vmem, 3, rfl⟩
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

def k0_off1 : Fin 3 → Nat :=
  let c0_i32_13_r0 : BitVec 32 := 0#32
  let c2_i32_r0 : BitVec 32 := 2#32
  let v21_r0 : BitVec 32 := Scalar.remui c0_i32_13_r0 c2_i32_r0
  let c0_i32_14_r0 : BitVec 32 := 0#32
  let c0_i32_15_r0 : BitVec 32 := 0#32
  ![v21_r0.toNat, 0, 0]
def k0_off2 (i : grid0.Coords) : Fin 2 → Nat :=
  let c0_i32_16_r0 : BitVec 32 := 0#32
  let c256_i32_r0 : BitVec 32 := 256#32
  let c0_i32_1_r0 : BitVec 32 := 0#32
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c8_i32 : BitVec 32 := 8#32
  let v4 : BitVec 32 := Scalar.muli v3 c8_i32
  let v7_r0 : BitVec 32 := Scalar.addi c0_i32_1_r0 v4
  let v22_r0 : BitVec 32 := Scalar.muli c256_i32_r0 v7_r0
  ![0, v22_r0.toNat]
def k0_off3 : Fin 1 → Nat :=
  let c0_i32_13_r0 : BitVec 32 := 0#32
  let c2_i32_r0 : BitVec 32 := 2#32
  let v21_r0 : BitVec 32 := Scalar.remui c0_i32_13_r0 c2_i32_r0
  ![v21_r0.toNat]
@[reducible] def k0_t1_loop : Scf.Loop 32 :=
  let c0_i32_26_r0 : BitVec 32 := 0#32
  let c8_i32_27_r0 : BitVec 32 := 8#32
  let v32_r0 : BitVec 32 := Scalar.addi c0_i32_26_r0 c8_i32_27_r0
  let c1_i32_28_r0 : BitVec 32 := 1#32
  ⟨c0_i32_26_r0, v32_r0, c1_i32_28_r0⟩
def k0_off4 (arg6_r0 : BitVec 32) : Fin 3 → Nat :=
  let c2_i32_99_r0 : BitVec 32 := 2#32
  let v144_r0 : BitVec 32 := Scalar.remui arg6_r0 c2_i32_99_r0
  let c0_i32_101_r0 : BitVec 32 := 0#32
  let c0_i32_102_r0 : BitVec 32 := 0#32
  ![v144_r0.toNat, 0, 0]
def k0_cond1 (i : grid0.Coords) (k0_t1 : Fin k0_t1_loop.trips) (arg10_r0 : BitVec 32) : BitVec 1 :=
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c8_i32 : BitVec 32 := 8#32
  let v4 : BitVec 32 := Scalar.muli v3 c8_i32
  let v66_r0 : BitVec 32 := Scalar.addi arg10_r0 v4
  let true_61_r0 : BitVec 1 := 1#1
  let c1_i32_60_r0 : BitVec 32 := 1#32
  let v72_r0 : BitVec 32 := Scalar.addi arg10_r0 c1_i32_60_r0
  let v73_r0 : BitVec 32 := Scalar.select true_61_r0 v72_r0 arg10_r0
  let c8_i32_62_r0 : BitVec 32 := 8#32
  let v74_r0 : BitVec 1 := Scalar.cmpi .eq v73_r0 c8_i32_62_r0
  let c0_i32_63_r0 : BitVec 32 := 0#32
  let v75_r0 : BitVec 32 := Scalar.select v74_r0 c0_i32_63_r0 v73_r0
  let v76_r0 : BitVec 32 := Scalar.addi v75_r0 v4
  let v82_r0 : BitVec 1 := Scalar.cmpi .ne v66_r0 v76_r0
  let c0_i32_26_r0 : BitVec 32 := 0#32
  let c1_i32_28_r0 : BitVec 32 := 1#32
  let arg5_r0 : BitVec 32 := Scf.iv c0_i32_26_r0 c1_i32_28_r0 k0_t1
  let c7_i32_68_r0 : BitVec 32 := 7#32
  let v83_r0 : BitVec 1 := Scalar.cmpi .sge arg5_r0 c7_i32_68_r0
  let true_69_r0 : BitVec 1 := 1#1
  let v84_r0 : BitVec 1 := Scalar.xori v83_r0 true_69_r0
  let v85_r0 : BitVec 1 := Scalar.andi v82_r0 v84_r0
  let true_70_r0 : BitVec 1 := 1#1
  let v86_r0 : BitVec 1 := Scalar.andi v85_r0 true_70_r0
  let v87_r0 : BitVec 32 := Scalar.extui v86_r0
  let c0_i32_71_r0 : BitVec 32 := 0#32
  let v88_r0 : BitVec 1 := Scalar.cmpi .ne v87_r0 c0_i32_71_r0
  v88_r0

def k0_off5 (i : grid0.Coords) (arg10_r0 : BitVec 32) : Fin 2 → Nat :=
  let c0_i32_103_r0 : BitVec 32 := 0#32
  let c256_i32_100_r0 : BitVec 32 := 256#32
  let true_61_r0 : BitVec 1 := 1#1
  let c1_i32_60_r0 : BitVec 32 := 1#32
  let v72_r0 : BitVec 32 := Scalar.addi arg10_r0 c1_i32_60_r0
  let v73_r0 : BitVec 32 := Scalar.select true_61_r0 v72_r0 arg10_r0
  let c8_i32_62_r0 : BitVec 32 := 8#32
  let v74_r0 : BitVec 1 := Scalar.cmpi .eq v73_r0 c8_i32_62_r0
  let c0_i32_63_r0 : BitVec 32 := 0#32
  let v75_r0 : BitVec 32 := Scalar.select v74_r0 c0_i32_63_r0 v73_r0
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c8_i32 : BitVec 32 := 8#32
  let v4 : BitVec 32 := Scalar.muli v3 c8_i32
  let v76_r0 : BitVec 32 := Scalar.addi v75_r0 v4
  let v145_r0 : BitVec 32 := Scalar.muli c256_i32_100_r0 v76_r0
  ![0, v145_r0.toNat]
def k0_off6 (arg6_r0 : BitVec 32) : Fin 1 → Nat :=
  let c2_i32_99_r0 : BitVec 32 := 2#32
  let v144_r0 : BitVec 32 := Scalar.remui arg6_r0 c2_i32_99_r0
  ![v144_r0.toNat]
def k0_off7 (arg7_r0 : BitVec 32) : Fin 3 → Nat :=
  let c2_i32_100_r0 : BitVec 32 := 2#32
  let v145_r0 : BitVec 32 := Scalar.remui arg7_r0 c2_i32_100_r0
  let c0_i32_101_r0 : BitVec 32 := 0#32
  let c0_i32_102_r0 : BitVec 32 := 0#32
  ![v145_r0.toNat, 0, 0]
def k0_cond2 (i : grid0.Coords) (k0_t1 : Fin k0_t1_loop.trips) (arg10_r0 : BitVec 32) : BitVec 1 :=
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c8_i32 : BitVec 32 := 8#32
  let v4 : BitVec 32 := Scalar.muli v3 c8_i32
  let v66_r0 : BitVec 32 := Scalar.addi arg10_r0 v4
  let true_57_r0 : BitVec 1 := 1#1
  let c1_i32_56_r0 : BitVec 32 := 1#32
  let v67_r0 : BitVec 32 := Scalar.subi arg10_r0 c1_i32_56_r0
  let v68_r0 : BitVec 32 := Scalar.select true_57_r0 v67_r0 arg10_r0
  let c_m1_i32_58_r0 : BitVec 32 := 4294967295#32
  let v69_r0 : BitVec 1 := Scalar.cmpi .eq v68_r0 c_m1_i32_58_r0
  let c7_i32_59_r0 : BitVec 32 := 7#32
  let v70_r0 : BitVec 32 := Scalar.select v69_r0 c7_i32_59_r0 v68_r0
  let v71_r0 : BitVec 32 := Scalar.addi v70_r0 v4
  let v96_r0 : BitVec 1 := Scalar.cmpi .ne v66_r0 v71_r0
  let c0_i32_26_r0 : BitVec 32 := 0#32
  let c1_i32_28_r0 : BitVec 32 := 1#32
  let arg5_r0 : BitVec 32 := Scf.iv c0_i32_26_r0 c1_i32_28_r0 k0_t1
  let c0_i32_54_r0 : BitVec 32 := 0#32
  let v64_r0 : BitVec 1 := Scalar.cmpi .eq arg5_r0 c0_i32_54_r0
  let v97_r0 : BitVec 1 := Scalar.ori v96_r0 v64_r0
  let c0_i32_76_r0 : BitVec 32 := 0#32
  let v98_r0 : BitVec 1 := Scalar.cmpi .sge arg5_r0 c0_i32_76_r0
  let v99_r0 : BitVec 1 := Scalar.andi v97_r0 v98_r0
  let v100_r0 : BitVec 32 := Scalar.extui v99_r0
  let c0_i32_77_r0 : BitVec 32 := 0#32
  let v101_r0 : BitVec 1 := Scalar.cmpi .ne v100_r0 c0_i32_77_r0
  v101_r0

def k0_off8 (i : grid0.Coords) (arg10_r0 : BitVec 32) : Fin 2 → Nat :=
  let c0_i32_103_r0 : BitVec 32 := 0#32
  let c256_i32_99_r0 : BitVec 32 := 256#32
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c8_i32 : BitVec 32 := 8#32
  let v4 : BitVec 32 := Scalar.muli v3 c8_i32
  let v66_r0 : BitVec 32 := Scalar.addi arg10_r0 v4
  let v144_r0 : BitVec 32 := Scalar.muli c256_i32_99_r0 v66_r0
  ![0, v144_r0.toNat]
def k0_off9 (arg7_r0 : BitVec 32) : Fin 1 → Nat :=
  let c2_i32_100_r0 : BitVec 32 := 2#32
  let v145_r0 : BitVec 32 := Scalar.remui arg7_r0 c2_i32_100_r0
  ![v145_r0.toNat]
def k0_off10 (arg8_r0 : BitVec 32) : Fin 3 → Nat :=
  let c2_i32_81_r0 : BitVec 32 := 2#32
  let v109_r0 : BitVec 32 := Scalar.remui arg8_r0 c2_i32_81_r0
  let c0_i32_99_r1 : BitVec 32 := 0#32
  let c0_i32_100_r1 : BitVec 32 := 0#32
  ![v109_r0.toNat, 0, 0]

def k0_chk2 (arg8_r0 : BitVec 32) : Prop :=
  (∀ a, (k0_off10 arg8_r0) a + S1x256x128.size a ≤ S2x256x128.size a)
theorem k0_off10_inb : ∀ (arg8_r0 : BitVec 32) (k0_hw2 : k0_chk2 arg8_r0), ∀ a, (k0_off10 arg8_r0) a + S1x256x128.size a ≤ S2x256x128.size a := fun arg8_r0 k0_hw2 => k0_hw2

def k0_off11 (arg7_r0 : BitVec 32) : Fin 3 → Nat :=
  let c2_i32_80_r0 : BitVec 32 := 2#32
  let v108_r0 : BitVec 32 := Scalar.remui arg7_r0 c2_i32_80_r0
  let c0_i32_101_r1 : BitVec 32 := 0#32
  let c0_i32_102_r1 : BitVec 32 := 0#32
  ![v108_r0.toNat, 0, 0]

def k0_chk3 (arg7_r0 : BitVec 32) : Prop :=
  (∀ a, (k0_off11 arg7_r0) a + S1x1x256.size a ≤ S2x1x256.size a)
theorem k0_off11_inb : ∀ (arg7_r0 : BitVec 32) (k0_hw3 : k0_chk3 arg7_r0), ∀ a, (k0_off11 arg7_r0) a + S1x1x256.size a ≤ S2x1x256.size a := fun arg7_r0 k0_hw3 => k0_hw3

def k0_off12 (arg8_r0 : BitVec 32) : Fin 3 → Nat :=
  let c2_i32_99_r0 : BitVec 32 := 2#32
  let v144_r0 : BitVec 32 := Scalar.remui arg8_r0 c2_i32_99_r0
  let c0_i32_101_r0 : BitVec 32 := 0#32
  let c0_i32_102_r0 : BitVec 32 := 0#32
  ![v144_r0.toNat, 0, 0]
def k0_cond5 (i : grid0.Coords) (k0_t1 : Fin k0_t1_loop.trips) (arg10_r0 : BitVec 32) : BitVec 1 :=
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c8_i32 : BitVec 32 := 8#32
  let v4 : BitVec 32 := Scalar.muli v3 c8_i32
  let v66_r0 : BitVec 32 := Scalar.addi arg10_r0 v4
  let true_61_r0 : BitVec 1 := 1#1
  let c1_i32_60_r0 : BitVec 32 := 1#32
  let v72_r0 : BitVec 32 := Scalar.addi arg10_r0 c1_i32_60_r0
  let v73_r0 : BitVec 32 := Scalar.select true_61_r0 v72_r0 arg10_r0
  let c8_i32_62_r0 : BitVec 32 := 8#32
  let v74_r0 : BitVec 1 := Scalar.cmpi .eq v73_r0 c8_i32_62_r0
  let c0_i32_63_r0 : BitVec 32 := 0#32
  let v75_r0 : BitVec 32 := Scalar.select v74_r0 c0_i32_63_r0 v73_r0
  let v76_r0 : BitVec 32 := Scalar.addi v75_r0 v4
  let v115_r0 : BitVec 1 := Scalar.cmpi .ne v66_r0 v76_r0
  let c0_i32_26_r0 : BitVec 32 := 0#32
  let c1_i32_28_r0 : BitVec 32 := 1#32
  let arg5_r0 : BitVec 32 := Scf.iv c0_i32_26_r0 c1_i32_28_r0 k0_t1
  let c7_i32_55_r0 : BitVec 32 := 7#32
  let v65_r0 : BitVec 1 := Scalar.cmpi .eq arg5_r0 c7_i32_55_r0
  let v116_r0 : BitVec 1 := Scalar.ori v115_r0 v65_r0
  let v117_r0 : BitVec 32 := Scalar.extui v116_r0
  let c0_i32_84_r0 : BitVec 32 := 0#32
  let v118_r0 : BitVec 1 := Scalar.cmpi .ne v117_r0 c0_i32_84_r0
  v118_r0

def k0_off13 (i : grid0.Coords) (arg10_r0 : BitVec 32) : Fin 2 → Nat :=
  let c256_i32_100_r0 : BitVec 32 := 256#32
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c8_i32 : BitVec 32 := 8#32
  let v4 : BitVec 32 := Scalar.muli v3 c8_i32
  let v66_r0 : BitVec 32 := Scalar.addi arg10_r0 v4
  let v145_r0 : BitVec 32 := Scalar.muli c256_i32_100_r0 v66_r0
  let c0_i32_103_r0 : BitVec 32 := 0#32
  ![v145_r0.toNat, 0]
def k0_off14 (arg8_r0 : BitVec 32) : Fin 1 → Nat :=
  let c2_i32_99_r0 : BitVec 32 := 2#32
  let v144_r0 : BitVec 32 := Scalar.remui arg8_r0 c2_i32_99_r0
  ![v144_r0.toNat]
def k0_off15 (arg9_r0 : BitVec 32) : Fin 3 → Nat :=
  let c2_i32_99_r0 : BitVec 32 := 2#32
  let v144_r0 : BitVec 32 := Scalar.remui arg9_r0 c2_i32_99_r0
  let c0_i32_101_r0 : BitVec 32 := 0#32
  let c0_i32_102_r0 : BitVec 32 := 0#32
  ![v144_r0.toNat, 0, 0]
def k0_cond7 (i : grid0.Coords) (k0_t1 : Fin k0_t1_loop.trips) (arg10_r0 : BitVec 32) : BitVec 1 :=
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c8_i32 : BitVec 32 := 8#32
  let v4 : BitVec 32 := Scalar.muli v3 c8_i32
  let v66_r0 : BitVec 32 := Scalar.addi arg10_r0 v4
  let true_57_r0 : BitVec 1 := 1#1
  let c1_i32_56_r0 : BitVec 32 := 1#32
  let v67_r0 : BitVec 32 := Scalar.subi arg10_r0 c1_i32_56_r0
  let v68_r0 : BitVec 32 := Scalar.select true_57_r0 v67_r0 arg10_r0
  let c_m1_i32_58_r0 : BitVec 32 := 4294967295#32
  let v69_r0 : BitVec 1 := Scalar.cmpi .eq v68_r0 c_m1_i32_58_r0
  let c7_i32_59_r0 : BitVec 32 := 7#32
  let v70_r0 : BitVec 32 := Scalar.select v69_r0 c7_i32_59_r0 v68_r0
  let v71_r0 : BitVec 32 := Scalar.addi v70_r0 v4
  let v128_r0 : BitVec 1 := Scalar.cmpi .ne v66_r0 v71_r0
  let c0_i32_26_r0 : BitVec 32 := 0#32
  let c1_i32_28_r0 : BitVec 32 := 1#32
  let arg5_r0 : BitVec 32 := Scf.iv c0_i32_26_r0 c1_i32_28_r0 k0_t1
  let c0_i32_54_r0 : BitVec 32 := 0#32
  let v64_r0 : BitVec 1 := Scalar.cmpi .eq arg5_r0 c0_i32_54_r0
  let true_90_r0 : BitVec 1 := 1#1
  let v129_r0 : BitVec 1 := Scalar.xori v64_r0 true_90_r0
  let v130_r0 : BitVec 1 := Scalar.andi v128_r0 v129_r0
  let v131_r0 : BitVec 32 := Scalar.extui v130_r0
  let c0_i32_91_r0 : BitVec 32 := 0#32
  let v132_r0 : BitVec 1 := Scalar.cmpi .ne v131_r0 c0_i32_91_r0
  v132_r0

def k0_off16 (i : grid0.Coords) (arg10_r0 : BitVec 32) : Fin 2 → Nat :=
  let c256_i32_100_r0 : BitVec 32 := 256#32
  let true_57_r0 : BitVec 1 := 1#1
  let c1_i32_56_r0 : BitVec 32 := 1#32
  let v67_r0 : BitVec 32 := Scalar.subi arg10_r0 c1_i32_56_r0
  let v68_r0 : BitVec 32 := Scalar.select true_57_r0 v67_r0 arg10_r0
  let c_m1_i32_58_r0 : BitVec 32 := 4294967295#32
  let v69_r0 : BitVec 1 := Scalar.cmpi .eq v68_r0 c_m1_i32_58_r0
  let c7_i32_59_r0 : BitVec 32 := 7#32
  let v70_r0 : BitVec 32 := Scalar.select v69_r0 c7_i32_59_r0 v68_r0
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c8_i32 : BitVec 32 := 8#32
  let v4 : BitVec 32 := Scalar.muli v3 c8_i32
  let v71_r0 : BitVec 32 := Scalar.addi v70_r0 v4
  let v145_r0 : BitVec 32 := Scalar.muli c256_i32_100_r0 v71_r0
  let c0_i32_103_r0 : BitVec 32 := 0#32
  ![v145_r0.toNat, 0]
def k0_off17 (arg9_r0 : BitVec 32) : Fin 1 → Nat :=
  let c2_i32_99_r0 : BitVec 32 := 2#32
  let v144_r0 : BitVec 32 := Scalar.remui arg9_r0 c2_i32_99_r0
  ![v144_r0.toNat]

def k0_chk1 (i : grid0.Coords) (k0_t1 : Fin k0_t1_loop.trips) (arg6_r0 : BitVec 32) (arg7_r0 : BitVec 32) (arg8_r0 : BitVec 32) (arg9_r0 : BitVec 32) (arg10_r0 : BitVec 32) : Prop :=
  (∀ (k0_h1 : k0_cond1 i k0_t1 arg10_r0 = 1#1), ∀ a, (k0_off4 arg6_r0) a + S1x1x256.size a ≤ S2x1x256.size a) ∧
  (∀ (k0_h1 : k0_cond1 i k0_t1 arg10_r0 = 1#1), ∀ a, (k0_off5 i arg10_r0) a + S1x256.size a ≤ S1x65536.size a) ∧
  (∀ (k0_h1 : k0_cond1 i k0_t1 arg10_r0 = 1#1), ∀ a, (k0_off6 arg6_r0) a + S1.size a ≤ S2.size a) ∧
  (∀ (k0_h2 : k0_cond2 i k0_t1 arg10_r0 = 1#1), ∀ a, (k0_off7 arg7_r0) a + S1x1x256.size a ≤ S2x1x256.size a) ∧
  (∀ (k0_h2 : k0_cond2 i k0_t1 arg10_r0 = 1#1), ∀ a, (k0_off8 i arg10_r0) a + S1x256.size a ≤ S1x65536.size a) ∧
  (∀ (k0_h2 : k0_cond2 i k0_t1 arg10_r0 = 1#1), ∀ a, (k0_off9 arg7_r0) a + S1.size a ≤ S2.size a) ∧
  (∀ (k0_h5 : k0_cond5 i k0_t1 arg10_r0 = 1#1), ∀ a, (k0_off12 arg8_r0) a + S1x256x128.size a ≤ S2x256x128.size a) ∧
  (∀ (k0_h5 : k0_cond5 i k0_t1 arg10_r0 = 1#1), ∀ a, (k0_off13 i arg10_r0) a + S256x128.size a ≤ S65536x128.size a) ∧
  (∀ (k0_h5 : k0_cond5 i k0_t1 arg10_r0 = 1#1), ∀ a, (k0_off14 arg8_r0) a + S1.size a ≤ S2.size a) ∧
  (∀ (k0_h7 : k0_cond7 i k0_t1 arg10_r0 = 1#1), ∀ a, (k0_off15 arg9_r0) a + S1x256x128.size a ≤ S2x256x128.size a) ∧
  (∀ (k0_h7 : k0_cond7 i k0_t1 arg10_r0 = 1#1), ∀ a, (k0_off16 i arg10_r0) a + S256x128.size a ≤ S65536x128.size a) ∧
  (∀ (k0_h7 : k0_cond7 i k0_t1 arg10_r0 = 1#1), ∀ a, (k0_off17 arg9_r0) a + S1.size a ≤ S2.size a)
theorem k0_off4_inb : ∀ (i : grid0.Coords) (k0_t1 : Fin k0_t1_loop.trips) (arg6_r0 : BitVec 32) (arg7_r0 : BitVec 32) (arg8_r0 : BitVec 32) (arg9_r0 : BitVec 32) (arg10_r0 : BitVec 32) (k0_hw1 : k0_chk1 i k0_t1 arg6_r0 arg7_r0 arg8_r0 arg9_r0 arg10_r0), ∀ (k0_h1 : k0_cond1 i k0_t1 arg10_r0 = 1#1), ∀ a, (k0_off4 arg6_r0) a + S1x1x256.size a ≤ S2x1x256.size a := fun i k0_t1 arg6_r0 arg7_r0 arg8_r0 arg9_r0 arg10_r0 k0_hw1 k0_h1 => k0_hw1.1 k0_h1
theorem k0_off5_inb : ∀ (i : grid0.Coords) (k0_t1 : Fin k0_t1_loop.trips) (arg6_r0 : BitVec 32) (arg7_r0 : BitVec 32) (arg8_r0 : BitVec 32) (arg9_r0 : BitVec 32) (arg10_r0 : BitVec 32) (k0_hw1 : k0_chk1 i k0_t1 arg6_r0 arg7_r0 arg8_r0 arg9_r0 arg10_r0), ∀ (k0_h1 : k0_cond1 i k0_t1 arg10_r0 = 1#1), ∀ a, (k0_off5 i arg10_r0) a + S1x256.size a ≤ S1x65536.size a := fun i k0_t1 arg6_r0 arg7_r0 arg8_r0 arg9_r0 arg10_r0 k0_hw1 k0_h1 => k0_hw1.2.1 k0_h1
theorem k0_off6_inb : ∀ (i : grid0.Coords) (k0_t1 : Fin k0_t1_loop.trips) (arg6_r0 : BitVec 32) (arg7_r0 : BitVec 32) (arg8_r0 : BitVec 32) (arg9_r0 : BitVec 32) (arg10_r0 : BitVec 32) (k0_hw1 : k0_chk1 i k0_t1 arg6_r0 arg7_r0 arg8_r0 arg9_r0 arg10_r0), ∀ (k0_h1 : k0_cond1 i k0_t1 arg10_r0 = 1#1), ∀ a, (k0_off6 arg6_r0) a + S1.size a ≤ S2.size a := fun i k0_t1 arg6_r0 arg7_r0 arg8_r0 arg9_r0 arg10_r0 k0_hw1 k0_h1 => k0_hw1.2.2.1 k0_h1
theorem k0_off7_inb : ∀ (i : grid0.Coords) (k0_t1 : Fin k0_t1_loop.trips) (arg6_r0 : BitVec 32) (arg7_r0 : BitVec 32) (arg8_r0 : BitVec 32) (arg9_r0 : BitVec 32) (arg10_r0 : BitVec 32) (k0_hw1 : k0_chk1 i k0_t1 arg6_r0 arg7_r0 arg8_r0 arg9_r0 arg10_r0), ∀ (k0_h2 : k0_cond2 i k0_t1 arg10_r0 = 1#1), ∀ a, (k0_off7 arg7_r0) a + S1x1x256.size a ≤ S2x1x256.size a := fun i k0_t1 arg6_r0 arg7_r0 arg8_r0 arg9_r0 arg10_r0 k0_hw1 k0_h2 => k0_hw1.2.2.2.1 k0_h2
theorem k0_off8_inb : ∀ (i : grid0.Coords) (k0_t1 : Fin k0_t1_loop.trips) (arg6_r0 : BitVec 32) (arg7_r0 : BitVec 32) (arg8_r0 : BitVec 32) (arg9_r0 : BitVec 32) (arg10_r0 : BitVec 32) (k0_hw1 : k0_chk1 i k0_t1 arg6_r0 arg7_r0 arg8_r0 arg9_r0 arg10_r0), ∀ (k0_h2 : k0_cond2 i k0_t1 arg10_r0 = 1#1), ∀ a, (k0_off8 i arg10_r0) a + S1x256.size a ≤ S1x65536.size a := fun i k0_t1 arg6_r0 arg7_r0 arg8_r0 arg9_r0 arg10_r0 k0_hw1 k0_h2 => k0_hw1.2.2.2.2.1 k0_h2
theorem k0_off9_inb : ∀ (i : grid0.Coords) (k0_t1 : Fin k0_t1_loop.trips) (arg6_r0 : BitVec 32) (arg7_r0 : BitVec 32) (arg8_r0 : BitVec 32) (arg9_r0 : BitVec 32) (arg10_r0 : BitVec 32) (k0_hw1 : k0_chk1 i k0_t1 arg6_r0 arg7_r0 arg8_r0 arg9_r0 arg10_r0), ∀ (k0_h2 : k0_cond2 i k0_t1 arg10_r0 = 1#1), ∀ a, (k0_off9 arg7_r0) a + S1.size a ≤ S2.size a := fun i k0_t1 arg6_r0 arg7_r0 arg8_r0 arg9_r0 arg10_r0 k0_hw1 k0_h2 => k0_hw1.2.2.2.2.2.1 k0_h2
theorem k0_off12_inb : ∀ (i : grid0.Coords) (k0_t1 : Fin k0_t1_loop.trips) (arg6_r0 : BitVec 32) (arg7_r0 : BitVec 32) (arg8_r0 : BitVec 32) (arg9_r0 : BitVec 32) (arg10_r0 : BitVec 32) (k0_hw1 : k0_chk1 i k0_t1 arg6_r0 arg7_r0 arg8_r0 arg9_r0 arg10_r0), ∀ (k0_h5 : k0_cond5 i k0_t1 arg10_r0 = 1#1), ∀ a, (k0_off12 arg8_r0) a + S1x256x128.size a ≤ S2x256x128.size a := fun i k0_t1 arg6_r0 arg7_r0 arg8_r0 arg9_r0 arg10_r0 k0_hw1 k0_h5 => k0_hw1.2.2.2.2.2.2.1 k0_h5
theorem k0_off13_inb : ∀ (i : grid0.Coords) (k0_t1 : Fin k0_t1_loop.trips) (arg6_r0 : BitVec 32) (arg7_r0 : BitVec 32) (arg8_r0 : BitVec 32) (arg9_r0 : BitVec 32) (arg10_r0 : BitVec 32) (k0_hw1 : k0_chk1 i k0_t1 arg6_r0 arg7_r0 arg8_r0 arg9_r0 arg10_r0), ∀ (k0_h5 : k0_cond5 i k0_t1 arg10_r0 = 1#1), ∀ a, (k0_off13 i arg10_r0) a + S256x128.size a ≤ S65536x128.size a := fun i k0_t1 arg6_r0 arg7_r0 arg8_r0 arg9_r0 arg10_r0 k0_hw1 k0_h5 => k0_hw1.2.2.2.2.2.2.2.1 k0_h5
theorem k0_off14_inb : ∀ (i : grid0.Coords) (k0_t1 : Fin k0_t1_loop.trips) (arg6_r0 : BitVec 32) (arg7_r0 : BitVec 32) (arg8_r0 : BitVec 32) (arg9_r0 : BitVec 32) (arg10_r0 : BitVec 32) (k0_hw1 : k0_chk1 i k0_t1 arg6_r0 arg7_r0 arg8_r0 arg9_r0 arg10_r0), ∀ (k0_h5 : k0_cond5 i k0_t1 arg10_r0 = 1#1), ∀ a, (k0_off14 arg8_r0) a + S1.size a ≤ S2.size a := fun i k0_t1 arg6_r0 arg7_r0 arg8_r0 arg9_r0 arg10_r0 k0_hw1 k0_h5 => k0_hw1.2.2.2.2.2.2.2.2.1 k0_h5
theorem k0_off15_inb : ∀ (i : grid0.Coords) (k0_t1 : Fin k0_t1_loop.trips) (arg6_r0 : BitVec 32) (arg7_r0 : BitVec 32) (arg8_r0 : BitVec 32) (arg9_r0 : BitVec 32) (arg10_r0 : BitVec 32) (k0_hw1 : k0_chk1 i k0_t1 arg6_r0 arg7_r0 arg8_r0 arg9_r0 arg10_r0), ∀ (k0_h7 : k0_cond7 i k0_t1 arg10_r0 = 1#1), ∀ a, (k0_off15 arg9_r0) a + S1x256x128.size a ≤ S2x256x128.size a := fun i k0_t1 arg6_r0 arg7_r0 arg8_r0 arg9_r0 arg10_r0 k0_hw1 k0_h7 => k0_hw1.2.2.2.2.2.2.2.2.2.1 k0_h7
theorem k0_off16_inb : ∀ (i : grid0.Coords) (k0_t1 : Fin k0_t1_loop.trips) (arg6_r0 : BitVec 32) (arg7_r0 : BitVec 32) (arg8_r0 : BitVec 32) (arg9_r0 : BitVec 32) (arg10_r0 : BitVec 32) (k0_hw1 : k0_chk1 i k0_t1 arg6_r0 arg7_r0 arg8_r0 arg9_r0 arg10_r0), ∀ (k0_h7 : k0_cond7 i k0_t1 arg10_r0 = 1#1), ∀ a, (k0_off16 i arg10_r0) a + S256x128.size a ≤ S65536x128.size a := fun i k0_t1 arg6_r0 arg7_r0 arg8_r0 arg9_r0 arg10_r0 k0_hw1 k0_h7 => k0_hw1.2.2.2.2.2.2.2.2.2.2.1 k0_h7
theorem k0_off17_inb : ∀ (i : grid0.Coords) (k0_t1 : Fin k0_t1_loop.trips) (arg6_r0 : BitVec 32) (arg7_r0 : BitVec 32) (arg8_r0 : BitVec 32) (arg9_r0 : BitVec 32) (arg10_r0 : BitVec 32) (k0_hw1 : k0_chk1 i k0_t1 arg6_r0 arg7_r0 arg8_r0 arg9_r0 arg10_r0), ∀ (k0_h7 : k0_cond7 i k0_t1 arg10_r0 = 1#1), ∀ a, (k0_off17 arg9_r0) a + S1.size a ≤ S2.size a := fun i k0_t1 arg6_r0 arg7_r0 arg8_r0 arg9_r0 arg10_r0 k0_hw1 k0_h7 => k0_hw1.2.2.2.2.2.2.2.2.2.2.2 k0_h7

def k0_off18 (v33_3_r0 : BitVec 32) : Fin 3 → Nat :=
  let c2_i32_46_r0 : BitVec 32 := 2#32
  let v54_r0 : BitVec 32 := Scalar.remui v33_3_r0 c2_i32_46_r0
  let c0_i32_48_r0 : BitVec 32 := 0#32
  let c0_i32_49_r0 : BitVec 32 := 0#32
  ![v54_r0.toNat, 0, 0]

def k0_off19 (i : grid0.Coords) (v33_4_r0 : BitVec 32) : Fin 2 → Nat :=
  let c256_i32_47_r0 : BitVec 32 := 256#32
  let true_31_r0 : BitVec 1 := 1#1
  let c1_i32_30_r0 : BitVec 32 := 1#32
  let v34_r0 : BitVec 32 := Scalar.subi v33_4_r0 c1_i32_30_r0
  let v35_r0 : BitVec 32 := Scalar.select true_31_r0 v34_r0 v33_4_r0
  let c_m1_i32_32_r0 : BitVec 32 := 4294967295#32
  let v36_r0 : BitVec 1 := Scalar.cmpi .eq v35_r0 c_m1_i32_32_r0
  let c7_i32_33_r0 : BitVec 32 := 7#32
  let v37_r0 : BitVec 32 := Scalar.select v36_r0 c7_i32_33_r0 v35_r0
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c8_i32 : BitVec 32 := 8#32
  let v4 : BitVec 32 := Scalar.muli v3 c8_i32
  let v38_r0 : BitVec 32 := Scalar.addi v37_r0 v4
  let v55_r0 : BitVec 32 := Scalar.muli c256_i32_47_r0 v38_r0
  let c0_i32_50_r0 : BitVec 32 := 0#32
  ![v55_r0.toNat, 0]

def k0_chk5 (i : grid0.Coords) (v33_4_r0 : BitVec 32) : Prop :=
  (∀ a, (k0_off19 i v33_4_r0) a + S256x128.size a ≤ S65536x128.size a)
theorem k0_off19_inb : ∀ (i : grid0.Coords) (v33_4_r0 : BitVec 32) (k0_hw5 : k0_chk5 i v33_4_r0), ∀ a, (k0_off19 i v33_4_r0) a + S256x128.size a ≤ S65536x128.size a := fun i v33_4_r0 k0_hw5 => k0_hw5

def k0_off20 (v33_3_r0 : BitVec 32) : Fin 1 → Nat :=
  let c2_i32_46_r0 : BitVec 32 := 2#32
  let v54_r0 : BitVec 32 := Scalar.remui v33_3_r0 c2_i32_46_r0
  ![v54_r0.toNat]
def k0_off21 (v33_3_r0 : BitVec 32) : Fin 3 → Nat :=
  let c2_i32_46_r0 : BitVec 32 := 2#32
  let v54_r0 : BitVec 32 := Scalar.remui v33_3_r0 c2_i32_46_r0
  let c0_i32_52_r0 : BitVec 32 := 0#32
  let c0_i32_53_r0 : BitVec 32 := 0#32
  ![v54_r0.toNat, 0, 0]

def k0_chk4 (v33_3_r0 : BitVec 32) : Prop :=
  (∀ a, (k0_off18 v33_3_r0) a + S1x256x128.size a ≤ S2x256x128.size a) ∧
  (∀ a, (k0_off20 v33_3_r0) a + S1.size a ≤ S2.size a) ∧
  (∀ a, (k0_off21 v33_3_r0) a + S1x256x128.size a ≤ S2x256x128.size a)
theorem k0_off18_inb : ∀ (v33_3_r0 : BitVec 32) (k0_hw4 : k0_chk4 v33_3_r0), ∀ a, (k0_off18 v33_3_r0) a + S1x256x128.size a ≤ S2x256x128.size a := fun v33_3_r0 k0_hw4 => k0_hw4.1
theorem k0_off20_inb : ∀ (v33_3_r0 : BitVec 32) (k0_hw4 : k0_chk4 v33_3_r0), ∀ a, (k0_off20 v33_3_r0) a + S1.size a ≤ S2.size a := fun v33_3_r0 k0_hw4 => k0_hw4.2.1
theorem k0_off21_inb : ∀ (v33_3_r0 : BitVec 32) (k0_hw4 : k0_chk4 v33_3_r0), ∀ a, (k0_off21 v33_3_r0) a + S1x256x128.size a ≤ S2x256x128.size a := fun v33_3_r0 k0_hw4 => k0_hw4.2.2

abbrev grid1 : Pipeline.Grid := ⟨2, ![2, 16], ![false, false]⟩

def k1_off1 : Fin 3 → Nat :=
  let c0_i32_13_r0 : BitVec 32 := 0#32
  let c2_i32_r0 : BitVec 32 := 2#32
  let v21_r0 : BitVec 32 := Scalar.remui c0_i32_13_r0 c2_i32_r0
  let c0_i32_14_r0 : BitVec 32 := 0#32
  let c0_i32_15_r0 : BitVec 32 := 0#32
  ![v21_r0.toNat, 0, 0]
def k1_off2 (i : grid1.Coords) : Fin 2 → Nat :=
  let c0_i32_16_r0 : BitVec 32 := 0#32
  let c256_i32_r0 : BitVec 32 := 256#32
  let c0_i32_1_r0 : BitVec 32 := 0#32
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c8_i32 : BitVec 32 := 8#32
  let v4 : BitVec 32 := Scalar.muli v3 c8_i32
  let v7_r0 : BitVec 32 := Scalar.addi c0_i32_1_r0 v4
  let v22_r0 : BitVec 32 := Scalar.muli c256_i32_r0 v7_r0
  ![0, v22_r0.toNat]
def k1_off3 : Fin 1 → Nat :=
  let c0_i32_13_r0 : BitVec 32 := 0#32
  let c2_i32_r0 : BitVec 32 := 2#32
  let v21_r0 : BitVec 32 := Scalar.remui c0_i32_13_r0 c2_i32_r0
  ![v21_r0.toNat]
@[reducible] def k1_t1_loop : Scf.Loop 32 :=
  let c0_i32_26_r0 : BitVec 32 := 0#32
  let c8_i32_27_r0 : BitVec 32 := 8#32
  let v32_r0 : BitVec 32 := Scalar.addi c0_i32_26_r0 c8_i32_27_r0
  let c1_i32_28_r0 : BitVec 32 := 1#32
  ⟨c0_i32_26_r0, v32_r0, c1_i32_28_r0⟩
def k1_off4 (arg6_r0 : BitVec 32) : Fin 3 → Nat :=
  let c2_i32_99_r0 : BitVec 32 := 2#32
  let v144_r0 : BitVec 32 := Scalar.remui arg6_r0 c2_i32_99_r0
  let c0_i32_101_r0 : BitVec 32 := 0#32
  let c0_i32_102_r0 : BitVec 32 := 0#32
  ![v144_r0.toNat, 0, 0]
def k1_cond1 (i : grid1.Coords) (k1_t1 : Fin k1_t1_loop.trips) (arg10_r0 : BitVec 32) : BitVec 1 :=
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c8_i32 : BitVec 32 := 8#32
  let v4 : BitVec 32 := Scalar.muli v3 c8_i32
  let v66_r0 : BitVec 32 := Scalar.addi arg10_r0 v4
  let true_61_r0 : BitVec 1 := 1#1
  let c1_i32_60_r0 : BitVec 32 := 1#32
  let v72_r0 : BitVec 32 := Scalar.addi arg10_r0 c1_i32_60_r0
  let v73_r0 : BitVec 32 := Scalar.select true_61_r0 v72_r0 arg10_r0
  let c8_i32_62_r0 : BitVec 32 := 8#32
  let v74_r0 : BitVec 1 := Scalar.cmpi .eq v73_r0 c8_i32_62_r0
  let c0_i32_63_r0 : BitVec 32 := 0#32
  let v75_r0 : BitVec 32 := Scalar.select v74_r0 c0_i32_63_r0 v73_r0
  let v76_r0 : BitVec 32 := Scalar.addi v75_r0 v4
  let v82_r0 : BitVec 1 := Scalar.cmpi .ne v66_r0 v76_r0
  let c0_i32_26_r0 : BitVec 32 := 0#32
  let c1_i32_28_r0 : BitVec 32 := 1#32
  let arg5_r0 : BitVec 32 := Scf.iv c0_i32_26_r0 c1_i32_28_r0 k1_t1
  let c7_i32_68_r0 : BitVec 32 := 7#32
  let v83_r0 : BitVec 1 := Scalar.cmpi .sge arg5_r0 c7_i32_68_r0
  let true_69_r0 : BitVec 1 := 1#1
  let v84_r0 : BitVec 1 := Scalar.xori v83_r0 true_69_r0
  let v85_r0 : BitVec 1 := Scalar.andi v82_r0 v84_r0
  let true_70_r0 : BitVec 1 := 1#1
  let v86_r0 : BitVec 1 := Scalar.andi v85_r0 true_70_r0
  let v87_r0 : BitVec 32 := Scalar.extui v86_r0
  let c0_i32_71_r0 : BitVec 32 := 0#32
  let v88_r0 : BitVec 1 := Scalar.cmpi .ne v87_r0 c0_i32_71_r0
  v88_r0

def k1_off5 (i : grid1.Coords) (arg10_r0 : BitVec 32) : Fin 2 → Nat :=
  let c0_i32_103_r0 : BitVec 32 := 0#32
  let c256_i32_100_r0 : BitVec 32 := 256#32
  let true_61_r0 : BitVec 1 := 1#1
  let c1_i32_60_r0 : BitVec 32 := 1#32
  let v72_r0 : BitVec 32 := Scalar.addi arg10_r0 c1_i32_60_r0
  let v73_r0 : BitVec 32 := Scalar.select true_61_r0 v72_r0 arg10_r0
  let c8_i32_62_r0 : BitVec 32 := 8#32
  let v74_r0 : BitVec 1 := Scalar.cmpi .eq v73_r0 c8_i32_62_r0
  let c0_i32_63_r0 : BitVec 32 := 0#32
  let v75_r0 : BitVec 32 := Scalar.select v74_r0 c0_i32_63_r0 v73_r0
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c8_i32 : BitVec 32 := 8#32
  let v4 : BitVec 32 := Scalar.muli v3 c8_i32
  let v76_r0 : BitVec 32 := Scalar.addi v75_r0 v4
  let v145_r0 : BitVec 32 := Scalar.muli c256_i32_100_r0 v76_r0
  ![0, v145_r0.toNat]
def k1_off6 (arg6_r0 : BitVec 32) : Fin 1 → Nat :=
  let c2_i32_99_r0 : BitVec 32 := 2#32
  let v144_r0 : BitVec 32 := Scalar.remui arg6_r0 c2_i32_99_r0
  ![v144_r0.toNat]
def k1_off7 (arg7_r0 : BitVec 32) : Fin 3 → Nat :=
  let c2_i32_100_r0 : BitVec 32 := 2#32
  let v145_r0 : BitVec 32 := Scalar.remui arg7_r0 c2_i32_100_r0
  let c0_i32_101_r0 : BitVec 32 := 0#32
  let c0_i32_102_r0 : BitVec 32 := 0#32
  ![v145_r0.toNat, 0, 0]
def k1_cond2 (i : grid1.Coords) (k1_t1 : Fin k1_t1_loop.trips) (arg10_r0 : BitVec 32) : BitVec 1 :=
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c8_i32 : BitVec 32 := 8#32
  let v4 : BitVec 32 := Scalar.muli v3 c8_i32
  let v66_r0 : BitVec 32 := Scalar.addi arg10_r0 v4
  let true_57_r0 : BitVec 1 := 1#1
  let c1_i32_56_r0 : BitVec 32 := 1#32
  let v67_r0 : BitVec 32 := Scalar.subi arg10_r0 c1_i32_56_r0
  let v68_r0 : BitVec 32 := Scalar.select true_57_r0 v67_r0 arg10_r0
  let c_m1_i32_58_r0 : BitVec 32 := 4294967295#32
  let v69_r0 : BitVec 1 := Scalar.cmpi .eq v68_r0 c_m1_i32_58_r0
  let c7_i32_59_r0 : BitVec 32 := 7#32
  let v70_r0 : BitVec 32 := Scalar.select v69_r0 c7_i32_59_r0 v68_r0
  let v71_r0 : BitVec 32 := Scalar.addi v70_r0 v4
  let v96_r0 : BitVec 1 := Scalar.cmpi .ne v66_r0 v71_r0
  let c0_i32_26_r0 : BitVec 32 := 0#32
  let c1_i32_28_r0 : BitVec 32 := 1#32
  let arg5_r0 : BitVec 32 := Scf.iv c0_i32_26_r0 c1_i32_28_r0 k1_t1
  let c0_i32_54_r0 : BitVec 32 := 0#32
  let v64_r0 : BitVec 1 := Scalar.cmpi .eq arg5_r0 c0_i32_54_r0
  let v97_r0 : BitVec 1 := Scalar.ori v96_r0 v64_r0
  let c0_i32_76_r0 : BitVec 32 := 0#32
  let v98_r0 : BitVec 1 := Scalar.cmpi .sge arg5_r0 c0_i32_76_r0
  let v99_r0 : BitVec 1 := Scalar.andi v97_r0 v98_r0
  let v100_r0 : BitVec 32 := Scalar.extui v99_r0
  let c0_i32_77_r0 : BitVec 32 := 0#32
  let v101_r0 : BitVec 1 := Scalar.cmpi .ne v100_r0 c0_i32_77_r0
  v101_r0

def k1_off8 (i : grid1.Coords) (arg10_r0 : BitVec 32) : Fin 2 → Nat :=
  let c0_i32_103_r0 : BitVec 32 := 0#32
  let c256_i32_99_r0 : BitVec 32 := 256#32
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c8_i32 : BitVec 32 := 8#32
  let v4 : BitVec 32 := Scalar.muli v3 c8_i32
  let v66_r0 : BitVec 32 := Scalar.addi arg10_r0 v4
  let v144_r0 : BitVec 32 := Scalar.muli c256_i32_99_r0 v66_r0
  ![0, v144_r0.toNat]
def k1_off9 (arg7_r0 : BitVec 32) : Fin 1 → Nat :=
  let c2_i32_100_r0 : BitVec 32 := 2#32
  let v145_r0 : BitVec 32 := Scalar.remui arg7_r0 c2_i32_100_r0
  ![v145_r0.toNat]
def k1_off10 (arg8_r0 : BitVec 32) : Fin 3 → Nat :=
  let c2_i32_81_r0 : BitVec 32 := 2#32
  let v109_r0 : BitVec 32 := Scalar.remui arg8_r0 c2_i32_81_r0
  let c0_i32_99_r1 : BitVec 32 := 0#32
  let c0_i32_100_r1 : BitVec 32 := 0#32
  ![v109_r0.toNat, 0, 0]

def k1_chk2 (arg8_r0 : BitVec 32) : Prop :=
  (∀ a, (k1_off10 arg8_r0) a + S1x256x128.size a ≤ S2x256x128.size a)
theorem k1_off10_inb : ∀ (arg8_r0 : BitVec 32) (k1_hw2 : k1_chk2 arg8_r0), ∀ a, (k1_off10 arg8_r0) a + S1x256x128.size a ≤ S2x256x128.size a := fun arg8_r0 k1_hw2 => k1_hw2

def k1_off11 (arg7_r0 : BitVec 32) : Fin 3 → Nat :=
  let c2_i32_80_r0 : BitVec 32 := 2#32
  let v108_r0 : BitVec 32 := Scalar.remui arg7_r0 c2_i32_80_r0
  let c0_i32_101_r1 : BitVec 32 := 0#32
  let c0_i32_102_r1 : BitVec 32 := 0#32
  ![v108_r0.toNat, 0, 0]

def k1_chk3 (arg7_r0 : BitVec 32) : Prop :=
  (∀ a, (k1_off11 arg7_r0) a + S1x1x256.size a ≤ S2x1x256.size a)
theorem k1_off11_inb : ∀ (arg7_r0 : BitVec 32) (k1_hw3 : k1_chk3 arg7_r0), ∀ a, (k1_off11 arg7_r0) a + S1x1x256.size a ≤ S2x1x256.size a := fun arg7_r0 k1_hw3 => k1_hw3

def k1_off12 (arg8_r0 : BitVec 32) : Fin 3 → Nat :=
  let c2_i32_99_r0 : BitVec 32 := 2#32
  let v144_r0 : BitVec 32 := Scalar.remui arg8_r0 c2_i32_99_r0
  let c0_i32_101_r0 : BitVec 32 := 0#32
  let c0_i32_102_r0 : BitVec 32 := 0#32
  ![v144_r0.toNat, 0, 0]
def k1_cond5 (i : grid1.Coords) (k1_t1 : Fin k1_t1_loop.trips) (arg10_r0 : BitVec 32) : BitVec 1 :=
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c8_i32 : BitVec 32 := 8#32
  let v4 : BitVec 32 := Scalar.muli v3 c8_i32
  let v66_r0 : BitVec 32 := Scalar.addi arg10_r0 v4
  let true_61_r0 : BitVec 1 := 1#1
  let c1_i32_60_r0 : BitVec 32 := 1#32
  let v72_r0 : BitVec 32 := Scalar.addi arg10_r0 c1_i32_60_r0
  let v73_r0 : BitVec 32 := Scalar.select true_61_r0 v72_r0 arg10_r0
  let c8_i32_62_r0 : BitVec 32 := 8#32
  let v74_r0 : BitVec 1 := Scalar.cmpi .eq v73_r0 c8_i32_62_r0
  let c0_i32_63_r0 : BitVec 32 := 0#32
  let v75_r0 : BitVec 32 := Scalar.select v74_r0 c0_i32_63_r0 v73_r0
  let v76_r0 : BitVec 32 := Scalar.addi v75_r0 v4
  let v115_r0 : BitVec 1 := Scalar.cmpi .ne v66_r0 v76_r0
  let c0_i32_26_r0 : BitVec 32 := 0#32
  let c1_i32_28_r0 : BitVec 32 := 1#32
  let arg5_r0 : BitVec 32 := Scf.iv c0_i32_26_r0 c1_i32_28_r0 k1_t1
  let c7_i32_55_r0 : BitVec 32 := 7#32
  let v65_r0 : BitVec 1 := Scalar.cmpi .eq arg5_r0 c7_i32_55_r0
  let v116_r0 : BitVec 1 := Scalar.ori v115_r0 v65_r0
  let v117_r0 : BitVec 32 := Scalar.extui v116_r0
  let c0_i32_84_r0 : BitVec 32 := 0#32
  let v118_r0 : BitVec 1 := Scalar.cmpi .ne v117_r0 c0_i32_84_r0
  v118_r0

def k1_off13 (i : grid1.Coords) (arg10_r0 : BitVec 32) : Fin 2 → Nat :=
  let c256_i32_100_r0 : BitVec 32 := 256#32
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c8_i32 : BitVec 32 := 8#32
  let v4 : BitVec 32 := Scalar.muli v3 c8_i32
  let v66_r0 : BitVec 32 := Scalar.addi arg10_r0 v4
  let v145_r0 : BitVec 32 := Scalar.muli c256_i32_100_r0 v66_r0
  let c0_i32_103_r0 : BitVec 32 := 0#32
  ![v145_r0.toNat, 0]
def k1_off14 (arg8_r0 : BitVec 32) : Fin 1 → Nat :=
  let c2_i32_99_r0 : BitVec 32 := 2#32
  let v144_r0 : BitVec 32 := Scalar.remui arg8_r0 c2_i32_99_r0
  ![v144_r0.toNat]
def k1_off15 (arg9_r0 : BitVec 32) : Fin 3 → Nat :=
  let c2_i32_99_r0 : BitVec 32 := 2#32
  let v144_r0 : BitVec 32 := Scalar.remui arg9_r0 c2_i32_99_r0
  let c0_i32_101_r0 : BitVec 32 := 0#32
  let c0_i32_102_r0 : BitVec 32 := 0#32
  ![v144_r0.toNat, 0, 0]
def k1_cond7 (i : grid1.Coords) (k1_t1 : Fin k1_t1_loop.trips) (arg10_r0 : BitVec 32) : BitVec 1 :=
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c8_i32 : BitVec 32 := 8#32
  let v4 : BitVec 32 := Scalar.muli v3 c8_i32
  let v66_r0 : BitVec 32 := Scalar.addi arg10_r0 v4
  let true_57_r0 : BitVec 1 := 1#1
  let c1_i32_56_r0 : BitVec 32 := 1#32
  let v67_r0 : BitVec 32 := Scalar.subi arg10_r0 c1_i32_56_r0
  let v68_r0 : BitVec 32 := Scalar.select true_57_r0 v67_r0 arg10_r0
  let c_m1_i32_58_r0 : BitVec 32 := 4294967295#32
  let v69_r0 : BitVec 1 := Scalar.cmpi .eq v68_r0 c_m1_i32_58_r0
  let c7_i32_59_r0 : BitVec 32 := 7#32
  let v70_r0 : BitVec 32 := Scalar.select v69_r0 c7_i32_59_r0 v68_r0
  let v71_r0 : BitVec 32 := Scalar.addi v70_r0 v4
  let v128_r0 : BitVec 1 := Scalar.cmpi .ne v66_r0 v71_r0
  let c0_i32_26_r0 : BitVec 32 := 0#32
  let c1_i32_28_r0 : BitVec 32 := 1#32
  let arg5_r0 : BitVec 32 := Scf.iv c0_i32_26_r0 c1_i32_28_r0 k1_t1
  let c0_i32_54_r0 : BitVec 32 := 0#32
  let v64_r0 : BitVec 1 := Scalar.cmpi .eq arg5_r0 c0_i32_54_r0
  let true_90_r0 : BitVec 1 := 1#1
  let v129_r0 : BitVec 1 := Scalar.xori v64_r0 true_90_r0
  let v130_r0 : BitVec 1 := Scalar.andi v128_r0 v129_r0
  let v131_r0 : BitVec 32 := Scalar.extui v130_r0
  let c0_i32_91_r0 : BitVec 32 := 0#32
  let v132_r0 : BitVec 1 := Scalar.cmpi .ne v131_r0 c0_i32_91_r0
  v132_r0

def k1_off16 (i : grid1.Coords) (arg10_r0 : BitVec 32) : Fin 2 → Nat :=
  let c256_i32_100_r0 : BitVec 32 := 256#32
  let true_57_r0 : BitVec 1 := 1#1
  let c1_i32_56_r0 : BitVec 32 := 1#32
  let v67_r0 : BitVec 32 := Scalar.subi arg10_r0 c1_i32_56_r0
  let v68_r0 : BitVec 32 := Scalar.select true_57_r0 v67_r0 arg10_r0
  let c_m1_i32_58_r0 : BitVec 32 := 4294967295#32
  let v69_r0 : BitVec 1 := Scalar.cmpi .eq v68_r0 c_m1_i32_58_r0
  let c7_i32_59_r0 : BitVec 32 := 7#32
  let v70_r0 : BitVec 32 := Scalar.select v69_r0 c7_i32_59_r0 v68_r0
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c8_i32 : BitVec 32 := 8#32
  let v4 : BitVec 32 := Scalar.muli v3 c8_i32
  let v71_r0 : BitVec 32 := Scalar.addi v70_r0 v4
  let v145_r0 : BitVec 32 := Scalar.muli c256_i32_100_r0 v71_r0
  let c0_i32_103_r0 : BitVec 32 := 0#32
  ![v145_r0.toNat, 0]
def k1_off17 (arg9_r0 : BitVec 32) : Fin 1 → Nat :=
  let c2_i32_99_r0 : BitVec 32 := 2#32
  let v144_r0 : BitVec 32 := Scalar.remui arg9_r0 c2_i32_99_r0
  ![v144_r0.toNat]

def k1_chk1 (i : grid1.Coords) (k1_t1 : Fin k1_t1_loop.trips) (arg6_r0 : BitVec 32) (arg7_r0 : BitVec 32) (arg8_r0 : BitVec 32) (arg9_r0 : BitVec 32) (arg10_r0 : BitVec 32) : Prop :=
  (∀ (k1_h1 : k1_cond1 i k1_t1 arg10_r0 = 1#1), ∀ a, (k1_off4 arg6_r0) a + S1x1x256.size a ≤ S2x1x256.size a) ∧
  (∀ (k1_h1 : k1_cond1 i k1_t1 arg10_r0 = 1#1), ∀ a, (k1_off5 i arg10_r0) a + S1x256.size a ≤ S1x65536.size a) ∧
  (∀ (k1_h1 : k1_cond1 i k1_t1 arg10_r0 = 1#1), ∀ a, (k1_off6 arg6_r0) a + S1.size a ≤ S2.size a) ∧
  (∀ (k1_h2 : k1_cond2 i k1_t1 arg10_r0 = 1#1), ∀ a, (k1_off7 arg7_r0) a + S1x1x256.size a ≤ S2x1x256.size a) ∧
  (∀ (k1_h2 : k1_cond2 i k1_t1 arg10_r0 = 1#1), ∀ a, (k1_off8 i arg10_r0) a + S1x256.size a ≤ S1x65536.size a) ∧
  (∀ (k1_h2 : k1_cond2 i k1_t1 arg10_r0 = 1#1), ∀ a, (k1_off9 arg7_r0) a + S1.size a ≤ S2.size a) ∧
  (∀ (k1_h5 : k1_cond5 i k1_t1 arg10_r0 = 1#1), ∀ a, (k1_off12 arg8_r0) a + S1x256x128.size a ≤ S2x256x128.size a) ∧
  (∀ (k1_h5 : k1_cond5 i k1_t1 arg10_r0 = 1#1), ∀ a, (k1_off13 i arg10_r0) a + S256x128.size a ≤ S65536x128.size a) ∧
  (∀ (k1_h5 : k1_cond5 i k1_t1 arg10_r0 = 1#1), ∀ a, (k1_off14 arg8_r0) a + S1.size a ≤ S2.size a) ∧
  (∀ (k1_h7 : k1_cond7 i k1_t1 arg10_r0 = 1#1), ∀ a, (k1_off15 arg9_r0) a + S1x256x128.size a ≤ S2x256x128.size a) ∧
  (∀ (k1_h7 : k1_cond7 i k1_t1 arg10_r0 = 1#1), ∀ a, (k1_off16 i arg10_r0) a + S256x128.size a ≤ S65536x128.size a) ∧
  (∀ (k1_h7 : k1_cond7 i k1_t1 arg10_r0 = 1#1), ∀ a, (k1_off17 arg9_r0) a + S1.size a ≤ S2.size a)
theorem k1_off4_inb : ∀ (i : grid1.Coords) (k1_t1 : Fin k1_t1_loop.trips) (arg6_r0 : BitVec 32) (arg7_r0 : BitVec 32) (arg8_r0 : BitVec 32) (arg9_r0 : BitVec 32) (arg10_r0 : BitVec 32) (k1_hw1 : k1_chk1 i k1_t1 arg6_r0 arg7_r0 arg8_r0 arg9_r0 arg10_r0), ∀ (k1_h1 : k1_cond1 i k1_t1 arg10_r0 = 1#1), ∀ a, (k1_off4 arg6_r0) a + S1x1x256.size a ≤ S2x1x256.size a := fun i k1_t1 arg6_r0 arg7_r0 arg8_r0 arg9_r0 arg10_r0 k1_hw1 k1_h1 => k1_hw1.1 k1_h1
theorem k1_off5_inb : ∀ (i : grid1.Coords) (k1_t1 : Fin k1_t1_loop.trips) (arg6_r0 : BitVec 32) (arg7_r0 : BitVec 32) (arg8_r0 : BitVec 32) (arg9_r0 : BitVec 32) (arg10_r0 : BitVec 32) (k1_hw1 : k1_chk1 i k1_t1 arg6_r0 arg7_r0 arg8_r0 arg9_r0 arg10_r0), ∀ (k1_h1 : k1_cond1 i k1_t1 arg10_r0 = 1#1), ∀ a, (k1_off5 i arg10_r0) a + S1x256.size a ≤ S1x65536.size a := fun i k1_t1 arg6_r0 arg7_r0 arg8_r0 arg9_r0 arg10_r0 k1_hw1 k1_h1 => k1_hw1.2.1 k1_h1
theorem k1_off6_inb : ∀ (i : grid1.Coords) (k1_t1 : Fin k1_t1_loop.trips) (arg6_r0 : BitVec 32) (arg7_r0 : BitVec 32) (arg8_r0 : BitVec 32) (arg9_r0 : BitVec 32) (arg10_r0 : BitVec 32) (k1_hw1 : k1_chk1 i k1_t1 arg6_r0 arg7_r0 arg8_r0 arg9_r0 arg10_r0), ∀ (k1_h1 : k1_cond1 i k1_t1 arg10_r0 = 1#1), ∀ a, (k1_off6 arg6_r0) a + S1.size a ≤ S2.size a := fun i k1_t1 arg6_r0 arg7_r0 arg8_r0 arg9_r0 arg10_r0 k1_hw1 k1_h1 => k1_hw1.2.2.1 k1_h1
theorem k1_off7_inb : ∀ (i : grid1.Coords) (k1_t1 : Fin k1_t1_loop.trips) (arg6_r0 : BitVec 32) (arg7_r0 : BitVec 32) (arg8_r0 : BitVec 32) (arg9_r0 : BitVec 32) (arg10_r0 : BitVec 32) (k1_hw1 : k1_chk1 i k1_t1 arg6_r0 arg7_r0 arg8_r0 arg9_r0 arg10_r0), ∀ (k1_h2 : k1_cond2 i k1_t1 arg10_r0 = 1#1), ∀ a, (k1_off7 arg7_r0) a + S1x1x256.size a ≤ S2x1x256.size a := fun i k1_t1 arg6_r0 arg7_r0 arg8_r0 arg9_r0 arg10_r0 k1_hw1 k1_h2 => k1_hw1.2.2.2.1 k1_h2
theorem k1_off8_inb : ∀ (i : grid1.Coords) (k1_t1 : Fin k1_t1_loop.trips) (arg6_r0 : BitVec 32) (arg7_r0 : BitVec 32) (arg8_r0 : BitVec 32) (arg9_r0 : BitVec 32) (arg10_r0 : BitVec 32) (k1_hw1 : k1_chk1 i k1_t1 arg6_r0 arg7_r0 arg8_r0 arg9_r0 arg10_r0), ∀ (k1_h2 : k1_cond2 i k1_t1 arg10_r0 = 1#1), ∀ a, (k1_off8 i arg10_r0) a + S1x256.size a ≤ S1x65536.size a := fun i k1_t1 arg6_r0 arg7_r0 arg8_r0 arg9_r0 arg10_r0 k1_hw1 k1_h2 => k1_hw1.2.2.2.2.1 k1_h2
theorem k1_off9_inb : ∀ (i : grid1.Coords) (k1_t1 : Fin k1_t1_loop.trips) (arg6_r0 : BitVec 32) (arg7_r0 : BitVec 32) (arg8_r0 : BitVec 32) (arg9_r0 : BitVec 32) (arg10_r0 : BitVec 32) (k1_hw1 : k1_chk1 i k1_t1 arg6_r0 arg7_r0 arg8_r0 arg9_r0 arg10_r0), ∀ (k1_h2 : k1_cond2 i k1_t1 arg10_r0 = 1#1), ∀ a, (k1_off9 arg7_r0) a + S1.size a ≤ S2.size a := fun i k1_t1 arg6_r0 arg7_r0 arg8_r0 arg9_r0 arg10_r0 k1_hw1 k1_h2 => k1_hw1.2.2.2.2.2.1 k1_h2
theorem k1_off12_inb : ∀ (i : grid1.Coords) (k1_t1 : Fin k1_t1_loop.trips) (arg6_r0 : BitVec 32) (arg7_r0 : BitVec 32) (arg8_r0 : BitVec 32) (arg9_r0 : BitVec 32) (arg10_r0 : BitVec 32) (k1_hw1 : k1_chk1 i k1_t1 arg6_r0 arg7_r0 arg8_r0 arg9_r0 arg10_r0), ∀ (k1_h5 : k1_cond5 i k1_t1 arg10_r0 = 1#1), ∀ a, (k1_off12 arg8_r0) a + S1x256x128.size a ≤ S2x256x128.size a := fun i k1_t1 arg6_r0 arg7_r0 arg8_r0 arg9_r0 arg10_r0 k1_hw1 k1_h5 => k1_hw1.2.2.2.2.2.2.1 k1_h5
theorem k1_off13_inb : ∀ (i : grid1.Coords) (k1_t1 : Fin k1_t1_loop.trips) (arg6_r0 : BitVec 32) (arg7_r0 : BitVec 32) (arg8_r0 : BitVec 32) (arg9_r0 : BitVec 32) (arg10_r0 : BitVec 32) (k1_hw1 : k1_chk1 i k1_t1 arg6_r0 arg7_r0 arg8_r0 arg9_r0 arg10_r0), ∀ (k1_h5 : k1_cond5 i k1_t1 arg10_r0 = 1#1), ∀ a, (k1_off13 i arg10_r0) a + S256x128.size a ≤ S65536x128.size a := fun i k1_t1 arg6_r0 arg7_r0 arg8_r0 arg9_r0 arg10_r0 k1_hw1 k1_h5 => k1_hw1.2.2.2.2.2.2.2.1 k1_h5
theorem k1_off14_inb : ∀ (i : grid1.Coords) (k1_t1 : Fin k1_t1_loop.trips) (arg6_r0 : BitVec 32) (arg7_r0 : BitVec 32) (arg8_r0 : BitVec 32) (arg9_r0 : BitVec 32) (arg10_r0 : BitVec 32) (k1_hw1 : k1_chk1 i k1_t1 arg6_r0 arg7_r0 arg8_r0 arg9_r0 arg10_r0), ∀ (k1_h5 : k1_cond5 i k1_t1 arg10_r0 = 1#1), ∀ a, (k1_off14 arg8_r0) a + S1.size a ≤ S2.size a := fun i k1_t1 arg6_r0 arg7_r0 arg8_r0 arg9_r0 arg10_r0 k1_hw1 k1_h5 => k1_hw1.2.2.2.2.2.2.2.2.1 k1_h5
theorem k1_off15_inb : ∀ (i : grid1.Coords) (k1_t1 : Fin k1_t1_loop.trips) (arg6_r0 : BitVec 32) (arg7_r0 : BitVec 32) (arg8_r0 : BitVec 32) (arg9_r0 : BitVec 32) (arg10_r0 : BitVec 32) (k1_hw1 : k1_chk1 i k1_t1 arg6_r0 arg7_r0 arg8_r0 arg9_r0 arg10_r0), ∀ (k1_h7 : k1_cond7 i k1_t1 arg10_r0 = 1#1), ∀ a, (k1_off15 arg9_r0) a + S1x256x128.size a ≤ S2x256x128.size a := fun i k1_t1 arg6_r0 arg7_r0 arg8_r0 arg9_r0 arg10_r0 k1_hw1 k1_h7 => k1_hw1.2.2.2.2.2.2.2.2.2.1 k1_h7
theorem k1_off16_inb : ∀ (i : grid1.Coords) (k1_t1 : Fin k1_t1_loop.trips) (arg6_r0 : BitVec 32) (arg7_r0 : BitVec 32) (arg8_r0 : BitVec 32) (arg9_r0 : BitVec 32) (arg10_r0 : BitVec 32) (k1_hw1 : k1_chk1 i k1_t1 arg6_r0 arg7_r0 arg8_r0 arg9_r0 arg10_r0), ∀ (k1_h7 : k1_cond7 i k1_t1 arg10_r0 = 1#1), ∀ a, (k1_off16 i arg10_r0) a + S256x128.size a ≤ S65536x128.size a := fun i k1_t1 arg6_r0 arg7_r0 arg8_r0 arg9_r0 arg10_r0 k1_hw1 k1_h7 => k1_hw1.2.2.2.2.2.2.2.2.2.2.1 k1_h7
theorem k1_off17_inb : ∀ (i : grid1.Coords) (k1_t1 : Fin k1_t1_loop.trips) (arg6_r0 : BitVec 32) (arg7_r0 : BitVec 32) (arg8_r0 : BitVec 32) (arg9_r0 : BitVec 32) (arg10_r0 : BitVec 32) (k1_hw1 : k1_chk1 i k1_t1 arg6_r0 arg7_r0 arg8_r0 arg9_r0 arg10_r0), ∀ (k1_h7 : k1_cond7 i k1_t1 arg10_r0 = 1#1), ∀ a, (k1_off17 arg9_r0) a + S1.size a ≤ S2.size a := fun i k1_t1 arg6_r0 arg7_r0 arg8_r0 arg9_r0 arg10_r0 k1_hw1 k1_h7 => k1_hw1.2.2.2.2.2.2.2.2.2.2.2 k1_h7

def k1_off18 (v33_3_r0 : BitVec 32) : Fin 3 → Nat :=
  let c2_i32_46_r0 : BitVec 32 := 2#32
  let v54_r0 : BitVec 32 := Scalar.remui v33_3_r0 c2_i32_46_r0
  let c0_i32_48_r0 : BitVec 32 := 0#32
  let c0_i32_49_r0 : BitVec 32 := 0#32
  ![v54_r0.toNat, 0, 0]

def k1_off19 (i : grid1.Coords) (v33_4_r0 : BitVec 32) : Fin 2 → Nat :=
  let c256_i32_47_r0 : BitVec 32 := 256#32
  let true_31_r0 : BitVec 1 := 1#1
  let c1_i32_30_r0 : BitVec 32 := 1#32
  let v34_r0 : BitVec 32 := Scalar.subi v33_4_r0 c1_i32_30_r0
  let v35_r0 : BitVec 32 := Scalar.select true_31_r0 v34_r0 v33_4_r0
  let c_m1_i32_32_r0 : BitVec 32 := 4294967295#32
  let v36_r0 : BitVec 1 := Scalar.cmpi .eq v35_r0 c_m1_i32_32_r0
  let c7_i32_33_r0 : BitVec 32 := 7#32
  let v37_r0 : BitVec 32 := Scalar.select v36_r0 c7_i32_33_r0 v35_r0
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c8_i32 : BitVec 32 := 8#32
  let v4 : BitVec 32 := Scalar.muli v3 c8_i32
  let v38_r0 : BitVec 32 := Scalar.addi v37_r0 v4
  let v55_r0 : BitVec 32 := Scalar.muli c256_i32_47_r0 v38_r0
  let c0_i32_50_r0 : BitVec 32 := 0#32
  ![v55_r0.toNat, 0]

def k1_chk5 (i : grid1.Coords) (v33_4_r0 : BitVec 32) : Prop :=
  (∀ a, (k1_off19 i v33_4_r0) a + S256x128.size a ≤ S65536x128.size a)
theorem k1_off19_inb : ∀ (i : grid1.Coords) (v33_4_r0 : BitVec 32) (k1_hw5 : k1_chk5 i v33_4_r0), ∀ a, (k1_off19 i v33_4_r0) a + S256x128.size a ≤ S65536x128.size a := fun i v33_4_r0 k1_hw5 => k1_hw5

def k1_off20 (v33_3_r0 : BitVec 32) : Fin 1 → Nat :=
  let c2_i32_46_r0 : BitVec 32 := 2#32
  let v54_r0 : BitVec 32 := Scalar.remui v33_3_r0 c2_i32_46_r0
  ![v54_r0.toNat]
def k1_off21 (v33_3_r0 : BitVec 32) : Fin 3 → Nat :=
  let c2_i32_46_r0 : BitVec 32 := 2#32
  let v54_r0 : BitVec 32 := Scalar.remui v33_3_r0 c2_i32_46_r0
  let c0_i32_52_r0 : BitVec 32 := 0#32
  let c0_i32_53_r0 : BitVec 32 := 0#32
  ![v54_r0.toNat, 0, 0]

def k1_chk4 (v33_3_r0 : BitVec 32) : Prop :=
  (∀ a, (k1_off18 v33_3_r0) a + S1x256x128.size a ≤ S2x256x128.size a) ∧
  (∀ a, (k1_off20 v33_3_r0) a + S1.size a ≤ S2.size a) ∧
  (∀ a, (k1_off21 v33_3_r0) a + S1x256x128.size a ≤ S2x256x128.size a)
theorem k1_off18_inb : ∀ (v33_3_r0 : BitVec 32) (k1_hw4 : k1_chk4 v33_3_r0), ∀ a, (k1_off18 v33_3_r0) a + S1x256x128.size a ≤ S2x256x128.size a := fun v33_3_r0 k1_hw4 => k1_hw4.1
theorem k1_off20_inb : ∀ (v33_3_r0 : BitVec 32) (k1_hw4 : k1_chk4 v33_3_r0), ∀ a, (k1_off20 v33_3_r0) a + S1.size a ≤ S2.size a := fun v33_3_r0 k1_hw4 => k1_hw4.2.1
theorem k1_off21_inb : ∀ (v33_3_r0 : BitVec 32) (k1_hw4 : k1_chk4 v33_3_r0), ∀ a, (k1_off21 v33_3_r0) a + S1x256x128.size a ≤ S2x256x128.size a := fun v33_3_r0 k1_hw4 => k1_hw4.2.2

abbrev scKind : Fin 2 → Kind := fun | 0 => .scVector | 1 => .scVector | ⟨_ + 2, h⟩ => absurd h (Nat.not_lt.2 (Nat.le_add_left _ _))
abbrev scNCore : Fin 2 → Nat := fun | 0 => 2 | 1 => 2 | ⟨_ + 2, h⟩ => absurd h (Nat.not_lt.2 (Nat.le_add_left _ _))
abbrev scNSub : Fin 2 → Nat := fun | 0 => 16 | 1 => 16 | ⟨_ + 2, h⟩ => absurd h (Nat.not_lt.2 (Nat.le_add_left _ _))
-- ==== Reference.lean ====
abbrev S32768x128 : Shape := ⟨2, ![32768, 128]⟩
abbrev S8x1024x16 : Shape := ⟨3, ![8, 1024, 16]⟩
abbrev S8x4096x128 : Shape := ⟨3, ![8, 4096, 128]⟩
abbrev S8 : Shape := ⟨1, ![8]⟩
abbrev S8x1x1 : Shape := ⟨3, ![8, 1, 1]⟩
abbrev S_ : Shape := ⟨0, ![]⟩
abbrev S8x1024x16x1 : Shape := ⟨4, ![8, 1024, 16, 1]⟩
abbrev S8x1024x16x2 : Shape := ⟨4, ![8, 1024, 16, 2]⟩
abbrev S8x1024x16x128 : Shape := ⟨4, ![8, 1024, 16, 128]⟩

abbrev nBuf : Space → Nat
  | .hbm => 24
  | .vmem => 0
  | .smem => 0
  | _ => 0

abbrev bufTy : (tb : Table) → Fin (tcTables nBuf tb) → BufTy
  | .hbm, ⟨0, _⟩ => ⟨S32768x128, .i32⟩
  | .hbm, ⟨1, _⟩ => ⟨S8x1024x16, .i32⟩
  | .hbm, ⟨2, _⟩ => ⟨S8x4096x128, .i32⟩
  | .hbm, ⟨3, _⟩ => ⟨S8, .i32⟩
  | .hbm, ⟨4, _⟩ => ⟨S8x1x1, .i32⟩
  | .hbm, ⟨5, _⟩ => ⟨S_, .i32⟩
  | .hbm, ⟨6, _⟩ => ⟨S8x1x1, .i32⟩
  | .hbm, ⟨7, _⟩ => ⟨S8x1x1, .i1⟩
  | .hbm, ⟨8, _⟩ => ⟨S_, .i32⟩
  | .hbm, ⟨9, _⟩ => ⟨S8x1x1, .i32⟩
  | .hbm, ⟨10, _⟩ => ⟨S8x1x1, .i32⟩
  | .hbm, ⟨11, _⟩ => ⟨S8x1x1, .i32⟩
  | .hbm, ⟨12, _⟩ => ⟨S_, .i32⟩
  | .hbm, ⟨13, _⟩ => ⟨S8x1024x16, .i32⟩
  | .hbm, ⟨14, _⟩ => ⟨S8x1024x16, .i1⟩
  | .hbm, ⟨15, _⟩ => ⟨S_, .i32⟩
  | .hbm, ⟨16, _⟩ => ⟨S8x1024x16, .i32⟩
  | .hbm, ⟨17, _⟩ => ⟨S8x1024x16, .i32⟩
  | .hbm, ⟨18, _⟩ => ⟨S8x1024x16, .i32⟩
  | .hbm, ⟨19, _⟩ => ⟨S8x1024x16, .i32⟩
  | .hbm, ⟨20, _⟩ => ⟨S8x1024x16x1, .i32⟩
  | .hbm, ⟨21, _⟩ => ⟨S8x1024x16x1, .i32⟩
  | .hbm, ⟨22, _⟩ => ⟨S8x1024x16x2, .i32⟩
  | .hbm, ⟨23, _⟩ => ⟨S8x1024x16x128, .i32⟩
  | _, _ => ⟨S32768x128, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_c : Ref sig .tc := ⟨.hbm, 5, rfl⟩
abbrev main_v3 : Ref sig .tc := ⟨.hbm, 6, rfl⟩
abbrev main_v4 : Ref sig .tc := ⟨.hbm, 7, rfl⟩
abbrev main_c_0 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_c_1 : Ref sig .tc := ⟨.hbm, 12, rfl⟩
abbrev main_v8 : Ref sig .tc := ⟨.hbm, 13, rfl⟩
abbrev main_v9 : Ref sig .tc := ⟨.hbm, 14, rfl⟩
abbrev main_c_2 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩

abbrev nD : Nat := 1
abbrev τ : Topo := Topo.v7x

variable {F : FTy → Type} [FloatOps F]
-- ==== Sample.lean ====
abbrev S8x4096x3 : Shape := ⟨3, ![8, 4096, 3]⟩
abbrev S8x4096x1 : Shape := ⟨3, ![8, 4096, 1]⟩
abbrev S8x4096 : Shape := ⟨2, ![8, 4096]⟩
abbrev S8x1024 : Shape := ⟨2, ![8, 1024]⟩
abbrev S8x1 : Shape := ⟨2, ![8, 1]⟩
abbrev S8 : Shape := ⟨1, ![8]⟩
abbrev S8x1024x1 : Shape := ⟨3, ![8, 1024, 1]⟩
abbrev S8x1024x3 : Shape := ⟨3, ![8, 1024, 3]⟩

abbrev nBuf : Space → Nat
  | .hbm => 15
  | .vmem => 7
  | .smem => 0
  | _ => 0

abbrev bufTy : (tb : Table) → Fin (tcTables nBuf tb) → BufTy
  | .hbm, ⟨0, _⟩ => ⟨S8x4096x3, .f32⟩
  | .hbm, ⟨1, _⟩ => ⟨S8x4096x1, .f32⟩
  | .hbm, ⟨2, _⟩ => ⟨S8x4096, .f32⟩
  | .hbm, ⟨3, _⟩ => ⟨S8x4096x1, .f32⟩
  | .hbm, ⟨4, _⟩ => ⟨S8x4096, .f32⟩
  | .hbm, ⟨5, _⟩ => ⟨S8x4096x1, .f32⟩
  | .hbm, ⟨6, _⟩ => ⟨S8x4096, .f32⟩
  | .hbm, ⟨7, _⟩ => ⟨S8x1024, .i32⟩
  | .hbm, ⟨8, _⟩ => ⟨S8x1024, .f32⟩
  | .hbm, ⟨9, _⟩ => ⟨S8x1024, .f32⟩
  | .hbm, ⟨10, _⟩ => ⟨S8x1024, .f32⟩
  | .hbm, ⟨11, _⟩ => ⟨S8x1024x1, .f32⟩
  | .hbm, ⟨12, _⟩ => ⟨S8x1024x1, .f32⟩
  | .hbm, ⟨13, _⟩ => ⟨S8x1024x1, .f32⟩
  | .hbm, ⟨14, _⟩ => ⟨S8x1024x3, .f32⟩
  | .local _ .vmem, ⟨0, _⟩ => ⟨S8x4096, .f32⟩
  | .local _ .vmem, ⟨1, _⟩ => ⟨S8x4096, .f32⟩
  | .local _ .vmem, ⟨2, _⟩ => ⟨S8x4096, .f32⟩
  | .local _ .vmem, ⟨3, _⟩ => ⟨S8x1024, .i32⟩
  | .local _ .vmem, ⟨4, _⟩ => ⟨S8x1024, .f32⟩
  | .local _ .vmem, ⟨5, _⟩ => ⟨S8x1024, .f32⟩
  | .local _ .vmem, ⟨6, _⟩ => ⟨S8x1024, .f32⟩
  | _, _ => ⟨S8x4096x3, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_v3 : Ref sig .tc := ⟨.hbm, 4, rfl⟩
abbrev main_v4 : Ref sig .tc := ⟨.hbm, 5, rfl⟩
abbrev main_v5 : Ref sig .tc := ⟨.hbm, 6, rfl⟩
abbrev main_v6_0 : Ref sig .tc := ⟨.hbm, 7, rfl⟩
abbrev main_v6_1 : Ref sig .tc := ⟨.hbm, 8, rfl⟩
abbrev main_v6_2 : Ref sig .tc := ⟨.hbm, 9, rfl⟩
abbrev main_v6_3 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := .none

@[reducible] def k0_t1_loop : Scf.Loop 32 :=
  let c0_i32 : BitVec 32 := 0#32
  let c1024_i32 : BitVec 32 := 1024#32
  let v21 : BitVec 32 := Scalar.addi c0_i32 c1024_i32
  let c1_i32 : BitVec 32 := 1#32
  ⟨c0_i32, v21, c1_i32⟩
abbrev stage0_0 : Fin 1 → Memref sig .tc .vmem S8x4096 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S8x4096 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S8x4096 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S8x1024 .i32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S8x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S8x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S8x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
-- ==== SampleReferenceIdeal.lean ====
abbrev S8x4096x3 : Shape := ⟨3, ![8, 4096, 3]⟩
abbrev S_ : Shape := ⟨0, ![]⟩
abbrev S8x1024 : Shape := ⟨2, ![8, 1024]⟩
abbrev S8x4096 : Shape := ⟨2, ![8, 4096]⟩
abbrev S8 : Shape := ⟨1, ![8]⟩
abbrev S1 : Shape := ⟨1, ![1]⟩
abbrev S8x1x1 : Shape := ⟨3, ![8, 1, 1]⟩
abbrev S1x1x1 : Shape := ⟨3, ![1, 1, 1]⟩
abbrev S8x1 : Shape := ⟨2, ![8, 1]⟩
abbrev S8x1x3 : Shape := ⟨3, ![8, 1, 3]⟩
abbrev S8x1024x1 : Shape := ⟨3, ![8, 1024, 1]⟩
abbrev S8x1024x2 : Shape := ⟨3, ![8, 1024, 2]⟩
abbrev S8x1024x3 : Shape := ⟨3, ![8, 1024, 3]⟩

abbrev nBuf : Space → Nat
  | .hbm => 84
  | .vmem => 0
  | .smem => 0
  | _ => 0

abbrev bufTy : (tb : Table) → Fin (tcTables nBuf tb) → BufTy
  | .hbm, ⟨0, _⟩ => ⟨S8x4096x3, .f32⟩
  | .hbm, ⟨1, _⟩ => ⟨S_, .i32⟩
  | .hbm, ⟨2, _⟩ => ⟨S8x1024, .i32⟩
  | .hbm, ⟨3, _⟩ => ⟨S_, .f32⟩
  | .hbm, ⟨4, _⟩ => ⟨S8x4096, .f32⟩
  | .hbm, ⟨5, _⟩ => ⟨S_, .i32⟩
  | .hbm, ⟨6, _⟩ => ⟨S8, .i32⟩
  | .hbm, ⟨7, _⟩ => ⟨S_, .i32⟩
  | .hbm, ⟨8, _⟩ => ⟨S_, .i32⟩
  | .hbm, ⟨9, _⟩ => ⟨S8x4096x3, .f32⟩
  | .hbm, ⟨10, _⟩ => ⟨S_, .i32⟩
  | .hbm, ⟨11, _⟩ => ⟨S_, .i32⟩
  | .hbm, ⟨12, _⟩ => ⟨S8x1024, .i32⟩
  | .hbm, ⟨13, _⟩ => ⟨S8x4096, .f32⟩
  | .hbm, ⟨14, _⟩ => ⟨S8, .i32⟩
  | .hbm, ⟨15, _⟩ => ⟨S_, .i32⟩
  | .hbm, ⟨16, _⟩ => ⟨S_, .i1⟩
  | .hbm, ⟨17, _⟩ => ⟨S_, .i32⟩
  | .hbm, ⟨18, _⟩ => ⟨S_, .i32⟩
  | .hbm, ⟨19, _⟩ => ⟨S_, .i32⟩
  | .hbm, ⟨20, _⟩ => ⟨S_, .i1⟩
  | .hbm, ⟨21, _⟩ => ⟨S_, .i32⟩
  | .hbm, ⟨22, _⟩ => ⟨S_, .i32⟩
  | .hbm, ⟨23, _⟩ => ⟨S_, .i32⟩
  | .hbm, ⟨24, _⟩ => ⟨S_, .i32⟩
  | .hbm, ⟨25, _⟩ => ⟨S1, .i32⟩
  | .hbm, ⟨26, _⟩ => ⟨S8x1024, .i32⟩
  | .hbm, ⟨27, _⟩ => ⟨S8x1x1, .i32⟩
  | .hbm, ⟨28, _⟩ => ⟨S_, .i32⟩
  | .hbm, ⟨29, _⟩ => ⟨S8x1x1, .i32⟩
  | .hbm, ⟨30, _⟩ => ⟨S8x1x1, .i1⟩
  | .hbm, ⟨31, _⟩ => ⟨S_, .i32⟩
  | .hbm, ⟨32, _⟩ => ⟨S8x1x1, .i32⟩
  | .hbm, ⟨33, _⟩ => ⟨S8x1x1, .i32⟩
  | .hbm, ⟨34, _⟩ => ⟨S8x1x1, .i32⟩
  | .hbm, ⟨35, _⟩ => ⟨S1, .i32⟩
  | .hbm, ⟨36, _⟩ => ⟨S_, .i32⟩
  | .hbm, ⟨37, _⟩ => ⟨S8x1x1, .i32⟩
  | .hbm, ⟨38, _⟩ => ⟨S8x1x1, .i1⟩
  | .hbm, ⟨39, _⟩ => ⟨S1x1x1, .i32⟩
  | .hbm, ⟨40, _⟩ => ⟨S8x1x1, .i32⟩
  | .hbm, ⟨41, _⟩ => ⟨S8x1x1, .i1⟩
  | .hbm, ⟨42, _⟩ => ⟨S8x1x1, .i1⟩
  | .hbm, ⟨43, _⟩ => ⟨S_, .i1⟩
  | .hbm, ⟨44, _⟩ => ⟨S8x1, .i1⟩
  | .hbm, ⟨45, _⟩ => ⟨S8x1x3, .f32⟩
  | .hbm, ⟨46, _⟩ => ⟨S8x1x3, .i1⟩
  | .hbm, ⟨47, _⟩ => ⟨S_, .f32⟩
  | .hbm, ⟨48, _⟩ => ⟨S8x1x3, .f32⟩
  | .hbm, ⟨49, _⟩ => ⟨S8x1x3, .f32⟩
  | .hbm, ⟨50, _⟩ => ⟨S8x4096x3, .f32⟩
  | .hbm, ⟨51, _⟩ => ⟨S8x4096x3, .f32⟩
  | .hbm, ⟨52, _⟩ => ⟨S8x4096x3, .f32⟩
  | .hbm, ⟨53, _⟩ => ⟨S_, .f32⟩
  | .hbm, ⟨54, _⟩ => ⟨S8x4096, .f32⟩
  | .hbm, ⟨55, _⟩ => ⟨S8x4096, .f32⟩
  | .hbm, ⟨56, _⟩ => ⟨S8x4096, .i32⟩
  | .hbm, ⟨57, _⟩ => ⟨S_, .f32⟩
  | .hbm, ⟨58, _⟩ => ⟨S_, .i32⟩
  | .hbm, ⟨59, _⟩ => ⟨S8, .f32⟩
  | .hbm, ⟨60, _⟩ => ⟨S8, .i32⟩
  | .hbm, ⟨61, _⟩ => ⟨S_, .i32⟩
  | .hbm, ⟨62, _⟩ => ⟨S_, .i32⟩
  | .hbm, ⟨63, _⟩ => ⟨S8, .i32⟩
  | .hbm, ⟨64, _⟩ => ⟨S8x1, .i32⟩
  | .hbm, ⟨65, _⟩ => ⟨S_, .i32⟩
  | .hbm, ⟨66, _⟩ => ⟨S8x1, .i32⟩
  | .hbm, ⟨67, _⟩ => ⟨S8x1, .i1⟩
  | .hbm, ⟨68, _⟩ => ⟨S_, .i32⟩
  | .hbm, ⟨69, _⟩ => ⟨S8x1, .i32⟩
  | .hbm, ⟨70, _⟩ => ⟨S8x1, .i32⟩
  | .hbm, ⟨71, _⟩ => ⟨S8x1, .i32⟩
  | .hbm, ⟨72, _⟩ => ⟨S_, .i32⟩
  | .hbm, ⟨73, _⟩ => ⟨S8x1024, .i32⟩
  | .hbm, ⟨74, _⟩ => ⟨S8x1024, .i1⟩
  | .hbm, ⟨75, _⟩ => ⟨S_, .i32⟩
  | .hbm, ⟨76, _⟩ => ⟨S8x1024, .i32⟩
  | .hbm, ⟨77, _⟩ => ⟨S8x1024, .i32⟩
  | .hbm, ⟨78, _⟩ => ⟨S8x1024, .i32⟩
  | .hbm, ⟨79, _⟩ => ⟨S8x1024, .i32⟩
  | .hbm, ⟨80, _⟩ => ⟨S8x1024x1, .i32⟩
  | .hbm, ⟨81, _⟩ => ⟨S8x1024x1, .i32⟩
  | .hbm, ⟨82, _⟩ => ⟨S8x1024x2, .i32⟩
  | .hbm, ⟨83, _⟩ => ⟨S8x1024x3, .f32⟩
  | _, _ => ⟨S8x4096x3, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_c : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_c_0 : Ref sig .tc := ⟨.hbm, 5, rfl⟩
abbrev main_v2 : Ref sig .tc := ⟨.hbm, 6, rfl⟩
abbrev main_c_1 : Ref sig .tc := ⟨.hbm, 7, rfl⟩
abbrev main_c_2 : Ref sig .tc := ⟨.hbm, 8, rfl⟩
abbrev main_v3_0 : Ref sig .tc := ⟨.hbm, 9, rfl⟩
abbrev main_v3_1 : Ref sig .tc := ⟨.hbm, 10, rfl⟩
abbrev main_v3_2 : Ref sig .tc := ⟨.hbm, 11, rfl⟩
abbrev main_v3_3 : Ref sig .tc := ⟨.hbm, 12, rfl⟩
abbrev main_v3_4 : Ref sig .tc := ⟨.hbm, 13, rfl⟩
abbrev main_v3_5 : Ref sig .tc := ⟨.hbm, 14, rfl⟩
abbrev main_while0c_c_12 : Ref sig .tc := ⟨.hbm, 15, rfl⟩
abbrev main_while0c_v21 : Ref sig .tc := ⟨.hbm, 16, rfl⟩
abbrev main_while0b_c_12 : Ref sig .tc := ⟨.hbm, 17, rfl⟩
abbrev main_while0b_v21 : Ref sig .tc := ⟨.hbm, 18, rfl⟩
abbrev main_while0b_c_13 : Ref sig .tc := ⟨.hbm, 19, rfl⟩
abbrev main_while0b_v22 : Ref sig .tc := ⟨.hbm, 20, rfl⟩
abbrev main_while0b_c_14 : Ref sig .tc := ⟨.hbm, 21, rfl⟩
abbrev main_while0b_v23 : Ref sig .tc := ⟨.hbm, 22, rfl⟩
abbrev main_while0b_v24 : Ref sig .tc := ⟨.hbm, 23, rfl⟩
abbrev main_while0b_v25 : Ref sig .tc := ⟨.hbm, 24, rfl⟩
abbrev main_while0b_v26 : Ref sig .tc := ⟨.hbm, 25, rfl⟩
abbrev main_while0b_v27 : Ref sig .tc := ⟨.hbm, 26, rfl⟩
abbrev main_while0b_v28 : Ref sig .tc := ⟨.hbm, 27, rfl⟩
abbrev main_while0b_call0_c : Ref sig .tc := ⟨.hbm, 28, rfl⟩
abbrev main_while0b_call0_v0 : Ref sig .tc := ⟨.hbm, 29, rfl⟩
abbrev main_while0b_call0_v1 : Ref sig .tc := ⟨.hbm, 30, rfl⟩
abbrev main_while0b_call0_c_0 : Ref sig .tc := ⟨.hbm, 31, rfl⟩
abbrev main_while0b_call0_v2 : Ref sig .tc := ⟨.hbm, 32, rfl⟩
abbrev main_while0b_call0_v3 : Ref sig .tc := ⟨.hbm, 33, rfl⟩
abbrev main_while0b_call0_v4 : Ref sig .tc := ⟨.hbm, 34, rfl⟩
abbrev main_while0b_call0_c_1 : Ref sig .tc := ⟨.hbm, 35, rfl⟩
abbrev main_while0b_call0_c_2 : Ref sig .tc := ⟨.hbm, 36, rfl⟩
abbrev main_while0b_call0_v5 : Ref sig .tc := ⟨.hbm, 37, rfl⟩
abbrev main_while0b_call0_v6 : Ref sig .tc := ⟨.hbm, 38, rfl⟩
abbrev main_while0b_call0_v7 : Ref sig .tc := ⟨.hbm, 39, rfl⟩
abbrev main_while0b_call0_v8 : Ref sig .tc := ⟨.hbm, 40, rfl⟩
abbrev main_while0b_call0_v9 : Ref sig .tc := ⟨.hbm, 41, rfl⟩
abbrev main_while0b_call0_v10 : Ref sig .tc := ⟨.hbm, 42, rfl⟩
abbrev main_while0b_call0_c_3 : Ref sig .tc := ⟨.hbm, 43, rfl⟩
abbrev main_while0b_call0_v11 : Ref sig .tc := ⟨.hbm, 44, rfl⟩
abbrev main_while0b_call0_v12 : Ref sig .tc := ⟨.hbm, 45, rfl⟩
abbrev main_while0b_call0_v13 : Ref sig .tc := ⟨.hbm, 46, rfl⟩
abbrev main_while0b_call0_cst : Ref sig .tc := ⟨.hbm, 47, rfl⟩
abbrev main_while0b_call0_v14 : Ref sig .tc := ⟨.hbm, 48, rfl⟩
abbrev main_while0b_v29 : Ref sig .tc := ⟨.hbm, 49, rfl⟩
abbrev main_while0b_v30 : Ref sig .tc := ⟨.hbm, 50, rfl⟩
abbrev main_while0b_v31 : Ref sig .tc := ⟨.hbm, 51, rfl⟩
abbrev main_while0b_v32 : Ref sig .tc := ⟨.hbm, 52, rfl⟩
abbrev main_while0b_cst_15 : Ref sig .tc := ⟨.hbm, 53, rfl⟩
abbrev main_while0b_v33 : Ref sig .tc := ⟨.hbm, 54, rfl⟩
abbrev main_while0b_v34 : Ref sig .tc := ⟨.hbm, 55, rfl⟩
abbrev main_while0b_call1_v0 : Ref sig .tc := ⟨.hbm, 56, rfl⟩
abbrev main_while0b_call1_cst : Ref sig .tc := ⟨.hbm, 57, rfl⟩
abbrev main_while0b_call1_c : Ref sig .tc := ⟨.hbm, 58, rfl⟩
abbrev main_while0b_call1_v1_0 : Ref sig .tc := ⟨.hbm, 59, rfl⟩
abbrev main_while0b_v35 : Ref sig .tc := ⟨.hbm, 60, rfl⟩
abbrev main_while0b_c_16 : Ref sig .tc := ⟨.hbm, 61, rfl⟩
abbrev main_while0b_v36 : Ref sig .tc := ⟨.hbm, 62, rfl⟩
abbrev main_v4 : Ref sig .tc := ⟨.hbm, 63, rfl⟩
abbrev main_v5 : Ref sig .tc := ⟨.hbm, 64, rfl⟩
abbrev main_c_3 : Ref sig .tc := ⟨.hbm, 65, rfl⟩
abbrev main_v6 : Ref sig .tc := ⟨.hbm, 66, rfl⟩
abbrev main_v7 : Ref sig .tc := ⟨.hbm, 67, rfl⟩
abbrev main_c_4 : Ref sig .tc := ⟨.hbm, 68, rfl⟩
abbrev main_v8 : Ref sig .tc := ⟨.hbm, 69, rfl⟩
abbrev main_v9 : Ref sig .tc := ⟨.hbm, 70, rfl⟩
abbrev main_v10 : Ref sig .tc := ⟨.hbm, 71, rfl⟩
abbrev main_c_5 : Ref sig .tc := ⟨.hbm, 72, rfl⟩
abbrev main_v11 : Ref sig .tc := ⟨.hbm, 73, rfl⟩
abbrev main_v12 : Ref sig .tc := ⟨.hbm, 74, rfl⟩
abbrev main_c_6 : Ref sig .tc := ⟨.hbm, 75, rfl⟩
abbrev main_v13 : Ref sig .tc := ⟨.hbm, 76, rfl⟩
abbrev main_v14 : Ref sig .tc := ⟨.hbm, 77, rfl⟩
abbrev main_v15 : Ref sig .tc := ⟨.hbm, 78, rfl⟩
abbrev main_v16 : Ref sig .tc := ⟨.hbm, 79, rfl⟩
abbrev main_v17 : Ref sig .tc := ⟨.hbm, 80, rfl⟩
abbrev main_v18 : Ref sig .tc := ⟨.hbm, 81, rfl⟩
abbrev main_v19 : Ref sig .tc := ⟨.hbm, 82, rfl⟩
abbrev main_v20 : Ref sig .tc := ⟨.hbm, 83, rfl⟩

abbrev nD : Nat := 1
abbrev τ : Topo := Topo.v7x

variable {F : FTy → Type} [FloatOps F]

abbrev main_while0_count : Scf.Loop 32 := ⟨0#32, 1024#32, 1#32⟩
-- ==== Near.lean ====
abbrev S8x4096x3 : Shape := ⟨3, ![8, 4096, 3]⟩
abbrev S8x1024x3 : Shape := ⟨3, ![8, 1024, 3]⟩
abbrev S8x1024x1 : Shape := ⟨3, ![8, 1024, 1]⟩
abbrev S8x1024 : Shape := ⟨2, ![8, 1024]⟩
abbrev S8x4096x1 : Shape := ⟨3, ![8, 4096, 1]⟩
abbrev S8x4096 : Shape := ⟨2, ![8, 4096]⟩
abbrev S8x1x4096 : Shape := ⟨3, ![8, 1, 4096]⟩
abbrev S4x1024x16 : Shape := ⟨3, ![4, 1024, 16]⟩
abbrev S1x256x1 : Shape := ⟨3, ![1, 256, 1]⟩
abbrev S1x1x4096 : Shape := ⟨3, ![1, 1, 4096]⟩
abbrev S1x256x16 : Shape := ⟨3, ![1, 256, 16]⟩
abbrev S256x1 : Shape := ⟨2, ![256, 1]⟩
abbrev S1x4096 : Shape := ⟨2, ![1, 4096]⟩
abbrev S256x4096 : Shape := ⟨2, ![256, 4096]⟩
abbrev S256x16 : Shape := ⟨2, ![256, 16]⟩
abbrev S256 : Shape := ⟨1, ![256]⟩
abbrev S8x1024x16 : Shape := ⟨3, ![8, 1024, 16]⟩

abbrev nBuf : Space → Nat
  | .hbm => 23
  | .vmem => 28
  | .smem => 0
  | _ => 0

abbrev bufTy : (tb : Table) → Fin (tcTables nBuf tb) → BufTy
  | .hbm, ⟨0, _⟩ => ⟨S8x4096x3, .f32⟩
  | .hbm, ⟨1, _⟩ => ⟨S8x1024x3, .f32⟩
  | .hbm, ⟨2, _⟩ => ⟨S8x1024x1, .f32⟩
  | .hbm, ⟨3, _⟩ => ⟨S8x1024, .f32⟩
  | .hbm, ⟨4, _⟩ => ⟨S8x1024x1, .f32⟩
  | .hbm, ⟨5, _⟩ => ⟨S8x1024x1, .f32⟩
  | .hbm, ⟨6, _⟩ => ⟨S8x1024, .f32⟩
  | .hbm, ⟨7, _⟩ => ⟨S8x1024x1, .f32⟩
  | .hbm, ⟨8, _⟩ => ⟨S8x1024x1, .f32⟩
  | .hbm, ⟨9, _⟩ => ⟨S8x1024, .f32⟩
  | .hbm, ⟨10, _⟩ => ⟨S8x1024x1, .f32⟩
  | .hbm, ⟨11, _⟩ => ⟨S8x4096x1, .f32⟩
  | .hbm, ⟨12, _⟩ => ⟨S8x4096, .f32⟩
  | .hbm, ⟨13, _⟩ => ⟨S8x1x4096, .f32⟩
  | .hbm, ⟨14, _⟩ => ⟨S8x4096x1, .f32⟩
  | .hbm, ⟨15, _⟩ => ⟨S8x4096, .f32⟩
  | .hbm, ⟨16, _⟩ => ⟨S8x1x4096, .f32⟩
  | .hbm, ⟨17, _⟩ => ⟨S8x4096x1, .f32⟩
  | .hbm, ⟨18, _⟩ => ⟨S8x4096, .f32⟩
  | .hbm, ⟨19, _⟩ => ⟨S8x1x4096, .f32⟩
  | .hbm, ⟨20, _⟩ => ⟨S4x1024x16, .i32⟩
  | .hbm, ⟨21, _⟩ => ⟨S4x1024x16, .i32⟩
  | .hbm, ⟨22, _⟩ => ⟨S8x1024x16, .i32⟩
  | .local _ .vmem, ⟨0, _⟩ => ⟨S1x256x1, .f32⟩
  | .local _ .vmem, ⟨1, _⟩ => ⟨S1x256x1, .f32⟩
  | .local _ .vmem, ⟨2, _⟩ => ⟨S1x256x1, .f32⟩
  | .local _ .vmem, ⟨3, _⟩ => ⟨S1x256x1, .f32⟩
  | .local _ .vmem, ⟨4, _⟩ => ⟨S1x256x1, .f32⟩
  | .local _ .vmem, ⟨5, _⟩ => ⟨S1x256x1, .f32⟩
  | .local _ .vmem, ⟨6, _⟩ => ⟨S1x1x4096, .f32⟩
  | .local _ .vmem, ⟨7, _⟩ => ⟨S1x1x4096, .f32⟩
  | .local _ .vmem, ⟨8, _⟩ => ⟨S1x1x4096, .f32⟩
  | .local _ .vmem, ⟨9, _⟩ => ⟨S1x1x4096, .f32⟩
  | .local _ .vmem, ⟨10, _⟩ => ⟨S1x1x4096, .f32⟩
  | .local _ .vmem, ⟨11, _⟩ => ⟨S1x1x4096, .f32⟩
  | .local _ .vmem, ⟨12, _⟩ => ⟨S1x256x16, .i32⟩
  | .local _ .vmem, ⟨13, _⟩ => ⟨S1x256x16, .i32⟩
  | .local _ .vmem, ⟨14, _⟩ => ⟨S1x256x1, .f32⟩
  | .local _ .vmem, ⟨15, _⟩ => ⟨S1x256x1, .f32⟩
  | .local _ .vmem, ⟨16, _⟩ => ⟨S1x256x1, .f32⟩
  | .local _ .vmem, ⟨17, _⟩ => ⟨S1x256x1, .f32⟩
  | .local _ .vmem, ⟨18, _⟩ => ⟨S1x256x1, .f32⟩
  | .local _ .vmem, ⟨19, _⟩ => ⟨S1x256x1, .f32⟩
  | .local _ .vmem, ⟨20, _⟩ => ⟨S1x1x4096, .f32⟩
  | .local _ .vmem, ⟨21, _⟩ => ⟨S1x1x4096, .f32⟩
  | .local _ .vmem, ⟨22, _⟩ => ⟨S1x1x4096, .f32⟩
  | .local _ .vmem, ⟨23, _⟩ => ⟨S1x1x4096, .f32⟩
  | .local _ .vmem, ⟨24, _⟩ => ⟨S1x1x4096, .f32⟩
  | .local _ .vmem, ⟨25, _⟩ => ⟨S1x1x4096, .f32⟩
  | .local _ .vmem, ⟨26, _⟩ => ⟨S1x256x16, .i32⟩
  | .local _ .vmem, ⟨27, _⟩ => ⟨S1x256x16, .i32⟩
  | _, _ => ⟨S8x4096x3, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | _, _ => false

abbrev semScoped : Fin 0 → Bool
  | ⟨_, h⟩ => absurd h (Nat.not_lt_zero _)

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  ofTc nBuf bufTy 0 28 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_v11 : Ref sig .tc := ⟨.hbm, 13, rfl⟩
abbrev main_v12 : Ref sig .tc := ⟨.hbm, 14, rfl⟩
abbrev main_v13 : Ref sig .tc := ⟨.hbm, 15, rfl⟩
abbrev main_v14 : Ref sig .tc := ⟨.hbm, 16, rfl⟩
abbrev main_v15 : Ref sig .tc := ⟨.hbm, 17, rfl⟩
abbrev main_v16 : Ref sig .tc := ⟨.hbm, 18, rfl⟩
abbrev main_v17 : Ref sig .tc := ⟨.hbm, 19, rfl⟩
abbrev main_v18 : Ref sig .tc := ⟨.hbm, 20, rfl⟩
abbrev main_v19 : Ref sig .tc := ⟨.hbm, 21, rfl⟩
abbrev main_v20 : Ref sig .tc := ⟨.hbm, 22, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc1_stg0_0 : Ref sig .tc := ⟨.vmem, 14, rfl⟩
abbrev cc1_stg0_1 : Ref sig .tc := ⟨.vmem, 15, rfl⟩
abbrev cc1_stg1_0 : Ref sig .tc := ⟨.vmem, 16, rfl⟩
abbrev cc1_stg1_1 : Ref sig .tc := ⟨.vmem, 17, rfl⟩
abbrev cc1_stg2_0 : Ref sig .tc := ⟨.vmem, 18, rfl⟩
abbrev cc1_stg2_1 : Ref sig .tc := ⟨.vmem, 19, rfl⟩
abbrev cc1_stg3_0 : Ref sig .tc := ⟨.vmem, 20, rfl⟩
abbrev cc1_stg3_1 : Ref sig .tc := ⟨.vmem, 21, rfl⟩
abbrev cc1_stg4_0 : Ref sig .tc := ⟨.vmem, 22, rfl⟩
abbrev cc1_stg4_1 : Ref sig .tc := ⟨.vmem, 23, rfl⟩
abbrev cc1_stg5_0 : Ref sig .tc := ⟨.vmem, 24, rfl⟩
abbrev cc1_stg5_1 : Ref sig .tc := ⟨.vmem, 25, rfl⟩
abbrev cc1_stg6_0 : Ref sig .tc := ⟨.vmem, 26, rfl⟩
abbrev cc1_stg6_1 : Ref sig .tc := ⟨.vmem, 27, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc1_sem0_0 : DmaSem sig := 14
abbrev cc1_sem0_1 : DmaSem sig := 15
abbrev cc1_sem1_0 : DmaSem sig := 16
abbrev cc1_sem1_1 : DmaSem sig := 17
abbrev cc1_sem2_0 : DmaSem sig := 18
abbrev cc1_sem2_1 : DmaSem sig := 19
abbrev cc1_sem3_0 : DmaSem sig := 20
abbrev cc1_sem3_1 : DmaSem sig := 21
abbrev cc1_sem4_0 : DmaSem sig := 22
abbrev cc1_sem4_1 : DmaSem sig := 23
abbrev cc1_sem5_0 : DmaSem sig := 24
abbrev cc1_sem5_1 : DmaSem sig := 25
abbrev cc1_sem6_0 : DmaSem sig := 26
abbrev cc1_sem6_1 : DmaSem sig := 27

abbrev nD : Nat := 1
abbrev τ : Topo := Topo.v7x

variable {F : FTy → Type} [FloatOps F]

abbrev grid0 : Pipeline.Grid := ⟨2, ![4, 4], ![false, false]⟩

@[reducible] def k0_t1_loop : Scf.Loop 32 :=
  let c0_i32_20 : BitVec 32 := 0#32
  let c16_i32 : BitVec 32 := 16#32
  let v64 : BitVec 32 := Scalar.addi c0_i32_20 c16_i32
  let c1_i32 : BitVec 32 := 1#32
  ⟨c0_i32_20, v64, c1_i32⟩
def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi arg0 c0_i32
  let c0_i32_0 : BitVec 32 := 0#32
  let c0_i32_1 : BitVec 32 := 0#32
  ![v0.toNat, arg1.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi arg0 c0_i32
  let c0_i32_0 : BitVec 32 := 0#32
  let c0_i32_1 : BitVec 32 := 0#32
  ![v0.toNat, arg1.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi arg0 c0_i32
  let c0_i32_0 : BitVec 32 := 0#32
  let c0_i32_1 : BitVec 32 := 0#32
  ![v0.toNat, arg1.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi arg0 c0_i32
  let c0_i32_0 : BitVec 32 := 0#32
  let c0_i32_1 : BitVec 32 := 0#32
  let c0_i32_2 : BitVec 32 := 0#32
  ![v0.toNat, c0_i32_0.toNat, c0_i32_1.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi arg0 c0_i32
  let c0_i32_0 : BitVec 32 := 0#32
  let c0_i32_1 : BitVec 32 := 0#32
  let c0_i32_2 : BitVec 32 := 0#32
  ![v0.toNat, c0_i32_0.toNat, c0_i32_1.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi arg0 c0_i32
  let c0_i32_0 : BitVec 32 := 0#32
  let c0_i32_1 : BitVec 32 := 0#32
  let c0_i32_2 : BitVec 32 := 0#32
  ![v0.toNat, c0_i32_0.toNat, c0_i32_1.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x256x1 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x256x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x256x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x1x4096 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x1x4096 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1x1x4096 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S1x256x16 .i32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev grid1 : Pipeline.Grid := ⟨2, ![4, 4], ![false, false]⟩

@[reducible] def k1_t1_loop : Scf.Loop 32 :=
  let c0_i32 : BitVec 32 := 0#32
  let c16_i32 : BitVec 32 := 16#32
  let v64 : BitVec 32 := Scalar.addi c0_i32 c16_i32
  let c1_i32 : BitVec 32 := 1#32
  ⟨c0_i32, v64, c1_i32⟩
def cc1_transform_0 (i : grid1.Coords) : Fin 3 → Nat :=
  let arg0 : BitVec 32 := BitVec.ofNat 32 (i 0).val
  let arg1 : BitVec 32 := BitVec.ofNat 32 (i 1).val
  let c4_i32 : BitVec 32 := 4#32
  let v0 : BitVec 32 := Scalar.addi arg0 c4_i32
  let c0_i32 : BitVec 32 := 0#32
  let c0_i32_0 : BitVec 32 := 0#32
  ![v0.toNat, arg1.toNat, c0_i32.toNat]

def cc1_transform_1 (i : grid1.Coords) : Fin 3 → Nat :=
  let arg0 : BitVec 32 := BitVec.ofNat 32 (i 0).val
  let arg1 : BitVec 32 := BitVec.ofNat 32 (i 1).val
  let c4_i32 : BitVec 32 := 4#32
  let v0 : BitVec 32 := Scalar.addi arg0 c4_i32
  let c0_i32 : BitVec 32 := 0#32
  let c0_i32_0 : BitVec 32 := 0#32
  ![v0.toNat, arg1.toNat, c0_i32.toNat]

def cc1_transform_2 (i : grid1.Coords) : Fin 3 → Nat :=
  let arg0 : BitVec 32 := BitVec.ofNat 32 (i 0).val
  let arg1 : BitVec 32 := BitVec.ofNat 32 (i 1).val
  let c4_i32 : BitVec 32 := 4#32
  let v0 : BitVec 32 := Scalar.addi arg0 c4_i32
  let c0_i32 : BitVec 32 := 0#32
  let c0_i32_0 : BitVec 32 := 0#32
  ![v0.toNat, arg1.toNat, c0_i32.toNat]

def cc1_transform_3 (i : grid1.Coords) : Fin 3 → Nat :=
  let arg0 : BitVec 32 := BitVec.ofNat 32 (i 0).val
  let arg1 : BitVec 32 := BitVec.ofNat 32 (i 1).val
  let c4_i32 : BitVec 32 := 4#32
  let v0 : BitVec 32 := Scalar.addi arg0 c4_i32
  let c0_i32 : BitVec 32 := 0#32
  let c0_i32_0 : BitVec 32 := 0#32
  let c0_i32_1 : BitVec 32 := 0#32
  ![v0.toNat, c0_i32.toNat, c0_i32_0.toNat]

def cc1_transform_4 (i : grid1.Coords) : Fin 3 → Nat :=
  let arg0 : BitVec 32 := BitVec.ofNat 32 (i 0).val
  let arg1 : BitVec 32 := BitVec.ofNat 32 (i 1).val
  let c4_i32 : BitVec 32 := 4#32
  let v0 : BitVec 32 := Scalar.addi arg0 c4_i32
  let c0_i32 : BitVec 32 := 0#32
  let c0_i32_0 : BitVec 32 := 0#32
  let c0_i32_1 : BitVec 32 := 0#32
  ![v0.toNat, c0_i32.toNat, c0_i32_0.toNat]

def cc1_transform_5 (i : grid1.Coords) : Fin 3 → Nat :=
  let arg0 : BitVec 32 := BitVec.ofNat 32 (i 0).val
  let arg1 : BitVec 32 := BitVec.ofNat 32 (i 1).val
  let c4_i32 : BitVec 32 := 4#32
  let v0 : BitVec 32 := Scalar.addi arg0 c4_i32
  let c0_i32 : BitVec 32 := 0#32
  let c0_i32_0 : BitVec 32 := 0#32
  let c0_i32_1 : BitVec 32 := 0#32
  ![v0.toNat, c0_i32.toNat, c0_i32_0.toNat]

def cc1_transform_6 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage1_0 : Fin 2 → Memref sig .tc .vmem S1x256x1 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S1x256x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, true]

abbrev stage1_2 : Fin 2 → Memref sig .tc .vmem S1x256x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true]

abbrev stage1_3 : Fin 2 → Memref sig .tc .vmem S1x1x4096 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, false]

abbrev stage1_4 : Fin 2 → Memref sig .tc .vmem S1x1x4096 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, false]

abbrev stage1_5 : Fin 2 → Memref sig .tc .vmem S1x1x4096 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true, false]

abbrev stage1_6 : Fin 2 → Memref sig .tc .vmem S1x256x16 .i32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true, true]
-- ==== NearReferenceIdeal.lean ====
abbrev S8x4096x3 : Shape := ⟨3, ![8, 4096, 3]⟩
abbrev S8x1024x3 : Shape := ⟨3, ![8, 1024, 3]⟩
abbrev S_ : Shape := ⟨0, ![]⟩
abbrev S8x1024 : Shape := ⟨2, ![8, 1024]⟩
abbrev S8x1024x1 : Shape := ⟨3, ![8, 1024, 1]⟩
abbrev S8x4096 : Shape := ⟨2, ![8, 4096]⟩
abbrev S8x1x4096 : Shape := ⟨3, ![8, 1, 4096]⟩
abbrev S8x1024x4096 : Shape := ⟨3, ![8, 1024, 4096]⟩
abbrev S8x1024x16 : Shape := ⟨3, ![8, 1024, 16]⟩
abbrev S8 : Shape := ⟨1, ![8]⟩
abbrev S8x1x1 : Shape := ⟨3, ![8, 1, 1]⟩

abbrev nBuf : Space → Nat
  | .hbm => 33
  | .vmem => 0
  | .smem => 0
  | _ => 0

abbrev bufTy : (tb : Table) → Fin (tcTables nBuf tb) → BufTy
  | .hbm, ⟨0, _⟩ => ⟨S8x4096x3, .f32⟩
  | .hbm, ⟨1, _⟩ => ⟨S8x1024x3, .f32⟩
  | .hbm, ⟨2, _⟩ => ⟨S8x1024x3, .f32⟩
  | .hbm, ⟨3, _⟩ => ⟨S_, .f32⟩
  | .hbm, ⟨4, _⟩ => ⟨S8x1024, .f32⟩
  | .hbm, ⟨5, _⟩ => ⟨S8x1024x1, .f32⟩
  | .hbm, ⟨6, _⟩ => ⟨S8x4096x3, .f32⟩
  | .hbm, ⟨7, _⟩ => ⟨S_, .f32⟩
  | .hbm, ⟨8, _⟩ => ⟨S8x4096, .f32⟩
  | .hbm, ⟨9, _⟩ => ⟨S8x1x4096, .f32⟩
  | .hbm, ⟨10, _⟩ => ⟨S8x1024x4096, .f32⟩
  | .hbm, ⟨11, _⟩ => ⟨S8x1024x4096, .f32⟩
  | .hbm, ⟨12, _⟩ => ⟨S8x1024x4096, .f32⟩
  | .hbm, ⟨13, _⟩ => ⟨S8x1024x4096, .f32⟩
  | .hbm, ⟨14, _⟩ => ⟨S_, .f32⟩
  | .hbm, ⟨15, _⟩ => ⟨S8x1024x4096, .f32⟩
  | .hbm, ⟨16, _⟩ => ⟨S8x1024x4096, .f32⟩
  | .hbm, ⟨17, _⟩ => ⟨S8x1024x4096, .f32⟩
  | .hbm, ⟨18, _⟩ => ⟨S_, .f32⟩
  | .hbm, ⟨19, _⟩ => ⟨S_, .f32⟩
  | .hbm, ⟨20, _⟩ => ⟨S8x1024x4096, .f32⟩
  | .hbm, ⟨21, _⟩ => ⟨S8x1024x4096, .f32⟩
  | .hbm, ⟨22, _⟩ => ⟨S8x1024x4096, .f32⟩
  | .hbm, ⟨23, _⟩ => ⟨S8x1024x4096, .f32⟩
  | .hbm, ⟨24, _⟩ => ⟨S8x1024x16, .f32⟩
  | .hbm, ⟨25, _⟩ => ⟨S8x1024x16, .i32⟩
  | .hbm, ⟨26, _⟩ => ⟨S8, .i32⟩
  | .hbm, ⟨27, _⟩ => ⟨S8x1x1, .i32⟩
  | .hbm, ⟨28, _⟩ => ⟨S_, .i32⟩
  | .hbm, ⟨29, _⟩ => ⟨S8x1x1, .i32⟩
  | .hbm, ⟨30, _⟩ => ⟨S8x1x1, .i32⟩
  | .hbm, ⟨31, _⟩ => ⟨S8x1024x16, .i32⟩
  | .hbm, ⟨32, _⟩ => ⟨S8x1024x16, .i32⟩
  | _, _ => ⟨S8x4096x3, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_cst_1 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_cst_2 : Ref sig .tc := ⟨.hbm, 18, rfl⟩
abbrev main_call0_v0 : Ref sig .tc := ⟨.hbm, 19, rfl⟩
abbrev main_call0_v1 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_values : Ref sig .tc := ⟨.hbm, 24, rfl⟩
abbrev main_indices : Ref sig .tc := ⟨.hbm, 25, rfl⟩
abbrev main_v16 : Ref sig .tc := ⟨.hbm, 26, rfl⟩
abbrev main_v17 : Ref sig .tc := ⟨.hbm, 27, rfl⟩
abbrev main_c : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩

abbrev nD : Nat := 1
abbrev τ : Topo := Topo.v7x

variable {F : FTy → Type} [FloatOps F]
-- ==== Dense.lean ====
abbrev S8x1024x16x128 : Shape := ⟨4, ![8, 1024, 16, 128]⟩
abbrev S8x1024x3 : Shape := ⟨3, ![8, 1024, 3]⟩
abbrev S131x256 : Shape := ⟨2, ![131, 256]⟩
abbrev S256 : Shape := ⟨1, ![256]⟩
abbrev S256x256 : Shape := ⟨2, ![256, 256]⟩
abbrev S8x1024x1 : Shape := ⟨3, ![8, 1024, 1]⟩
abbrev S8x1024 : Shape := ⟨2, ![8, 1024]⟩
abbrev S_ : Shape := ⟨0, ![]⟩
abbrev S125x256 : Shape := ⟨2, ![125, 256]⟩
abbrev S4x1024x16x128 : Shape := ⟨4, ![4, 1024, 16, 128]⟩
abbrev S4096x16x128 : Shape := ⟨3, ![4096, 16, 128]⟩
abbrev S4x1024 : Shape := ⟨2, ![4, 1024]⟩
abbrev S4096x1 : Shape := ⟨2, ![4096, 1]⟩
abbrev S1x256 : Shape := ⟨2, ![1, 256]⟩
abbrev S4096x256 : Shape := ⟨2, ![4096, 256]⟩
abbrev S128x16x128 : Shape := ⟨3, ![128, 16, 128]⟩
abbrev S128x1 : Shape := ⟨2, ![128, 1]⟩
abbrev S128x256 : Shape := ⟨2, ![128, 256]⟩
abbrev S2048x128 : Shape := ⟨2, ![2048, 128]⟩
abbrev S2048x256 : Shape := ⟨2, ![2048, 256]⟩
abbrev S128x16x256 : Shape := ⟨3, ![128, 16, 256]⟩
abbrev S128x1x256 : Shape := ⟨3, ![128, 1, 256]⟩
abbrev S128 : Shape := ⟨1, ![128]⟩
abbrev S8192x256 : Shape := ⟨2, ![8192, 256]⟩
abbrev S8x1024x256 : Shape := ⟨3, ![8, 1024, 256]⟩

abbrev nBuf : Space → Nat
  | .hbm => 46
  | .vmem => 32
  | .smem => 0
  | _ => 0

abbrev bufTy : (tb : Table) → Fin (tcTables nBuf tb) → BufTy
  | .hbm, ⟨0, _⟩ => ⟨S8x1024x16x128, .i32⟩
  | .hbm, ⟨1, _⟩ => ⟨S8x1024x3, .f32⟩
  | .hbm, ⟨2, _⟩ => ⟨S131x256, .f32⟩
  | .hbm, ⟨3, _⟩ => ⟨S256, .f32⟩
  | .hbm, ⟨4, _⟩ => ⟨S256x256, .f32⟩
  | .hbm, ⟨5, _⟩ => ⟨S256, .f32⟩
  | .hbm, ⟨6, _⟩ => ⟨S256, .f32⟩
  | .hbm, ⟨7, _⟩ => ⟨S256, .f32⟩
  | .hbm, ⟨8, _⟩ => ⟨S8x1024x1, .f32⟩
  | .hbm, ⟨9, _⟩ => ⟨S8x1024, .f32⟩
  | .hbm, ⟨10, _⟩ => ⟨S8x1024x1, .f32⟩
  | .hbm, ⟨11, _⟩ => ⟨S8x1024, .f32⟩
  | .hbm, ⟨12, _⟩ => ⟨S8x1024x1, .f32⟩
  | .hbm, ⟨13, _⟩ => ⟨S8x1024, .f32⟩
  | .hbm, ⟨14, _⟩ => ⟨S_, .f32⟩
  | .hbm, ⟨15, _⟩ => ⟨S125x256, .f32⟩
  | .hbm, ⟨16, _⟩ => ⟨S256x256, .f32⟩
  | .hbm, ⟨17, _⟩ => ⟨S256x256, .bf16⟩
  | .hbm, ⟨18, _⟩ => ⟨S4x1024x16x128, .i32⟩
  | .hbm, ⟨19, _⟩ => ⟨S4096x16x128, .i32⟩
  | .hbm, ⟨20, _⟩ => ⟨S4x1024, .f32⟩
  | .hbm, ⟨21, _⟩ => ⟨S4096x1, .f32⟩
  | .hbm, ⟨22, _⟩ => ⟨S4x1024, .f32⟩
  | .hbm, ⟨23, _⟩ => ⟨S4096x1, .f32⟩
  | .hbm, ⟨24, _⟩ => ⟨S4x1024, .f32⟩
  | .hbm, ⟨25, _⟩ => ⟨S4096x1, .f32⟩
  | .hbm, ⟨26, _⟩ => ⟨S1x256, .f32⟩
  | .hbm, ⟨27, _⟩ => ⟨S1x256, .f32⟩
  | .hbm, ⟨28, _⟩ => ⟨S1x256, .f32⟩
  | .hbm, ⟨29, _⟩ => ⟨S1x256, .f32⟩
  | .hbm, ⟨30, _⟩ => ⟨S4096x256, .f32⟩
  | .hbm, ⟨31, _⟩ => ⟨S4x1024x16x128, .i32⟩
  | .hbm, ⟨32, _⟩ => ⟨S4096x16x128, .i32⟩
  | .hbm, ⟨33, _⟩ => ⟨S4x1024, .f32⟩
  | .hbm, ⟨34, _⟩ => ⟨S4096x1, .f32⟩
  | .hbm, ⟨35, _⟩ => ⟨S4x1024, .f32⟩
  | .hbm, ⟨36, _⟩ => ⟨S4096x1, .f32⟩
  | .hbm, ⟨37, _⟩ => ⟨S4x1024, .f32⟩
  | .hbm, ⟨38, _⟩ => ⟨S4096x1, .f32⟩
  | .hbm, ⟨39, _⟩ => ⟨S1x256, .f32⟩
  | .hbm, ⟨40, _⟩ => ⟨S1x256, .f32⟩
  | .hbm, ⟨41, _⟩ => ⟨S1x256, .f32⟩
  | .hbm, ⟨42, _⟩ => ⟨S1x256, .f32⟩
  | .hbm, ⟨43, _⟩ => ⟨S4096x256, .f32⟩
  | .hbm, ⟨44, _⟩ => ⟨S8192x256, .f32⟩
  | .hbm, ⟨45, _⟩ => ⟨S8x1024x256, .f32⟩
  | .local _ .vmem, ⟨0, _⟩ => ⟨S128x16x128, .i32⟩
  | .local _ .vmem, ⟨1, _⟩ => ⟨S128x16x128, .i32⟩
  | .local _ .vmem, ⟨2, _⟩ => ⟨S128x1, .f32⟩
  | .local _ .vmem, ⟨3, _⟩ => ⟨S128x1, .f32⟩
  | .local _ .vmem, ⟨4, _⟩ => ⟨S128x1, .f32⟩
  | .local _ .vmem, ⟨5, _⟩ => ⟨S128x1, .f32⟩
  | .local _ .vmem, ⟨6, _⟩ => ⟨S128x1, .f32⟩
  | .local _ .vmem, ⟨7, _⟩ => ⟨S128x1, .f32⟩
  | .local _ .vmem, ⟨8, _⟩ => ⟨S256x256, .bf16⟩
  | .local _ .vmem, ⟨9, _⟩ => ⟨S1x256, .f32⟩
  | .local _ .vmem, ⟨10, _⟩ => ⟨S256x256, .f32⟩
  | .local _ .vmem, ⟨11, _⟩ => ⟨S1x256, .f32⟩
  | .local _ .vmem, ⟨12, _⟩ => ⟨S1x256, .f32⟩
  | .local _ .vmem, ⟨13, _⟩ => ⟨S1x256, .f32⟩
  | .local _ .vmem, ⟨14, _⟩ => ⟨S128x256, .f32⟩
  | .local _ .vmem, ⟨15, _⟩ => ⟨S128x256, .f32⟩
  | .local _ .vmem, ⟨16, _⟩ => ⟨S128x16x128, .i32⟩
  | .local _ .vmem, ⟨17, _⟩ => ⟨S128x16x128, .i32⟩
  | .local _ .vmem, ⟨18, _⟩ => ⟨S128x1, .f32⟩
  | .local _ .vmem, ⟨19, _⟩ => ⟨S128x1, .f32⟩
  | .local _ .vmem, ⟨20, _⟩ => ⟨S128x1, .f32⟩
  | .local _ .vmem, ⟨21, _⟩ => ⟨S128x1, .f32⟩
  | .local _ .vmem, ⟨22, _⟩ => ⟨S128x1, .f32⟩
  | .local _ .vmem, ⟨23, _⟩ => ⟨S128x1, .f32⟩
  | .local _ .vmem, ⟨24, _⟩ => ⟨S256x256, .bf16⟩
  | .local _ .vmem, ⟨25, _⟩ => ⟨S1x256, .f32⟩
  | .local _ .vmem, ⟨26, _⟩ => ⟨S256x256, .f32⟩
  | .local _ .vmem, ⟨27, _⟩ => ⟨S1x256, .f32⟩
  | .local _ .vmem, ⟨28, _⟩ => ⟨S1x256, .f32⟩
  | .local _ .vmem, ⟨29, _⟩ => ⟨S1x256, .f32⟩
  | .local _ .vmem, ⟨30, _⟩ => ⟨S128x256, .f32⟩
  | .local _ .vmem, ⟨31, _⟩ => ⟨S128x256, .f32⟩
  | _, _ => ⟨S8x1024x16x128, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | _, _ => false

abbrev semScoped : Fin 0 → Bool
  | ⟨_, h⟩ => absurd h (Nat.not_lt_zero _)

abbrev dmaSemScoped : Fin 32 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | _ => false

abbrev sig : RefSig :=
  ofTc nBuf bufTy 0 32 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_cst : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_v35 : Ref sig .tc := ⟨.hbm, 44, rfl⟩
abbrev main_v36 : Ref sig .tc := ⟨.hbm, 45, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg10_0 : Ref sig .tc := ⟨.vmem, 14, rfl⟩
abbrev cc0_stg10_1 : Ref sig .tc := ⟨.vmem, 15, rfl⟩
abbrev cc1_stg0_0 : Ref sig .tc := ⟨.vmem, 16, rfl⟩
abbrev cc1_stg0_1 : Ref sig .tc := ⟨.vmem, 17, rfl⟩
abbrev cc1_stg1_0 : Ref sig .tc := ⟨.vmem, 18, rfl⟩
abbrev cc1_stg1_1 : Ref sig .tc := ⟨.vmem, 19, rfl⟩
abbrev cc1_stg2_0 : Ref sig .tc := ⟨.vmem, 20, rfl⟩
abbrev cc1_stg2_1 : Ref sig .tc := ⟨.vmem, 21, rfl⟩
abbrev cc1_stg3_0 : Ref sig .tc := ⟨.vmem, 22, rfl⟩
abbrev cc1_stg3_1 : Ref sig .tc := ⟨.vmem, 23, rfl⟩
abbrev cc1_stg4_0 : Ref sig .tc := ⟨.vmem, 24, rfl⟩
abbrev cc1_stg5_0 : Ref sig .tc := ⟨.vmem, 25, rfl⟩
abbrev cc1_stg6_0 : Ref sig .tc := ⟨.vmem, 26, rfl⟩
abbrev cc1_stg7_0 : Ref sig .tc := ⟨.vmem, 27, rfl⟩
abbrev cc1_stg8_0 : Ref sig .tc := ⟨.vmem, 28, rfl⟩
abbrev cc1_stg9_0 : Ref sig .tc := ⟨.vmem, 29, rfl⟩
abbrev cc1_stg10_0 : Ref sig .tc := ⟨.vmem, 30, rfl⟩
abbrev cc1_stg10_1 : Ref sig .tc := ⟨.vmem, 31, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem9_0 : DmaSem sig := 13
abbrev cc0_sem10_0 : DmaSem sig := 14
abbrev cc0_sem10_1 : DmaSem sig := 15
abbrev cc1_sem0_0 : DmaSem sig := 16
abbrev cc1_sem0_1 : DmaSem sig := 17
abbrev cc1_sem1_0 : DmaSem sig := 18
abbrev cc1_sem1_1 : DmaSem sig := 19
abbrev cc1_sem2_0 : DmaSem sig := 20
abbrev cc1_sem2_1 : DmaSem sig := 21
abbrev cc1_sem3_0 : DmaSem sig := 22
abbrev cc1_sem3_1 : DmaSem sig := 23
abbrev cc1_sem4_0 : DmaSem sig := 24
abbrev cc1_sem5_0 : DmaSem sig := 25
abbrev cc1_sem6_0 : DmaSem sig := 26
abbrev cc1_sem7_0 : DmaSem sig := 27
abbrev cc1_sem8_0 : DmaSem sig := 28
abbrev cc1_sem9_0 : DmaSem sig := 29
abbrev cc1_sem10_0 : DmaSem sig := 30
abbrev cc1_sem10_1 : DmaSem sig := 31

abbrev nD : Nat := 1
abbrev τ : Topo := Topo.v7x

variable {F : FTy → Type} [FloatOps F]

abbrev grid0 : Pipeline.Grid := ⟨1, ![32], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x16x128 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x1 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S256x256 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S256x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x256 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x256 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x256 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S128x256 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev grid1 : Pipeline.Grid := ⟨1, ![32], ![false]⟩

def cc1_transform_0 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_8 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_9 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_10 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S128x16x128 .i32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S128x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S128x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S128x1 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 1 → Memref sig .tc .vmem S256x256 .bf16 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S1x256 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S256x256 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 1 → Memref sig .tc .vmem S1x256 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev stage1_8 : Fin 1 → Memref sig .tc .vmem S1x256 .f32 := fun | 0 => Memref.whole cc1_stg8_0 | ⟨_ + 1, h⟩ => absurd h (Nat.not_lt.2 (Nat.le_add_left _ _))
abbrev sem1_8 : Fin 1 → DmaSem sig := fun | 0 => cc1_sem8_0 | ⟨_ + 1, h⟩ => absurd h (Nat.not_lt.2 (Nat.le_add_left _ _))
abbrev reads1_8 : Fin grid1.rank → Bool := ![false]

abbrev stage1_9 : Fin 1 → Memref sig .tc .vmem S1x256 .f32 := fun | 0 => Memref.whole cc1_stg9_0 | ⟨_ + 1, h⟩ => absurd h (Nat.not_lt.2 (Nat.le_add_left _ _))
abbrev sem1_9 : Fin 1 → DmaSem sig := fun | 0 => cc1_sem9_0 | ⟨_ + 1, h⟩ => absurd h (Nat.not_lt.2 (Nat.le_add_left _ _))
abbrev reads1_9 : Fin grid1.rank → Bool := ![false]

abbrev stage1_10 : Fin 2 → Memref sig .tc .vmem S128x256 .f32 := fun | 0 => Memref.whole cc1_stg10_0 | 1 => Memref.whole cc1_stg10_1 | ⟨_ + 2, h⟩ => absurd h (Nat.not_lt.2 (Nat.le_add_left _ _))
abbrev sem1_10 : Fin 2 → DmaSem sig := fun | 0 => cc1_sem10_0 | 1 => cc1_sem10_1 | ⟨_ + 2, h⟩ => absurd h (Nat.not_lt.2 (Nat.le_add_left _ _))
abbrev reads1_10 : Fin grid1.rank → Bool := ![true]
-- ==== DenseReferenceIdeal.lean ====
abbrev S8x1024x16x128 : Shape := ⟨4, ![8, 1024, 16, 128]⟩
abbrev S8x1024x3 : Shape := ⟨3, ![8, 1024, 3]⟩
abbrev S131x256 : Shape := ⟨2, ![131, 256]⟩
abbrev S256 : Shape := ⟨1, ![256]⟩
abbrev S256x256 : Shape := ⟨2, ![256, 256]⟩
abbrev S_ : Shape := ⟨0, ![]⟩
abbrev S8x1024x16x256 : Shape := ⟨4, ![8, 1024, 16, 256]⟩
abbrev S8x1024x16x3 : Shape := ⟨4, ![8, 1024, 16, 3]⟩
abbrev S8x1024x1x3 : Shape := ⟨4, ![8, 1024, 1, 3]⟩
abbrev S8x1024x16x131 : Shape := ⟨4, ![8, 1024, 16, 131]⟩
abbrev S131072x131 : Shape := ⟨2, ![131072, 131]⟩
abbrev S131072x256 : Shape := ⟨2, ![131072, 256]⟩
abbrev S1x256 : Shape := ⟨2, ![1, 256]⟩
abbrev S8x1024x256 : Shape := ⟨3, ![8, 1024, 256]⟩
abbrev S8x1024 : Shape := ⟨2, ![8, 1024]⟩
abbrev S8x1024x1 : Shape := ⟨3, ![8, 1024, 1]⟩
abbrev S1x1x256 : Shape := ⟨3, ![1, 1, 256]⟩

abbrev nBuf : Space → Nat
  | .hbm => 82
  | .vmem => 0
  | .smem => 0
  | _ => 0

abbrev bufTy : (tb : Table) → Fin (tcTables nBuf tb) → BufTy
  | .hbm, ⟨0, _⟩ => ⟨S8x1024x16x128, .i32⟩
  | .hbm, ⟨1, _⟩ => ⟨S8x1024x3, .f32⟩
  | .hbm, ⟨2, _⟩ => ⟨S131x256, .f32⟩
  | .hbm, ⟨3, _⟩ => ⟨S256, .f32⟩
  | .hbm, ⟨4, _⟩ => ⟨S256x256, .f32⟩
  | .hbm, ⟨5, _⟩ => ⟨S256, .f32⟩
  | .hbm, ⟨6, _⟩ => ⟨S256, .f32⟩
  | .hbm, ⟨7, _⟩ => ⟨S256, .f32⟩
  | .hbm, ⟨8, _⟩ => ⟨S_, .i32⟩
  | .hbm, ⟨9, _⟩ => ⟨S8x1024x16x128, .i32⟩
  | .hbm, ⟨10, _⟩ => ⟨S8x1024x16x128, .i32⟩
  | .hbm, ⟨11, _⟩ => ⟨S8x1024x16x128, .f32⟩
  | .hbm, ⟨12, _⟩ => ⟨S_, .i32⟩
  | .hbm, ⟨13, _⟩ => ⟨S8x1024x16x128, .i32⟩
  | .hbm, ⟨14, _⟩ => ⟨S8x1024x16x128, .i32⟩
  | .hbm, ⟨15, _⟩ => ⟨S8x1024x16x128, .f32⟩
  | .hbm, ⟨16, _⟩ => ⟨S8x1024x16x256, .f32⟩
  | .hbm, ⟨17, _⟩ => ⟨S8x1024x16x3, .f32⟩
  | .hbm, ⟨18, _⟩ => ⟨S8x1024x1x3, .f32⟩
  | .hbm, ⟨19, _⟩ => ⟨S8x1024x16x3, .f32⟩
  | .hbm, ⟨20, _⟩ => ⟨S8x1024x16x3, .f32⟩
  | .hbm, ⟨21, _⟩ => ⟨S8x1024x16x128, .f32⟩
  | .hbm, ⟨22, _⟩ => ⟨S8x1024x16x131, .f32⟩
  | .hbm, ⟨23, _⟩ => ⟨S131072x131, .f32⟩
  | .hbm, ⟨24, _⟩ => ⟨S131072x256, .f32⟩
  | .hbm, ⟨25, _⟩ => ⟨S1x256, .f32⟩
  | .hbm, ⟨26, _⟩ => ⟨S131072x256, .f32⟩
  | .hbm, ⟨27, _⟩ => ⟨S131072x256, .f32⟩
  | .hbm, ⟨28, _⟩ => ⟨S_, .f32⟩
  | .hbm, ⟨29, _⟩ => ⟨S131072x256, .f32⟩
  | .hbm, ⟨30, _⟩ => ⟨S131072x256, .f32⟩
  | .hbm, ⟨31, _⟩ => ⟨S131072x256, .f32⟩
  | .hbm, ⟨32, _⟩ => ⟨S1x256, .f32⟩
  | .hbm, ⟨33, _⟩ => ⟨S131072x256, .f32⟩
  | .hbm, ⟨34, _⟩ => ⟨S131072x256, .f32⟩
  | .hbm, ⟨35, _⟩ => ⟨S8x1024x16x256, .f32⟩
  | .hbm, ⟨36, _⟩ => ⟨S_, .f32⟩
  | .hbm, ⟨37, _⟩ => ⟨S8x1024x256, .f32⟩
  | .hbm, ⟨38, _⟩ => ⟨S_, .f32⟩
  | .hbm, ⟨39, _⟩ => ⟨S8x1024, .f32⟩
  | .hbm, ⟨40, _⟩ => ⟨S8x1024x1, .f32⟩
  | .hbm, ⟨41, _⟩ => ⟨S_, .f32⟩
  | .hbm, ⟨42, _⟩ => ⟨S8x1024x1, .f32⟩
  | .hbm, ⟨43, _⟩ => ⟨S8x1024x1, .f32⟩
  | .hbm, ⟨44, _⟩ => ⟨S_, .i32⟩
  | .hbm, ⟨45, _⟩ => ⟨S_, .f32⟩
  | .hbm, ⟨46, _⟩ => ⟨S8x1024, .f32⟩
  | .hbm, ⟨47, _⟩ => ⟨S8x1024x1, .f32⟩
  | .hbm, ⟨48, _⟩ => ⟨S_, .f32⟩
  | .hbm, ⟨49, _⟩ => ⟨S8x1024x1, .f32⟩
  | .hbm, ⟨50, _⟩ => ⟨S8x1024x1, .f32⟩
  | .hbm, ⟨51, _⟩ => ⟨S8x1024x256, .f32⟩
  | .hbm, ⟨52, _⟩ => ⟨S8x1024x256, .f32⟩
  | .hbm, ⟨53, _⟩ => ⟨S8x1024x256, .f32⟩
  | .hbm, ⟨54, _⟩ => ⟨S_, .f32⟩
  | .hbm, ⟨55, _⟩ => ⟨S_, .f32⟩
  | .hbm, ⟨56, _⟩ => ⟨S_, .f32⟩
  | .hbm, ⟨57, _⟩ => ⟨S_, .f32⟩
  | .hbm, ⟨58, _⟩ => ⟨S8x1024, .f32⟩
  | .hbm, ⟨59, _⟩ => ⟨S8x1024x1, .f32⟩
  | .hbm, ⟨60, _⟩ => ⟨S8x1024x1, .f32⟩
  | .hbm, ⟨61, _⟩ => ⟨S8x1024x1, .f32⟩
  | .hbm, ⟨62, _⟩ => ⟨S_, .f32⟩
  | .hbm, ⟨63, _⟩ => ⟨S_, .i1⟩
  | .hbm, ⟨64, _⟩ => ⟨S_, .f32⟩
  | .hbm, ⟨65, _⟩ => ⟨S_, .f32⟩
  | .hbm, ⟨66, _⟩ => ⟨S8x1024x1, .f32⟩
  | .hbm, ⟨67, _⟩ => ⟨S8x1024x1, .f32⟩
  | .hbm, ⟨68, _⟩ => ⟨S8x1024x256, .f32⟩
  | .hbm, ⟨69, _⟩ => ⟨S8x1024x256, .f32⟩
  | .hbm, ⟨70, _⟩ => ⟨S_, .f32⟩
  | .hbm, ⟨71, _⟩ => ⟨S8x1024x1, .f32⟩
  | .hbm, ⟨72, _⟩ => ⟨S8x1024x1, .f32⟩
  | .hbm, ⟨73, _⟩ => ⟨S8x1024x1, .f32⟩
  | .hbm, ⟨74, _⟩ => ⟨S8x1024x256, .f32⟩
  | .hbm, ⟨75, _⟩ => ⟨S8x1024x256, .f32⟩
  | .hbm, ⟨76, _⟩ => ⟨S1x1x256, .f32⟩
  | .hbm, ⟨77, _⟩ => ⟨S8x1024x256, .f32⟩
  | .hbm, ⟨78, _⟩ => ⟨S8x1024x256, .f32⟩
  | .hbm, ⟨79, _⟩ => ⟨S1x1x256, .f32⟩
  | .hbm, ⟨80, _⟩ => ⟨S8x1024x256, .f32⟩
  | .hbm, ⟨81, _⟩ => ⟨S8x1024x256, .f32⟩
  | _, _ => ⟨S8x1024x16x128, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_c : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_c_0 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_cst : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_cst_1 : Ref sig .tc := ⟨.hbm, 36, rfl⟩
abbrev main_v25 : Ref sig .tc := ⟨.hbm, 37, rfl⟩
abbrev main_cst_2 : Ref sig .tc := ⟨.hbm, 38, rfl⟩
abbrev main_v26 : Ref sig .tc := ⟨.hbm, 39, rfl⟩
abbrev main_v27 : Ref sig .tc := ⟨.hbm, 40, rfl⟩
abbrev main_cst_3 : Ref sig .tc := ⟨.hbm, 41, rfl⟩
abbrev main_v28 : Ref sig .tc := ⟨.hbm, 42, rfl⟩
abbrev main_v29 : Ref sig .tc := ⟨.hbm, 43, rfl⟩
abbrev main_c_4 : Ref sig .tc := ⟨.hbm, 44, rfl⟩
abbrev main_call0_cst : Ref sig .tc := ⟨.hbm, 45, rfl⟩
abbrev main_call0_v0 : Ref sig .tc := ⟨.hbm, 46, rfl⟩
abbrev main_call0_v1 : Ref sig .tc := ⟨.hbm, 47, rfl⟩
abbrev main_call0_cst_0 : Ref sig .tc := ⟨.hbm, 48, rfl⟩
abbrev main_call0_v2 : Ref sig .tc := ⟨.hbm, 49, rfl⟩
abbrev main_call0_v3 : Ref sig .tc := ⟨.hbm, 50, rfl⟩
abbrev main_call0_v4 : Ref sig .tc := ⟨.hbm, 51, rfl⟩
abbrev main_call0_v5 : Ref sig .tc := ⟨.hbm, 52, rfl⟩
abbrev main_call0_v6 : Ref sig .tc := ⟨.hbm, 53, rfl⟩
abbrev main_call0_v7 : Ref sig .tc := ⟨.hbm, 54, rfl⟩
abbrev main_call0_cst_1 : Ref sig .tc := ⟨.hbm, 55, rfl⟩
abbrev main_call0_v8 : Ref sig .tc := ⟨.hbm, 56, rfl⟩
abbrev main_call0_cst_2 : Ref sig .tc := ⟨.hbm, 57, rfl⟩
abbrev main_call0_v9 : Ref sig .tc := ⟨.hbm, 58, rfl⟩
abbrev main_call0_v10 : Ref sig .tc := ⟨.hbm, 59, rfl⟩
abbrev main_call0_v11 : Ref sig .tc := ⟨.hbm, 60, rfl⟩
abbrev main_call0_v12 : Ref sig .tc := ⟨.hbm, 61, rfl⟩
abbrev main_call0_cst_3 : Ref sig .tc := ⟨.hbm, 62, rfl⟩
abbrev main_call0_v13 : Ref sig .tc := ⟨.hbm, 63, rfl⟩
abbrev main_call0_cst_4 : Ref sig .tc := ⟨.hbm, 64, rfl⟩
abbrev main_call0_call0_v0 : Ref sig .tc := ⟨.hbm, 65, rfl⟩
abbrev main_call0_call0_v1 : Ref sig .tc := ⟨.hbm, 66, rfl⟩
abbrev main_v30 : Ref sig .tc := ⟨.hbm, 67, rfl⟩
abbrev main_v31 : Ref sig .tc := ⟨.hbm, 68, rfl⟩
abbrev main_v32 : Ref sig .tc := ⟨.hbm, 69, rfl⟩
abbrev main_cst_5 : Ref sig .tc := ⟨.hbm, 70, rfl⟩
abbrev main_v33 : Ref sig .tc := ⟨.hbm, 71, rfl⟩
abbrev main_v34 : Ref sig .tc := ⟨.hbm, 72, rfl⟩
abbrev main_v35 : Ref sig .tc := ⟨.hbm, 73, rfl⟩
abbrev main_v36 : Ref sig .tc := ⟨.hbm, 74, rfl⟩
abbrev main_v37 : Ref sig .tc := ⟨.hbm, 75, rfl⟩
abbrev main_v38 : Ref sig .tc := ⟨.hbm, 76, rfl⟩
abbrev main_v39 : Ref sig .tc := ⟨.hbm, 77, rfl⟩
abbrev main_v40 : Ref sig .tc := ⟨.hbm, 78, rfl⟩
abbrev main_v41 : Ref sig .tc := ⟨.hbm, 79, rfl⟩
abbrev main_v42 : Ref sig .tc := ⟨.hbm, 80, rfl⟩
abbrev main_v43 : Ref sig .tc := ⟨.hbm, 81, rfl⟩

abbrev nD : Nat := 1
abbrev τ : Topo := Topo.v7x

variable {F : FTy → Type} [FloatOps F]
-- ==== Proof.Slots.lean ====
/-
  The gather kernel's places: the two slots of its index buffer and of its row buffer, the blocks of its index list and
  of its result that a tile handles, and the words it carries from trip to trip, all in closed form.
-/
module

public import proofs.«01_k».proof.Defs
public import Idealize.ShloMosaic.Lib.SparseCore.Quiescent
public import Idealize.ShloMosaic.Lib.SparseCore.Ops
public import Idealize.ShloMosaic.Lib.SparseCore.Stream
public import Idealize.ShloMosaic.Lib.StableHlo.Run
public import Idealize.ShloMosaic.Lib.Pipeline.Kit
public import Idealize.ShloMosaic.Lib.Tactic
public import Idealize.ShloMosaic.Lib.VecWindow
public import Idealize.ShloMosaic.Lib.ValueIdxCore
public import proofs.«01_k».proof.Proof.Gen.Kernel
public import proofs.«01_k».proof.Proof.Gen.Kernel.Skeleton

@[expose] public section

noncomputable section

namespace Cert.Proof.Tile

open Cert.Kernel Cert.Kernel.Gen
open Idealize.ShloMosaic Idealize.SL.Sem

/-- What one task's body is run on: the table, the index list, the result, the index buffer and its semaphores, the row
    buffer and its semaphores, the gather's semaphore. -/
structure Args where
  tbl : Memref sig .scVector .hbm S32768x128 .i32
  htbl : tbl.IsWhole
  idx : Memref sig .scVector .hbm S1x65536 .i32
  hidx : idx.IsWhole
  out : Memref sig .scVector .hbm S65536x128 .i32
  hout : out.IsWhole
  ib : Memref sig .scVector .vmem S2x1x256 .i32
  hib : ib.IsWhole
  is : DmaSems sig S2
  ob : Memref sig .scVector .vmem S2x256x128 .i32
  hob : ob.IsWhole
  os : DmaSems sig S2
  gs : DmaSems sig S_
  /-- the transfers into the row buffer are counted by the bits they move -/
  hcr : ∀ s' : Shape, sig.dmaCredit .scVector (Kind.scVector.table .vmem) ob.view.buf s' .i32 = s'.numel * EltTy.i32.bits

/-- The number of the block of 256 rows that the task at `i` handles at its trip `n`. -/
def blk (i : grid0.Coords) (n : ℕ) : ℕ := n + 8 * ((i 1).val + 16 * (i 0).val)

/-- Every task's blocks are among the 256. -/
theorem blk_lt (i : grid0.Coords) {n : ℕ} (h : n < 8) : blk i n < 256 := by
  have h0 : (i 0).val < 2 := (i 0).isLt
  have h1 : (i 1).val < 16 := (i 1).isLt
  unfold blk; omega

/-- The parity of a trip: the slot it uses. -/
def par (t : ℕ) : Fin 2 := ⟨t % 2, Nat.mod_lt _ (by decide)⟩

/-- Two trips later the slot is the same. -/
theorem par_add_two (t : ℕ) : par (t + 1 + 1) = par t := Fin.ext (by simp only [par]; omega)
/-- The slot's number is the trip's, modulo 2. -/
theorem par_val (t : ℕ) : (par t).val = t % 2 := rfl

/-- A slot lies in the index buffer. -/
theorem inbI (p : Fin 2) : ∀ a, (![p.val, 0, 0] : Fin 3 → ℕ) a + S1x1x256.size a ≤ S2x1x256.size a := by revert p; decide
/-- A slot lies in the row buffer. -/
theorem inbO (p : Fin 2) : ∀ a, (![p.val, 0, 0] : Fin 3 → ℕ) a + S1x256x128.size a ≤ S2x256x128.size a := by revert p; decide
/-- A slot has a semaphore. -/
theorem inbS (p : Fin 2) : ∀ a, (![p.val] : Fin 1 → ℕ) a + S1.size a ≤ S2.size a := by revert p; decide
/-- A block lies in the index list. -/
theorem inbX (b : ℕ) (h : b < 256) : ∀ a, (![0, 256 * b] : Fin 2 → ℕ) a + S1x256.size a ≤ S1x65536.size a := by
  intro a
  match a with
  | 0 => exact Nat.le_refl 1
  | 1 => show 256 * b + 256 ≤ 65536; omega
/-- A block lies in the result. -/
theorem inbY (b : ℕ) (h : b < 256) : ∀ a, (![256 * b, 0] : Fin 2 → ℕ) a + S256x128.size a ≤ S65536x128.size a := by
  intro a
  match a with
  | 0 => show 256 * b + 256 ≤ 65536; omega
  | 1 => exact Nat.le_refl 128

namespace Args
variable (A : Args)

/-- Slot `p` of the index buffer. -/
def I (p : Fin 2) : Memref sig .scVector .vmem S1x256 .i32 :=
  (A.ib.slice (Rect.unit (s := S2x1x256) ![p.val, 0, 0] S1x1x256.size (inbI p)) (fun _ => rfl)).squeeze S1x256 squeezes_S1x1x256_S1x256
/-- The semaphore of slot `p` of the index buffer. -/
def Is (p : Fin 2) : DmaSem sig := ((A.is.slice (Rect.unit (s := S2) ![p.val] S1.size (inbS p))).squeeze S_ squeezes_S1_S_).sem
/-- Slot `p` of the row buffer. -/
def O (p : Fin 2) : Memref sig .scVector .vmem S256x128 .i32 :=
  (A.ob.slice (Rect.unit (s := S2x256x128) ![p.val, 0, 0] S1x256x128.size (inbO p)) (fun _ => rfl)).squeeze S256x128 squeezes_S1x256x128_S256x128
/-- The semaphore of slot `p` of the row buffer. -/
def Os (p : Fin 2) : DmaSem sig := ((A.os.slice (Rect.unit (s := S2) ![p.val] S1.size (inbS p))).squeeze S_ squeezes_S1_S_).sem
/-- Block `b` of the index list. -/
def X (b : ℕ) (h : b < 256) : Memref sig .scVector .hbm S1x256 .i32 :=
  A.idx.slice (Rect.unit (s := S1x65536) ![0, 256 * b] S1x256.size (inbX b h)) (fun _ => rfl)
/-- Block `b` of the result. -/
def Y (b : ℕ) (h : b < 256) : Memref sig .scVector .hbm S256x128 .i32 :=
  A.out.slice (Rect.unit (s := S65536x128) ![256 * b, 0] S256x128.size (inbY b h)) (fun _ => rfl)
/-- The table, as the gather addresses it. -/
def Tb : Memref sig .scVector .hbm S32768x128 .i32 :=
  A.tbl.slice (Rect.unit (s := S32768x128) ![0, 0] S32768x128.size inb_S32768x128_S32768x128_0_0) (fun _ => rfl)
/-- Slot `p` of the index buffer as the gather's list of rows. -/
def L (p : Fin 2) : Memref sig .scVector .vmem S256 .i32 :=
  ((A.I p).slice (Rect.unit (s := S1x256) ![0, 0] S1x256.size inb_S1x256_S1x256_0_0) (fun _ => rfl)).squeeze S256 squeezes_S1x256_S256

/-- The slice of the index buffer at a slot's offset is the slot. -/
theorem I_eq {off : Fin 3 → ℕ} (p : Fin 2) (h : off = ![p.val, 0, 0]) (hb : ∀ a, off a + S1x1x256.size a ≤ S2x1x256.size a) :
    (A.ib.slice (Rect.unit (s := S2x1x256) off S1x1x256.size hb) (fun _ => rfl)).squeeze S1x256 squeezes_S1x1x256_S1x256 = A.I p := by
  subst h; rfl
/-- The index buffer's semaphore at a slot's offset is the slot's. -/
theorem Is_eq {off : Fin 1 → ℕ} (p : Fin 2) (h : off = ![p.val]) (hb : ∀ a, off a + S1.size a ≤ S2.size a) :
    ((A.is.slice (Rect.unit (s := S2) off S1.size hb)).squeeze S_ squeezes_S1_S_).sem = A.Is p := by
  subst h; rfl
/-- The slice of the row buffer at a slot's offset is the slot. -/
theorem O_eq {off : Fin 3 → ℕ} (p : Fin 2) (h : off = ![p.val, 0, 0]) (hb : ∀ a, off a + S1x256x128.size a ≤ S2x256x128.size a) :
    (A.ob.slice (Rect.unit (s := S2x256x128) off S1x256x128.size hb) (fun _ => rfl)).squeeze S256x128 squeezes_S1x256x128_S256x128 = A.O p := by
  subst h; rfl
/-- The row buffer's semaphore at a slot's offset is the slot's. -/
theorem Os_eq {off : Fin 1 → ℕ} (p : Fin 2) (h : off = ![p.val]) (hb : ∀ a, off a + S1.size a ≤ S2.size a) :
    ((A.os.slice (Rect.unit (s := S2) off S1.size hb)).squeeze S_ squeezes_S1_S_).sem = A.Os p := by
  subst h; rfl
/-- The slice of the index list at a block's offset is the block. -/
theorem X_eq {off : Fin 2 → ℕ} (b : ℕ) (hlt : b < 256) (h : off = ![0, 256 * b]) (hb : ∀ a, off a + S1x256.size a ≤ S1x65536.size a) :
    A.idx.slice (Rect.unit (s := S1x65536) off S1x256.size hb) (fun _ => rfl) = A.X b hlt := by
  subst h; rfl
/-- The slice of the result at a block's offset is the block. -/
theorem Y_eq {off : Fin 2 → ℕ} (b : ℕ) (hlt : b < 256) (h : off = ![256 * b, 0]) (hb : ∀ a, off a + S256x128.size a ≤ S65536x128.size a) :
    A.out.slice (Rect.unit (s := S65536x128) off S256x128.size hb) (fun _ => rfl) = A.Y b hlt := by
  subst h; rfl

end Args

/-! ## The carried words -/

/-- The words carried into trip `t`: how many index blocks were asked for, waited for, how many row blocks were sent,
    waited for, and the trip's block. -/
def car (t : ℕ) : BitVec 32 × BitVec 32 × BitVec 32 × BitVec 32 × BitVec 32 :=
  (BitVec.ofNat 32 (min (t + 1) 8), BitVec.ofNat 32 t, BitVec.ofNat 32 t, BitVec.ofNat 32 (t - 1), BitVec.ofNat 32 (t % 8))

/-- The first block of the task at `i`, as the kernel computes it. -/
def base (i : grid0.Coords) : BitVec 32 :=
  Scalar.muli (Scalar.addi (Scalar.addi 0#32 (Scalar.muli (BitVec.ofNat 32 (i 1).val) 1#32)) (Scalar.muli (BitVec.ofNat 32 (i 0).val) 16#32)) 8#32

/-- A task makes eight trips. -/
theorem trips_eq : k0_t1_loop.trips = 8 := by decide

/-- How many index blocks were asked for before trip `t`. -/
abbrev c6 (t : ℕ) : BitVec 32 := BitVec.ofNat 32 (min (t + 1) 8)
/-- How many index blocks were waited for, and row blocks sent, before trip `t`. -/
abbrev c7 (t : ℕ) : BitVec 32 := BitVec.ofNat 32 t
/-- How many row blocks were waited for before trip `t`. -/
abbrev c9 (t : ℕ) : BitVec 32 := BitVec.ofNat 32 (t - 1)
/-- The block of trip `t`. -/
abbrev c10 (t : ℕ) : BitVec 32 := BitVec.ofNat 32 (t % 8)

/-- The next index block goes to the other slot. -/
theorem off4_eq : ∀ t : Fin 8, t.val < 7 → k0_off4 (c6 t) = ![(t.val + 1) % 2, 0, 0] := by decide +kernel
/-- And is counted by the other slot's semaphore. -/
theorem off6_eq : ∀ t : Fin 8, t.val < 7 → k0_off6 (c6 t) = ![(t.val + 1) % 2] := by decide +kernel
/-- A trip's index block is counted by the trip's slot's semaphore. -/
theorem off9_eq : ∀ t : Fin 8, k0_off9 (c7 t) = ![t.val % 2] := by decide +kernel
/-- A trip's index block lies in the trip's slot. -/
theorem off9_eq3 : ∀ t : Fin 8, k0_off7 (c7 t) = ![t.val % 2, 0, 0] := by decide +kernel
/-- The gathered rows go to the trip's slot. -/
theorem off10_eq : ∀ t : Fin 8, k0_off10 (c7 t) = ![t.val % 2, 0, 0] := by decide +kernel
/-- The gather's list of rows lies in the trip's slot. -/
theorem off11_eq : ∀ t : Fin 8, k0_off11 (c7 t) = ![t.val % 2, 0, 0] := by decide +kernel
/-- The rows that a trip sends lie in the trip's slot. -/
theorem off12_eq : ∀ t : Fin 8, k0_off12 (c7 t) = ![t.val % 2, 0, 0] := by decide +kernel
/-- And are counted by the trip's slot's semaphore. -/
theorem off14_eq : ∀ t : Fin 8, k0_off14 (c7 t) = ![t.val % 2] := by decide +kernel
/-- The rows that the trip before sent are counted by the other slot's semaphore. -/
theorem off17_eq : ∀ t : Fin 8, 0 < t.val → k0_off17 (c9 t) = ![(t.val + 1) % 2] := by decide +kernel
/-- They went to the result's block of the trip before. -/
theorem off16_eq : ∀ i : grid0.Coords, ∀ t : Fin 8, k0_off16 i (c10 t) = ![256 * blk i ((t.val + 7) % 8), 0] := by decide +kernel
/-- The rows awaited after the last trip went to the last block. -/
theorem off19_eq : ∀ i : grid0.Coords, k0_off19 i 0#32 = ![256 * blk i 7, 0] := by decide +kernel
/-- And are counted by the second slot's semaphore. -/
theorem off20_eq : k0_off20 7#32 = ![1] := by decide +kernel
/-- The first index block asked for is the task's first. -/
theorem off2_eq : ∀ i : grid0.Coords, k0_off2 i = ![0, 256 * blk i 0] := by decide +kernel
/-- The next index block asked for is the next trip's. -/
theorem off5_eq : ∀ i : grid0.Coords, ∀ t : Fin 8, t.val < 7 → k0_off5 i (c10 t) = ![0, 256 * blk i (t.val + 1)] := by decide +kernel
/-- A trip sends to its own block of the result. -/
theorem off13_eq : ∀ i : grid0.Coords, ∀ t : Fin 8, k0_off13 i (c10 t) = ![256 * blk i t.val, 0] := by decide +kernel

/-- The slices that a trip's copies and waits use lie in their arrays. -/
theorem chk1_ok : ∀ i : grid0.Coords, ∀ t : Fin k0_t1_loop.trips, k0_chk1 i t (c6 t) (c7 t) (c7 t) (c9 t) (c10 t) := by
  unfold k0_chk1; decide +kernel
/-- The slot that a trip gathers into lies in the row buffer. -/
theorem chk2_ok : ∀ t : Fin 8, k0_chk2 (c7 t) := by unfold k0_chk2; decide +kernel
/-- The slot that a trip gathers through lies in the index buffer. -/
theorem chk3_ok : ∀ t : Fin 8, k0_chk3 (c7 t) := by unfold k0_chk3; decide +kernel
/-- The slot and the semaphore of the wait after the last trip lie in their arrays. -/
theorem chk4_ok : k0_chk4 7#32 := by unfold k0_chk4; decide +kernel
/-- The last block's slice lies in the result. -/
theorem chk5_ok : ∀ i : grid0.Coords, k0_chk5 i 0#32 := by unfold k0_chk5; decide +kernel
/-- A next block is asked for in every trip but the last. -/
theorem cond1_iff : ∀ i : grid0.Coords, ∀ t : Fin k0_t1_loop.trips, k0_cond1 i t (c10 t) = 1#1 ↔ t.val < 7 := by decide +kernel
/-- Every trip waits for its index block. -/
theorem cond2_ok : ∀ i : grid0.Coords, ∀ t : Fin k0_t1_loop.trips, k0_cond2 i t (c10 t) = 1#1 := by decide +kernel
/-- Every trip sends its rows. -/
theorem cond5_ok : ∀ i : grid0.Coords, ∀ t : Fin k0_t1_loop.trips, k0_cond5 i t (c10 t) = 1#1 := by decide +kernel
/-- Every trip but the first waits for the rows of the trip before. -/
theorem cond7_iff : ∀ i : grid0.Coords, ∀ t : Fin k0_t1_loop.trips, k0_cond7 i t (c10 t) = 1#1 ↔ 0 < t.val := by decide +kernel

end Cert.Proof.Tile
-- ==== Proof.Steps.lean ====
/-
  One task's memory operations, each as a step between named resources: fetching a block of the index list into a slot
  and waiting for it, gathering the rows a slot names, sending a slot of rows to a block of the result and waiting.
-/
module

public import proofs.«01_k».proof.Proof.Slots

@[expose] public section

noncomputable section

namespace Cert.Proof.Tile

open Cert.Kernel Cert.Kernel.Gen
open Idealize.ShloMosaic Idealize.ShloMosaic.ValueIdx
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

/-- No loop needs a variant. -/
abbrev 𝒱₀ : Variants := Variants.none

/-- The handshakes' ghost state. -/
abbrev UH : Type := URounds (GSem nD τ sig) ℕ
/-- The ghost state: the handshakes', and the transfers' counters. -/
abbrev UU : Type := UH × Counters

local notation "𝕄" => MT nD τ sig (HIx 2) (Elt F) ℕ UU ℕ

/-- The SparseCore of a task. -/
abbrev cV (i : grid0.Coords) : Fin τ.nSC := (i 0).castLE hcore0
/-- The subcore of a task. -/
abbrev jV (i : grid0.Coords) : Fin τ.nSub := (i 1).castLE hsub0
/-- The thread of the task at `i` on device `d`. -/
abbrev thr (d : Dev nD) (i : grid0.Coords) : Thread nD τ := V d (cV i) (jV i)

variable (A : Args) (d : Dev nD) (i : grid0.Coords)

/-- The one name that a task's own transfers go under. -/
abbrev ι₀ : HIx 2 := default

/-! ## What is held -/

/-- Block `n` of the task's index list. -/
abbrev Args.Xn (n : Fin 8) : Memref sig .scVector .hbm S1x256 .i32 := A.X (blk i n.val) (blk_lt i n.isLt)
/-- Block `n` of the task's result. -/
abbrev Args.Yn (n : Fin 8) : Memref sig .scVector .hbm S256x128 .i32 := A.Y (blk i n.val) (blk_lt i n.isLt)

/-- What a task is told: the table's contents, the index list's, the result's before and after, and its share of the table. -/
structure Cont (F : FTy → Type) where
  fT : Buf (Elt F) (A.tbl.view.loc (thr d i))
  fi : Buf (Elt F) (A.idx.view.loc (thr d i))
  fo : Buf (Elt F) (A.out.view.loc (thr d i))
  G : Buf (Elt F) (A.out.view.loc (thr d i))
  q : PosShare TreeShare
  /-- every index names a row of the table -/
  hin : ∀ (n : Fin 8) (x : S1x256.Idx), ((A.Xn i n).view.read (Elt F) fi x).toNat < 32768
  /-- the result holds, at each row, the row of the table its index names -/
  hG : ∀ (n : Fin 8) (x : S256x128.Idx) (j : S32768x128.Idx),
    (j 0).val = ((A.Xn i n).view.read (Elt F) fi (ix2 (0 : Fin 1) (x 0 : Fin 256))).toNat → (j 1).val = (x 1).val →
      (A.Yn i n).view.read (Elt F) G x = A.tbl.view.read (Elt F) fT j

variable {A d i} (C : Cont A d i F)

/-- Block `n` of the index list, held. -/
abbrev xP (n : Fin 8) : sProp 𝕄 := (A.Xn i n).view.loc (thr d i) ↦[(A.Xn i n).view.set]{fullShare} C.fi
/-- Block `n` of the result, held at contents `f`. -/
abbrev yP (n : Fin 8) (f : Buf (Elt F) (A.out.view.loc (thr d i))) : sProp 𝕄 := (A.Yn i n).view.loc (thr d i) ↦[(A.Yn i n).view.set]{fullShare} f
/-- The task's share of the table. -/
abbrev tP : sProp 𝕄 := A.Tb.view.loc (thr d i) ↦[A.Tb.view.set]{C.q} C.fT
variable (A d i) in
/-- Slot `p` of the index buffer, held at contents `g`. -/
abbrev iP (p : Fin 2) (g : Buf (Elt F) ((A.I p).view.loc (thr d i))) : sProp 𝕄 := (A.I p).view.loc (thr d i) ↦[(A.I p).view.set]{fullShare} g
variable (A d i) in
/-- Slot `p` of the row buffer, held at contents `g`. -/
abbrev oP (p : Fin 2) (g : Buf (Elt F) ((A.O p).view.loc (thr d i))) : sProp 𝕄 := (A.O p).view.loc (thr d i) ↦[(A.O p).view.set]{fullShare} g
variable (A d i F) in
/-- Slot `p` of the index buffer, whatever it holds. -/
def iAny (p : Fin 2) : sProp 𝕄 := iprop(∃ g, iP A d i p g)
variable (A d i F) in
/-- Slot `p` of the row buffer, whatever it holds. -/
def oAny (p : Fin 2) : sProp 𝕄 := iprop(∃ g, oP A d i p g)
/-- Slot `p` of the index buffer, holding block `n`. -/
def iHas (p : Fin 2) (n : Fin 8) : sProp 𝕄 :=
  iprop(∃ g, ⌜(A.I p).view.read (Elt F) g = (A.Xn i n).view.read (Elt F) C.fi⌝ ∗ iP A d i p g)
/-- Slot `p` of the row buffer, holding the rows block `n` of the result is to have. -/
def oHas (p : Fin 2) (n : Fin 8) : sProp 𝕄 :=
  iprop(∃ g, ⌜(A.O p).view.read (Elt F) g = (A.Yn i n).view.read (Elt F) C.G⌝ ∗ oP A d i p g)
variable (A d i F) in
/-- The semaphore of slot `p` of the index buffer, at zero. -/
abbrev iS (p : Fin 2) : sProp 𝕄 := semVal (thr d i, .dma (A.Is p)) 0
variable (A d i F) in
/-- The semaphore of slot `p` of the row buffer, at zero. -/
abbrev oS (p : Fin 2) : sProp 𝕄 := semVal (thr d i, .dma (A.Os p)) 0
variable (A d i F) in
/-- The gather's semaphore, at zero. -/
abbrev gS : sProp 𝕄 := semVal (thr d i, .dma A.gs.sem) 0

/-- Block `n` of the index list on its way to slot `p`. -/
def flI (p : Fin 2) (n : Fin 8) : sProp 𝕄 :=
  Transfers.Flight countersEmb (thr d i) (.dma (A.Is p)) ι₀ (A.I p).view.dmaCredit iprop(iHas C p n ∗ xP C n)
/-- Slot `p` of the rows on its way to block `n` of the result. -/
def flO (p : Fin 2) (n : Fin 8) : sProp 𝕄 :=
  Transfers.Flight countersEmb (thr d i) (.dma (A.Os p)) ι₀ (A.Yn i n).view.dmaCredit iprop(yP n C.G ∗ oAny F A d i p)

variable (d i F) in
/-- What the task owes, its waits recorded beyond `W` being its own transfers'. -/
def ow (O : CellTallies nD τ sig (HIx 2)) (W : Waits sig (HIx 2)) : sProp 𝕄 :=
  iprop(∃ W', ⌜∀ p ∈ W', p ∈ W ∨ p.2 = none⌝ ∗ owes (thr d i) O W')

/-! ## The steps -/

variable {O : CellTallies nD τ sig (HIx 2)} {W : Waits sig (HIx 2)}

/-- Asking for block `n` of the index list puts it on its way to the slot. -/
theorem fetch {n : Fin 8} {p : Fin 2} {X' : Memref sig .scVector .hbm S1x256 .i32} {I' : Memref sig .scVector .vmem S1x256 .i32} {s' : DmaSem sig}
    (hX : X' = A.Xn i n) (hI : I' = A.I p) (hs : s' = A.Is p)
    {h1 : X'.view.WordExact} {h2 : I'.view.WordExact} {h3 : DmaTarget.Typed (nD := nD) (τ := τ) (p := (thr d i).2) .hbm (SemLoc.dma s') (.here I')} {Q : PUnit → sProp 𝕄} :
    iprop(xP C n ∗ iAny F A d i p ∗ iS F A d i p)
      ⊢ iprop((flI C p n -∗ Q ⟨⟩) -∗ wp frame (wpE (defs₀ (F := F)) 𝒱₀ (thr d i) none) Set.univ
          (Prog.lift (.enqueueDma X' (.here I') (.dma s') h1 h2 h3)) Q) := by
  subst hX hI hs
  unfold iAny
  iintro ⟨Hx, ⟨%g, Hi⟩, Hs⟩ HQ
  iapply (Transfers.wp_dmaLocal countersEmb 𝒱₀ (thr d i) none (α := PUnit) (src := A.Xn i n) (dst := A.I p) (sm := .dma (A.Is p)) (via := .same)
      ι₀ (A.I p).view.dmaCredit rfl (View.dmaCredit_pos _ (by decide)) (Finset.Subset.refl _)) $$ [Hx Hi Hs]
  · isplitl [Hx]; · iexact Hx
    isplitl [Hi]; · iexact Hi
    iexact Hs
  iintro Hf
  rw [wp_ret]; imodintro
  iapply HQ
  unfold flI
  iapply (Transfers.Flight_mono countersEmb (c := thr d i) ?_) $$ Hf
  iintro ⟨Hi, Hx⟩
  isplitl [Hi]
  · unfold iHas
    iexists _; isplitr
    swap; · iexact Hi
    ipureintro; rw [View.read_write_univ]
  iexact Hx

/-- Waiting for it leaves the slot holding block `n`. -/
theorem fetched {n : Fin 8} {p : Fin 2} {X' : Memref sig .scVector .hbm S1x256 .i32} {I' : Memref sig .scVector .vmem S1x256 .i32} {s' : DmaSem sig}
    (hI : I' = A.I p) (hs : s' = A.Is p)
    {h1 : X'.view.WordExact} {h2 : I'.view.WordExact} {Q : PUnit → sProp 𝕄} :
    iprop(Transfers.MayWaits (thr d i) ι₀ O ∗ flI C p n ∗ ow F d i O W)
      ⊢ iprop((iprop(iHas C p n ∗ xP C n ∗ iS F A d i p ∗ ow F d i O W) -∗ Q ⟨⟩) -∗ wp frame (wpE (defs₀ (F := F)) 𝒱₀ (thr d i) none) Set.univ
          (Prog.lift (.waitDma2 s' X' I' h1 h2)) Q) := by
  subst hI hs
  unfold ow flI
  iintro ⟨Hmw, Hf, %W', %hW', HO⟩ HQ
  iapply (Transfers.wp_waitLocalO countersEmb 𝒱₀ (thr d i) none (α := PUnit) ι₀ (rfl : (A.I p).view.dmaCredit = _)) $$ [Hf HO Hmw]
  · isplitl [Hf]; · iexact Hf
    isplitl [HO]; · iexact HO
    iapply (Transfers.MayWaits.elim (SemLoc.dma (A.Is p))) $$ Hmw
  iintro ⟨⟨Hi, Hx⟩, Hs, HO⟩
  rw [wp_ret]; imodintro
  iapply HQ
  isplitl [Hi]; · iexact Hi
  isplitl [Hx]; · iexact Hx
  isplitl [Hs]; · iexact Hs
  iexists _; isplitr
  swap; · iexact HO
  ipureintro; intro p hp
  rcases Finset.mem_insert.mp hp with hp | hp
  · exact .inr (hp ▸ rfl)
  · exact hW' p hp

/-- Sending a slot's rows puts them on their way to block `n` of the result. -/
theorem send {n : Fin 8} {p : Fin 2} {O' : Memref sig .scVector .vmem S256x128 .i32} {Y' : Memref sig .scVector .hbm S256x128 .i32} {s' : DmaSem sig}
    (hO : O' = A.O p) (hY : Y' = A.Yn i n) (hs : s' = A.Os p)
    {h1 : O'.view.WordExact} {h2 : Y'.view.WordExact} {h3 : DmaTarget.Typed (nD := nD) (τ := τ) (p := (thr d i).2) .vmem (SemLoc.dma s') (.here Y')} {Q : PUnit → sProp 𝕄} :
    iprop(oHas C p n ∗ yP n C.fo ∗ oS F A d i p)
      ⊢ iprop((flO C p n -∗ Q ⟨⟩) -∗ wp frame (wpE (defs₀ (F := F)) 𝒱₀ (thr d i) none) Set.univ
          (Prog.lift (.enqueueDma O' (.here Y') (.dma s') h1 h2 h3)) Q) := by
  subst hO hY hs
  unfold oHas
  iintro ⟨⟨%g, %hg, Ho⟩, Hy, Hs⟩ HQ
  iapply (Transfers.wp_dmaLocal countersEmb 𝒱₀ (thr d i) none (α := PUnit) (src := A.O p) (dst := A.Yn i n) (sm := .dma (A.Os p)) (via := .same)
      ι₀ (A.Yn i n).view.dmaCredit rfl (View.dmaCredit_pos _ (by decide)) (Finset.Subset.refl _)) $$ [Ho Hy Hs]
  · isplitl [Ho]; · iexact Ho
    isplitl [Hy]; · iexact Hy
    iexact Hs
  iintro Hf
  rw [wp_ret]; imodintro
  iapply HQ
  unfold flO
  iapply (Transfers.Flight_mono countersEmb (c := thr d i) ?_) $$ Hf
  iintro ⟨Hy, Ho⟩
  isplitl [Hy]
  · iapply (Entails.of_eq (pointsTo_congr ?_)) $$ Hy
    intro j hj
    obtain ⟨x, -, rfl⟩ := Finset.mem_map.mp hj
    have e := congrFun ((View.read_write_univ (Val := Elt F) (v := (A.Yn i n).view) C.fo ((ReadAs.same : ReadAs (Elt F) _ _ _ _).apply ((A.O p).view.read (Elt F) g))).trans
      (show _ = (A.Yn i n).view.read (Elt F) C.G from hg)) x
    exact (cast_inj (congrArg (Elt F) (A.Yn i n).view.elt_eq)).mp e
  · unfold oAny; iexists _; iexact Ho

/-- Waiting for them leaves block `n` of the result done and the slot free. -/
theorem sent {n : Fin 8} {p : Fin 2} {O' : Memref sig .scVector .vmem S256x128 .i32} {Y' : Memref sig .scVector .hbm S256x128 .i32} {s' : DmaSem sig}
    (b : ℕ) (hb : b < 256) (hY : Y' = A.Y b hb) (hs : s' = A.Os p)
    {h1 : O'.view.WordExact} {h2 : Y'.view.WordExact} {Q : PUnit → sProp 𝕄} :
    iprop(Transfers.MayWaits (thr d i) ι₀ O ∗ flO C p n ∗ ow F d i O W)
      ⊢ iprop((iprop(yP n C.G ∗ oAny F A d i p ∗ oS F A d i p ∗ ow F d i O W) -∗ Q ⟨⟩) -∗ wp frame (wpE (defs₀ (F := F)) 𝒱₀ (thr d i) none) Set.univ
          (Prog.lift (.waitDma2 s' O' Y' h1 h2)) Q) := by
  subst hY hs
  unfold ow flO
  iintro ⟨Hmw, Hf, %W', %hW', HO⟩ HQ
  iapply (Transfers.wp_waitLocalO countersEmb 𝒱₀ (thr d i) none (α := PUnit) ι₀ (show (A.Y b hb).view.dmaCredit = (A.Yn i n).view.dmaCredit from rfl)) $$ [Hf HO Hmw]
  · isplitl [Hf]; · iexact Hf
    isplitl [HO]; · iexact HO
    iapply (Transfers.MayWaits.elim (SemLoc.dma (A.Os p))) $$ Hmw
  iintro ⟨⟨Hi, Hx⟩, Hs, HO⟩
  rw [wp_ret]; imodintro
  iapply HQ
  isplitl [Hi]; · iexact Hi
  isplitl [Hx]; · iexact Hx
  isplitl [Hs]; · iexact Hs
  iexists _; isplitr
  swap; · iexact HO
  ipureintro; intro p hp
  rcases Finset.mem_insert.mp hp with hp | hp
  · exact .inr (hp ▸ rfl)
  · exact hW' p hp

/-- The gather's list of rows is the whole slot. -/
theorem set_L (p : Fin 2) : (A.L p).view.set = (A.I p).view.set := by
  show (((A.I p).view.slice (Rect.unit (s := S1x256) ![0, 0] S1x256.size inb_S1x256_S1x256_0_0)).reshape S256 squeezes_S1x256_S256.numel_eq).set = _
  rw [View.set_reshape, View.set_slice, Rect.set_eq_univ_of_whole _ (by decide)]
  rfl

/-- The gather's list read at an entry is the slot read there. -/
theorem read_L (p : Fin 2) (g : Buf (Elt F) ((A.I p).view.loc (thr d i))) (x : S256.Idx) :
    (A.L p).view.read (Elt F) g x = (A.I p).view.read (Elt F) g (ix2 (0 : Fin 1) (x 0 : Fin 256)) := by
  refine (congrFun (Memref.read_squeeze_full (A.I p) inb_S1x256_S1x256_0_0 squeezes_S1x256_S256 g) x).trans (congrArg _ ?_)
  refine Shape.reshapeEquiv_eq_of_rowMajor _ ?_
  rw [Shape.rowMajor_val_one, Shape.rowMajor_val_two]
  show 0 * 256 + (x 0).val = (x 0).val
  omega

/-- The table as the gather addresses it reads as the table. -/
theorem read_Tb (f : Buf (Elt F) (A.tbl.view.loc (thr d i))) (j : S32768x128.Idx) : A.Tb.view.read (Elt F) f j = A.tbl.view.read (Elt F) f j := by
  show A.tbl.view.read (Elt F) f ((Rect.unit (s := S32768x128) ![0, 0] S32768x128.size inb_S32768x128_S32768x128_0_0).emb j) = _
  rw [Rect.emb_unit_full]

/-- The rows gathered through slot `p`, when it holds block `n` of the index list: what block `n` of the result is to have. -/
theorem payload_eq {n : Fin 8} {p : Fin 2} (g : Buf (Elt F) ((A.I p).view.loc (thr d i)))
    (hg : (A.I p).view.read (Elt F) g = (A.Xn i n).view.read (Elt F) C.fi) (hn : S256.numel = S256x128.size gathers_S32768x128_S256x128.axis')
    (hin : ∀ x, ((A.L p).view.read (Elt F) g x).toNat < S32768x128.size gathers_S32768x128_S256x128.axis) :
    SparseCore.gatherPayload gathers_S32768x128_S256x128 (A.Tb.view.read (Elt F) C.fT) (SparseCore.rows ((A.L p).view.read (Elt F) g) hn hin)
      = (A.Yn i n).view.read (Elt F) C.G := by
  funext x
  refine (read_Tb C.fT _).trans (C.hG n x _ ?_ ?_).symm
  · have e0 := congrArg Fin.val (Shape.Gathers.idx_axis gathers_S32768x128_S256x128 (SparseCore.rows ((A.L p).view.read (Elt F) g) hn hin) x)
    refine Eq.trans (b := _) e0 ?_
    show ((A.L p).view.read (Elt F) g (S256.rowMajor.symm ((x 0).cast hn.symm))).toNat = _
    rw [read_L (d := d) (i := i), hg]
    congr 2
    refine congrArg (ix2 (0 : Fin 1)) (Fin.ext ?_)
    have e1 := Shape.rowMajor_val_one (S256.rowMajor.symm ((x 0).cast hn.symm))
    rw [Equiv.apply_symm_apply] at e1
    exact e1.symm
  · exact Shape.Gathers.idx_of_ne gathers_S32768x128_S256x128 _ x 1 (by decide)

/-- Starting the gather through a slot that holds block `n` puts block `n`'s rows on their way. -/
theorem gather {n : Fin 8} {p p' : Fin 2} {T' : Memref sig .scVector .hbm S32768x128 .i32} {O' : Memref sig .scVector .vmem S256x128 .i32}
    {L' : Memref sig .scVector .vmem S256 .i32}
    (hT : T' = A.Tb) (hO : O' = A.O p') (hL : L' = A.L p)
    {hp : (thr d i).2.kind = .scVector} {hn : S256.numel = S256x128.size gathers_S32768x128_S256x128.axis'}
    {h1 : T'.view.WordExact} {he : EltTy.i32.bits = 32} {hsp : Space.hbm = .hbm ∨ Space.hbm = .shared} {hr : S32768x128.StreamRows 0}
    {Q : PUnit → sProp 𝕄} :
    iprop(iHas C p n ∗ tP C ∗ oAny F A d i p' ∗ gS F A d i)
      ⊢ iprop((Transfers.Flight countersEmb (thr d i) (.dma A.gs.sem) ι₀ (A.O p').view.dmaCredit iprop(oHas C p' n ∗ tP C ∗ iHas C p n) -∗ Q ⟨⟩)
          -∗ wp frame (wpE (defs₀ (F := F)) 𝒱₀ (thr d i) none) Set.univ
            (SparseCore.enqueueIndirectGather hp T' O' gathers_S32768x128_S256x128 L' hn A.gs.sem h1 he hsp hr) Q) := by
  subst hT hO hL
  unfold iHas oAny
  iintro ⟨⟨%g, %hg, Hi⟩, Ht, ⟨%f, Ho⟩, Hs⟩ HQ
  have hin : ∀ x, ((A.L p).view.read (Elt F) g x).toNat < S32768x128.size gathers_S32768x128_S256x128.axis := fun x => by
    rw [read_L (d := d) (i := i), hg]; exact C.hin n _
  have hpay : (A.O p').view.read (Elt F) ((A.O p').view.write (Elt F) f (SparseCore.gatherPayload gathers_S32768x128_S256x128 (A.Tb.view.read (Elt F) C.fT)
      (SparseCore.rows ((A.L p).view.read (Elt F) g) hn hin)) Finset.univ) = (A.Yn i n).view.read (Elt F) C.G := by
    rw [View.read_write_univ]
    rw [payload_eq (n := n) (p := p) C g hg hn hin]
  ihave Hl := (Entails.of_eq (show iP A d i p g = ((A.L p).view.loc (thr d i) ↦[(A.L p).view.set]{fullShare} g : sProp 𝕄) by rw [set_L]; rfl)) $$ Hi
  rw [← bind_pure (SparseCore.enqueueIndirectGather hp A.Tb (A.O p') gathers_S32768x128_S256x128 (A.L p) hn A.gs.sem h1 he hsp hr)]
  iapply (SparseCore.wp_indirectGatherLocal countersEmb 𝒱₀ (thr d i) none (hg := gathers_S32768x128_S256x128) ι₀
      (A.O p').view.dmaCredit (SparseCore.sum_rowCredit_eq_dmaCredit (A.O p') _ A.hcr) (by decide) hin) $$ [Ht Ho Hl Hs]
  · isplitl [Ht]; · iexact Ht
    isplitl [Ho]; · iexact Ho
    isplitl [Hl]; · iexact Hl
    iexact Hs
  iintro Hf
  rw [wp_pure]; imodintro
  iapply HQ
  iapply (Transfers.Flight_mono countersEmb (c := thr d i) ?_) $$ Hf
  iintro ⟨Ho, Ht, Hl⟩
  isplitl [Ho]
  · unfold oHas
    iexists _; isplitr
    swap; · iexact Ho
    ipureintro; exact hpay
  isplitl [Ht]; · iexact Ht
  iexists g; isplitr; · ipureintro; exact hg
  iapply (Entails.of_eq (show ((A.L p).view.loc (thr d i) ↦[(A.L p).view.set]{fullShare} g : sProp 𝕄) = iP A d i p g by rw [set_L]; rfl)) $$ Hl

/-- Waiting for the gather leaves the row buffer's slot holding block `n`'s rows. -/
theorem gathered {n : Fin 8} {p p' : Fin 2} {T' : Memref sig .scVector .hbm S32768x128 .i32} {O' : Memref sig .scVector .vmem S256x128 .i32}
    (hO : O' = A.O p') {h1 : T'.view.WordExact} {h2 : O'.view.WordExact} {Q : PUnit → sProp 𝕄} :
    iprop(Transfers.MayWaits (thr d i) ι₀ O
        ∗ Transfers.Flight countersEmb (thr d i) (.dma A.gs.sem) ι₀ (A.O p').view.dmaCredit iprop(oHas C p' n ∗ tP C ∗ iHas C p n) ∗ ow F d i O W)
      ⊢ iprop((iprop(oHas C p' n ∗ tP C ∗ iHas C p n ∗ gS F A d i ∗ ow F d i O W) -∗ Q ⟨⟩)
          -∗ wp frame (wpE (defs₀ (F := F)) 𝒱₀ (thr d i) none) Set.univ
            (SparseCore.waitIndirectGather A.gs.sem T' O' h1 h2) Q) := by
  subst hO
  unfold ow
  iintro ⟨Hmw, Hf, %W', %hW', HO⟩ HQ
  unfold SparseCore.waitIndirectGather
  iapply (Transfers.wp_waitLocalO countersEmb 𝒱₀ (thr d i) none (α := PUnit) ι₀ (rfl : (A.O p').view.dmaCredit = _)) $$ [Hf HO Hmw]
  · isplitl [Hf]; · iexact Hf
    isplitl [HO]; · iexact HO
    iapply (Transfers.MayWaits.elim (SemLoc.dma A.gs.sem)) $$ Hmw
  iintro ⟨⟨Ho, Ht, Hi⟩, Hs, HO⟩
  rw [wp_ret]; imodintro
  iapply HQ
  isplitl [Ho]; · iexact Ho
  isplitl [Ht]; · iexact Ht
  isplitl [Hi]; · iexact Hi
  isplitl [Hs]; · iexact Hs
  iexists _; isplitr
  swap; · iexact HO
  ipureintro; intro p hp
  rcases Finset.mem_insert.mp hp with hp | hp
  · exact .inr (hp ▸ rfl)
  · exact hW' p hp

end Cert.Proof.Tile
-- ==== Proof.Trip.lean ====
/-
  One trip of a subcore's pipeline, and the whole of its loop: what a task holds before each trip, what a trip does to it,
  and what the task's program ends with.
-/
module

public import proofs.«01_k».proof.Proof.Steps

@[expose] public section

noncomputable section

namespace Cert.Proof.Tile

open Cert.Kernel Cert.Kernel.Gen
open Idealize.ShloMosaic Idealize.ShloMosaic.ValueIdx
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 2) (Elt F) ℕ UU ℕ

variable {A : Args} {d : Dev nD} {i : grid0.Coords} (C : Cont A d i F)
variable (O : CellTallies nD τ sig (HIx 2)) (W : Waits sig (HIx 2))

/-! ## What is held before each trip -/

/-- A trip's number as a block's. -/
def f8 (t : ℕ) : Fin 8 := ⟨t % 8, Nat.mod_lt _ (by decide)⟩
/-- A trip's block has the trip's number. -/
theorem f8_val {t : ℕ} (h : t < 8) : (f8 t).val = t := Nat.mod_eq_of_lt h
/-- Different trips have different blocks. -/
theorem f8_ne {t s : ℕ} (ht : t < 8) (hs : s < 8) (h : t ≠ s) : f8 t ≠ f8 s := fun e => h (by rw [← f8_val ht, ← f8_val hs, e])

/-- The blocks `s` of the index list. -/
def XR (s : Finset (Fin 8)) : sProp 𝕄 := bigSep s fun n => xP C n
/-- The blocks `s` of the result, those before `t` done. -/
def YR (t : ℕ) (s : Finset (Fin 8)) : sProp 𝕄 := bigSep s fun n => yP n (if n.val < t then C.G else C.fo)

/-- The index buffer before trip `t`: block `t` on its way to its slot, the other slot free; after the last trip both free. -/
def invI (t : ℕ) : sProp 𝕄 :=
  if t < 8 then iprop(flI C (par t) (f8 t) ∗ iAny F A d i (par (t + 1)) ∗ iS F A d i (par (t + 1)) ∗ XR C (Finset.univ.erase (f8 t)))
  else iprop(iAny F A d i (par t) ∗ iS F A d i (par t) ∗ iAny F A d i (par (t + 1)) ∗ iS F A d i (par (t + 1)) ∗ XR C Finset.univ)

/-- The index buffer within trip `t`, the next block asked for. -/
def invM (t : ℕ) : sProp 𝕄 :=
  iprop(flI C (par t) (f8 t) ∗ (if t + 1 < 8 then iprop(flI C (par (t + 1)) (f8 (t + 1)) ∗ XR C ((Finset.univ.erase (f8 t)).erase (f8 (t + 1))))
    else iprop(iAny F A d i (par (t + 1)) ∗ iS F A d i (par (t + 1)) ∗ XR C (Finset.univ.erase (f8 t)))))

/-- The row buffer before trip `t`: the last trip's rows on their way, the trip's slot free. -/
def invO : ℕ → sProp 𝕄
  | 0 => iprop(oAny F A d i (par 0) ∗ oS F A d i (par 0) ∗ oAny F A d i (par 1) ∗ oS F A d i (par 1) ∗ YR C 0 Finset.univ)
  | t + 1 => iprop(flO C (par t) (f8 t) ∗ oAny F A d i (par (t + 1)) ∗ oS F A d i (par (t + 1)) ∗ YR C (t + 1) (Finset.univ.erase (f8 t)))

/-- One block of the index list taken out of several. -/
theorem XR_take {s : Finset (Fin 8)} {n : Fin 8} (h : n ∈ s) : XR C s = iprop(xP C n ∗ XR C (s.erase n)) :=
  SparseCore.bigSep_erase' h
/-- One block of the result taken out of several. -/
theorem YR_take (t : ℕ) {s : Finset (Fin 8)} {n : Fin 8} (h : n ∈ s) :
    YR C t s = iprop(yP n (if n.val < t then C.G else C.fo) ∗ YR C t (s.erase n)) :=
  SparseCore.bigSep_erase' h

/-- Sending block `t`, no block of the others changes its state. -/
theorem YR_step {t : ℕ} (ht : t < 8) (s : Finset (Fin 8)) : YR C t (s.erase (f8 t)) = YR C (t + 1) (s.erase (f8 t)) :=
  bigSep_congr fun n hn => by
    have h : n ≠ f8 t := (Finset.mem_erase.mp hn).1
    have h' : n.val ≠ t := fun e => h (Fin.ext (by rw [f8_val ht]; exact e))
    have : (n.val < t) ↔ (n.val < t + 1) := by omega
    simp only [this]

/-! ## A trip's first part: the next block is asked for -/

/-- What a trip's first part hands on, beyond its checks. -/
def p1val (i : grid0.Coords) (t : ℕ) : Σ' (_ : BitVec 32) (_ : BitVec 1) (_ : BitVec 1) (_ : BitVec 32) (_ : BitVec 32) (_ : BitVec 32) (_ : BitVec 32), BitVec 1 :=
  ⟨BitVec.ofNat 32 t, BitVec.ofBool (decide (t = 0)), BitVec.ofBool (decide (t = 7)), BitVec.ofNat 32 (blk i t),
    BitVec.ofNat 32 (blk i ((t + 7) % 8)), BitVec.ofNat 32 (blk i ((t + 1) % 8)), c6 (t + 1), 1#1⟩

/-- The first part asks for the next index block, if there is one, and hands on what `p1val` says. -/
theorem part1 (t : Fin k0_t1_loop.trips)
    {Q : (Σ' (k0_hw3 : k0_chk3 (c7 t)) (k0_hw2 : k0_chk2 (c7 t)) (k0_hw1 : k0_chk1 i t (c6 t) (c7 t) (c7 t) (c9 t) (c10 t)) (arg5_r0 : BitVec 32) (v64_r0 : BitVec 1) (v65_r0 : BitVec 1) (v66_r0 : BitVec 32) (v71_r0 : BitVec 32) (v76_r0 : BitVec 32) (v91_r0 : BitVec 32), BitVec 1) → sProp 𝕄} :
    invI C t ⊢ iprop((∀ a, ⌜a.2.2.2 = p1val i t⌝ -∗ invM C t -∗ Q a) -∗
      wp frame (wpE (defs₀ (F := F)) 𝒱₀ (thr d i) none) Set.univ
        (k0_part1 (F := F) i A.tbl A.htbl A.idx A.hidx A.out A.hout A.ib A.hib A.is A.ob A.hob A.os A.gs (base i) 0#32 1#32 t (c6 t) (c7 t) (c7 t) (c9 t) (c10 t)) Q) := by
  have ht : t.val < 8 := t.isLt
  have hval : ∀ i : grid0.Coords, ∀ t : Fin k0_t1_loop.trips, (⟨Scf.iv 0#32 1#32 t, Scalar.cmpi .eq (Scf.iv 0#32 1#32 t) 0#32, Scalar.cmpi .eq (Scf.iv 0#32 1#32 t) 7#32,
      Scalar.addi (c10 t) (base i),
      Scalar.addi (Scalar.select (Scalar.cmpi .eq (Scalar.select 1#1 (Scalar.subi (c10 t) 1#32) (c10 t)) 4294967295#32) 7#32 (Scalar.select 1#1 (Scalar.subi (c10 t) 1#32) (c10 t))) (base i),
      Scalar.addi (Scalar.select (Scalar.cmpi .eq (Scalar.select 1#1 (Scalar.addi (c10 t) 1#32) (c10 t)) 8#32) 0#32 (Scalar.select 1#1 (Scalar.addi (c10 t) 1#32) (c10 t))) (base i),
      Scalar.select (Scalar.andi (Scalar.andi (Scalar.cmpi .ne (Scalar.addi (c10 t) (base i)) (Scalar.addi (Scalar.select (Scalar.cmpi .eq (Scalar.select 1#1 (Scalar.addi (c10 t) 1#32) (c10 t)) 8#32) 0#32 (Scalar.select 1#1 (Scalar.addi (c10 t) 1#32) (c10 t))) (base i)))
        (Scalar.xori (Scalar.cmpi .sge (Scf.iv 0#32 1#32 t) 7#32) 1#1)) 1#1) (Scalar.addi (c6 t) 1#32) (c6 t),
      Scalar.cmpi .ne (Scalar.addi (c10 t) (base i)) (Scalar.addi (Scalar.select (Scalar.cmpi .eq (Scalar.select 1#1 (Scalar.subi (c10 t) 1#32) (c10 t)) 4294967295#32) 7#32 (Scalar.select 1#1 (Scalar.subi (c10 t) 1#32) (c10 t))) (base i))⟩ :
      Σ' (_ : BitVec 32) (_ : BitVec 1) (_ : BitVec 1) (_ : BitVec 32) (_ : BitVec 32) (_ : BitVec 32) (_ : BitVec 32), BitVec 1) = p1val i t := by
    decide +kernel
  unfold invI
  rw [if_pos ht, k0_part1_eq_skeleton]
  unfold k0_part1_skel
  iintro ⟨Hf, Hi, Hs, Hx⟩ HQ
  rw [wp_bind]
  iapply (wp_assume 𝒱₀ (thr d i) none Set.univ (chk3_ok ⟨t.val, ht⟩))
  rw [wp_ret]; imodintro
  rw [wp_bind]
  iapply (wp_assume 𝒱₀ (thr d i) none Set.univ (chk2_ok ⟨t.val, ht⟩))
  rw [wp_ret]; imodintro
  rw [wp_bind]
  iapply (wp_assume 𝒱₀ (thr d i) none Set.univ (chk1_ok i t))
  rw [wp_ret]; imodintro
  by_cases h7 : t.val < 7
  · simp only [dif_pos ((cond1_iff i t).mpr h7)]
    rw [wp_bind]
    ihave Hx2 := (Entails.of_eq (XR_take C (n := f8 (t.val + 1)) (Finset.mem_erase.mpr ⟨f8_ne (by omega) ht (by omega), Finset.mem_univ _⟩))) $$ Hx
    icases Hx2 with ⟨Hx1, Hx⟩
    iapply (fetch C (n := f8 (t.val + 1)) (p := par (t.val + 1)) (A.X_eq _ _ ((off5_eq i ⟨t.val, ht⟩ h7).trans (by rw [f8_val (by omega)])) _)
      (A.I_eq _ (off4_eq ⟨t.val, ht⟩ h7) _) (A.Is_eq _ (off6_eq ⟨t.val, ht⟩ h7) _)) $$ [Hx1 Hi Hs]
    · isplitl [Hx1]; · iexact Hx1
      isplitl [Hi]; · iexact Hi
      iexact Hs
    iintro Hf1
    rw [wp_pure]; imodintro
    iapply HQ
    · ipureintro; exact hval i t
    unfold invM
    rw [if_pos (by omega)]
    isplitl [Hf]; · iexact Hf
    isplitl [Hf1]; · iexact Hf1
    iexact Hx
  · simp only [dif_neg (fun h => h7 ((cond1_iff i t).mp h))]
    rw [wp_pure]; imodintro
    iapply HQ
    · ipureintro; exact hval i t
    unfold invM
    rw [if_neg (by omega)]
    isplitl [Hf]; · iexact Hf
    isplitl [Hi]; · iexact Hi
    isplitl [Hs]; · iexact Hs
    iexact Hx

/-! ## A trip's second part: its block's rows are gathered -/

/-- A slot that holds a block is a slot. -/
theorem iHas_any (p : Fin 2) (n : Fin 8) : iHas C p n ⊢ iAny F A d i p := by
  unfold iHas iAny
  iintro ⟨%g, -, H⟩
  iexists g; iexact H

/-- The second part waits for the trip's index block and gathers its rows into the trip's slot. -/
theorem part2 (t : Fin k0_t1_loop.trips) (h3 : k0_chk3 (c7 t)) (h2 : k0_chk2 (c7 t)) (h1 : k0_chk1 i t (c6 t) (c7 t) (c7 t) (c9 t) (c10 t))
    (a5 : BitVec 32) (v64 v65 : BitVec 1) (v66 v71 v76 : BitVec 32) (v96 : BitVec 1) {Q : PUnit → sProp 𝕄} :
    iprop(Transfers.MayWaits (thr d i) ι₀ O ∗ invM C t ∗ tP C ∗ oAny F A d i (par t) ∗ gS F A d i ∗ ow F d i O W)
      ⊢ iprop((iprop(invI C (t.val + 1) ∗ tP C ∗ oHas C (par t) (f8 t) ∗ gS F A d i ∗ ow F d i O W) -∗ Q ⟨⟩) -∗
      wp frame (wpE (defs₀ (F := F)) 𝒱₀ (thr d i) none) Set.univ
        (k0_part2 (F := F) i A.tbl A.htbl A.idx A.hidx A.out A.hout A.ib A.hib A.is A.ob A.hob A.os A.gs t (c6 t) (c7 t) (c7 t) (c9 t) (c10 t)
          h3 h2 h1 a5 v64 v65 v66 v71 v76 v96) Q) := by
  have ht : t.val < 8 := t.isLt
  rw [k0_part2_eq_skeleton]
  unfold k0_part2_skel invM
  simp only [dif_pos (cond2_ok i t), ite_self]
  iintro ⟨#Hmw, ⟨Hf, HM⟩, Ht, Ho, Hg, HO⟩ HQ
  rw [wp_bind]
  iapply (fetched C (A.I_eq (par t) (off9_eq3 ⟨t.val, ht⟩) _) (A.Is_eq _ (off9_eq ⟨t.val, ht⟩) _)) $$ [Hf HO]
  · isplitr; · iexact Hmw
    isplitl [Hf]; · iexact Hf
    iexact HO
  iintro ⟨Hi, Hx, Hs, HO⟩
  rw [wp_bind]
  iapply (gather C (n := f8 t) (p := par t) (p' := par t) rfl (A.O_eq _ (off10_eq ⟨t.val, ht⟩) _)
    (congrArg (fun m : Memref sig .scVector .vmem S1x256 .i32 =>
      (m.slice (Rect.unit (s := S1x256) ![0, 0] S1x256.size inb_S1x256_S1x256_0_0) (fun _ => rfl)).squeeze S256 squeezes_S1x256_S256)
      (A.I_eq (par t) (off11_eq ⟨t.val, ht⟩) _))) $$ [Hi Ht Ho Hg]
  · isplitl [Hi]; · iexact Hi
    isplitl [Ht]; · iexact Ht
    isplitl [Ho]; · iexact Ho
    iexact Hg
  iintro Hf
  rw [wp_bind]
  iapply (gathered C (A.O_eq (par t) (off10_eq ⟨t.val, ht⟩) _)) $$ [Hf HO]
  · isplitr; · iexact Hmw
    isplitl [Hf]; · iexact Hf
    iexact HO
  iintro ⟨Ho, Ht, Hi, Hg, HO⟩
  ihave Hi' := (iHas_any C (par t) (f8 t)) $$ Hi
  rw [wp_pure]; imodintro
  iapply HQ
  isplitl [HM Hi' Hx Hs]
  swap
  · isplitl [Ht]; · iexact Ht
    isplitl [Ho]; · iexact Ho
    isplitl [Hg]; · iexact Hg
    iexact HO
  unfold invI
  by_cases h7 : t.val + 1 < 8
  · ihave HM2 := (Entails.of_eq (if_pos h7)) $$ HM
    icases HM2 with ⟨Hf, Hxs⟩
    rw [if_pos h7, par_add_two]
    isplitl [Hf]; · iexact Hf
    isplitl [Hi']; · iexact Hi'
    isplitl [Hs]; · iexact Hs
    iapply (Entails.of_eq (show iprop(xP C (f8 t) ∗ XR C ((Finset.univ.erase (f8 t)).erase (f8 (t.val + 1)))) = XR C (Finset.univ.erase (f8 (t.val + 1))) by
      rw [Finset.erase_right_comm, ← XR_take C (Finset.mem_erase.mpr ⟨f8_ne ht h7 (by omega), Finset.mem_univ _⟩)]))
    isplitl [Hx]; · iexact Hx
    iexact Hxs
  · ihave HM2 := (Entails.of_eq (if_neg h7)) $$ HM
    icases HM2 with ⟨Hi, Hs', Hxs⟩
    rw [if_neg h7, par_add_two]
    isplitl [Hi]; · iexact Hi
    isplitl [Hs']; · iexact Hs'
    isplitl [Hi']; · iexact Hi'
    isplitl [Hs]; · iexact Hs
    iapply (Entails.of_eq (show iprop(xP C (f8 t) ∗ XR C (Finset.univ.erase (f8 t))) = XR C Finset.univ from (XR_take C (Finset.mem_univ _)).symm))
    isplitl [Hx]; · iexact Hx
    iexact Hxs

/-! ## A trip -/

/-- What a task holds before trip `t`. -/
def inv (t : ℕ) : sProp 𝕄 := iprop(invI C t ∗ invO C t ∗ tP C ∗ gS F A d i ∗ ow F d i O W)

/-- The row buffer's part that a trip's gather and sending leave alone. -/
def restO : ℕ → sProp 𝕄
  | 0 => iprop(oAny F A d i (par 1) ∗ oS F A d i (par 1) ∗ YR C 1 (Finset.univ.erase (f8 0)))
  | t + 1 => iprop(flO C (par t) (f8 t) ∗ YR C (t + 2) ((Finset.univ.erase (f8 t)).erase (f8 (t + 1))))

/-- Before a trip its slot of the row buffer is free and its block of the result is not done. -/
theorem invO_take : ∀ {t : ℕ} (_ : t < 8), invO C t ⊢ iprop(oAny F A d i (par t) ∗ oS F A d i (par t) ∗ yP (f8 t) C.fo ∗ restO C t)
  | 0, _ => by
    unfold invO restO
    rw [YR_take C 0 (Finset.mem_univ (f8 0)), if_neg (by decide), YR_step C (by decide)]
    iintro ⟨H1, H2, H3, H4, H5, H6⟩
    isplitl [H1]; · iexact H1
    isplitl [H2]; · iexact H2
    isplitl [H5]; · iexact H5
    isplitl [H3]; · iexact H3
    isplitl [H4]; · iexact H4
    iexact H6
  | t + 1, h => by
    simp only [invO, restO]
    rw [YR_take C (t + 1) (Finset.mem_erase.mpr ⟨f8_ne h (by omega) (by omega), Finset.mem_univ (f8 (t + 1))⟩),
      if_neg (by rw [f8_val h]; omega), YR_step C h]
    iintro ⟨H1, H2, H3, H4, H5⟩
    isplitl [H2]; · iexact H2
    isplitl [H3]; · iexact H3
    isplitl [H4]; · iexact H4
    isplitl [H1]; · iexact H1
    iexact H5

/-- With the trip's rows on their way and the block of the trip before done, the row buffer is as before the next trip. -/
theorem invO_succ {s : ℕ} (h : s + 1 < 8) :
    iprop(flO C (par (s + 1)) (f8 (s + 1)) ∗ yP (f8 s) C.G ∗ oAny F A d i (par s) ∗ oS F A d i (par s)
      ∗ YR C (s + 2) ((Finset.univ.erase (f8 s)).erase (f8 (s + 1)))) ⊢ invO C (s + 2) := by
  simp only [invO]
  rw [par_add_two, YR_take C (s + 2) (Finset.mem_erase.mpr ⟨f8_ne (t := s) (s := s + 1) (by omega) h (by omega), Finset.mem_univ (f8 s)⟩),
    if_pos (by rw [f8_val (by omega)]; omega), Finset.erase_right_comm]
  iintro ⟨H1, H2, H3, H4, H5⟩
  isplitl [H1]; · iexact H1
  isplitl [H3]; · iexact H3
  isplitl [H4]; · iexact H4
  isplitl [H2]; · iexact H2
  iexact H5

/-- What a trip hands to the next. -/
theorem yields : ∀ i : grid0.Coords, ∀ t : Fin k0_t1_loop.trips,
    ((p1val i t).2.2.2.2.2.2.1,
      Scalar.select (Scalar.ori (Scalar.cmpi .ne (p1val i t).2.2.2.1 (p1val i t).2.2.2.2.2.1) (p1val i t).2.2.1) (Scalar.addi (c7 t) 1#32) (c7 t),
      Scalar.select (Scalar.andi (Scalar.ori (Scalar.cmpi .ne (p1val i t).2.2.2.1 (p1val i t).2.2.2.2.2.1) (p1val i t).2.2.1) 1#1) (Scalar.addi (c7 t) 1#32) (c7 t),
      Scalar.select (Scalar.andi (Scalar.andi (Scalar.cmpi .ne (p1val i t).2.2.2.1 (p1val i t).2.2.2.2.1) (Scalar.xori (p1val i t).2.1 1#1)) 1#1) (Scalar.addi (c9 t) 1#32) (c9 t),
      Scalar.select (Scalar.cmpi .eq (Scalar.select 1#1 (Scalar.addi (c10 t) 1#32) (c10 t)) 8#32) 0#32 (Scalar.select 1#1 (Scalar.addi (c10 t) 1#32) (c10 t)))
      = car (t.val + 1) := by decide +kernel

/-- A trip turns what is held before it into what is held before the next, and carries the next trip's words on. -/
theorem trip (t : Fin k0_t1_loop.trips) {Q : BitVec 32 × BitVec 32 × BitVec 32 × BitVec 32 × BitVec 32 → sProp 𝕄} :
    iprop(Transfers.MayWaits (thr d i) ι₀ O ∗ inv C O W t)
      ⊢ iprop((inv C O W (t.val + 1) -∗ Q (car (t.val + 1))) -∗
      wp frame (wpE (defs₀ (F := F)) 𝒱₀ (thr d i) none) Set.univ
        (k0_t1_body (F := F) i A.tbl A.htbl A.idx A.hidx A.out A.hout A.ib A.hib A.is A.ob A.hob A.os A.gs (base i) t (c6 t, c7 t, c7 t, c9 t, c10 t)) Q) := by
  have ht : t.val < 8 := t.isLt
  unfold inv k0_t1_body
  simp only [dif_pos (cond5_ok i t), ite_self]
  iintro ⟨#Hmw, HI, HOb, Ht, Hg, HO⟩ HQ
  rw [wp_bind]
  iapply (part1 C t) $$ HI
  iintro %a %ha HM
  obtain ⟨h3, h2, h1, b⟩ := a
  obtain rfl : b = p1val i t := ha
  ihave HOb' := (invO_take C ht) $$ HOb
  icases HOb' with ⟨Ho, Hs, Hy, HR⟩
  rw [wp_bind]
  iapply (part2 C O W t h3 h2 h1) $$ [HM Ht Ho Hg HO]
  · isplitr; · iexact Hmw
    isplitl [HM]; · iexact HM
    isplitl [Ht]; · iexact Ht
    isplitl [Ho]; · iexact Ho
    isplitl [Hg]; · iexact Hg
    iexact HO
  iintro ⟨HI, Ht, Ho, Hg, HO⟩
  rw [wp_bind]
  iapply (send C (n := f8 t) (p := par t) (A.O_eq _ (off12_eq ⟨t.val, ht⟩) _)
    (A.Y_eq _ _ ((off13_eq i ⟨t.val, ht⟩).trans (by rw [f8_val ht])) _) (A.Os_eq _ (off14_eq ⟨t.val, ht⟩) _)) $$ [Ho Hy Hs]
  · isplitl [Ho]; · iexact Ho
    isplitl [Hy]; · iexact Hy
    iexact Hs
  iintro Hf
  have hres := yields i t
  obtain h0 | ⟨s, hs⟩ : t.val = 0 ∨ ∃ s, t.val = s + 1 := by
    rcases Nat.eq_zero_or_pos t.val with h | h
    · exact .inl h
    · exact .inr ⟨t.val - 1, by omega⟩
  · simp only [dif_neg (fun h => absurd ((cond7_iff i t).mp h) (by omega))]
    rw [wp_pure]; imodintro
    ihave Hq := HQ $$ [HI Hf HR Ht Hg HO]
    · isplitl [HI]; · iexact HI
      isplitl [Hf HR]
      · iapply (show iprop(flO C (par t) (f8 t) ∗ restO C t) ⊢ invO C (t.val + 1) by rw [h0]; exact Entails.rfl)
        isplitl [Hf]; · iexact Hf
        iexact HR
      isplitl [Ht]; · iexact Ht
      isplitl [Hg]; · iexact Hg
      iexact HO
    iapply (Entails.of_eq (congrArg Q hres.symm)) $$ Hq
  · simp only [dif_pos ((cond7_iff i t).mpr (by omega))]
    rw [wp_bind]
    ihave HR' := (show restO C t ⊢ iprop(flO C (par s) (f8 s) ∗ YR C (s + 2) ((Finset.univ.erase (f8 s)).erase (f8 (s + 1)))) by rw [hs]; exact Entails.rfl) $$ HR
    icases HR' with ⟨Hf', HR⟩
    iapply (sent C (n := f8 s) (p := par s) (blk i ((t.val + 7) % 8)) (blk_lt i (Nat.mod_lt _ (by decide)))
      (A.Y_eq _ _ (off16_eq i ⟨t.val, ht⟩) _)
      (A.Os_eq (par s) ((off17_eq ⟨t.val, ht⟩ (by show 0 < t.val; omega)).trans (by rw [par_val]; show ![(t.val + 1) % 2] = ![s % 2]; rw [hs]; congr 1; omega)) _)) $$ [Hf' HO]
    · isplitr; · iexact Hmw
      isplitl [Hf']; · iexact Hf'
      iexact HO
    iintro ⟨Hy, Ho, Hs, HO⟩
    rw [wp_pure]; imodintro
    ihave Hq := HQ $$ [HI Hf HR Ht Hg HO Hy Ho Hs]
    · isplitl [HI]; · iexact HI
      isplitl [Hf HR Hy Ho Hs]
      · iapply (show iprop(flO C (par t) (f8 t) ∗ yP (f8 s) C.G ∗ oAny F A d i (par s) ∗ oS F A d i (par s)
            ∗ YR C (s + 2) ((Finset.univ.erase (f8 s)).erase (f8 (s + 1)))) ⊢ invO C (t.val + 1) by rw [hs]; exact invO_succ C (hs ▸ ht))
        isplitl [Hf]; · iexact Hf
        isplitl [Hy]; · iexact Hy
        isplitl [Ho]; · iexact Ho
        isplitl [Hs]; · iexact Hs
        iexact HR
      isplitl [Ht]; · iexact Ht
      isplitl [Hg]; · iexact Hg
      iexact HO
    iapply (Entails.of_eq (congrArg Q hres.symm)) $$ Hq

/-! ## The whole task -/

/-- What a task starts from: its blocks of the index list and of the result, its share of the table, its buffers' slots, every
    semaphore at zero. -/
def pre : sProp 𝕄 :=
  iprop(XR C Finset.univ ∗ YR C 0 Finset.univ ∗ tP C ∗ (iAny F A d i 0 ∗ iAny F A d i 1) ∗ (oAny F A d i 0 ∗ oAny F A d i 1)
    ∗ iS F A d i 0 ∗ iS F A d i 1 ∗ oS F A d i 0 ∗ oS F A d i 1 ∗ gS F A d i ∗ ow F d i O W)
/-- What it ends with: the same, its blocks of the result done. -/
def post : sProp 𝕄 :=
  iprop(XR C Finset.univ ∗ YR C 8 Finset.univ ∗ tP C ∗ (iAny F A d i 0 ∗ iAny F A d i 1) ∗ (oAny F A d i 0 ∗ oAny F A d i 1)
    ∗ iS F A d i 0 ∗ iS F A d i 1 ∗ oS F A d i 0 ∗ oS F A d i 1 ∗ gS F A d i ∗ ow F d i O W)

/-- The task's program turns what it starts with into the same with its blocks of the result done. -/
theorem kern :
    iprop(Transfers.MayWaits (thr d i) ι₀ O ∗ pre C O W) ⊢
      wp frame (wpE (defs₀ (F := F)) 𝒱₀ (thr d i) none) Set.univ
        (cc0_kern (F := F) i A.tbl A.htbl A.idx A.hidx A.out A.hout A.ib A.hib A.is A.ob A.hob A.os A.gs) fun _ => post C O W := by
  rw [cc0_kern_eq_skeleton]
  unfold cc0_kern_skel pre
  rw [k0_part3_eq_skeleton, k0_part4_eq_skeleton]
  unfold k0_part3_skel k0_part4_skel
  iintro ⟨#Hmw, Hx, Hy, Ht, ⟨Hi0, Hi1⟩, ⟨Ho0, Ho1⟩, HsI0, HsI1, HsO0, HsO1, Hg, HO⟩
  rw [wp_bind, wp_bind]
  ihave Hx' := (Entails.of_eq (XR_take C (Finset.mem_univ (f8 0)))) $$ Hx
  icases Hx' with ⟨Hx0, Hx⟩
  iapply (fetch C (n := f8 0) (p := 0) (A.X_eq _ _ (off2_eq i) _) (A.I_eq 0 rfl _) (A.Is_eq 0 rfl _)) $$ [Hx0 Hi0 HsI0]
  · isplitl [Hx0]; · iexact Hx0
    isplitl [Hi0]; · iexact Hi0
    iexact HsI0
  iintro Hf
  rw [wp_pure]; imodintro
  rw [wp_bind]
  simp only []
  rw [wp_bind]
  iapply (Scf.wp_for Idealize.ShloMosaic.frame (wpE (defs₀ (F := F)) 𝒱₀ (thr d i) none) Set.univ _ _ _ _ _ _
    (fun k acc => iprop(⌜acc = car k⌝ ∗ Transfers.MayWaits (thr d i) ι₀ O ∗ inv C O W k)) fun k acc => by
      iintro ⟨%hacc, #Hmw, HI⟩
      obtain rfl := hacc
      iapply (trip C O W k) $$ [HI]
      · isplitr; · iexact Hmw
        iexact HI
      iintro HI
      isplitr; · ipureintro; rfl
      isplitr; · iexact Hmw
      iexact HI)
  isplitl [Hx Hy Ht Hi1 Ho0 Ho1 HsI1 HsO0 HsO1 Hg HO Hf]
  · isplitr; · ipureintro; rfl
    isplitr; · iexact Hmw
    unfold inv invI invO
    rw [if_pos (by decide)]
    isplitl [Hf Hi1 HsI1 Hx]
    · isplitl [Hf]; · iexact Hf
      isplitl [Hi1]; · iexact Hi1
      isplitl [HsI1]; · iexact HsI1
      iexact Hx
    isplitl [Ho0 Ho1 HsO0 HsO1 Hy]
    · isplitl [Ho0]; · iexact Ho0
      isplitl [HsO0]; · iexact HsO0
      isplitl [Ho1]; · iexact Ho1
      isplitl [HsO1]; · iexact HsO1
      iexact Hy
    isplitl [Ht]; · iexact Ht
    isplitl [Hg]; · iexact Hg
    iexact HO
  iintro %acc ⟨%hacc, -, HI⟩
  obtain rfl : acc = car 8 := hacc
  rw [wp_bind]
  iapply (wp_assume 𝒱₀ (thr d i) none Set.univ (show k0_chk5 i (car 8).2.2.2.2 from chk5_ok i))
  rw [wp_ret]; imodintro
  rw [wp_bind]
  iapply (wp_assume 𝒱₀ (thr d i) none Set.univ (show k0_chk4 (car 8).2.2.2.1 from chk4_ok))
  rw [wp_ret]; imodintro
  rw [wp_pure]; imodintro
  rw [wp_bind]
  ihave HI' := (show inv C O W k0_t1_loop.trips ⊢ iprop((iAny F A d i 0 ∗ iS F A d i 0 ∗ iAny F A d i 1 ∗ iS F A d i 1 ∗ XR C Finset.univ)
      ∗ (flO C 1 (f8 7) ∗ oAny F A d i 0 ∗ oS F A d i 0 ∗ YR C 8 (Finset.univ.erase (f8 7))) ∗ tP C ∗ gS F A d i ∗ ow F d i O W) from by
    show inv C O W 8 ⊢ _
    unfold inv invI
    rw [if_neg (by decide)]
    exact Entails.rfl) $$ HI
  icases HI' with ⟨⟨Hi0, HsI0, Hi1, HsI1, Hx⟩, ⟨Hf, Ho0, HsO0, Hy⟩, Ht, Hg, HO⟩
  iapply (sent C (n := f8 7) (p := 1) (blk i 7) (blk_lt i (by decide)) (A.Y_eq _ _ (off19_eq i) _) (A.Os_eq 1 off20_eq _)) $$ [Hf HO]
  · isplitr; · iexact Hmw
    isplitl [Hf]; · iexact Hf
    iexact HO
  iintro ⟨Hy7, Ho1, HsO1, HO⟩
  rw [wp_pure]; imodintro
  unfold post
  isplitl [Hx]; · iexact Hx
  isplitl [Hy Hy7]
  · iapply (Entails.of_eq (show iprop(yP (f8 7) C.G ∗ YR C 8 (Finset.univ.erase (f8 7))) = YR C 8 Finset.univ by
      rw [YR_take C 8 (Finset.mem_univ (f8 7)), if_pos (by decide)]))
    isplitl [Hy7]; · iexact Hy7
    iexact Hy
  isplitl [Ht]; · iexact Ht
  isplitl [Hi0 Hi1]; · isplitl [Hi0] <;> iassumption
  isplitl [Ho0 Ho1]; · isplitl [Ho0] <;> iassumption
  isplitl [HsI0]; · iexact HsI0
  isplitl [HsI1]; · iexact HsI1
  isplitl [HsO0]; · iexact HsO0
  isplitl [HsO1]; · iexact HsO1
  isplitl [Hg]; · iexact Hg
  iexact HO

end Cert.Proof.Tile
-- ==== Proof.Calls.lean ====
/-
  The two calls of the gather kernel: what each is run on, what its index list and its result hold, how a call's arrays
  split into the blocks its thirty-two tasks handle, and how a tile's own buffers and semaphores are a task's slots.
-/
module

public import proofs.«01_k».proof.Proof.Trip

@[expose] public section

noncomputable section

namespace Cert.Proof.Tile

open Cert.Kernel Cert.Kernel.Gen
open Idealize.ShloMosaic Idealize.ShloMosaic.ValueIdx
open Idealize.ShloMosaic.SparseCore (S V T)
open Idealize.ShloMosaic.SparseCore.Cfg (HIx ownBufs ownSems0 ownCells ownRefs mem_ownCells)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 2) (Elt F) ℕ UU ℕ

/-! ## What the two calls are run on -/

/-- The first call: the first half of the index list. -/
def A0 : Args where
  tbl := Memref.whole main_arg0_scv
  htbl := Memref.isWhole_whole _
  idx := Memref.whole main_v7_scv
  hidx := Memref.isWhole_whole _
  out := Memref.whole main_v8_scv
  hout := Memref.isWhole_whole _
  ib := Memref.whole cc0_scoped0
  hib := Memref.isWhole_whole _
  is := cc0_scoped1
  ob := Memref.whole cc0_scoped2
  hob := Memref.isWhole_whole _
  os := cc0_scoped3
  gs := cc0_scoped4
  hcr := fun _ => rfl

/-- The second call: the second half. -/
def A1 : Args where
  tbl := Memref.whole main_arg0_scv
  htbl := Memref.isWhole_whole _
  idx := Memref.whole main_v16_scv
  hidx := Memref.isWhole_whole _
  out := Memref.whole main_v17_scv
  hout := Memref.isWhole_whole _
  ib := Memref.whole cc1_scoped0
  hib := Memref.isWhole_whole _
  is := cc1_scoped1
  ob := Memref.whole cc1_scoped2
  hob := Memref.isWhole_whole _
  os := cc1_scoped3
  gs := cc1_scoped4
  hcr := fun _ => rfl

/-! ## The blocks' places in their arrays -/

/-- Where block `b` of an index list starts. -/
abbrev rX (b : ℕ) (h : b < 256) : Rect S1x65536 := Rect.unit (s := S1x65536) ![0, 256 * b] S1x256.size (inbX b h)
/-- Where block `b` of a result starts. -/
abbrev rY (b : ℕ) (h : b < 256) : Rect S65536x128 := Rect.unit (s := S65536x128) ![256 * b, 0] S256x128.size (inbY b h)

/-- An entry's place in block `b` of an index list is its place in the whole list. -/
theorem emb_rX (b : ℕ) (h : b < 256) (x : S1x256.Idx) (k : Fin 65536) (hk : k.val = 256 * b + (x 1).val) :
    (rX b h).emb x = ix2 (0 : Fin 1) k := by
  refine funext fun a => Fin.ext ?_
  rw [Rect.emb_apply]
  match a with
  | 0 => show 0 + 1 * (x 0).val = 0; have : (x 0).val < 1 := (x 0).isLt; omega
  | 1 => show 256 * b + 1 * (x 1).val = k.val; omega

/-- An entry's place in block `b` of a result is its place in the whole result. -/
theorem emb_rY (b : ℕ) (h : b < 256) (x : S256x128.Idx) (k : Fin 65536) (hk : k.val = 256 * b + (x 0).val) :
    (rY b h).emb x = ix2 k (x 1 : Fin 128) := by
  refine funext fun a => Fin.ext ?_
  rw [Rect.emb_apply]
  match a with
  | 0 => show 256 * b + 1 * (x 0).val = k.val; omega
  | 1 => show 0 + 1 * (x 1).val = (x 1).val; omega

/-! ## What the arrays hold -/

/-- Row `r` of the result: the row of the table that entry `r` of the index list names. -/
def gat (tb : S32768x128.Idx → Elt F .i32) (ix : S1x65536.Idx → Elt F .i32) : S65536x128.Idx → Elt F .i32 := fun j =>
  tb (ix2 (⟨(ix (ix2 (0 : Fin 1) (j 0 : Fin 65536))).toNat % 32768, Nat.mod_lt _ (by decide)⟩ : Fin 32768) (j 1 : Fin 128))

variable (F) in
/-- A call's arrays on every device: the table, the index list, and the result as the call finds it; every index names a
    row of the table. -/
structure Data where
  tb : Dev nD → S32768x128.Idx → Elt F .i32
  ix : Dev nD → S1x65536.Idx → Elt F .i32
  ou : Dev nD → S65536x128.Idx → Elt F .i32
  hin : ∀ d j, (ix d j).toNat < 32768

/-- Task `i`'s share of the table. -/
def shr (i : grid0.Coords) : PosShare TreeShare :=
  pieceOf fullShare 32 (by decide) ⟨(i 1).val + 16 * (i 0).val, by
    have h0 : (i 0).val < 2 := (i 0).isLt
    have h1 : (i 1).val < 16 := (i 1).isLt
    omega⟩

/-- An entry of block `b` of the gathered rows is the table's, in the row that the index names. -/
theorem gat_at (tb : S32768x128.Idx → Elt F .i32) (ix : S1x65536.Idx → Elt F .i32) (hin : ∀ j, (ix j).toNat < 32768)
    (b : ℕ) (h : b < 256) (x : S256x128.Idx) (j : S32768x128.Idx)
    (h0 : (j 0).val = (ix ((rX b h).emb (ix2 (0 : Fin 1) (x 0 : Fin 256)))).toNat) (h1 : (j 1).val = (x 1).val) :
    gat tb ix ((rY b h).emb x) = tb j := by
  have hx : (x 0).val < 256 := (x 0).isLt
  have hk : 256 * b + (x 0).val < 65536 := by omega
  rw [emb_rX b h _ ⟨256 * b + (x 0).val, hk⟩ rfl] at h0
  rw [emb_rY b h _ ⟨256 * b + (x 0).val, hk⟩ rfl]
  unfold gat
  congr 1
  refine funext fun a => Fin.ext ?_
  match a with
  | 0 =>
    show (ix (ix2 (0 : Fin 1) (⟨256 * b + (x 0).val, hk⟩ : Fin 65536))).toNat % 32768 = (j 0).val
    rw [Nat.mod_eq_of_lt (hin _)]; exact h0.symm
  | 1 => exact h1.symm

/-- What task `i` of the first call is told. -/
def C0 (D : Data F) (d : Dev nD) (i : grid0.Coords) : Cont A0 d i F where
  fT := D.tb d
  fi := D.ix d
  fo := D.ou d
  G := gat (D.tb d) (D.ix d)
  q := shr i
  hin := fun n x => D.hin d ((rX (blk i n.val) (blk_lt i n.isLt)).emb x)
  hG := fun n x j h0 h1 => gat_at (D.tb d) (D.ix d) (D.hin d) (blk i n.val) (blk_lt i n.isLt) x j h0 h1

/-- What task `i` of the second call is told. -/
def C1 (D : Data F) (d : Dev nD) (i : grid0.Coords) : Cont A1 d i F where
  fT := D.tb d
  fi := D.ix d
  fo := D.ou d
  G := gat (D.tb d) (D.ix d)
  q := shr i
  hin := fun n x => D.hin d ((rX (blk i n.val) (blk_lt i n.isLt)).emb x)
  hG := fun n x j h0 h1 => gat_at (D.tb d) (D.ix d) (D.hin d) (blk i n.val) (blk_lt i n.isLt) x j h0 h1

/-! ## An array is its tasks' blocks -/

/-- The task at SparseCore `c`, subcore `j`. -/
def at2 (c : Fin 2) (j : Fin 16) : grid0.Coords :=
  fun | 0 => c | 1 => j | ⟨_ + 2, h⟩ => absurd h (Nat.not_lt.2 (Nat.le_add_left _ _))

/-- The number of a task's block, from its SparseCore, subcore and trip. -/
theorem blk_at2 (c : Fin 2) (j : Fin 16) (n : ℕ) : blk (at2 c j) n = n + 8 * (j.val + 16 * c.val) := rfl

/-- A whole array is, at once, the sets of a family of disjoint sets that cover it. -/
theorem split3 {ℓ : Loc nD τ sig} (B : Fin 2 → Fin 16 → Fin 8 → Finset (Idx ℓ))
    (hd : ∀ c j n c' j' n', blk (at2 c j) n.val ≠ blk (at2 c' j') n'.val → Disjoint (B c j n) (B c' j' n'))
    (hc : ∀ x, ∃ c j n, x ∈ B c j n) (f : Buf (Elt F) ℓ) :
    (ℓ ↦{fullShare} f : sProp 𝕄)
      = bigSep Finset.univ fun c : Fin 2 => bigSep Finset.univ fun j : Fin 16 => bigSep Finset.univ fun n : Fin 8 => ℓ ↦[B c j n]{fullShare} f := by
  have hu : (Finset.univ : Finset (Fin 2 × Fin 16 × Fin 8)).biUnion (fun t => B t.1 t.2.1 t.2.2) = Finset.univ := by
    ext x
    obtain ⟨c, j, n, h⟩ := hc x
    simp only [Finset.mem_biUnion, Finset.mem_univ, true_and, iff_true]
    exact ⟨(c, j, n), h⟩
  rw [← hu, pointsTo_biUnion, ← Finset.univ_product_univ, SparseCore.bigSep_product]
  · refine bigSep_congr fun c _ => ?_
    rw [← Finset.univ_product_univ, SparseCore.bigSep_product]
  · rintro ⟨c, j, n⟩ - ⟨c', j', n'⟩ - hne
    refine hd c j n c' j' n' fun e => hne ?_
    rw [blk_at2, blk_at2] at e
    have h1 := n.isLt; have h2 := n'.isLt; have h3 := j.isLt; have h4 := j'.isLt; have h5 := c.isLt; have h6 := c'.isLt
    exact Prod.ext (Fin.ext (by dsimp only; omega)) (Prod.ext (Fin.ext (by dsimp only; omega)) (Fin.ext (by dsimp only; omega)))

/-- Two different blocks of an index list do not meet. -/
theorem rX_disjoint {b b' : ℕ} (h : b < 256) (h' : b' < 256) (e : b ≠ b') : Disjoint (rX b h).set (rX b' h').set :=
  Rect.disjoint_of_separated _ _ 1 (by
    show (256 = 0 ∨ 256 * b + 1 * (256 - 1) < 256 * b') ∨ (256 = 0 ∨ 256 * b' + 1 * (256 - 1) < 256 * b)
    omega)
/-- Two different blocks of a result do not meet. -/
theorem rY_disjoint {b b' : ℕ} (h : b < 256) (h' : b' < 256) (e : b ≠ b') : Disjoint (rY b h).set (rY b' h').set :=
  Rect.disjoint_of_separated _ _ 0 (by
    show (256 = 0 ∨ 256 * b + 1 * (256 - 1) < 256 * b') ∨ (256 = 0 ∨ 256 * b' + 1 * (256 - 1) < 256 * b)
    omega)

/-- Row `r` is in the block of 256 rows it is in, of the task that has it. -/
theorem blk_cover (r : ℕ) (h : r < 65536) : ∃ c j, ∃ n : Fin 8, 256 * blk (at2 c j) n.val ≤ r ∧ r < 256 * blk (at2 c j) n.val + 256 :=
  ⟨⟨r / 32768, by omega⟩, ⟨r / 2048 % 16, by omega⟩, ⟨r / 256 % 8, by omega⟩, by rw [blk_at2]; dsimp only; omega, by rw [blk_at2]; dsimp only; omega⟩

/-- Every index lies in some task's block. -/
theorem rX_cover (x : S1x65536.Idx) : ∃ c j, ∃ n : Fin 8, x ∈ (rX (blk (at2 c j) n.val) (blk_lt _ n.isLt)).set := by
  have h0 : (x 0).val < 1 := (x 0).isLt
  obtain ⟨c, j, n, h1, h2⟩ := blk_cover (x 1).val (x 1).isLt
  refine ⟨c, j, n, Rect.mem_set_unit.mpr fun a => ?_⟩
  match a with
  | 0 => exact ⟨Nat.zero_le _, by show (x 0).val < 0 + 1; omega⟩
  | 1 => exact ⟨h1, h2⟩
/-- Every entry of a result lies in some task's block. -/
theorem rY_cover (x : S65536x128.Idx) : ∃ c j, ∃ n : Fin 8, x ∈ (rY (blk (at2 c j) n.val) (blk_lt _ n.isLt)).set := by
  have h0 : (x 1).val < 128 := (x 1).isLt
  obtain ⟨c, j, n, h1, h2⟩ := blk_cover (x 0).val (x 0).isLt
  refine ⟨c, j, n, Rect.mem_set_unit.mpr fun a => ?_⟩
  match a with
  | 0 => exact ⟨h1, h2⟩
  | 1 => exact ⟨Nat.zero_le _, by show (x 1).val < 0 + 128; omega⟩

/-! ## The slots of a tile's two buffers -/

/-- The two slots of the index buffer do not meet. -/
theorem slot_disjointI : Disjoint (Rect.unit (s := S2x1x256) ![(0 : Fin 2).val, 0, 0] S1x1x256.size (inbI 0)).set
    (Rect.unit (s := S2x1x256) ![(1 : Fin 2).val, 0, 0] S1x1x256.size (inbI 1)).set :=
  Rect.disjoint_of_separated _ _ 0 (Or.inl (Or.inr (by show 0 + 1 * (1 - 1) < 1; omega)))
/-- The two slots of the row buffer do not meet. -/
theorem slot_disjointO : Disjoint (Rect.unit (s := S2x256x128) ![(0 : Fin 2).val, 0, 0] S1x256x128.size (inbO 0)).set
    (Rect.unit (s := S2x256x128) ![(1 : Fin 2).val, 0, 0] S1x256x128.size (inbO 1)).set :=
  Rect.disjoint_of_separated _ _ 0 (Or.inl (Or.inr (by show 0 + 1 * (1 - 1) < 1; omega)))

/-- The two slots are the whole index buffer. -/
theorem slot_coverI : (Rect.unit (s := S2x1x256) ![(0 : Fin 2).val, 0, 0] S1x1x256.size (inbI 0)).set
    ∪ (Rect.unit (s := S2x1x256) ![(1 : Fin 2).val, 0, 0] S1x1x256.size (inbI 1)).set = Finset.univ := by
  refine Finset.eq_univ_iff_forall.mpr fun x => Finset.mem_union.mpr ?_
  have h0 : (x 0).val < 2 := (x 0).isLt
  have h1 : (x 1).val < 1 := (x 1).isLt
  have h2 : (x 2).val < 256 := (x 2).isLt
  by_cases h : (x 0).val = 0
  · refine Or.inl (Rect.mem_set_unit.mpr fun a => ?_)
    match a with
    | 0 => exact ⟨Nat.zero_le _, by show (x 0).val < 0 + 1; omega⟩
    | 1 => exact ⟨Nat.zero_le _, by show (x 1).val < 0 + 1; omega⟩
    | 2 => exact ⟨Nat.zero_le _, by show (x 2).val < 0 + 256; omega⟩
  · refine Or.inr (Rect.mem_set_unit.mpr fun a => ?_)
    match a with
    | 0 => exact ⟨by show 1 ≤ (x 0).val; omega, by show (x 0).val < 1 + 1; omega⟩
    | 1 => exact ⟨Nat.zero_le _, by show (x 1).val < 0 + 1; omega⟩
    | 2 => exact ⟨Nat.zero_le _, by show (x 2).val < 0 + 256; omega⟩
/-- The two slots are the whole row buffer. -/
theorem slot_coverO : (Rect.unit (s := S2x256x128) ![(0 : Fin 2).val, 0, 0] S1x256x128.size (inbO 0)).set
    ∪ (Rect.unit (s := S2x256x128) ![(1 : Fin 2).val, 0, 0] S1x256x128.size (inbO 1)).set = Finset.univ := by
  refine Finset.eq_univ_iff_forall.mpr fun x => Finset.mem_union.mpr ?_
  have h0 : (x 0).val < 2 := (x 0).isLt
  have h1 : (x 1).val < 256 := (x 1).isLt
  have h2 : (x 2).val < 128 := (x 2).isLt
  by_cases h : (x 0).val = 0
  · refine Or.inl (Rect.mem_set_unit.mpr fun a => ?_)
    match a with
    | 0 => exact ⟨Nat.zero_le _, by show (x 0).val < 0 + 1; omega⟩
    | 1 => exact ⟨Nat.zero_le _, by show (x 1).val < 0 + 256; omega⟩
    | 2 => exact ⟨Nat.zero_le _, by show (x 2).val < 0 + 128; omega⟩
  · refine Or.inr (Rect.mem_set_unit.mpr fun a => ?_)
    match a with
    | 0 => exact ⟨by show 1 ≤ (x 0).val; omega, by show (x 0).val < 1 + 1; omega⟩
    | 1 => exact ⟨Nat.zero_le _, by show (x 1).val < 0 + 256; omega⟩
    | 2 => exact ⟨Nat.zero_le _, by show (x 2).val < 0 + 128; omega⟩

/-- A whole buffer at some contents is two disjoint sets that cover it, each at some contents. -/
theorem two_slots {ℓ : Loc nD τ sig} {I J : Finset (Idx ℓ)} (hd : Disjoint I J) (hc : I ∪ J = Finset.univ) :
    (iprop(∃ f, ℓ ↦{fullShare} f) : sProp 𝕄) = iprop((∃ f, ℓ ↦[I]{fullShare} f) ∗ ∃ f, ℓ ↦[J]{fullShare} f) := by
  refine BI.Entails.antisymm (show iprop(∃ f, ℓ ↦{fullShare} f) ⊢ (iprop((∃ f, ℓ ↦[I]{fullShare} f) ∗ ∃ f, ℓ ↦[J]{fullShare} f) : sProp 𝕄) from ?_)
    (show (iprop((∃ f, ℓ ↦[I]{fullShare} f) ∗ ∃ f, ℓ ↦[J]{fullShare} f) : sProp 𝕄) ⊢ iprop(∃ f, ℓ ↦{fullShare} f) from ?_)
  · rw [← hc]
    iintro ⟨%f, H⟩
    ihave H' := (pointsTo_union hd).1 $$ H
    icases H' with ⟨H1, H2⟩
    isplitl [H1]
    · iexists f; iexact H1
    · iexists f; iexact H2
  · iintro ⟨⟨%f, H1⟩, ⟨%g, H2⟩⟩
    ihave H := (pointsTo_join hd) $$ [H1 H2]
    · isplitl [H1] <;> iassumption
    iexists (J.piecewise g f)
    rw [hc]
    iexact H

end Cert.Proof.Tile

end
-- ==== Proof.Tiles.lean ====
/-
  A call's task on its tile: a call's three arrays are, at once, what its thirty-two tasks start from; a tile's own buffers
  and semaphores are its task's slots; and the task's run, from what the tile is handed to what it hands back.
-/
module

public import proofs.«01_k».proof.Proof.Calls

@[expose] public section

noncomputable section

namespace Cert.Proof.Tile

open Cert.Kernel Cert.Kernel.Gen
open Idealize.ShloMosaic Idealize.ShloMosaic.ValueIdx
open Idealize.ShloMosaic.SparseCore (S V T)
open Idealize.ShloMosaic.SparseCore.Cfg (HIx ownBufs ownSems0 ownCells ownRefs mem_ownCells)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 2) (Elt F) ℕ UU ℕ

/-- The table, and the calls' index lists and results, on device `d`. -/
abbrev lT (d : Dev nD) : Loc nD τ sig := (SparseCore.T d).loc main_arg0
/-- The first call's index list. -/
abbrev lX0 (d : Dev nD) : Loc nD τ sig := (SparseCore.T d).loc main_v7
/-- The first call's result. -/
abbrev lY0 (d : Dev nD) : Loc nD τ sig := (SparseCore.T d).loc main_v8
/-- The second call's index list. -/
abbrev lX1 (d : Dev nD) : Loc nD τ sig := (SparseCore.T d).loc main_v16
/-- The second call's result. -/
abbrev lY1 (d : Dev nD) : Loc nD τ sig := (SparseCore.T d).loc main_v17

/-! ## What a task is handed -/

/-- A task's blocks of its call's index list and result, and its share of the table; its blocks of the result done when
    `t` is 8. -/
def res {A : Args} {d : Dev nD} {i : grid0.Coords} (C : Cont A d i F) (t : ℕ) : sProp 𝕄 :=
  iprop(XR C Finset.univ ∗ YR C t Finset.univ ∗ tP C)

/-- A call's three arrays, at given contents. -/
def arr (lt li lo : Loc nD τ sig) (ft : Buf (Elt F) lt) (fi : Buf (Elt F) li) (fo : Buf (Elt F) lo) : sProp 𝕄 :=
  iprop((li ↦{fullShare} fi) ∗ (lo ↦{fullShare} fo) ∗ lt ↦{fullShare} ft)

/-- The table is, at once, its tasks' shares of it. -/
theorem tbl_split {lt : Loc nD τ sig} (f : Buf (Elt F) lt) :
    (lt ↦{fullShare} f : sProp 𝕄) = bigSep Finset.univ fun c : Fin 2 => bigSep Finset.univ fun j : Fin 16 => lt ↦{shr (at2 c j)} f := by
  rw [pointsTo_piecesOf Finset.univ f (show 0 < 32 by decide) fullShare,
    bigSep_univ_equiv (finProdFinEquiv : Fin 2 × Fin 16 ≃ Fin 32), ← Finset.univ_product_univ, SparseCore.bigSep_product]
  refine bigSep_congr fun c _ => bigSep_congr fun j _ => ?_
  rw [show finProdFinEquiv (c, j) = (⟨j.val + 16 * c.val, by have := c.isLt; have := j.isLt; omega⟩ : Fin 32) from rfl]
  rfl

/-- Block `n` of a task in the first call's index list. -/
theorem set_X0 (i : grid0.Coords) (n : Fin 8) : (A0.Xn i n).view.set = (rX (blk i n.val) (blk_lt i n.isLt)).set := by
  show ((View.whole (main_v7_scv : Ref sig .scVector)).slice (rX (blk i n.val) (blk_lt i n.isLt))).set = (rX (blk i n.val) (blk_lt i n.isLt)).set
  rw [View.set_slice]; exact Finset.map_refl
/-- Block `n` of a task in the first call's result. -/
theorem set_Y0 (i : grid0.Coords) (n : Fin 8) : (A0.Yn i n).view.set = (rY (blk i n.val) (blk_lt i n.isLt)).set := by
  show ((View.whole (main_v8_scv : Ref sig .scVector)).slice (rY (blk i n.val) (blk_lt i n.isLt))).set = (rY (blk i n.val) (blk_lt i n.isLt)).set
  rw [View.set_slice]; exact Finset.map_refl
/-- Block `n` of a task in the second call's index list. -/
theorem set_X1 (i : grid0.Coords) (n : Fin 8) : (A1.Xn i n).view.set = (rX (blk i n.val) (blk_lt i n.isLt)).set := by
  show ((View.whole (main_v16_scv : Ref sig .scVector)).slice (rX (blk i n.val) (blk_lt i n.isLt))).set = (rX (blk i n.val) (blk_lt i n.isLt)).set
  rw [View.set_slice]; exact Finset.map_refl
/-- Block `n` of a task in the second call's result. -/
theorem set_Y1 (i : grid0.Coords) (n : Fin 8) : (A1.Yn i n).view.set = (rY (blk i n.val) (blk_lt i n.isLt)).set := by
  show ((View.whole (main_v17_scv : Ref sig .scVector)).slice (rY (blk i n.val) (blk_lt i n.isLt))).set = (rY (blk i n.val) (blk_lt i n.isLt)).set
  rw [View.set_slice]; exact Finset.map_refl

/-- The table as the gather addresses it is the whole table. -/
theorem set_Tb0 : A0.Tb.view.set = Finset.univ := by
  show ((View.whole (main_arg0_scv : Ref sig .scVector)).slice _).set = _
  rw [View.set_slice]
  refine Finset.eq_univ_iff_forall.mpr fun x => Finset.mem_map.mpr ⟨x, Rect.mem_set_unit.mpr fun a => ?_, rfl⟩
  match a with
  | 0 => exact ⟨Nat.zero_le _, by have h : (x 0).val < 32768 := (x 0).isLt; show (x 0).val < 0 + 32768; omega⟩
  | 1 => exact ⟨Nat.zero_le _, by have h : (x 1).val < 128 := (x 1).isLt; show (x 1).val < 0 + 128; omega⟩

/-- Different blocks of the first call's index list share nothing. -/
theorem dX0 (c : Fin 2) (j : Fin 16) (n : Fin 8) (c' : Fin 2) (j' : Fin 16) (n' : Fin 8) (e : blk (at2 c j) n.val ≠ blk (at2 c' j') n'.val) :
    Disjoint (A0.Xn (at2 c j) n).view.set (A0.Xn (at2 c' j') n').view.set := by
  rw [set_X0, set_X0]; exact rX_disjoint _ _ e
/-- Its blocks are all of it. -/
theorem uX0 (x : S1x65536.Idx) : ∃ c j n, x ∈ (A0.Xn (at2 c j) n).view.set := by
  obtain ⟨c, j, n, h⟩ := rX_cover x
  exact ⟨c, j, n, (set_X0 (at2 c j) n).symm ▸ h⟩
/-- The first call's index list is its tasks' blocks. -/
theorem X0_split (d : Dev nD) (f : Buf (Elt F) (lX0 d)) :
    (lX0 d ↦{fullShare} f : sProp 𝕄) = bigSep Finset.univ fun c : Fin 2 => bigSep Finset.univ fun j : Fin 16 =>
      bigSep Finset.univ fun n : Fin 8 => lX0 d ↦[(A0.Xn (at2 c j) n).view.set]{fullShare} f :=
  split3 (ℓ := lX0 d) (fun c j n => (A0.Xn (at2 c j) n).view.set) dX0 uX0 f

/-- Different blocks of the first call's result share nothing. -/
theorem dY0 (c : Fin 2) (j : Fin 16) (n : Fin 8) (c' : Fin 2) (j' : Fin 16) (n' : Fin 8) (e : blk (at2 c j) n.val ≠ blk (at2 c' j') n'.val) :
    Disjoint (A0.Yn (at2 c j) n).view.set (A0.Yn (at2 c' j') n').view.set := by
  rw [set_Y0, set_Y0]; exact rY_disjoint _ _ e
/-- Its blocks are all of it. -/
theorem uY0 (x : S65536x128.Idx) : ∃ c j n, x ∈ (A0.Yn (at2 c j) n).view.set := by
  obtain ⟨c, j, n, h⟩ := rY_cover x
  exact ⟨c, j, n, (set_Y0 (at2 c j) n).symm ▸ h⟩
/-- The first call's result is its tasks' blocks. -/
theorem Y0_split (d : Dev nD) (f : Buf (Elt F) (lY0 d)) :
    (lY0 d ↦{fullShare} f : sProp 𝕄) = bigSep Finset.univ fun c : Fin 2 => bigSep Finset.univ fun j : Fin 16 =>
      bigSep Finset.univ fun n : Fin 8 => lY0 d ↦[(A0.Yn (at2 c j) n).view.set]{fullShare} f :=
  split3 (ℓ := lY0 d) (fun c j n => (A0.Yn (at2 c j) n).view.set) dY0 uY0 f

/-- Different blocks of the second call's index list share nothing. -/
theorem dX1 (c : Fin 2) (j : Fin 16) (n : Fin 8) (c' : Fin 2) (j' : Fin 16) (n' : Fin 8) (e : blk (at2 c j) n.val ≠ blk (at2 c' j') n'.val) :
    Disjoint (A1.Xn (at2 c j) n).view.set (A1.Xn (at2 c' j') n').view.set := by
  rw [set_X1, set_X1]; exact rX_disjoint _ _ e
/-- Its blocks are all of it. -/
theorem uX1 (x : S1x65536.Idx) : ∃ c j n, x ∈ (A1.Xn (at2 c j) n).view.set := by
  obtain ⟨c, j, n, h⟩ := rX_cover x
  exact ⟨c, j, n, (set_X1 (at2 c j) n).symm ▸ h⟩
/-- The second call's index list is its tasks' blocks. -/
theorem X1_split (d : Dev nD) (f : Buf (Elt F) (lX1 d)) :
    (lX1 d ↦{fullShare} f : sProp 𝕄) = bigSep Finset.univ fun c : Fin 2 => bigSep Finset.univ fun j : Fin 16 =>
      bigSep Finset.univ fun n : Fin 8 => lX1 d ↦[(A1.Xn (at2 c j) n).view.set]{fullShare} f :=
  split3 (ℓ := lX1 d) (fun c j n => (A1.Xn (at2 c j) n).view.set) dX1 uX1 f

/-- Different blocks of the second call's result share nothing. -/
theorem dY1 (c : Fin 2) (j : Fin 16) (n : Fin 8) (c' : Fin 2) (j' : Fin 16) (n' : Fin 8) (e : blk (at2 c j) n.val ≠ blk (at2 c' j') n'.val) :
    Disjoint (A1.Yn (at2 c j) n).view.set (A1.Yn (at2 c' j') n').view.set := by
  rw [set_Y1, set_Y1]; exact rY_disjoint _ _ e
/-- Its blocks are all of it. -/
theorem uY1 (x : S65536x128.Idx) : ∃ c j n, x ∈ (A1.Yn (at2 c j) n).view.set := by
  obtain ⟨c, j, n, h⟩ := rY_cover x
  exact ⟨c, j, n, (set_Y1 (at2 c j) n).symm ▸ h⟩
/-- The second call's result is its tasks' blocks. -/
theorem Y1_split (d : Dev nD) (f : Buf (Elt F) (lY1 d)) :
    (lY1 d ↦{fullShare} f : sProp 𝕄) = bigSep Finset.univ fun c : Fin 2 => bigSep Finset.univ fun j : Fin 16 =>
      bigSep Finset.univ fun n : Fin 8 => lY1 d ↦[(A1.Yn (at2 c j) n).view.set]{fullShare} f :=
  split3 (ℓ := lY1 d) (fun c j n => (A1.Yn (at2 c j) n).view.set) dY1 uY1 f

/-- Before any block is done every block of the result is as the call found it. -/
theorem YR_zero {A : Args} {d : Dev nD} {i : grid0.Coords} (C : Cont A d i F) : YR C 0 Finset.univ = bigSep Finset.univ fun n => yP n C.fo :=
  bigSep_congr fun n _ => by rw [if_neg (Nat.not_lt_zero _)]
/-- After the last every block holds its rows. -/
theorem YR_eight {A : Args} {d : Dev nD} {i : grid0.Coords} (C : Cont A d i F) : YR C 8 Finset.univ = bigSep Finset.univ fun n => yP n C.G :=
  bigSep_congr fun n _ => by rw [if_pos n.isLt]

/-- What a call's tasks hold, regrouped: the blocks of the index list, those of the result, the shares of the table. -/
theorem res_split {A : Args} {d : Dev nD} (C : (c : Fin 2) → (j : Fin 16) → Cont A d (at2 c j) F) (t : ℕ) :
    (bigSep Finset.univ fun c : Fin 2 => bigSep Finset.univ fun j : Fin 16 => res (C c j) t)
      = iprop((bigSep Finset.univ fun c : Fin 2 => bigSep Finset.univ fun j : Fin 16 => XR (C c j) Finset.univ)
          ∗ (bigSep Finset.univ fun c : Fin 2 => bigSep Finset.univ fun j : Fin 16 => YR (C c j) t Finset.univ)
          ∗ bigSep Finset.univ fun c : Fin 2 => bigSep Finset.univ fun j : Fin 16 => tP (C c j)) := by
  simp only [res, bigSep_sep']

/-- The table is its tasks' shares. -/
theorem T0_split (D : Data F) (d : Dev nD) : (lT d ↦{fullShare} D.tb d : sProp 𝕄)
    = bigSep Finset.univ fun c : Fin 2 => bigSep Finset.univ fun j : Fin 16 => tP (C0 D d (at2 c j)) := by
  refine (tbl_split (lt := lT d) (D.tb d)).trans (bigSep_congr fun c _ => bigSep_congr fun j _ => ?_)
  show _ = ((lT d : Loc nD τ sig) ↦[A0.Tb.view.set]{shr (at2 c j)} D.tb d : sProp 𝕄)
  rw [show A0.Tb.view.set = Finset.univ from set_Tb0]
  rfl
/-- The first call's arrays are, at once, what its tasks start from. -/
theorem arr0_start (D : Data F) (d : Dev nD) :
    (arr (lT d) (lX0 d) (lY0 d) (D.tb d) (D.ix d) (D.ou d) : sProp 𝕄)
      = bigSep Finset.univ fun c : Fin 2 => bigSep Finset.univ fun j : Fin 16 => res (C0 D d (at2 c j)) 0 := by
  rw [res_split (fun c j => C0 D d (at2 c j)) 0]
  unfold arr
  simp only [YR_zero]
  rw [T0_split D d, X0_split d (D.ix d), Y0_split d (D.ou d)]
  rfl
/-- What its tasks end with is, at once, the call's arrays, the result holding its rows. -/
theorem arr0_end (D : Data F) (d : Dev nD) :
    (arr (lT d) (lX0 d) (lY0 d) (D.tb d) (D.ix d) (gat (D.tb d) (D.ix d)) : sProp 𝕄)
      = bigSep Finset.univ fun c : Fin 2 => bigSep Finset.univ fun j : Fin 16 => res (C0 D d (at2 c j)) 8 := by
  rw [res_split (fun c j => C0 D d (at2 c j)) 8]
  unfold arr
  simp only [YR_eight]
  rw [T0_split D d, X0_split d (D.ix d), Y0_split d (gat (D.tb d) (D.ix d))]
  rfl

/-- The table is its tasks' shares. -/
theorem T1_split (D : Data F) (d : Dev nD) : (lT d ↦{fullShare} D.tb d : sProp 𝕄)
    = bigSep Finset.univ fun c : Fin 2 => bigSep Finset.univ fun j : Fin 16 => tP (C1 D d (at2 c j)) := by
  refine (tbl_split (lt := lT d) (D.tb d)).trans (bigSep_congr fun c _ => bigSep_congr fun j _ => ?_)
  show _ = ((lT d : Loc nD τ sig) ↦[A1.Tb.view.set]{shr (at2 c j)} D.tb d : sProp 𝕄)
  rw [show A1.Tb.view.set = Finset.univ from set_Tb0]
  rfl
/-- The second call's arrays are, at once, what its tasks start from. -/
theorem arr1_start (D : Data F) (d : Dev nD) :
    (arr (lT d) (lX1 d) (lY1 d) (D.tb d) (D.ix d) (D.ou d) : sProp 𝕄)
      = bigSep Finset.univ fun c : Fin 2 => bigSep Finset.univ fun j : Fin 16 => res (C1 D d (at2 c j)) 0 := by
  rw [res_split (fun c j => C1 D d (at2 c j)) 0]
  unfold arr
  simp only [YR_zero]
  rw [T1_split D d, X1_split d (D.ix d), Y1_split d (D.ou d)]
  rfl
/-- What its tasks end with is, at once, the call's arrays, the result holding its rows. -/
theorem arr1_end (D : Data F) (d : Dev nD) :
    (arr (lT d) (lX1 d) (lY1 d) (D.tb d) (D.ix d) (gat (D.tb d) (D.ix d)) : sProp 𝕄)
      = bigSep Finset.univ fun c : Fin 2 => bigSep Finset.univ fun j : Fin 16 => res (C1 D d (at2 c j)) 8 := by
  rw [res_split (fun c j => C1 D d (at2 c j)) 8]
  unfold arr
  simp only [YR_eight]
  rw [T1_split D d, X1_split d (D.ix d), Y1_split d (gat (D.tb d) (D.ix d))]
  rfl

/-! ## A tile's own buffers and semaphores -/

/-- A slot of the first call's index buffer. -/
theorem set_I0 (p : Fin 2) : (A0.I p).view.set = (Rect.unit (s := S2x1x256) ![p.val, 0, 0] S1x1x256.size (inbI p)).set := by
  show (((View.whole (cc0_scoped0 : Ref sig .scVector)).slice (Rect.unit (s := S2x1x256) ![p.val, 0, 0] S1x1x256.size (inbI p))).reshape S1x256 squeezes_S1x1x256_S1x256.numel_eq).set
    = (Rect.unit (s := S2x1x256) ![p.val, 0, 0] S1x1x256.size (inbI p)).set
  rw [View.set_reshape, View.set_slice]; exact Finset.map_refl
/-- A slot of the first call's row buffer. -/
theorem set_O0 (p : Fin 2) : (A0.O p).view.set = (Rect.unit (s := S2x256x128) ![p.val, 0, 0] S1x256x128.size (inbO p)).set := by
  show (((View.whole (cc0_scoped2 : Ref sig .scVector)).slice (Rect.unit (s := S2x256x128) ![p.val, 0, 0] S1x256x128.size (inbO p))).reshape S256x128 squeezes_S1x256x128_S256x128.numel_eq).set
    = (Rect.unit (s := S2x256x128) ![p.val, 0, 0] S1x256x128.size (inbO p)).set
  rw [View.set_reshape, View.set_slice]; exact Finset.map_refl
/-- A slot of the second call's index buffer. -/
theorem set_I1 (p : Fin 2) : (A1.I p).view.set = (Rect.unit (s := S2x1x256) ![p.val, 0, 0] S1x1x256.size (inbI p)).set := by
  show (((View.whole (cc1_scoped0 : Ref sig .scVector)).slice (Rect.unit (s := S2x1x256) ![p.val, 0, 0] S1x1x256.size (inbI p))).reshape S1x256 squeezes_S1x1x256_S1x256.numel_eq).set
    = (Rect.unit (s := S2x1x256) ![p.val, 0, 0] S1x1x256.size (inbI p)).set
  rw [View.set_reshape, View.set_slice]; exact Finset.map_refl
/-- A slot of the second call's row buffer. -/
theorem set_O1 (p : Fin 2) : (A1.O p).view.set = (Rect.unit (s := S2x256x128) ![p.val, 0, 0] S1x256x128.size (inbO p)).set := by
  show (((View.whole (cc1_scoped2 : Ref sig .scVector)).slice (Rect.unit (s := S2x256x128) ![p.val, 0, 0] S1x256x128.size (inbO p))).reshape S256x128 squeezes_S1x256x128_S256x128.numel_eq).set
    = (Rect.unit (s := S2x256x128) ![p.val, 0, 0] S1x256x128.size (inbO p)).set
  rw [View.set_reshape, View.set_slice]; exact Finset.map_refl
/-- The first call's index buffer is its two slots. -/
theorem iBuf0 (d : Dev nD) (i : grid0.Coords) : (iprop(∃ f, (thr d i).loc cc0_scoped0 ↦{fullShare} f) : sProp 𝕄) = iprop(iAny F A0 d i 0 ∗ iAny F A0 d i 1) := by
  have hd : Disjoint (A0.I 0).view.set (A0.I 1).view.set := by rw [set_I0, set_I0]; exact slot_disjointI
  have hc : (A0.I 0).view.set ∪ (A0.I 1).view.set = Finset.univ := by rw [set_I0, set_I0]; exact slot_coverI
  exact two_slots (ℓ := (thr d i).loc cc0_scoped0) hd hc
/-- The first call's row buffer is its two slots. -/
theorem oBuf0 (d : Dev nD) (i : grid0.Coords) : (iprop(∃ f, (thr d i).loc cc0_scoped2 ↦{fullShare} f) : sProp 𝕄) = iprop(oAny F A0 d i 0 ∗ oAny F A0 d i 1) := by
  have hd : Disjoint (A0.O 0).view.set (A0.O 1).view.set := by rw [set_O0, set_O0]; exact slot_disjointO
  have hc : (A0.O 0).view.set ∪ (A0.O 1).view.set = Finset.univ := by rw [set_O0, set_O0]; exact slot_coverO
  exact two_slots (ℓ := (thr d i).loc cc0_scoped2) hd hc
/-- The second call's index buffer is its two slots. -/
theorem iBuf1 (d : Dev nD) (i : grid0.Coords) : (iprop(∃ f, (thr d i).loc cc1_scoped0 ↦{fullShare} f) : sProp 𝕄) = iprop(iAny F A1 d i 0 ∗ iAny F A1 d i 1) := by
  have hd : Disjoint (A1.I 0).view.set (A1.I 1).view.set := by rw [set_I1, set_I1]; exact slot_disjointI
  have hc : (A1.I 0).view.set ∪ (A1.I 1).view.set = Finset.univ := by rw [set_I1, set_I1]; exact slot_coverI
  exact two_slots (ℓ := (thr d i).loc cc1_scoped0) hd hc
/-- The second call's row buffer is its two slots. -/
theorem oBuf1 (d : Dev nD) (i : grid0.Coords) : (iprop(∃ f, (thr d i).loc cc1_scoped2 ↦{fullShare} f) : sProp 𝕄) = iprop(oAny F A1 d i 0 ∗ oAny F A1 d i 1) := by
  have hd : Disjoint (A1.O 0).view.set (A1.O 1).view.set := by rw [set_O1, set_O1]; exact slot_disjointO
  have hc : (A1.O 0).view.set ∪ (A1.O 1).view.set = Finset.univ := by rw [set_O1, set_O1]; exact slot_coverO
  exact two_slots (ℓ := (thr d i).loc cc1_scoped2) hd hc

/-- Two of a tile's buffers are among its own: its own are they, at some contents, and others. -/
theorem own_two (d : Dev nD) (i : grid0.Coords) (r r' : Ref sig .scVector) (hne : r' ≠ r)
    (hr : ((Proc.scVector (cV i) (jV i)).devRef r : DevRef τ sig).owner = .proc (.scVector (cV i) (jV i)))
    (hr' : ((Proc.scVector (cV i) (jV i)).devRef r' : DevRef τ sig).owner = .proc (.scVector (cV i) (jV i))) :
    ∃ R : sProp 𝕄, (ownBufs (thr d i) : sProp 𝕄)
      = iprop((∃ f, (thr d i).loc r ↦{fullShare} f) ∗ (∃ f, (thr d i).loc r' ↦{fullShare} f) ∗ R) := by
  refine ⟨bigSep (((ownRefs (τ := τ) (.scVector (cV i) (jV i))).erase ((Proc.scVector (cV i) (jV i)).devRef r)).erase
      ((Proc.scVector (cV i) (jV i)).devRef r')) fun b => iprop(∃ f, ((d, b) : Loc nD τ sig) ↦{fullShare} f), ?_⟩
  unfold SparseCore.Cfg.ownBufs
  refine (SparseCore.bigSep_erase' (SparseCore.Cfg.mem_ownRefs_of_owner (p := Proc.scVector (cV i) (jV i))
    (b := (Proc.scVector (cV i) (jV i)).devRef r) hr)).trans ?_
  rw [SparseCore.bigSep_erase' (Finset.mem_erase.mpr ⟨fun e => hne (Proc.devRef_injective _ e),
    SparseCore.Cfg.mem_ownRefs_of_owner (p := Proc.scVector (cV i) (jV i)) (b := (Proc.scVector (cV i) (jV i)).devRef r') hr'⟩)]

/-- Five of a tile's semaphores are among its own: its own at zero are they at zero, and others. -/
theorem own_five (d : Dev nD) (i : grid0.Coords) (a b c e g : DmaSem sig)
    (hab : b ≠ a) (hac : c ≠ a) (hae : e ≠ a) (hag : g ≠ a) (hbc : c ≠ b) (hbe : e ≠ b) (hbg : g ≠ b) (hce : e ≠ c) (hcg : g ≠ c) (heg : g ≠ e)
    (hs : ∀ s : DmaSem sig, (SemLoc.dma s : SemLoc sig).isScoped .scVector = true) :
    ∃ R : sProp 𝕄, (ownSems0 (thr d i) : sProp 𝕄)
      = iprop(semVal (thr d i, .dma a) 0 ∗ semVal (thr d i, .dma b) 0 ∗ semVal (thr d i, .dma c) 0 ∗ semVal (thr d i, .dma e) 0
          ∗ semVal (thr d i, .dma g) 0 ∗ R) := by
  have hm : ∀ s : DmaSem sig, ((thr d i, .dma s) : GSem nD τ sig) ∈ ownCells (thr d i) := fun s => mem_ownCells.mpr ⟨rfl, hs s⟩
  have hn : ∀ {s s' : DmaSem sig}, s' ≠ s → ((thr d i, .dma s') : GSem nD τ sig) ≠ (thr d i, .dma s) := fun h e =>
    h (SemLoc.dma.inj (Prod.mk.inj e).2)
  refine ⟨bigSep ((((((ownCells (thr d i)).erase (thr d i, .dma a)).erase (thr d i, .dma b)).erase (thr d i, .dma c)).erase (thr d i, .dma e)).erase
    (thr d i, .dma g)) fun x => semVal x 0, ?_⟩
  unfold SparseCore.Cfg.ownSems0
  rw [SparseCore.bigSep_erase' (hm a),
    SparseCore.bigSep_erase' (Finset.mem_erase.mpr ⟨hn hab, hm b⟩),
    SparseCore.bigSep_erase' (Finset.mem_erase.mpr ⟨hn hbc, Finset.mem_erase.mpr ⟨hn hac, hm c⟩⟩),
    SparseCore.bigSep_erase' (Finset.mem_erase.mpr ⟨hn hce, Finset.mem_erase.mpr ⟨hn hbe, Finset.mem_erase.mpr ⟨hn hae, hm e⟩⟩⟩),
    SparseCore.bigSep_erase' (Finset.mem_erase.mpr ⟨hn heg, Finset.mem_erase.mpr ⟨hn hcg, Finset.mem_erase.mpr ⟨hn hbg, Finset.mem_erase.mpr ⟨hn hag, hm g⟩⟩⟩⟩)]

/-- A tile's own buffers and semaphores are a task's slots, and others. -/
def Own (A : Args) (d : Dev nD) (i : grid0.Coords) : Prop :=
  (∃ R : sProp 𝕄, (ownBufs (thr d i) : sProp 𝕄) = iprop((iAny F A d i 0 ∗ iAny F A d i 1) ∗ (oAny F A d i 0 ∗ oAny F A d i 1) ∗ R))
    ∧ ∃ R : sProp 𝕄, (ownSems0 (thr d i) : sProp 𝕄)
      = iprop(iS F A d i 0 ∗ iS F A d i 1 ∗ oS F A d i 0 ∗ oS F A d i 1 ∗ gS F A d i ∗ R)

/-- Every transfer semaphore is a task's own. -/
theorem dma_scoped : ∀ s : DmaSem sig, (SemLoc.dma s : SemLoc sig).isScoped .scVector = true := by decide

/-- A task of the first call starts with its buffers' slots and their semaphores. -/
theorem own0 (d : Dev nD) (i : grid0.Coords) : Own (F := F) A0 d i := by
  constructor
  · obtain ⟨R, h⟩ := own_two (F := F) d i cc0_scoped0 cc0_scoped2 (by decide) rfl rfl
    exact ⟨R, by rw [h, iBuf0, oBuf0]⟩
  · exact own_five (F := F) d i (A0.Is 0) (A0.Is 1) (A0.Os 0) (A0.Os 1) A0.gs.sem (by decide) (by decide) (by decide) (by decide) (by decide)
      (by decide) (by decide) (by decide) (by decide) (by decide) dma_scoped
/-- A task of the second call starts with its buffers' slots and their semaphores. -/
theorem own1 (d : Dev nD) (i : grid0.Coords) : Own (F := F) A1 d i := by
  constructor
  · obtain ⟨R, h⟩ := own_two (F := F) d i cc1_scoped0 cc1_scoped2 (by decide) rfl rfl
    exact ⟨R, by rw [h, iBuf1, oBuf1]⟩
  · exact own_five (F := F) d i (A1.Is 0) (A1.Is 1) (A1.Os 0) (A1.Os 1) A1.gs.sem (by decide) (by decide) (by decide) (by decide) (by decide)
      (by decide) (by decide) (by decide) (by decide) (by decide) dma_scoped

end Cert.Proof.Tile

end
-- ==== Proof.Launch.lean ====
/-
  The gather program's launch: what its two calls hand their tasks and get back, each task's obligation, and the ghost state
  the launch starts from.
-/
module

public import proofs.«01_k».proof.Proof.Tiles

@[expose] public section

noncomputable section

namespace Cert.Proof.Tile

open Cert.Kernel Cert.Kernel.Gen
open Idealize.ShloMosaic Idealize.ShloMosaic.ValueIdx
open Idealize.ShloMosaic.SparseCore (S V T)
open Idealize.ShloMosaic.SparseCore.Cfg (HIx Pay ownBufs ownSems0)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 2) (Elt F) ℕ UU ℕ

/-! ## The program as the launch sees it -/

/-- The labels, pipelines included; there are none. -/
abbrev ΛP : Labels := Pipeline.Sig Λ₀ (Fin 0) fun p => (pcfgs (F := F) p).Adm
/-- The two calls' configuration. -/
abbrev K : SparseCore.Cfg τ sig (ΛP (F := F)) 2 := sc (F := F)
/-- The kernels' bodies. -/
abbrev D : Defs nD τ sig (Elt F) (ΛP (F := F)) := Pipeline.defs pcfgs defs₀
/-- No loop needs a variant. -/
abbrev 𝒱 : Variants := 𝒱₀.lift
/-- The variant at the start. -/
abbrev v₀ : 𝒱.V := Sum.inl none
/-- Where the handshakes' ghost state lies. -/
abbrev EH : Emb UH 𝕄 := embL

/-- The handshake semaphores are the launch's own, and no array is a SparseCore's. -/
theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-- Both calls run on two SparseCores' sixteen subcores. -/
theorem nCore_eq (q : Fin 2) : (K (F := F)).nCore q = 2 := match q with | 0 => rfl | 1 => rfl
/-- Each SparseCore runs sixteen tasks. -/
theorem nSub_eq (q : Fin 2) : (K (F := F)).nSub q = 16 := match q with | 0 => rfl | 1 => rfl

/-! ## What the calls carry -/

variable (D0 D1 : Data F)

/-- What task `(c, j)` of call `q` holds: its blocks done when `t` is 8. -/
def tk (t : ℕ) (q : Fin 2) (d : Dev nD) (c : Fin 2) (j : Fin 16) : sProp 𝕄 :=
  match q with
  | 0 => res (C0 D0 d (at2 c j)) t
  | 1 => res (C1 D1 d (at2 c j)) t

/-- A part of an array at given contents can be handed over. -/
theorem pts_storable (ℓ : Loc nD τ sig) (I : Finset (Idx ℓ)) (q : PosShare TreeShare) (f : Buf (Elt F) ℓ) :
    BI.Storable (upEmb : UEmb _ 𝕄) (ℓ ↦[I]{q} f) := inferInstance
instance res_storable {A : Args} {d : Dev nD} {i : grid0.Coords} (C : Cont A d i F) (t : ℕ) : BI.Storable (upEmb : UEmb _ 𝕄) (res C t) := by
  have hx : ∀ n, BI.Storable (upEmb : UEmb _ 𝕄) (xP C n) := fun n => pts_storable (F := F) _ _ _ _
  have hy : ∀ (n : Fin 8) f, BI.Storable (upEmb : UEmb _ 𝕄) (yP (A := A) (d := d) (i := i) n f) := fun n f => pts_storable (F := F) _ _ _ _
  have ht : BI.Storable (upEmb : UEmb _ 𝕄) (tP C) := pts_storable (F := F) _ _ _ _
  unfold res XR YR; infer_instance
instance tk_storable (t : ℕ) (q : Fin 2) (d : Dev nD) (c : Fin 2) (j : Fin 16) : BI.Storable (upEmb : UEmb _ 𝕄) (tk D0 D1 t q d c j) :=
  match q with
  | 0 => res_storable (C0 D0 d (at2 c j)) t
  | 1 => res_storable (C1 D1 d (at2 c j)) t

/-- A call hands each SparseCore its tasks' shares, each task its own, and gets them back with the task's blocks done. -/
def P : (K (F := F)).Pay (nD := nD) (Val := Elt F) (Name := ℕ) (U := UU) where
  st := fun q d c => bigSep Finset.univ fun j : Fin ((K (F := F)).nSub q) => tk D0 D1 0 q d (Fin.cast (nCore_eq q) c) (Fin.cast (nSub_eq q) j)
  dn := fun q d c => bigSep Finset.univ fun j : Fin ((K (F := F)).nSub q) => tk D0 D1 8 q d (Fin.cast (nCore_eq q) c) (Fin.cast (nSub_eq q) j)
  go := fun q d c j => tk D0 D1 0 q d (Fin.cast (nCore_eq q) c) (Fin.cast (nSub_eq q) j)
  td := fun q d c j => tk D0 D1 8 q d (Fin.cast (nCore_eq q) c) (Fin.cast (nSub_eq q) j)
  x := fun _ _ => iprop(emp)

instance P_storable : (P D0 D1).IsStorable where
  st q d c := by unfold P; infer_instance
  dn q d c := by unfold P; infer_instance
  go q d c i := by unfold P; infer_instance
  td q d c i := by unfold P; infer_instance

/-! ## A task's obligation -/

/-- A task, from what its tile is handed to what it hands back. -/
theorem tile_body {A : Args} {d : Dev nD} {i : grid0.Coords} (C : Cont A d i F) (hA : Own (F := F) A d i) (hF : (K (F := F)).Facts)
    (O : CellTallies nD τ sig (HIx 2)) (W : Waits sig (HIx 2)) (hO : ∀ g, O g none = 0) :
    iprop(levAts (K (F := F)).L (K (F := F)).lev ∗ emp ∗ res C 0 ∗ scopedBufs (thr d i) ∗ scopedSems0 (thr d i) ∗ owes (thr d i) O W)
      ⊢ wp frame (wpE (defs₀ (F := F)) 𝒱₀ (thr d i) none) Set.univ
          (cc0_kern (F := F) i A.tbl A.htbl A.idx A.hidx A.out A.hout A.ib A.hib A.is A.ob A.hob A.os A.gs)
          fun _ => iprop(res C 8 ∗ scopedBufs (thr d i) ∗ scopedSems0 (thr d i)
            ∗ ∃ W', ⌜∀ p ∈ W', p ∈ W ∨ p.2 = none⌝ ∗ owes (thr d i) O W') := by
  obtain ⟨⟨R, hb⟩, R', hs⟩ := hA
  rw [(K (F := F)).scopedBufs_V hF d (cV i) (jV i), SparseCore.Cfg.scopedSems0_V (Val := Elt F) d (cV i) (jV i), hs, hb]
  refine BI.Entails.trans (show _ ⊢ iprop((Transfers.MayWaits (thr d i) ι₀ O ∗ pre C O W) ∗ (R ∗ R')) from ?_)
    ((sep_mono_left (kern C O W)).trans ((wp_frame_r _ _ _).trans (wp_mono _ _ _ fun _ =>
      (show iprop(post C O W ∗ (R ∗ R')) ⊢ _ from ?_))))
  · unfold res pre ow
    iintro ⟨#Hlv, -, ⟨HX, HY, HT⟩, ⟨HI, HO', HR⟩, ⟨Hi0, Hi1, Ho0, Ho1, Hg, HR'⟩, HO⟩
    ihave Hmw := (show levAts (K (F := F)).L (K (F := F)).lev ⊢ Transfers.MayWaits (thr d i) ι₀ O from
      (K (F := F)).mayWaits_none (thr := thr d i) hO) $$ Hlv
    isplitr [HR HR']
    · isplitl [Hmw]; · iexact Hmw
      isplitl [HX]; · iexact HX
      isplitl [HY]; · iexact HY
      isplitl [HT]; · iexact HT
      isplitl [HI]; · iexact HI
      isplitl [HO']; · iexact HO'
      isplitl [Hi0]; · iexact Hi0
      isplitl [Hi1]; · iexact Hi1
      isplitl [Ho0]; · iexact Ho0
      isplitl [Ho1]; · iexact Ho1
      isplitl [Hg]; · iexact Hg
      iexists W; isplitr
      · ipureintro; exact fun p hp => .inl hp
      iexact HO
    isplitl [HR] <;> iassumption
  · unfold res post ow
    iintro ⟨⟨HX, HY, HT, HI, HO', Hi0, Hi1, Ho0, Ho1, Hg, HO⟩, HR, HR'⟩
    isplitl [HX HY HT]
    · isplitl [HX]; · iexact HX
      isplitl [HY]; · iexact HY
      iexact HT
    isplitl [HI HO' HR]
    · isplitl [HI]; · iexact HI
      isplitl [HO']; · iexact HO'
      iexact HR
    isplitl [Hi0 Hi1 Ho0 Ho1 Hg HR']
    · isplitl [Hi0]; · iexact Hi0
      isplitl [Hi1]; · iexact Hi1
      isplitl [Ho0]; · iexact Ho0
      isplitl [Ho1]; · iexact Ho1
      isplitl [Hg]; · iexact Hg
      iexact HR'
    iexact HO

/-- A task's waits are its own transfers', so they are among those that its call allows. -/
theorem obl_post {t : Thread nD τ} {A B C : sProp 𝕄} {O : CellTallies nD τ sig (HIx 2)} {W : Waits sig (HIx 2)} {q : Fin 2} :
    iprop(A ∗ B ∗ C ∗ ∃ W', ⌜∀ p ∈ W', p ∈ W ∨ p.2 = none⌝ ∗ owes t O W')
      ⊢ iprop(A ∗ B ∗ C ∗ ∃ W', ⌜∀ p ∈ W', p ∈ W ∨ p.2 = none ∨ p.2 = some q⌝ ∗ owes t O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

/-- The two calls run the same body. -/
theorem kern1_eq : (cc1_kern (F := F)) = cc0_kern (F := F) := rfl

/-- What a subcore runs in the first call. -/
theorem defs₀_0 (c : Fin τ.nSC) (s : Fin τ.nSub) :
    defs₀ (F := F) (.scVector c s) 0 ()
      = SparseCore.onTile hcore0 hsub0 (fun c s => cc0_kern (F := F) (at2 c s) A0.tbl A0.htbl A0.idx A0.hidx A0.out A0.hout A0.ib A0.hib A0.is A0.ob A0.hob A0.os A0.gs)
          ⟨⟩ c s := rfl
/-- What a subcore runs in the second call. -/
theorem defs₀_1 (c : Fin τ.nSC) (s : Fin τ.nSub) :
    defs₀ (F := F) (.scVector c s) 1 ()
      = SparseCore.onTile hcore1 hsub1 (fun c s => cc0_kern (F := F) (at2 c s) A1.tbl A1.htbl A1.idx A1.hidx A1.out A1.hout A1.ib A1.hib A1.is A1.ob A1.hob A1.os A1.gs)
          ⟨⟩ c s := by
  simp only [← kern1_eq]; rfl

set_option maxRecDepth 16384 in
/-- Each task of the first call meets its obligation. -/
theorem tileObl0 (hF : (K (F := F)).Facts) : (K (F := F)).TileObl (D (F := F)) 𝒱 (P D0 D1) v₀ 0 := by
  intro d c i O W hO _ _
  simp only [show (P D0 D1).ox = fun _ _ => 0 from rfl, add_zero]
  have hci : ((K (F := F)).core 0 c).val < grid0.bound 0 ∧ ((K (F := F)).sub 0 i).val < grid0.bound 1 := ⟨c.isLt, i.isLt⟩
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  rw [defs₀_0]; simp only [SparseCore.onTile, hci, and_self, ↓reduceDIte]
  exact (tile_body (C0 D0 d (at2 ⟨_, hci.1⟩ ⟨_, hci.2⟩)) (own0 d _) hF O W hO).trans (wp_mono frame _ _ fun _ => obl_post)

set_option maxRecDepth 16384 in
/-- Each task of the second call meets its obligation. -/
theorem tileObl1 (hF : (K (F := F)).Facts) : (K (F := F)).TileObl (D (F := F)) 𝒱 (P D0 D1) v₀ 1 := by
  intro d c i O W hO _ _
  simp only [show (P D0 D1).ox = fun _ _ => 0 from rfl, add_zero]
  have hci : ((K (F := F)).core 1 c).val < grid0.bound 0 ∧ ((K (F := F)).sub 1 i).val < grid0.bound 1 := ⟨c.isLt, i.isLt⟩
  change _ ⊢ wp _ _ _ (Pipeline.liftProg (defs₀ (F := F) (.scVector ((K (F := F)).core 1 c) ((K (F := F)).sub 1 i)) 1 ())) _
  refine BI.Entails.trans ?_ (Pipeline.wp_liftProg (D (F := F)) (Pipeline.defs_kernel pcfgs defs₀) 𝒱₀ _ Set.univ none _ _)
  rw [defs₀_1]; simp only [SparseCore.onTile, hci, and_self, ↓reduceDIte]
  exact (tile_body (C1 D1 d (at2 ⟨_, hci.1⟩ ⟨_, hci.2⟩)) (own1 d _) hF O W hO).trans (wp_mono frame _ _ fun _ => obl_post)

/-- What a call hands a SparseCore is what it hands its tasks. -/
theorem vecSplit (q : Fin 2) : (K (F := F)).VecSplit' (P D0 D1) q := by
  intro d c
  show (bigSep Finset.univ fun j => (P D0 D1).go q d c j) ⊢ |={Set.univ}=> iprop((bigSep Finset.univ fun j => (P D0 D1).go q d c j)
    ∗ ((bigSep Finset.univ fun j => (P D0 D1).td q d c j) -∗ bigSep Finset.univ fun j => (P D0 D1).td q d c j))
  iintro H; imodintro
  isplitl [H]; · iexact H
  iintro H; iexact H

/-! ## The ghost state the launch starts from -/

/-- The handshakes' rounds at the start. -/
def u₀ : UU := (initOf (K (F := F)).hsCells (K (F := F)).hsToks, 1)

/-- They give what the calls start from. -/
theorem hu₀ : (ownU (u₀ (F := F)) : sProp 𝕄)
    ⊢ |={Set.univ}=> iprop(BI.own (EH (initOf (K (F := F)).hsCells (K (F := F)).hsToks)) ∗ (bigSep Finset.univ fun _ : Dev nD => iprop(emp))
        ∗ bigSep Finset.univ fun thr : Thread nD τ => bigSep Finset.univ fun q : Fin 2 => (P D0 D1).x q thr) := by
  have he : (bigSep Finset.univ fun thr : Thread nD τ => bigSep Finset.univ fun q : Fin 2 => (P (F := F) D0 D1).x q thr) = iprop(emp) :=
    (bigSep_congr fun _ _ => bigSep_emp_const Finset.univ).trans (bigSep_emp_const Finset.univ)
  rw [he, show (bigSep Finset.univ fun _ : Dev nD => (iprop(emp) : sProp 𝕄)) = iprop(emp) from bigSep_emp_const Finset.univ]
  unfold u₀
  iintro Hu
  ihave H := (ownU_pair (initOf (K (F := F)).hsCells (K (F := F)).hsToks) (1 : Counters)) $$ Hu
  icases H with ⟨HH, -⟩
  imodintro
  isplitl [HH]; · iexact HH
  isplitr <;> iempintro

/-! ## A call's operands and results, over its tasks -/

/-- A family over the tasks, whatever the numbers of SparseCores and subcores are written as. -/
theorem over_tasks {n k : ℕ} (hn : n = 2) (hk : k = 16) (Φ : Fin 2 → Fin 16 → sProp 𝕄) :
    (bigSep Finset.univ fun c : Fin n => bigSep Finset.univ fun j : Fin k => Φ (Fin.cast hn c) (Fin.cast hk j))
      = bigSep Finset.univ fun c : Fin 2 => bigSep Finset.univ fun j : Fin 16 => Φ c j := by
  subst hn hk; rfl
/-- What a call is handed is what its tasks are, over all of them. -/
theorem st_eq (q : Fin 2) (d : Dev nD) : (bigSep Finset.univ fun c : Fin ((K (F := F)).nCore q) => (P D0 D1).st q d c)
    = bigSep Finset.univ fun c : Fin 2 => bigSep Finset.univ fun j : Fin 16 => tk D0 D1 0 q d c j :=
  over_tasks (nCore_eq (F := F) q) (nSub_eq (F := F) q) (fun c j => tk D0 D1 0 q d c j)
/-- What a call hands back is what its tasks do, over all of them. -/
theorem dn_eq (q : Fin 2) (d : Dev nD) : (bigSep Finset.univ fun c : Fin ((K (F := F)).nCore q) => (P D0 D1).dn q d c)
    = bigSep Finset.univ fun c : Fin 2 => bigSep Finset.univ fun j : Fin 16 => tk D0 D1 8 q d c j :=
  over_tasks (nCore_eq (F := F) q) (nSub_eq (F := F) q) (fun c j => tk D0 D1 8 q d c j)

end Cert.Proof.Tile

end
-- ==== Proof.Main.lean ====
/-
  The gather program's TensorCore: the index arithmetic before each call, the two calls, and the joining of their results,
  as a run from the launch's memory to a memory in closed form.
-/
module

public import proofs.«01_k».proof.Proof.Launch

@[expose] public section

noncomputable section

namespace Cert.Proof.Tile

open Cert.Kernel Cert.Kernel.Gen
open Idealize.ShloMosaic Idealize.ShloMosaic.ValueIdx Idealize.ShloMosaic.TcCoe Idealize.ShloMosaic.StableHlo
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 2) (Elt F) ℕ UU ℕ

/-! ## The program's straight stretches -/

/-- The first half of the index list. -/
abbrev ops1 : List (HloOp τ sig (Elt F)) :=
  [ nullary main_v0 (iotaInDim S4x1024x16 32 0),
    nullary main_c (constantI S_ 32 0#32),
    unary main_c main_v1 (broadcastInDim S4x1024x16 ![] bcast_S_S4x1024x16 : (⟨S_, .i32⟩ : BufTy).Contents (Elt F) → (⟨S4x1024x16, .i32⟩ : BufTy).Contents (Elt F)),
    binary main_v0 main_v1 main_v2 (addi : (⟨S4x1024x16, .i32⟩ : BufTy).Contents (Elt F) → (⟨S4x1024x16, .i32⟩ : BufTy).Contents (Elt F) → (⟨S4x1024x16, .i32⟩ : BufTy).Contents (Elt F)),
    unary main_arg1 main_v3 ((extractStridedSlice S4x1024x16 ![0, 0, 0] · slices_S8x1024x16_S4x1024x16_0_0_0) : (⟨S8x1024x16, .i32⟩ : BufTy).Contents (Elt F) → (⟨S4x1024x16, .i32⟩ : BufTy).Contents (Elt F)),
    nullary main_c_0 (constantI S_ 32 4096#32),
    unary main_c_0 main_v4 (broadcastInDim S4x1024x16 ![] bcast_S_S4x1024x16 : (⟨S_, .i32⟩ : BufTy).Contents (Elt F) → (⟨S4x1024x16, .i32⟩ : BufTy).Contents (Elt F)),
    binary main_v2 main_v4 main_v5 (muli : (⟨S4x1024x16, .i32⟩ : BufTy).Contents (Elt F) → (⟨S4x1024x16, .i32⟩ : BufTy).Contents (Elt F) → (⟨S4x1024x16, .i32⟩ : BufTy).Contents (Elt F)),
    binary main_v3 main_v5 main_v6 (addi : (⟨S4x1024x16, .i32⟩ : BufTy).Contents (Elt F) → (⟨S4x1024x16, .i32⟩ : BufTy).Contents (Elt F) → (⟨S4x1024x16, .i32⟩ : BufTy).Contents (Elt F)),
    reshape main_v6 main_v7 (rfl : (.i32 : EltTy) = .i32) shapeCasts_S4x1024x16_S1x65536 ]
/-- The second half. -/
abbrev ops2 : List (HloOp τ sig (Elt F)) :=
  [ nullary main_v9 (iotaInDim S4x1024x16 32 0),
    nullary main_c_1 (constantI S_ 32 4#32),
    unary main_c_1 main_v10 (broadcastInDim S4x1024x16 ![] bcast_S_S4x1024x16 : (⟨S_, .i32⟩ : BufTy).Contents (Elt F) → (⟨S4x1024x16, .i32⟩ : BufTy).Contents (Elt F)),
    binary main_v9 main_v10 main_v11 (addi : (⟨S4x1024x16, .i32⟩ : BufTy).Contents (Elt F) → (⟨S4x1024x16, .i32⟩ : BufTy).Contents (Elt F) → (⟨S4x1024x16, .i32⟩ : BufTy).Contents (Elt F)),
    unary main_arg1 main_v12 ((extractStridedSlice S4x1024x16 ![4, 0, 0] · slices_S8x1024x16_S4x1024x16_4_0_0) : (⟨S8x1024x16, .i32⟩ : BufTy).Contents (Elt F) → (⟨S4x1024x16, .i32⟩ : BufTy).Contents (Elt F)),
    nullary main_c_2 (constantI S_ 32 4096#32),
    unary main_c_2 main_v13 (broadcastInDim S4x1024x16 ![] bcast_S_S4x1024x16 : (⟨S_, .i32⟩ : BufTy).Contents (Elt F) → (⟨S4x1024x16, .i32⟩ : BufTy).Contents (Elt F)),
    binary main_v11 main_v13 main_v14 (muli : (⟨S4x1024x16, .i32⟩ : BufTy).Contents (Elt F) → (⟨S4x1024x16, .i32⟩ : BufTy).Contents (Elt F) → (⟨S4x1024x16, .i32⟩ : BufTy).Contents (Elt F)),
    binary main_v12 main_v14 main_v15 (addi : (⟨S4x1024x16, .i32⟩ : BufTy).Contents (Elt F) → (⟨S4x1024x16, .i32⟩ : BufTy).Contents (Elt F) → (⟨S4x1024x16, .i32⟩ : BufTy).Contents (Elt F)),
    reshape main_v15 main_v16 (rfl : (.i32 : EltTy) = .i32) shapeCasts_S4x1024x16_S1x65536 ]
/-- The two results joined. -/
abbrev ops3 : List (HloOp τ sig (Elt F)) :=
  [ binary main_v8 main_v17 main_v18 ((fun a b => concatenate S131072x128 0 [⟨S65536x128, a⟩, ⟨S65536x128, b⟩] concatenates_S65536x128_S65536x128_S131072x128_d0) : (⟨S65536x128, .i32⟩ : BufTy).Contents (Elt F) → (⟨S65536x128, .i32⟩ : BufTy).Contents (Elt F) → (⟨S131072x128, .i32⟩ : BufTy).Contents (Elt F)),
    reshape main_v18 main_v19 (rfl : (.i32 : EltTy) = .i32) shapeCasts_S131072x128_S8x1024x16x128 ]

/-- The program is three stretches of host lines with a call between each two. -/
theorem main_eq (d : Dev nD) : main (F := F) d
    = (seq ops1 >>= fun _ => (K (F := F)).run d 0 >>= fun _ => seq ops2 >>= fun _ => (K (F := F)).run d 1 >>= fun _ => seq ops3 >>= fun _ => pure ⟨⟩) := rfl

/-- The first stretch touches the TensorCore's buffers only. -/
theorem ops1_sub : (ops1 : List (HloOp τ sig (Elt F))).Forall fun op => op.bufs ⊆ tcRefs τ sig :=
  ⟨nullary_bufs_sub .., nullary_bufs_sub .., unary_bufs_sub .., binary_bufs_sub .., unary_bufs_sub .., nullary_bufs_sub .., unary_bufs_sub .., binary_bufs_sub .., binary_bufs_sub .., reshape_bufs_sub ..⟩
/-- The first stretch makes no new buffer. -/
theorem ops1_fresh : ∀ op ∈ (ops1 : List (HloOp τ sig (Elt F))), op.fresh = ∅ := by
  intro _ h; (repeat (cases h with | head => rfl | tail _ h => ?_)); exact nomatch h
/-- The second stretch touches the TensorCore's buffers only. -/
theorem ops2_sub : (ops2 : List (HloOp τ sig (Elt F))).Forall fun op => op.bufs ⊆ tcRefs τ sig :=
  ⟨nullary_bufs_sub .., nullary_bufs_sub .., unary_bufs_sub .., binary_bufs_sub .., unary_bufs_sub .., nullary_bufs_sub .., unary_bufs_sub .., binary_bufs_sub .., binary_bufs_sub .., reshape_bufs_sub ..⟩
/-- The second stretch makes no new buffer. -/
theorem ops2_fresh : ∀ op ∈ (ops2 : List (HloOp τ sig (Elt F))), op.fresh = ∅ := by
  intro _ h; (repeat (cases h with | head => rfl | tail _ h => ?_)); exact nomatch h
/-- The third stretch touches the TensorCore's buffers only. -/
theorem ops3_sub : (ops3 : List (HloOp τ sig (Elt F))).Forall fun op => op.bufs ⊆ tcRefs τ sig :=
  ⟨binary_bufs_sub .., reshape_bufs_sub ..⟩
/-- The third stretch makes no new buffer. -/
theorem ops3_fresh : ∀ op ∈ (ops3 : List (HloOp τ sig (Elt F))), op.fresh = ∅ := by
  intro _ h; (repeat (cases h with | head => rfl | tail _ h => ?_)); exact nomatch h

/-! ## What its buffers hold -/

/-- Half an index list: each word of the half raised by 4096 for each of its group's predecessors. -/
def ixOf (off : Fin 3 → ℕ) (h : S8x1024x16.Slices off S4x1024x16) (c : BitVec 32) (a : S8x1024x16.Idx → Elt F .i32) : S1x65536.Idx → Elt F .i32 :=
  shapeCast S1x65536 (addi (extractStridedSlice S4x1024x16 off a h)
    (muli (addi (iotaInDim S4x1024x16 32 0) (broadcastInDim S4x1024x16 ![] bcast_S_S4x1024x16 (constantI S_ 32 c)))
      (broadcastInDim S4x1024x16 ![] bcast_S_S4x1024x16 (constantI S_ 32 4096#32)))) shapeCasts_S4x1024x16_S1x65536

/-- The first stretch makes the first half's index list. -/
theorem after1_v7 (V : Valuation τ sig (Elt F)) : after ops1 V (Proc.devRef .tc main_v7) = ixOf ![0, 0, 0] slices_S8x1024x16_S4x1024x16_0_0_0 0#32 (V (Proc.devRef .tc main_arg1)) := by
  after_results <;> rfl
/-- The first stretch keeps the table. -/
theorem after1_arg0 (V : Valuation τ sig (Elt F)) : after ops1 V (Proc.devRef .tc main_arg0) = V (Proc.devRef .tc main_arg0) := by
  after_results <;> rfl
/-- The first stretch keeps the indices. -/
theorem after1_arg1 (V : Valuation τ sig (Elt F)) : after ops1 V (Proc.devRef .tc main_arg1) = V (Proc.devRef .tc main_arg1) := by
  after_results <;> rfl
/-- The second stretch makes the second half's index list. -/
theorem after2_v16 (V : Valuation τ sig (Elt F)) : after ops2 V (Proc.devRef .tc main_v16) = ixOf ![4, 0, 0] slices_S8x1024x16_S4x1024x16_4_0_0 4#32 (V (Proc.devRef .tc main_arg1)) := by
  after_results <;> rfl
/-- The second stretch keeps the table. -/
theorem after2_arg0 (V : Valuation τ sig (Elt F)) : after ops2 V (Proc.devRef .tc main_arg0) = V (Proc.devRef .tc main_arg0) := by
  after_results <;> rfl
/-- The second stretch keeps the indices. -/
theorem after2_arg1 (V : Valuation τ sig (Elt F)) : after ops2 V (Proc.devRef .tc main_arg1) = V (Proc.devRef .tc main_arg1) := by
  after_results <;> rfl
/-- The second stretch keeps the first call's result. -/
theorem after2_v8 (V : Valuation τ sig (Elt F)) : after ops2 V (Proc.devRef .tc main_v8) = V (Proc.devRef .tc main_v8) := by
  after_results <;> rfl

/-- Every index of both halves names a row of the table. -/
def InRows (m : (ℓ : Loc nD τ sig) → Buf (Elt F) ℓ) : Prop :=
  ∀ d : Dev nD, (∀ j, (ixOf ![0, 0, 0] slices_S8x1024x16_S4x1024x16_0_0_0 0#32 (launchContents m d (Proc.devRef .tc main_arg1)) j).toNat < 32768)
    ∧ ∀ j, (ixOf ![4, 0, 0] slices_S8x1024x16_S4x1024x16_4_0_0 4#32 (launchContents m d (Proc.devRef .tc main_arg1)) j).toNat < 32768

variable (m : (ℓ : Loc nD τ sig) → Buf (Elt F) ℓ) (ρ : Dev nD → PrngReg) (hm : InRows m)

/-- The first call's index list, the second's, and their results. -/
def i0 (d : Dev nD) : S1x65536.Idx → Elt F .i32 := ixOf ![0, 0, 0] slices_S8x1024x16_S4x1024x16_0_0_0 0#32 (launchContents m d (Proc.devRef .tc main_arg1))
/-- The second call's index list. -/
def i1 (d : Dev nD) : S1x65536.Idx → Elt F .i32 := ixOf ![4, 0, 0] slices_S8x1024x16_S4x1024x16_4_0_0 4#32 (launchContents m d (Proc.devRef .tc main_arg1))
/-- The first call's result. -/
def g0 (d : Dev nD) : S65536x128.Idx → Elt F .i32 := gat (launchContents m d (Proc.devRef .tc main_arg0)) (i0 m d)
/-- The second call's result. -/
def g1 (d : Dev nD) : S65536x128.Idx → Elt F .i32 := gat (launchContents m d (Proc.devRef .tc main_arg0)) (i1 m d)

/-- The buffers before each call, after it, and at the end. -/
def V1 (d : Dev nD) : Valuation τ sig (Elt F) := after ops1 (launchContents m d)
/-- The buffers after the first call. -/
def V2 (d : Dev nD) : Valuation τ sig (Elt F) := Function.update (V1 m d) (Proc.devRef .tc main_v8) (g0 m d)
/-- The buffers before the second call. -/
def V3 (d : Dev nD) : Valuation τ sig (Elt F) := after ops2 (V2 m d)
/-- The buffers after the second call. -/
def V4 (d : Dev nD) : Valuation τ sig (Elt F) := Function.update (V3 m d) (Proc.devRef .tc main_v17) (g1 m d)
/-- The buffers at the end. -/
def V5 (d : Dev nD) : Valuation τ sig (Elt F) := after ops3 (V4 m d)

/-- The first call changes its result only. -/
theorem V2_ne (d : Dev nD) {b : Ref sig .tc} (h : b ≠ main_v8) : V2 m d (Proc.devRef .tc b) = V1 m d (Proc.devRef .tc b) :=
  Function.update_of_ne (devRef_ne_of_ne h) _ _
/-- The second call changes its result only. -/
theorem V4_ne (d : Dev nD) {b : Ref sig .tc} (h : b ≠ main_v17) : V4 m d (Proc.devRef .tc b) = V3 m d (Proc.devRef .tc b) :=
  Function.update_of_ne (devRef_ne_of_ne h) _ _

/-- Before the first call the table is as at the start. -/
theorem V1_arg0 (d : Dev nD) : V1 m d (Proc.devRef .tc main_arg0) = launchContents m d (Proc.devRef .tc main_arg0) := after1_arg0 _
/-- Before the first call the indices are as at the start. -/
theorem V1_arg1 (d : Dev nD) : V1 m d (Proc.devRef .tc main_arg1) = launchContents m d (Proc.devRef .tc main_arg1) := after1_arg1 _
/-- Before the first call its index list is made. -/
theorem V1_v7 (d : Dev nD) : V1 m d (Proc.devRef .tc main_v7) = i0 m d := after1_v7 _
/-- Before the second call the table is as at the start. -/
theorem V3_arg0 (d : Dev nD) : V3 m d (Proc.devRef .tc main_arg0) = launchContents m d (Proc.devRef .tc main_arg0) :=
  (after2_arg0 _).trans ((V2_ne m d (by decide)).trans (V1_arg0 m d))
/-- Before the second call the indices are as at the start. -/
theorem V3_arg1 (d : Dev nD) : V3 m d (Proc.devRef .tc main_arg1) = launchContents m d (Proc.devRef .tc main_arg1) :=
  (after2_arg1 _).trans ((V2_ne m d (by decide)).trans (V1_arg1 m d))
/-- Before the second call its index list is made. -/
theorem V3_v16 (d : Dev nD) : V3 m d (Proc.devRef .tc main_v16) = i1 m d := by
  unfold V3 i1; rw [after2_v16, V2_ne m d (by decide), V1_arg1]
/-- Before the second call the first call's result stands. -/
theorem V3_v8 (d : Dev nD) : V3 m d (Proc.devRef .tc main_v8) = g0 m d :=
  (after2_v8 _).trans (Function.update_self _ _ _)

/-- What each call works on. -/
def Da : Data F := ⟨fun d => launchContents m d (Proc.devRef .tc main_arg0), i0 m, fun d => V1 m d (Proc.devRef .tc main_v8), fun d => (hm d).1⟩
/-- What the second call is told. -/
def Db : Data F := ⟨fun d => launchContents m d (Proc.devRef .tc main_arg0), i1 m, fun d => V3 m d (Proc.devRef .tc main_v17), fun d => (hm d).2⟩

/-! ## The calls -/

/-- Three of the buffers, out of all of them. -/
theorem held_three (d : Dev nD) (a b c : Ref sig .tc) (hab : a ≠ b) (hac : a ≠ c) (hbc : b ≠ c) (V : Valuation τ sig (Elt F)) :
    (held (SparseCore.T d) (tcRefs τ sig) V : sProp 𝕄)
      = iprop(arr ((SparseCore.T d).loc a) ((SparseCore.T d).loc b) ((SparseCore.T d).loc c) (V (Proc.devRef .tc a)) (V (Proc.devRef .tc b)) (V (Proc.devRef .tc c))
          ∗ held (SparseCore.T d) (tcRefs τ sig \ {Proc.devRef .tc b, Proc.devRef .tc c, Proc.devRef .tc a}) V) := by
  have hT : ({Proc.devRef .tc b, Proc.devRef .tc c, Proc.devRef .tc a} : Finset (DevRef τ sig)) ⊆ tcRefs τ sig :=
    Finset.insert_subset (devRef_mem_tcRefs b) (Finset.insert_subset (devRef_mem_tcRefs c) (Finset.singleton_subset_iff.mpr (devRef_mem_tcRefs a)))
  have h1 : Proc.devRef (τ := τ) .tc b ∉ ({Proc.devRef .tc c, Proc.devRef .tc a} : Finset (DevRef τ sig)) := by
    simp only [Finset.mem_insert, Finset.mem_singleton, not_or]
    exact ⟨devRef_ne_of_ne hbc, devRef_ne_of_ne hab.symm⟩
  have h2 : Proc.devRef (τ := τ) .tc c ∉ ({Proc.devRef .tc a} : Finset (DevRef τ sig)) := by
    simp only [Finset.mem_singleton]
    exact devRef_ne_of_ne hac.symm
  rw [held_sub_split _ hT V]
  congr 1
  unfold held arr
  rw [SparseCore.bigSep_insert' h1, SparseCore.bigSep_insert' h2, bigSep_singleton]

/-- The same three, with the third replaced. -/
theorem held_put (d : Dev nD) (a b c : Ref sig .tc) (hab : a ≠ b) (hac : a ≠ c) (hbc : b ≠ c) (V : Valuation τ sig (Elt F))
    (f : Buf (Elt F) ((SparseCore.T d).loc c)) :
    (iprop(arr ((SparseCore.T d).loc a) ((SparseCore.T d).loc b) ((SparseCore.T d).loc c) (V (Proc.devRef .tc a)) (V (Proc.devRef .tc b)) f
          ∗ held (SparseCore.T d) (tcRefs τ sig \ {Proc.devRef .tc b, Proc.devRef .tc c, Proc.devRef .tc a}) V) : sProp 𝕄)
      = held (SparseCore.T d) (tcRefs τ sig) (Function.update V (Proc.devRef .tc c) f) := by
  rw [held_three d a b c hab hac hbc, Function.update_of_ne (devRef_ne_of_ne hac), Function.update_of_ne (devRef_ne_of_ne hbc), Function.update_self]
  congr 1
  refine held_congr _ fun x hx => (Function.update_of_ne (fun h => ?_) _ _).symm
  subst h
  simp at hx

/-- The TensorCore's buffers at the start are the launch's. -/
theorem unscoped_held (d : Dev nD) : (unscopedBufs d (fun b => m ((SparseCore.T d).loc b)) : sProp 𝕄) = held (SparseCore.T d) (tcRefs τ sig) (launchContents m d) := by
  unfold unscopedBufs held tcRefs
  rw [show (Finset.univ.filter fun b : Ref sig .tc => ¬ b.isScoped) = Finset.univ by decide, bigSep_map]
  rfl

/-- From the buffers before the first call, what that call is handed, and the rest. -/
theorem start0 (d : Dev nD) : (held (SparseCore.T d) (tcRefs τ sig) (V1 m d) : sProp 𝕄)
    = iprop((bigSep Finset.univ fun c : Fin ((K (F := F)).nCore 0) => (P (Da m hm) (Db m hm)).st 0 d c)
        ∗ held (SparseCore.T d) (tcRefs τ sig \ {Proc.devRef .tc main_v7, Proc.devRef .tc main_v8, Proc.devRef .tc main_arg0}) (V1 m d)) := by
  rw [held_three d main_arg0 main_v7 main_v8 (by decide) (by decide) (by decide), st_eq, V1_arg0, V1_v7]
  exact congrArg (fun X : sProp 𝕄 => iprop(X ∗ _)) (arr0_start (Da m hm) d)

/-- What the first call hands back, and the rest, are the buffers after it. -/
theorem end0 (d : Dev nD) : (iprop((bigSep Finset.univ fun c : Fin ((K (F := F)).nCore 0) => (P (Da m hm) (Db m hm)).dn 0 d c)
        ∗ held (SparseCore.T d) (tcRefs τ sig \ {Proc.devRef .tc main_v7, Proc.devRef .tc main_v8, Proc.devRef .tc main_arg0}) (V1 m d)) : sProp 𝕄)
    = held (SparseCore.T d) (tcRefs τ sig) (V2 m d) := by
  unfold V2
  rw [← held_put d main_arg0 main_v7 main_v8 (by decide) (by decide) (by decide), dn_eq, V1_arg0, V1_v7]
  exact congrArg (fun X : sProp 𝕄 => iprop(X ∗ _)) (arr0_end (Da m hm) d).symm

/-- From the buffers before the second call, what that call is handed, and the rest. -/
theorem start1 (d : Dev nD) : (held (SparseCore.T d) (tcRefs τ sig) (V3 m d) : sProp 𝕄)
    = iprop((bigSep Finset.univ fun c : Fin ((K (F := F)).nCore 1) => (P (Da m hm) (Db m hm)).st 1 d c)
        ∗ held (SparseCore.T d) (tcRefs τ sig \ {Proc.devRef .tc main_v16, Proc.devRef .tc main_v17, Proc.devRef .tc main_arg0}) (V3 m d)) := by
  rw [held_three d main_arg0 main_v16 main_v17 (by decide) (by decide) (by decide), st_eq, V3_arg0, V3_v16]
  exact congrArg (fun X : sProp 𝕄 => iprop(X ∗ _)) (arr1_start (Db m hm) d)

/-- What the second call hands back, and the rest, are the buffers after it. -/
theorem end1 (d : Dev nD) : (iprop((bigSep Finset.univ fun c : Fin ((K (F := F)).nCore 1) => (P (Da m hm) (Db m hm)).dn 1 d c)
        ∗ held (SparseCore.T d) (tcRefs τ sig \ {Proc.devRef .tc main_v16, Proc.devRef .tc main_v17, Proc.devRef .tc main_arg0}) (V3 m d)) : sProp 𝕄)
    = held (SparseCore.T d) (tcRefs τ sig) (V4 m d) := by
  unfold V4
  rw [← held_put d main_arg0 main_v16 main_v17 (by decide) (by decide) (by decide), dn_eq, V3_arg0, V3_v16]
  exact congrArg (fun X : sProp 𝕄 => iprop(X ∗ _)) (arr1_end (Db m hm) d).symm

/-! ## The whole program -/

/-- What the TensorCore holds at the end: every buffer, as `V5` says. -/
abbrev FIN (d : Dev nD) : sProp 𝕄 := held (SparseCore.T d) (tcRefs τ sig) (V5 m d)

set_option maxRecDepth 8192 in
set_option backward.isDefEq.respectTransparency.types false in
/-- The TensorCore's program, from the launch's memory to the end's. -/
theorem hmain (κ : GSem nD τ sig → ℕ) (d : Dev nD) :
    iprop((K (F := F)).ctx EH (P (Da m hm) (Db m hm)) κ ∗ (K (F := F)).tcSt EH d 0 ∗ (K (F := F)).tcRes m ρ d ∗ emp)
      ⊢ wp frame (wpE ((K (F := F)).defs (D (F := F))) 𝒱 (SparseCore.T d) none) Set.univ (main d)
          fun _ => iprop((K (F := F)).tcSt EH d 2 ∗ FIN m d ∗ (K (F := F)).tcEnd d) := by
  unfold SparseCore.Cfg.tcRes SparseCore.Cfg.tcEnd FIN
  rw [unscoped_held, main_eq]
  iintro ⟨#Hctx, Hst, ⟨Hb, HH, Hts, -⟩, -⟩
  iapply (wp_seq 𝒱 none Set.univ d (tcRefs τ sig) _ ops1 (List.forall_iff_forall_mem.1 ops1_sub) ops1_fresh (launchContents m d)) $$ [Hb HH]
  · isplitl [Hb] <;> iassumption
  iintro ⟨Hb, HH⟩
  ihave HH' := (show held (d.tc : Thread nD τ) (tcRefs τ sig) (after ops1 (launchContents m d)) ⊢ _ from Entails.of_eq (start0 m hm d)) $$ HH
  icases HH' with ⟨HS, HR⟩
  rw [wp_bind]
  iapply ((K (F := F)).wp_run (D (F := F)) 𝒱 (EH := EH) (P := P (Da m hm) (Db m hm)) κ d 0) $$ [Hst HS HR Hb Hts]
  isplitr; · iexact Hctx
  isplitl [Hst]; · iexact Hst
  isplitl [HS]; · iexact HS
  iintro ⟨Hst, HS⟩
  ihave HH := (show _ ⊢ held (d.tc : Thread nD τ) (tcRefs τ sig) (V2 m d) from Entails.of_eq (end0 m hm d)) $$ [HS HR]
  · isplitl [HS] <;> iassumption
  iapply (wp_seq 𝒱 none Set.univ d (tcRefs τ sig) _ ops2 (List.forall_iff_forall_mem.1 ops2_sub) ops2_fresh (V2 m d)) $$ [Hb HH]
  · isplitl [Hb] <;> iassumption
  iintro ⟨Hb, HH⟩
  ihave HH' := (show held (d.tc : Thread nD τ) (tcRefs τ sig) (after ops2 (V2 m d)) ⊢ _ from Entails.of_eq (start1 m hm d)) $$ HH
  icases HH' with ⟨HS, HR⟩
  rw [wp_bind]
  iapply ((K (F := F)).wp_run (D (F := F)) 𝒱 (EH := EH) (P := P (Da m hm) (Db m hm)) κ d 1) $$ [Hst HS HR Hb Hts]
  isplitr; · iexact Hctx
  isplitl [Hst]; · iexact Hst
  isplitl [HS]; · iexact HS
  iintro ⟨Hst, HS⟩
  ihave HH := (show _ ⊢ held (d.tc : Thread nD τ) (tcRefs τ sig) (V4 m d) from Entails.of_eq (end1 m hm d)) $$ [HS HR]
  · isplitl [HS] <;> iassumption
  iapply (wp_seq 𝒱 none Set.univ d (tcRefs τ sig) _ ops3 (List.forall_iff_forall_mem.1 ops3_sub) ops3_fresh (V4 m d)) $$ [Hb HH]
  · isplitl [Hb] <;> iassumption
  iintro ⟨Hb, HH⟩
  rw [wp_pure]; imodintro
  isplitl [Hst]; · iexact Hst
  isplitl [HH]; · iexact HH
  isplitl [Hb] <;> iassumption

/-- Every buffer of the TensorCore ends as `V5` says. -/
def fq (d : Dev nD) (s' : Phys nD τ sig (Elt F)) : Prop := ∀ b : Ref sig .tc, s'.mem.mem ((SparseCore.T d).loc b) = V5 m d (Proc.devRef .tc b)

/-- Holding them, the memory is as `V5` says. -/
theorem hfin (d : Dev nD) (s' : Phys nD τ sig (Elt F)) : iprop(FIN m d ∗ SI s') ⊢ (⌜fq m d s'⌝ : sProp 𝕄) := by
  unfold FIN held
  iintro ⟨H, HSI⟩
  ihave %h := (SI_pointsTo_bufs_agree (qs := fun _ => fullShare) (tcRefs τ sig)) $$ [HSI H]
  · isplitl [HSI]; · iexact HSI
    iexact H
  ipureintro
  exact fun b => h _ (devRef_mem_tcRefs b)

/-- Every buffer of the TensorCore ends as `V5` says, and every semaphore at zero. -/
def QC : PUnit × MemSt nD τ sig (Elt F) → Prop := fun r =>
  (∀ (c : Dev nD) (b : Ref sig .tc), r.2.mem ((SparseCore.T c).loc b) = V5 m c (Proc.devRef .tc b)) ∧ r.2.sem = fun _ => 0

include hm in
/-- The program runs, and ends with every buffer of the TensorCore as `V5` says and every semaphore at zero. -/
theorem run_main [∀ e, Nonempty (Elt F e)] : θ_run (defs (F := F)) (threads (F := F)) ⟨m, fun _ => 0, ρ⟩ (QC m) :=
  SparseCore.Cfg.θ_run_sc_quiescent (K := K (F := F)) (D := D (F := F)) (𝒱 := 𝒱) (EH := EH) (P := P (Da m hm) (Db m hm)) (A := ∅) facts v₀
    (fun q hq => match q with | 0 => nomatch hq | 1 => nomatch hq)
    (fun q _ => match q with | 0 => tileObl0 _ _ facts | 1 => tileObl1 _ _ facts)
    (fun q _ => SparseCore.Cfg.VecSplit.of_plain (vecSplit _ _ q))
    m ρ main (fun _ => iprop(emp)) (FIN m) (u₀ (F := F)) (sep_elim_left.trans (hu₀ _ _)) (hmain m ρ hm) (fq m) (hfin m) (QC m) (fun _ h hz => ⟨h, hz⟩)

/-! ## The result -/

/-- The table ends as it was. -/
theorem V5_arg0 (d : Dev nD) : V5 m d (Proc.devRef .tc main_arg0) = m ((SparseCore.T d).loc main_arg0) := by
  have h : after ops3 (V4 m d) (Proc.devRef .tc main_arg0) = V4 m d (Proc.devRef .tc main_arg0) := by after_results <;> rfl
  exact h.trans ((V4_ne m d (by decide)).trans (V3_arg0 m d))
/-- The indices end as they were. -/
theorem V5_arg1 (d : Dev nD) : V5 m d (Proc.devRef .tc main_arg1) = m ((SparseCore.T d).loc main_arg1) := by
  have h : after ops3 (V4 m d) (Proc.devRef .tc main_arg1) = V4 m d (Proc.devRef .tc main_arg1) := by after_results <;> rfl
  exact h.trans ((V4_ne m d (by decide)).trans (V3_arg1 m d))
/-- The result is the two calls' results, one above the other. -/
theorem V5_v19 (d : Dev nD) : V5 m d (Proc.devRef .tc main_v19) = shapeCast S8x1024x16x128
    (concatenate S131072x128 0 [⟨S65536x128, g0 m d⟩, ⟨S65536x128, g1 m d⟩] concatenates_S65536x128_S65536x128_S131072x128_d0) shapeCasts_S131072x128_S8x1024x16x128 := by
  have h : ∀ V : Valuation τ sig (Elt F), after ops3 V (Proc.devRef .tc main_v19) = shapeCast S8x1024x16x128
    (concatenate S131072x128 0 [⟨S65536x128, V (Proc.devRef .tc main_v8)⟩, ⟨S65536x128, V (Proc.devRef .tc main_v17)⟩] concatenates_S65536x128_S65536x128_S131072x128_d0) shapeCasts_S131072x128_S8x1024x16x128 := by
    intro V; after_results <;> rfl
  refine (h _).trans ?_
  rw [V4_ne m d (by decide), V3_v8, show V4 m d (Proc.devRef .tc main_v17) = g1 m d from Function.update_self _ _ _]

end Cert.Proof.Tile

end
-- ==== Proof.Value.lean ====
/-
  The gather program's result at an index, the reference's, and that they are one: row `knn[b, s, k]` of cloud `b`.
-/
module

public import proofs.«01_k».proof.Proof.Main
public import proofs.«01_k».proof.Defs
public import proofs.«01_k».proof.Proof.Gen.ReferenceIdeal
public import proofs.«01_k».proof.Proof.Gen.Pre_in_cloud
public import Idealize.ShloMosaic.Lib.Pipeline.Value
public import Idealize.ShloMosaic.Lib.Pointwise.Reshape
public import Idealize.ShloMosaic.Lib.ReduceAll

@[expose] public section

noncomputable section

namespace Cert.Proof.Tile

open Cert.Kernel Cert.Kernel.Gen
open Idealize.ShloMosaic hiding ix2 ix3 ix4
open Idealize.ShloMosaic.ValueIdx Idealize.ShloMosaic.TcCoe Idealize.ShloMosaic.StableHlo

variable {F : FTy → Type} [FloatOps F]

/-! ## The program's result at an index -/

/-- Word `n` of half an index list: the half's word `n`, raised by 4096 for each cloud before its own. -/
theorem ixOf_at (o : ℕ) (ho : o ≤ 4) (h : S8x1024x16.Slices ![o, 0, 0] S4x1024x16) (a : S8x1024x16.Idx → Elt F .i32) (ha : ∀ i, (a i).toNat < 4096)
    (n : ℕ) (hn : n < 65536) : ((ixOf ![o, 0, 0] h (BitVec.ofNat 32 o) a (ix2 (0 : Fin 1) (⟨n, hn⟩ : Fin 65536)) : Elt F .i32) : BitVec 32).toNat
      = (a (ix3 (⟨o + n / 16384, by omega⟩ : Fin 8) (⟨n / 16 % 1024, by omega⟩ : Fin 1024) (⟨n % 16, by omega⟩ : Fin 16))).toNat + 4096 * (o + n / 16384) := by
  unfold ixOf
  rw [shapeCast_apply _ _ _ (ix3 (⟨n / 16384, by omega⟩ : Fin 4) (⟨n / 16 % 1024, by omega⟩ : Fin 1024) (⟨n % 16, by omega⟩ : Fin 16))]
  · show (IntOp.addi (extractStridedSlice S4x1024x16 ![o, 0, 0] a h _)
      (IntOp.muli (IntOp.addi (BitVec.ofNat 32 (n / 16384)) (BitVec.ofNat 32 o)) 4096#32)).toNat = _
    rw [extractStridedSlice_apply _ _ _ _ (ix3 (⟨o + n / 16384, by omega⟩ : Fin 8) (⟨n / 16 % 1024, by omega⟩ : Fin 1024) (⟨n % 16, by omega⟩ : Fin 16))]
    · have := ha (ix3 (⟨o + n / 16384, by omega⟩ : Fin 8) (⟨n / 16 % 1024, by omega⟩ : Fin 1024) (⟨n % 16, by omega⟩ : Fin 16))
      simp only [IntOp.addi, IntOp.muli, BitVec.toNat_add, BitVec.toNat_mul, BitVec.toNat_ofNat]
      omega
    · intro x
      match x with
      | ⟨0, _⟩ => rfl
      | ⟨1, _⟩ => exact (Nat.zero_add _).symm
      | ⟨2, _⟩ => exact (Nat.zero_add _).symm
  · rw [rowMajor_val3 _ 16384 16 rfl rfl, rowMajor_val2 _ 65536 rfl]
    show n / 16384 * 16384 + n / 16 % 1024 * 16 + n % 16 = 0 * 65536 + n
    omega

/-- Every index below 4096 gives index lists that name rows of the table. -/
theorem inRows_of (m : (ℓ : Loc nD τ sig) → Buf (Elt F) ℓ) (h : ∀ (d : Dev nD) (i : S8x1024x16.Idx), ((m ((SparseCore.T d).loc main_arg1) i : Elt F .i32) : BitVec 32).toNat < 4096) :
    InRows m := by
  have key : ∀ (d : Dev nD) (o : ℕ) (ho : o ≤ 4) (hs : S8x1024x16.Slices ![o, 0, 0] S4x1024x16) (j : S1x65536.Idx),
      ((ixOf ![o, 0, 0] hs (BitVec.ofNat 32 o) (launchContents m d (Proc.devRef .tc main_arg1)) j : Elt F .i32) : BitVec 32).toNat < 32768 := by
    intro d o ho hs j
    have hj1 : (j 1).val < 65536 := (j 1).isLt
    have hj : j = ix2 (0 : Fin 1) (⟨(j 1).val, hj1⟩ : Fin 65536) := by
      funext a
      match a with
      | ⟨0, _⟩ => exact Subsingleton.elim (α := Fin 1) _ _
      | ⟨1, _⟩ => rfl
    rw [hj, ixOf_at o ho hs _ (h d) _ hj1]
    have := h d (ix3 (⟨o + (j 1).val / 16384, by omega⟩ : Fin 8) (⟨(j 1).val / 16 % 1024, by omega⟩ : Fin 1024) (⟨(j 1).val % 16, by omega⟩ : Fin 16))
    show (m ((SparseCore.T d).loc main_arg1) _).toNat + _ < _
    omega
  exact fun d => ⟨key d 0 (by decide) _, key d 4 (by decide) _⟩

/-- The gathered rows: entry `(b, s, k, c)` is column `c` of row `a[b, s, k]` of cloud `b`. -/
def rows (tb : S32768x128.Idx → Elt F .i32) (a : S8x1024x16.Idx → Elt F .i32) : S8x1024x16x128.Idx → Elt F .i32 := fun j =>
  tb (ix2 (⟨((a (ix3 (j 0 : Fin 8) (j 1 : Fin 1024) (j 2 : Fin 16))).toNat + 4096 * (j 0).val) % 32768, Nat.mod_lt _ (by decide)⟩ : Fin 32768) (j 3 : Fin 128))

/-- The two calls' results, one above the other, are the gathered rows. -/
theorem joined (tb : S32768x128.Idx → Elt F .i32) (a : S8x1024x16.Idx → Elt F .i32) (ha : ∀ i, (a i).toNat < 4096) :
    shapeCast S8x1024x16x128 (concatenate S131072x128 0
      [⟨S65536x128, gat tb (ixOf ![0, 0, 0] slices_S8x1024x16_S4x1024x16_0_0_0 0#32 a)⟩, ⟨S65536x128, gat tb (ixOf ![4, 0, 0] slices_S8x1024x16_S4x1024x16_4_0_0 4#32 a)⟩]
      concatenates_S65536x128_S65536x128_S131072x128_d0) shapeCasts_S131072x128_S8x1024x16x128 = rows tb a := by
  funext j
  have h0 : (j 0).val < 8 := (j 0).isLt
  have h1 : (j 1).val < 1024 := (j 1).isLt
  have h2 : (j 2).val < 16 := (j 2).isLt
  have h3 : (j 3).val < 128 := (j 3).isLt
  have hN : (j 0).val * 16384 + (j 1).val * 16 + (j 2).val < 131072 := by omega
  have key : ∀ (o : ℕ) (ho : o ≤ 4) (hs : S8x1024x16.Slices ![o, 0, 0] S4x1024x16) (n : ℕ) (hn : n < 65536),
      o * 16384 + n = (j 0).val * 16384 + (j 1).val * 16 + (j 2).val →
      gat tb (ixOf ![o, 0, 0] hs (BitVec.ofNat 32 o) a) (ix2 (⟨n, hn⟩ : Fin 65536) (j 3 : Fin 128)) = rows tb a j := by
    intro o ho hs n hn e
    unfold gat rows
    refine congrArg tb (congrArg (fun r : Fin 32768 => ix2 r (j 3 : Fin 128)) (Fin.ext ?_))
    refine congrArg (· % 32768) ((ixOf_at o ho hs a ha n hn).trans ?_)
    have e0 : o + n / 16384 = (j 0).val := by omega
    have e1 : n / 16 % 1024 = (j 1).val := by omega
    have e2 : n % 16 = (j 2).val := by omega
    simp only [e0, e1, e2]
    rfl
  refine (shapeCast_apply _ _ _ (ix2 (⟨(j 0).val * 16384 + (j 1).val * 16 + (j 2).val, hN⟩ : Fin 131072) (j 3 : Fin 128)) ?_).trans ?_
  rotate_left
  · by_cases hb : (j 0).val < 4
    · refine (concatenate_pair_apply_left (t := S131072x128) (s₁ := S65536x128) (s₂ := S65536x128) 0 _ _ _ _ rfl (ix2 (⟨(j 0).val * 16384 + (j 1).val * 16 + (j 2).val, by omega⟩ : Fin 65536) (j 3 : Fin 128)) ?_).trans ?_
      rotate_left
      · exact key 0 (by decide) _ _ _ (by omega)
      · intro b
        match b with
        | ⟨0, _⟩ => rfl
        | ⟨1, _⟩ => rfl
    · refine (concatenate_pair_apply_right (t := S131072x128) (s₁ := S65536x128) (s₂ := S65536x128) 0 _ _ _ _ rfl rfl (ix2 (⟨(j 0).val * 16384 + (j 1).val * 16 + (j 2).val - 65536, by omega⟩ : Fin 65536) (j 3 : Fin 128)) ?_ ?_).trans ?_
      rotate_right
      · exact key 4 (by decide) _ _ _ (by omega)
      · intro b hb
        match b with
        | ⟨0, _⟩ => exact absurd rfl hb
        | ⟨1, _⟩ => rfl
      · exact Nat.sub_add_cancel (n := (j 0).val * 16384 + (j 1).val * 16 + (j 2).val) (m := 65536) (by omega)
  · rw [rowMajor_val4 _ 2097152 2048 128 rfl rfl rfl, rowMajor_val2 _ 128 rfl]
    show ((j 0).val * 16384 + (j 1).val * 16 + (j 2).val) * 128 + (j 3).val = _
    omega

/-! ## The reference's result at an index -/

/-- The reference's `index_points` lowers to a gather by the pair (cloud, index): the entry it reads. -/
theorem gather_at {α : Type} (x : Cert.ReferenceIdeal.S8x4096x128.Idx → α) (q : IVec Cert.ReferenceIdeal.S8x1024x16x2 32)
    (j : Cert.ReferenceIdeal.S8x1024x16x128.Idx) (b : Fin 8) (n : Fin 4096)
    (hb : min (q (ix4 (j 0 : Fin 8) (j 1 : Fin 1024) (j 2 : Fin 16) (0 : Fin 2))).toInt.toNat 7 = b.val)
    (hn : min (q (ix4 (j 0 : Fin 8) (j 1 : Fin 1024) (j 2 : Fin 16) (1 : Fin 2))).toInt.toNat 4095 = n.val) :
    Host.gather Cert.ReferenceIdeal.gather_S8x4096x128_S8x1024x16x2_S8x1024x16x128_3_01_n_n_01_3_11128 x q j = x (ix3 b n (j 3 : Fin 128)) := by
  unfold Host.gather
  refine congrArg x (funext fun a => Fin.ext ?_)
  show GatherDims.start _ j q a + GatherDims.batchCoord _ j a + GatherDims.offCoord _ j a = _
  rw [GatherDims.batchCoord_eq_zero _ _ _ List.not_mem_nil]
  have h3 : a = 0 ∨ a = 1 ∨ a = 2 := by
    match a with
    | ⟨0, _⟩ => exact .inl rfl
    | ⟨1, _⟩ => exact .inr (.inl rfl)
    | ⟨2, _⟩ => exact .inr (.inr rfl)
  rcases h3 with rfl | rfl | rfl
  · rw [GatherDims.offCoord_eq_zero _ _ _ (fun h => ((GatherDims.mem_sKept _ _).mp h).1 (by decide))]
    refine Eq.trans ?_ hb
    simp only [Nat.add_zero]
    unfold GatherDims.start
    rw [dif_pos (by decide)]
    refine congrArg (fun z => min (q z).toInt.toNat 7) (funext fun c => Fin.ext ?_)
    match c with
    | ⟨0, _⟩ => rfl
    | ⟨1, _⟩ => rfl
    | ⟨2, _⟩ => rfl
    | ⟨3, _⟩ => rfl
  · rw [GatherDims.offCoord_eq_zero _ _ _ (fun h => ((GatherDims.mem_sKept _ _).mp h).1 (by decide))]
    refine Eq.trans ?_ hn
    simp only [Nat.add_zero]
    unfold GatherDims.start
    rw [dif_pos (by decide)]
    refine congrArg (fun z => min (q z).toInt.toNat 4095) (funext fun c => Fin.ext ?_)
    match c with
    | ⟨0, _⟩ => rfl
    | ⟨1, _⟩ => rfl
    | ⟨2, _⟩ => rfl
    | ⟨3, _⟩ => rfl
  · unfold GatherDims.start
    rw [dif_neg (by decide)]
    simp only [Nat.add_zero, Nat.zero_add]
    unfold GatherDims.offCoord
    rw [dif_pos (by decide)]
    rfl

end Cert.Proof.Tile

end
-- ==== Proof.Ref.lean ====
/-
  The reference's result at an index, what the precondition says of the indices, and the claims.
-/
module

public import proofs.«01_k».proof.Proof.Value
public import proofs.«01_k».proof.Proof.Gen.ReferenceIdeal.Run
public import proofs.«01_k».proof.Proof.Gen.KernelIdeal

@[expose] public section

noncomputable section

namespace Cert.Proof.Tile

open Idealize.ShloMosaic hiding ix1 ix2 ix3 ix4
open Idealize.ShloMosaic.ValueIdx Idealize.ShloMosaic.TcCoe Idealize.ShloMosaic.StableHlo Idealize.SL.Sem

section Reference
open Cert.ReferenceIdeal Cert.ReferenceIdeal.Gen

/-- The cloud half of the reference's start indices. -/
def cloudOf : S8x1024x16x1.Idx → BitVec 32 :=
  (broadcastInDim S8x1024x16x1 ![0, 1, 2] bcast_S8x1024x16_S8x1024x16x1_0_1_2 (broadcastInDim S8x1024x16 ![0, 1, 2] bcast_S8x1x1_S8x1024x16_0_1_2 (select (cmpi .slt (shapeCast _ (iotaInDim S8 32 0) shapeCasts_S8_S8x1x1) (broadcastInDim S8x1x1 ![] bcast_S_S8x1x1 (constantI S_ 32 0#32))) (addi (shapeCast _ (iotaInDim S8 32 0) shapeCasts_S8_S8x1x1) (broadcastInDim S8x1x1 ![] bcast_S_S8x1x1 (constantI S_ 32 8#32))) (shapeCast _ (iotaInDim S8 32 0) shapeCasts_S8_S8x1x1))))

/-- The row half: a negative index counts from the end. -/
def rowOf (a : S8x1024x16.Idx → BitVec 32) : S8x1024x16x1.Idx → BitVec 32 :=
  (broadcastInDim S8x1024x16x1 ![0, 1, 2] bcast_S8x1024x16_S8x1024x16x1_0_1_2 (select (cmpi .slt a (broadcastInDim S8x1024x16 ![] bcast_S_S8x1024x16 (constantI S_ 32 0#32))) (addi a (broadcastInDim S8x1024x16 ![] bcast_S_S8x1024x16 (constantI S_ 32 4096#32))) a))

/-- The cloud half at an index is the cloud. -/
theorem cloudOf_at (b : Fin 8) (p : Fin 1024) (k : Fin 16) : cloudOf (ix4 b p k (0 : Fin 1)) = BitVec.ofNat 32 b.val := by
  unfold cloudOf
  rw [broadcastInDim_apply _ _ _ _ (ix3 b p k), broadcastInDim_apply _ _ _ _ (ix3 b (0 : Fin 1) (0 : Fin 1))]
  · show Scalar.select (IntOp.cmpi .slt (shapeCast _ (iotaInDim S8 32 0) shapeCasts_S8_S8x1x1 _) 0#32)
      (IntOp.addi (shapeCast _ (iotaInDim S8 32 0) shapeCasts_S8_S8x1x1 _) 8#32) (shapeCast _ (iotaInDim S8 32 0) shapeCasts_S8_S8x1x1 _) = _
    rw [shapeCast_apply _ _ _ (ix1 b)]
    · show Scalar.select (IntOp.cmpi .slt (BitVec.ofNat 32 b.val) 0#32) (IntOp.addi (BitVec.ofNat 32 b.val) 8#32) (BitVec.ofNat 32 b.val) = _
      revert b; decide
    · rw [rowMajor_val1, rowMajor_val3 _ 1 1 rfl rfl]
      show b.val = b.val * 1 + 0 * 1 + 0
      omega
  · intro x
    match x with
    | ⟨0, _⟩ => rfl
    | ⟨1, _⟩ => rfl
    | ⟨2, _⟩ => rfl
  · intro x
    match x with
    | ⟨0, _⟩ => rfl
    | ⟨1, _⟩ => rfl
    | ⟨2, _⟩ => rfl

/-- The row half at an index is the index itself, when it is in range. -/
theorem rowOf_at (a : S8x1024x16.Idx → BitVec 32) (ha : ∀ i, (a i).toNat < 4096) (b : Fin 8) (p : Fin 1024) (k : Fin 16) :
    rowOf a (ix4 b p k (0 : Fin 1)) = a (ix3 b p k) := by
  unfold rowOf
  rw [broadcastInDim_apply _ _ _ _ (ix3 b p k)]
  · show Scalar.select (IntOp.cmpi .slt (a (ix3 b p k)) 0#32) (IntOp.addi (a (ix3 b p k)) 4096#32) (a (ix3 b p k)) = _
    have h : IntOp.cmpi .slt (a (ix3 b p k)) 0#32 = 0#1 := by
      refine eq_zero_of_ne_one fun e => ?_
      have e' := IntOp.cmpi_slt.1 e
      have := ha (ix3 b p k)
      simp only [BitVec.toInt_eq_toNat_cond, BitVec.toNat_ofNat] at e'
      omega
    rw [h, select_zero]
  · intro x
    match x with
    | ⟨0, _⟩ => rfl
    | ⟨1, _⟩ => rfl
    | ⟨2, _⟩ => rfl

/-- The reference's result is the gathered rows. -/
theorem reference_rows {F : FTy → Type} (tb : S32768x128.Idx → BitVec 32) (a : S8x1024x16.Idx → BitVec 32) (ha : ∀ i, (a i).toNat < 4096) :
    Host.gather gather_S8x4096x128_S8x1024x16x2_S8x1024x16x128_3_01_n_n_01_3_11128 (shapeCast S8x4096x128 tb shapeCasts_S32768x128_S8x4096x128)
      (concatenate S8x1024x16x2 3 [⟨S8x1024x16x1, cloudOf⟩, ⟨S8x1024x16x1, rowOf a⟩] concatenates_S8x1024x16x1_S8x1024x16x1_S8x1024x16x2_d3)
      = rows (F := F) tb a := by
  funext j
  have h0 : (j 0).val < 8 := (j 0).isLt
  have hr := ha (ix3 (j 0 : Fin 8) (j 1 : Fin 1024) (j 2 : Fin 16))
  rw [gather_at _ _ j ⟨(j 0).val, h0⟩ ⟨_, hr⟩]
  · refine (shapeCast_apply _ _ _ (ix2 (⟨((a (ix3 (j 0 : Fin 8) (j 1 : Fin 1024) (j 2 : Fin 16))).toNat + 4096 * (j 0).val) % 32768, Nat.mod_lt _ (by decide)⟩ : Fin 32768) (j 3 : Fin 128)) ?_).trans rfl
    rw [rowMajor_val2 _ 128 rfl, rowMajor_val3 _ 524288 128 rfl rfl]
    show ((a (ix3 (j 0 : Fin 8) (j 1 : Fin 1024) (j 2 : Fin 16))).toNat + 4096 * (j 0).val) % 32768 * 128 + (j 3).val
      = (j 0).val * 524288 + (a (ix3 (j 0 : Fin 8) (j 1 : Fin 1024) (j 2 : Fin 16))).toNat * 128 + (j 3).val
    omega
  · refine (congrArg (fun v : BitVec 32 => min v.toInt.toNat 7) ((concatenate_pair_apply_left (t := S8x1024x16x2) (s₁ := S8x1024x16x1) (s₂ := S8x1024x16x1)
      3 _ _ _ _ rfl (ix4 (j 0 : Fin 8) (j 1 : Fin 1024) (j 2 : Fin 16) (0 : Fin 1)) ?_).trans (cloudOf_at _ _ _))).trans ?_
    rotate_left
    · show min (BitVec.ofNat 32 (j 0).val).toInt.toNat 7 = (j 0).val
      simp only [BitVec.toInt_eq_toNat_cond, BitVec.toNat_ofNat]
      omega
    · intro x
      match x with
      | ⟨0, _⟩ => rfl
      | ⟨1, _⟩ => rfl
      | ⟨2, _⟩ => rfl
      | ⟨3, _⟩ => rfl
  · refine (congrArg (fun v : BitVec 32 => min v.toInt.toNat 4095) ((concatenate_pair_apply_right (t := S8x1024x16x2) (s₁ := S8x1024x16x1) (s₂ := S8x1024x16x1)
      3 _ _ _ _ rfl rfl (ix4 (j 0 : Fin 8) (j 1 : Fin 1024) (j 2 : Fin 16) (0 : Fin 1)) ?_ ?_).trans (rowOf_at a ha _ _ _))).trans ?_
    rotate_right
    · show min (a (ix3 (j 0 : Fin 8) (j 1 : Fin 1024) (j 2 : Fin 16))).toInt.toNat 4095 = (a (ix3 (j 0 : Fin 8) (j 1 : Fin 1024) (j 2 : Fin 16))).toNat
      simp only [BitVec.toInt_eq_toNat_cond]
      omega
    · intro x hx
      match x with
      | ⟨0, _⟩ => rfl
      | ⟨1, _⟩ => rfl
      | ⟨2, _⟩ => rfl
      | ⟨3, _⟩ => exact absurd rfl hx
    · rfl

end Reference

/-! ## The precondition -/

/-- The precondition says that every index is below 4096. -/
theorem below {F : FTy → Type} [FloatOps F] (tb : IVec Cert.Pre_in_cloud.S32768x128 32) (a : IVec Cert.Pre_in_cloud.S8x1024x16 32)
    (h : Cert.Pre_in_cloud.fn (F := F) tb a = fun _ => 1#1) (i : Cert.Pre_in_cloud.S8x1024x16.Idx) : (a i).toNat < 4096 := by
  have e := Host.reduce_andi_all _ _ _ _ _ (congrFun h (fun x => x.elim0)) i
  have e2 : IntOp.andi (IntOp.cmpi .sge (a i) 0#32) (IntOp.cmpi .slt (a i) 4096#32) = 1#1 := e
  obtain ⟨h1, h2⟩ := IntOp.andi_eq_one.1 e2
  have h1' := IntOp.cmpi_sge.1 h1
  have h2' := IntOp.cmpi_slt.1 h2
  simp only [BitVec.toInt_eq_toNat_cond, BitVec.toNat_ofNat] at h1' h2'
  omega

/-! ## The claims -/

open Cert.Kernel Cert.Kernel.Gen in
/-- The kernel's run when every index is in range: its arguments end unchanged, its result is the gathered rows, and every
    semaphore ends at zero. One run, for words and for reals. -/
theorem run_rows {F : FTy → Type} [FloatOps F] [∀ e, Nonempty (Elt F e)] (m : (ℓ : Loc nD τ sig) → Buf (Elt F) ℓ) (ρ : Dev nD → PrngReg)
    (h : ∀ d : Dev nD, Cert.Pre_in_cloud.fn (F := F) (m ((d.tc : Thread nD τ).loc main_arg0)) (m ((d.tc : Thread nD τ).loc main_arg1)) = fun _ => 1#1) :
    θ_run (defs (F := F)) (threads (F := F)) ⟨m, fun _ => 0, ρ⟩ fun r => (∀ d : Dev nD,
      r.2.mem ((d.tc : Thread nD τ).loc main_v19) = rows (F := F) (m ((d.tc : Thread nD τ).loc main_arg0)) (m ((d.tc : Thread nD τ).loc main_arg1))
      ∧ r.2.mem ((d.tc : Thread nD τ).loc main_arg0) = m ((d.tc : Thread nD τ).loc main_arg0)
      ∧ r.2.mem ((d.tc : Thread nD τ).loc main_arg1) = m ((d.tc : Thread nD τ).loc main_arg1)) ∧ r.2.sem = fun _ => 0 := by
  have ha : ∀ (d : Dev nD) (i : S8x1024x16.Idx), ((m ((SparseCore.T d).loc main_arg1) i : Elt F .i32) : BitVec 32).toNat < 4096 :=
    fun d i => below (F := F) _ _ (h d) i
  exact (θ_run _ _ _).mono (fun _ hr => ⟨fun d => ⟨(hr.1 d main_v19).trans ((V5_v19 m d).trans (joined _ _ (ha d))),
    (hr.1 d main_arg0).trans (V5_arg0 m d), (hr.1 d main_arg1).trans (V5_arg1 m d)⟩, hr.2⟩) (run_main m ρ (inRows_of m ha))

/-- The gather kernel runs on words, keeps its arguments, and leaves every semaphore at zero. -/
theorem frame_Kernel : Cert.quiescent_Kernel := fun m ρ hp =>
  (θ_run _ _ _).mono (fun _ h => ⟨fun c => (h.1 c).2, h.2⟩) (run_rows (F := Bits) m ρ hp)

/-- The same over the reals. -/
theorem frame_KernelIdeal : Cert.quiescent_KernelIdeal := fun m ρ hp =>
  (θ_run _ _ _).mono (fun _ h => ⟨fun c => (h.1 c).2, h.2⟩) (run_rows (F := Ideal) m ρ hp)

end Cert.Proof.Tile

end
-- ==== Proof.SampleRefRun.lean ====
/-
  The sampling reference's run: its operations in order, part by part, its counted loop, and what each buffer ends with.
-/
module

public import proofs.«01_k».proof.Proof.Gen.SampleReferenceIdeal
public import Idealize.ShloMosaic.Lib.StableHlo.RunLoop
public import Idealize.ShloMosaic.Lib.StableHlo.Run
public import Idealize.ShloMosaic.Lib.StableHlo.Predicate

@[expose] public section

noncomputable section

namespace Cert.Proof.FarRef

open Cert.SampleReferenceIdeal Cert.SampleReferenceIdeal.Gen
open Idealize.ShloMosaic Idealize.ShloMosaic.TcCoe Idealize.ShloMosaic.StableHlo
open Idealize.SL Idealize.SL.BI Idealize.SL.ProofMode Idealize.SL.Sem
open scoped Idealize.SL.BI
open Idealize.SL.BI.BIBase Idealize.SL.BI.Laws
open Idealize.ShloMosaic.Pipeline (ucRefs sub_ucRefs)

variable {F : FTy → Type} [FloatOps F]

/-! ## The operations -/

/-- What the reference does before its loop: the arrays the loop starts from. -/
abbrev before : List (HloOp τ sig (Elt F)) :=
  [ nullary main_c (constantI S_ 32 0#32),
    unary main_c main_v0 (broadcastInDim S8x1024 ![] bcast_S_S8x1024 : (⟨S_, .i32⟩ : BufTy).Contents (Elt F) → (⟨S8x1024, .i32⟩ : BufTy).Contents (Elt F)),
    nullary main_cst (constant S_ .f32 0x501502F9#32),
    unary main_cst main_v1 (broadcastInDim S8x4096 ![] bcast_S_S8x4096 : (⟨S_, .f32⟩ : BufTy).Contents (Elt F) → (⟨S8x4096, .f32⟩ : BufTy).Contents (Elt F)),
    nullary main_c_0 (constantI S_ 32 0#32),
    unary main_c_0 main_v2 (broadcastInDim S8 ![] bcast_S_S8 : (⟨S_, .i32⟩ : BufTy).Contents (Elt F) → (⟨S8, .i32⟩ : BufTy).Contents (Elt F)),
    nullary main_c_1 (constantI S_ 32 0#32),
    nullary main_c_2 (constantI S_ 32 0#32),
    unary main_arg0 main_v3_0 id,
    unary main_c_2 main_v3_1 id,
    unary main_c_1 main_v3_2 id,
    unary main_v0 main_v3_3 id,
    unary main_v1 main_v3_4 id,
    unary main_v2 main_v3_5 id ]

/-- They touch only buffers of a TensorCore. -/
theorem before_sub : (before : List (HloOp τ sig (Elt F))).Forall fun op => op.bufs ⊆ tcRefs τ sig :=
  ⟨nullary_bufs_sub .., unary_bufs_sub .., nullary_bufs_sub .., unary_bufs_sub .., nullary_bufs_sub .., unary_bufs_sub .., nullary_bufs_sub .., nullary_bufs_sub .., unary_bufs_sub .., unary_bufs_sub .., unary_bufs_sub .., unary_bufs_sub .., unary_bufs_sub .., unary_bufs_sub ..⟩

/-- The loop's test: the counter against the number of samples. -/
abbrev test : List (HloOp τ sig (Elt F)) :=
  [ nullary main_while0c_c_12 (constantI S_ 32 1024#32),
    binary main_v3_1 main_while0c_c_12 main_while0c_v21 (cmpi .slt : (⟨S_, .i32⟩ : BufTy).Contents (Elt F) → (⟨S_, .i32⟩ : BufTy).Contents (Elt F) → (⟨S_, .i1⟩ : BufTy).Contents (Elt F)) ]

/-- They touch only buffers of a TensorCore. -/
theorem test_sub : (test : List (HloOp τ sig (Elt F))).Forall fun op => op.bufs ⊆ tcRefs τ sig :=
  ⟨nullary_bufs_sub .., binary_bufs_sub ..⟩

/-- A trip's first part: the last point chosen is written down. -/
abbrev keep : List (HloOp τ sig (Elt F)) :=
  [ nullary main_while0b_c_12 (constantI S_ 32 1#32),
    binary main_v3_2 main_while0b_c_12 main_while0b_v21 (addi : (⟨S_, .i32⟩ : BufTy).Contents (Elt F) → (⟨S_, .i32⟩ : BufTy).Contents (Elt F) → (⟨S_, .i32⟩ : BufTy).Contents (Elt F)),
    nullary main_while0b_c_13 (constantI S_ 32 0#32),
    binary main_v3_2 main_while0b_c_13 main_while0b_v22 (cmpi .slt : (⟨S_, .i32⟩ : BufTy).Contents (Elt F) → (⟨S_, .i32⟩ : BufTy).Contents (Elt F) → (⟨S_, .i1⟩ : BufTy).Contents (Elt F)),
    nullary main_while0b_c_14 (constantI S_ 32 1024#32),
    binary main_v3_2 main_while0b_c_14 main_while0b_v23 (addi : (⟨S_, .i32⟩ : BufTy).Contents (Elt F) → (⟨S_, .i32⟩ : BufTy).Contents (Elt F) → (⟨S_, .i32⟩ : BufTy).Contents (Elt F)),
    ternary main_while0b_v22 main_while0b_v23 main_v3_2 main_while0b_v24 (select : (⟨S_, .i1⟩ : BufTy).Contents (Elt F) → (⟨S_, .i32⟩ : BufTy).Contents (Elt F) → (⟨S_, .i32⟩ : BufTy).Contents (Elt F) → (⟨S_, .i32⟩ : BufTy).Contents (Elt F)),
    unary main_while0b_v24 main_while0b_v25 (id : (⟨S_, .i32⟩ : BufTy).Contents (Elt F) → (⟨S_, .i32⟩ : BufTy).Contents (Elt F)),
    unary main_while0b_v25 main_while0b_v26 (broadcastInDim S1 ![] bcast_S_S1 : (⟨S_, .i32⟩ : BufTy).Contents (Elt F) → (⟨S1, .i32⟩ : BufTy).Contents (Elt F)),
    ternary main_v3_3 main_while0b_v26 main_v3_5 main_while0b_v27 ((fun x i u => Host.scatter scatter_S8x1024_S1_S8_0_1_1_0 (fun _ b => b) x i u) : (⟨S8x1024, .i32⟩ : BufTy).Contents (Elt F) → (⟨S1, .i32⟩ : BufTy).Contents (Elt F) → (⟨S8, .i32⟩ : BufTy).Contents (Elt F) → (⟨S8x1024, .i32⟩ : BufTy).Contents (Elt F)),
    unary main_v3_5 main_while0b_v28 (broadcastInDim S8x1x1 ![0] bcast_S8_S8x1x1_0 : (⟨S8, .i32⟩ : BufTy).Contents (Elt F) → (⟨S8x1x1, .i32⟩ : BufTy).Contents (Elt F)) ]

/-- They touch only buffers of a TensorCore. -/
theorem keep_sub : (keep : List (HloOp τ sig (Elt F))).Forall fun op => op.bufs ⊆ tcRefs τ sig :=
  ⟨nullary_bufs_sub .., binary_bufs_sub .., nullary_bufs_sub .., binary_bufs_sub .., nullary_bufs_sub .., binary_bufs_sub .., ternary_bufs_sub .., unary_bufs_sub .., unary_bufs_sub .., ternary_bufs_sub .., unary_bufs_sub ..⟩

/-- A trip's second part: the coordinates of the last point chosen. -/
abbrev take : List (HloOp τ sig (Elt F)) :=
  [ nullary main_while0b_call0_c (constantI S_ 32 0#32),
    unary main_while0b_call0_c main_while0b_call0_v0 ((broadcastInDim S8x1x1 ![] bcast_S_S8x1x1) : (⟨S_, .i32⟩ : BufTy).Contents (Elt F) → (⟨S8x1x1, .i32⟩ : BufTy).Contents (Elt F)),
    binary main_while0b_v28 main_while0b_call0_v0 main_while0b_call0_v1 ((cmpi .slt) : (⟨S8x1x1, .i32⟩ : BufTy).Contents (Elt F) → (⟨S8x1x1, .i32⟩ : BufTy).Contents (Elt F) → (⟨S8x1x1, .i1⟩ : BufTy).Contents (Elt F)),
    nullary main_while0b_call0_c_0 (constantI S_ 32 4096#32),
    unary main_while0b_call0_c_0 main_while0b_call0_v2 ((broadcastInDim S8x1x1 ![] bcast_S_S8x1x1) : (⟨S_, .i32⟩ : BufTy).Contents (Elt F) → (⟨S8x1x1, .i32⟩ : BufTy).Contents (Elt F)),
    binary main_while0b_v28 main_while0b_call0_v2 main_while0b_call0_v3 (addi : (⟨S8x1x1, .i32⟩ : BufTy).Contents (Elt F) → (⟨S8x1x1, .i32⟩ : BufTy).Contents (Elt F) → (⟨S8x1x1, .i32⟩ : BufTy).Contents (Elt F)),
    ternary main_while0b_call0_v1 main_while0b_call0_v3 main_while0b_v28 main_while0b_call0_v4 (select : (⟨S8x1x1, .i1⟩ : BufTy).Contents (Elt F) → (⟨S8x1x1, .i32⟩ : BufTy).Contents (Elt F) → (⟨S8x1x1, .i32⟩ : BufTy).Contents (Elt F) → (⟨S8x1x1, .i32⟩ : BufTy).Contents (Elt F)),
    nullary main_while0b_call0_c_1 (constantI S1 32 4095#32),
    nullary main_while0b_call0_c_2 (constantI S_ 32 0#32),
    unary main_while0b_call0_c_2 main_while0b_call0_v5 ((broadcastInDim S8x1x1 ![] bcast_S_S8x1x1) : (⟨S_, .i32⟩ : BufTy).Contents (Elt F) → (⟨S8x1x1, .i32⟩ : BufTy).Contents (Elt F)),
    binary main_while0b_call0_v4 main_while0b_call0_v5 main_while0b_call0_v6 ((cmpi .sge) : (⟨S8x1x1, .i32⟩ : BufTy).Contents (Elt F) → (⟨S8x1x1, .i32⟩ : BufTy).Contents (Elt F) → (⟨S8x1x1, .i1⟩ : BufTy).Contents (Elt F)),
    unary main_while0b_call0_c_1 main_while0b_call0_v7 ((broadcastInDim S1x1x1 ![2] bcast_S1_S1x1x1_2) : (⟨S1, .i32⟩ : BufTy).Contents (Elt F) → (⟨S1x1x1, .i32⟩ : BufTy).Contents (Elt F)),
    unary main_while0b_call0_v7 main_while0b_call0_v8 ((broadcastInDim S8x1x1 ![0, 1, 2] bcast_S1x1x1_S8x1x1_0_1_2) : (⟨S1x1x1, .i32⟩ : BufTy).Contents (Elt F) → (⟨S8x1x1, .i32⟩ : BufTy).Contents (Elt F)),
    binary main_while0b_call0_v4 main_while0b_call0_v8 main_while0b_call0_v9 ((cmpi .sle) : (⟨S8x1x1, .i32⟩ : BufTy).Contents (Elt F) → (⟨S8x1x1, .i32⟩ : BufTy).Contents (Elt F) → (⟨S8x1x1, .i1⟩ : BufTy).Contents (Elt F)),
    binary main_while0b_call0_v6 main_while0b_call0_v9 main_while0b_call0_v10 (andi : (⟨S8x1x1, .i1⟩ : BufTy).Contents (Elt F) → (⟨S8x1x1, .i1⟩ : BufTy).Contents (Elt F) → (⟨S8x1x1, .i1⟩ : BufTy).Contents (Elt F)),
    nullary main_while0b_call0_c_3 (constantI S_ 1 1#1),
    binary main_while0b_call0_v10 main_while0b_call0_c_3 main_while0b_call0_v11 ((fun x v => Host.reduce IntOp.andi x v reducesTo_S8x1x1_S8x1_d2 h_S_) : (⟨S8x1x1, .i1⟩ : BufTy).Contents (Elt F) → (⟨S_, .i1⟩ : BufTy).Contents (Elt F) → (⟨S8x1, .i1⟩ : BufTy).Contents (Elt F)),
    binary main_v3_0 main_while0b_call0_v4 main_while0b_call0_v12 ((fun x i => Host.gather gather_S8x4096x3_S8x1x1_S8x1x3_2_1_0_0_1_2_113 x i) : (⟨S8x4096x3, .f32⟩ : BufTy).Contents (Elt F) → (⟨S8x1x1, .i32⟩ : BufTy).Contents (Elt F) → (⟨S8x1x3, .f32⟩ : BufTy).Contents (Elt F)),
    unary main_while0b_call0_v11 main_while0b_call0_v13 ((broadcastInDim S8x1x3 ![0, 1] bcast_S8x1_S8x1x3_0_1) : (⟨S8x1, .i1⟩ : BufTy).Contents (Elt F) → (⟨S8x1x3, .i1⟩ : BufTy).Contents (Elt F)),
    nullary main_while0b_call0_cst (constant S_ .f32 0x7FC00000#32),
    unary main_while0b_call0_cst main_while0b_call0_v14 ((broadcastInDim S8x1x3 ![] bcast_S_S8x1x3) : (⟨S_, .f32⟩ : BufTy).Contents (Elt F) → (⟨S8x1x3, .f32⟩ : BufTy).Contents (Elt F)),
    ternary main_while0b_call0_v13 main_while0b_call0_v12 main_while0b_call0_v14 main_while0b_v29 (select : (⟨S8x1x3, .i1⟩ : BufTy).Contents (Elt F) → (⟨S8x1x3, .f32⟩ : BufTy).Contents (Elt F) → (⟨S8x1x3, .f32⟩ : BufTy).Contents (Elt F) → (⟨S8x1x3, .f32⟩ : BufTy).Contents (Elt F)) ]

/-- They touch only buffers of a TensorCore. -/
theorem take_sub : (take : List (HloOp τ sig (Elt F))).Forall fun op => op.bufs ⊆ tcRefs τ sig :=
  ⟨nullary_bufs_sub .., unary_bufs_sub .., binary_bufs_sub .., nullary_bufs_sub .., unary_bufs_sub .., binary_bufs_sub .., ternary_bufs_sub .., nullary_bufs_sub .., nullary_bufs_sub .., unary_bufs_sub .., binary_bufs_sub .., unary_bufs_sub .., unary_bufs_sub .., binary_bufs_sub .., binary_bufs_sub .., nullary_bufs_sub .., binary_bufs_sub .., binary_bufs_sub .., unary_bufs_sub .., nullary_bufs_sub .., unary_bufs_sub .., ternary_bufs_sub ..⟩

/-- A trip's third part: the squared distance of every point to it, and the least so far. -/
abbrev near : List (HloOp τ sig (Elt F)) :=
  [ unary main_while0b_v29 main_while0b_v30 (broadcastInDim S8x4096x3 ![0, 1, 2] bcast_S8x1x3_S8x4096x3_0_1_2 : (⟨S8x1x3, .f32⟩ : BufTy).Contents (Elt F) → (⟨S8x4096x3, .f32⟩ : BufTy).Contents (Elt F)),
    binary main_v3_0 main_while0b_v30 main_while0b_v31 (subf : (⟨S8x4096x3, .f32⟩ : BufTy).Contents (Elt F) → (⟨S8x4096x3, .f32⟩ : BufTy).Contents (Elt F) → (⟨S8x4096x3, .f32⟩ : BufTy).Contents (Elt F)),
    binary main_while0b_v31 main_while0b_v31 main_while0b_v32 (mulf : (⟨S8x4096x3, .f32⟩ : BufTy).Contents (Elt F) → (⟨S8x4096x3, .f32⟩ : BufTy).Contents (Elt F) → (⟨S8x4096x3, .f32⟩ : BufTy).Contents (Elt F)),
    nullary main_while0b_cst_15 (constant S_ .f32 0x00000000#32),
    binary main_while0b_v32 main_while0b_cst_15 main_while0b_v33 ((fun x v => Host.reduceAdd x v reducesTo_S8x4096x3_S8x4096_d2 h_S_) : (⟨S8x4096x3, .f32⟩ : BufTy).Contents (Elt F) → (⟨S_, .f32⟩ : BufTy).Contents (Elt F) → (⟨S8x4096, .f32⟩ : BufTy).Contents (Elt F)),
    binary main_v3_4 main_while0b_v33 main_while0b_v34 (minimumf : (⟨S8x4096, .f32⟩ : BufTy).Contents (Elt F) → (⟨S8x4096, .f32⟩ : BufTy).Contents (Elt F) → (⟨S8x4096, .f32⟩ : BufTy).Contents (Elt F)) ]

/-- They touch only buffers of a TensorCore. -/
theorem near_sub : (near : List (HloOp τ sig (Elt F))).Forall fun op => op.bufs ⊆ tcRefs τ sig :=
  ⟨unary_bufs_sub .., binary_bufs_sub .., binary_bufs_sub .., nullary_bufs_sub .., binary_bufs_sub .., binary_bufs_sub ..⟩

/-- A trip's fourth part: the first point at the greatest distance. -/
abbrev far : List (HloOp τ sig (Elt F)) :=
  [ nullary main_while0b_call1_v0 (iotaInDim S8x4096 32 1),
    nullary main_while0b_call1_cst (constant S_ .f32 0xFF800000#32),
    nullary main_while0b_call1_c (constantI S_ 32 0#32),
    quaternary main_while0b_v34 main_while0b_call1_v0 main_while0b_call1_cst main_while0b_call1_c main_while0b_call1_v1_0 ((fun x y u v j => (Host.argReduce reducer_argmax_f32_i32 x y u v reducesTo_S8x4096_S8_d1 h_S_ j).1) : (⟨S8x4096, .f32⟩ : BufTy).Contents (Elt F) → (⟨S8x4096, .i32⟩ : BufTy).Contents (Elt F) → (⟨S_, .f32⟩ : BufTy).Contents (Elt F) → (⟨S_, .i32⟩ : BufTy).Contents (Elt F) → (⟨S8, .f32⟩ : BufTy).Contents (Elt F)),
    quaternary main_while0b_v34 main_while0b_call1_v0 main_while0b_call1_cst main_while0b_call1_c main_while0b_v35 ((fun x y u v j => (Host.argReduce reducer_argmax_f32_i32 x y u v reducesTo_S8x4096_S8_d1 h_S_ j).2) : (⟨S8x4096, .f32⟩ : BufTy).Contents (Elt F) → (⟨S8x4096, .i32⟩ : BufTy).Contents (Elt F) → (⟨S_, .f32⟩ : BufTy).Contents (Elt F) → (⟨S_, .i32⟩ : BufTy).Contents (Elt F) → (⟨S8, .i32⟩ : BufTy).Contents (Elt F)) ]

/-- They touch only buffers of a TensorCore. -/
theorem far_sub : (far : List (HloOp τ sig (Elt F))).Forall fun op => op.bufs ⊆ tcRefs τ sig :=
  ⟨nullary_bufs_sub .., nullary_bufs_sub .., nullary_bufs_sub .., quaternary_bufs_sub .., quaternary_bufs_sub ..⟩

/-- A trip's last part: the counter goes up, and the results become what the next trip starts from. -/
abbrev carry : List (HloOp τ sig (Elt F)) :=
  [ nullary main_while0b_c_16 (constantI S_ 32 1#32),
    binary main_v3_1 main_while0b_c_16 main_while0b_v36 (addi : (⟨S_, .i32⟩ : BufTy).Contents (Elt F) → (⟨S_, .i32⟩ : BufTy).Contents (Elt F) → (⟨S_, .i32⟩ : BufTy).Contents (Elt F)),
    unary main_while0b_v36 main_v3_1 id,
    unary main_while0b_v21 main_v3_2 id,
    unary main_while0b_v27 main_v3_3 id,
    unary main_while0b_v34 main_v3_4 id,
    unary main_while0b_v35 main_v3_5 id ]

/-- They touch only buffers of a TensorCore. -/
theorem carry_sub : (carry : List (HloOp τ sig (Elt F))).Forall fun op => op.bufs ⊆ tcRefs τ sig :=
  ⟨nullary_bufs_sub .., binary_bufs_sub .., unary_bufs_sub .., unary_bufs_sub .., unary_bufs_sub .., unary_bufs_sub .., unary_bufs_sub ..⟩

/-- What the reference does after its loop: the chosen points' rows are gathered. -/
abbrev read : List (HloOp τ sig (Elt F)) :=
  [ nullary main_v4 (iotaInDim S8 32 0),
    reshape main_v4 main_v5 (rfl : (.i32 : EltTy) = .i32) shapeCasts_S8_S8x1,
    nullary main_c_3 (constantI S_ 32 0#32),
    unary main_c_3 main_v6 (broadcastInDim S8x1 ![] bcast_S_S8x1 : (⟨S_, .i32⟩ : BufTy).Contents (Elt F) → (⟨S8x1, .i32⟩ : BufTy).Contents (Elt F)),
    binary main_v5 main_v6 main_v7 (cmpi .slt : (⟨S8x1, .i32⟩ : BufTy).Contents (Elt F) → (⟨S8x1, .i32⟩ : BufTy).Contents (Elt F) → (⟨S8x1, .i1⟩ : BufTy).Contents (Elt F)),
    nullary main_c_4 (constantI S_ 32 8#32),
    unary main_c_4 main_v8 (broadcastInDim S8x1 ![] bcast_S_S8x1 : (⟨S_, .i32⟩ : BufTy).Contents (Elt F) → (⟨S8x1, .i32⟩ : BufTy).Contents (Elt F)),
    binary main_v5 main_v8 main_v9 (addi : (⟨S8x1, .i32⟩ : BufTy).Contents (Elt F) → (⟨S8x1, .i32⟩ : BufTy).Contents (Elt F) → (⟨S8x1, .i32⟩ : BufTy).Contents (Elt F)),
    ternary main_v7 main_v9 main_v5 main_v10 (select : (⟨S8x1, .i1⟩ : BufTy).Contents (Elt F) → (⟨S8x1, .i32⟩ : BufTy).Contents (Elt F) → (⟨S8x1, .i32⟩ : BufTy).Contents (Elt F) → (⟨S8x1, .i32⟩ : BufTy).Contents (Elt F)),
    nullary main_c_5 (constantI S_ 32 0#32),
    unary main_c_5 main_v11 (broadcastInDim S8x1024 ![] bcast_S_S8x1024 : (⟨S_, .i32⟩ : BufTy).Contents (Elt F) → (⟨S8x1024, .i32⟩ : BufTy).Contents (Elt F)),
    binary main_v3_3 main_v11 main_v12 (cmpi .slt : (⟨S8x1024, .i32⟩ : BufTy).Contents (Elt F) → (⟨S8x1024, .i32⟩ : BufTy).Contents (Elt F) → (⟨S8x1024, .i1⟩ : BufTy).Contents (Elt F)),
    nullary main_c_6 (constantI S_ 32 4096#32),
    unary main_c_6 main_v13 (broadcastInDim S8x1024 ![] bcast_S_S8x1024 : (⟨S_, .i32⟩ : BufTy).Contents (Elt F) → (⟨S8x1024, .i32⟩ : BufTy).Contents (Elt F)),
    binary main_v3_3 main_v13 main_v14 (addi : (⟨S8x1024, .i32⟩ : BufTy).Contents (Elt F) → (⟨S8x1024, .i32⟩ : BufTy).Contents (Elt F) → (⟨S8x1024, .i32⟩ : BufTy).Contents (Elt F)),
    ternary main_v12 main_v14 main_v3_3 main_v15 (select : (⟨S8x1024, .i1⟩ : BufTy).Contents (Elt F) → (⟨S8x1024, .i32⟩ : BufTy).Contents (Elt F) → (⟨S8x1024, .i32⟩ : BufTy).Contents (Elt F) → (⟨S8x1024, .i32⟩ : BufTy).Contents (Elt F)),
    unary main_v10 main_v16 (broadcastInDim S8x1024 ![0, 1] bcast_S8x1_S8x1024_0_1 : (⟨S8x1, .i32⟩ : BufTy).Contents (Elt F) → (⟨S8x1024, .i32⟩ : BufTy).Contents (Elt F)),
    unary main_v16 main_v17 (broadcastInDim S8x1024x1 ![0, 1] bcast_S8x1024_S8x1024x1_0_1 : (⟨S8x1024, .i32⟩ : BufTy).Contents (Elt F) → (⟨S8x1024x1, .i32⟩ : BufTy).Contents (Elt F)),
    unary main_v15 main_v18 (broadcastInDim S8x1024x1 ![0, 1] bcast_S8x1024_S8x1024x1_0_1 : (⟨S8x1024, .i32⟩ : BufTy).Contents (Elt F) → (⟨S8x1024x1, .i32⟩ : BufTy).Contents (Elt F)),
    binary main_v17 main_v18 main_v19 ((fun a b => concatenate S8x1024x2 2 [⟨S8x1024x1, a⟩, ⟨S8x1024x1, b⟩] concatenates_S8x1024x1_S8x1024x1_S8x1024x2_d2) : (⟨S8x1024x1, .i32⟩ : BufTy).Contents (Elt F) → (⟨S8x1024x1, .i32⟩ : BufTy).Contents (Elt F) → (⟨S8x1024x2, .i32⟩ : BufTy).Contents (Elt F)),
    binary main_arg0 main_v19 main_v20 ((fun x i => Host.gather gather_S8x4096x3_S8x1024x2_S8x1024x3_2_01_n_n_01_2_113 x i) : (⟨S8x4096x3, .f32⟩ : BufTy).Contents (Elt F) → (⟨S8x1024x2, .i32⟩ : BufTy).Contents (Elt F) → (⟨S8x1024x3, .f32⟩ : BufTy).Contents (Elt F)) ]

/-- They touch only buffers of a TensorCore. -/
theorem read_sub : (read : List (HloOp τ sig (Elt F))).Forall fun op => op.bufs ⊆ tcRefs τ sig :=
  ⟨nullary_bufs_sub .., reshape_bufs_sub .., nullary_bufs_sub .., unary_bufs_sub .., binary_bufs_sub .., nullary_bufs_sub .., unary_bufs_sub .., binary_bufs_sub .., ternary_bufs_sub .., nullary_bufs_sub .., unary_bufs_sub .., binary_bufs_sub .., nullary_bufs_sub .., unary_bufs_sub .., binary_bufs_sub .., ternary_bufs_sub .., unary_bufs_sub .., unary_bufs_sub .., unary_bufs_sub .., binary_bufs_sub .., binary_bufs_sub ..⟩

/-- A trip's parts, in order. -/
abbrev parts : List (List (HloOp τ sig (Elt F))) := [keep, take, near, far, carry]

/-- A trip is its parts, one after the other. -/
theorem body_eq : main_while0_body (F := F) = Pipeline.chain (parts.map fun ops => (seq ops : Prog _ PUnit)) := by
  unfold parts
  simp only [List.map_cons, List.map_nil]
  unfold main_while0_body
  rewrite [chain_seq_cons, chain_seq_cons, chain_seq_cons, chain_seq_cons, chain_seq_cons]
  chain_rfl

/-- The reference is what comes before its loop, the loop, and what comes after. -/
theorem main_eq (c : Dev nD) : main (F := F) c
    = Pipeline.chain (([before].map fun ops => (seq ops : Prog _ PUnit)) ++ HostLoop.enter 0 :: [read].map fun ops => (seq ops : Prog _ PUnit)) := by
  simp only [List.map_cons, List.map_nil, List.cons_append, List.nil_append]
  unfold main
  rewrite [chain_seq_cons, Pipeline.chain_cons, chain_seq_cons]
  chain_rfl

/-! ## What the parts compute -/

/-- What the loop carries: the points, the counter, the sample's number, the points chosen, the least squared distances, and the last point
    chosen. -/
structure Carry (F : FTy → Type) where
  /-- The points. -/
  points : FVec F S8x4096x3 .f32
  /-- The counter. -/
  count : IVec S_ 32
  /-- The number of the sample to write down. -/
  index : IVec S_ 32
  /-- The points chosen so far. -/
  chosen : IVec S8x1024 32
  /-- The least squared distance of each point to those chosen. -/
  dist : FVec F S8x4096 .f32
  /-- The last point chosen. -/
  last : IVec S8 32

/-- One more than a number. -/
def next (i : IVec S_ 32) : IVec S_ 32 := addi i (constantI S_ 32 1#32)

/-- The chosen points with the last one written down. -/
def kept (ids : IVec S8x1024 32) (i : IVec S_ 32) (pt : IVec S8 32) : IVec S8x1024 32 :=
  Host.scatter scatter_S8x1024_S1_S8_0_1_1_0 (fun _ b => b) ids
    (broadcastInDim S1 ![] bcast_S_S1 (select (cmpi .slt i (constantI S_ 32 0#32)) (addi i (constantI S_ 32 1024#32)) i)) pt

/-- A batch of point numbers with a number below nought counted from the end. -/
def wrapped (i : IVec S8x1x1 32) : IVec S8x1x1 32 :=
  select (cmpi .slt i (broadcastInDim S8x1x1 ![] bcast_S_S8x1x1 (constantI S_ 32 0#32)))
    (addi i (broadcastInDim S8x1x1 ![] bcast_S_S8x1x1 (constantI S_ 32 4096#32))) i

/-- Whether each number is that of a point. -/
def inside (i : IVec S8x1x1 32) : IVec S8x1 1 :=
  Host.reduce IntOp.andi
    (andi (cmpi .sge i (broadcastInDim S8x1x1 ![] bcast_S_S8x1x1 (constantI S_ 32 0#32)))
      (cmpi .sle i (broadcastInDim S8x1x1 ![0, 1, 2] bcast_S1x1x1_S8x1x1_0_1_2 (broadcastInDim S1x1x1 ![2] bcast_S1_S1x1x1_2 (constantI S1 32 4095#32)))))
    (constantI S_ 1 1#1) reducesTo_S8x1x1_S8x1_d2 h_S_

/-- The coordinates of one point of each cloud. -/
def taken (x : FVec F S8x4096x3 .f32) (pt : IVec S8 32) : FVec F S8x1x3 .f32 :=
  select (broadcastInDim S8x1x3 ![0, 1] bcast_S8x1_S8x1x3_0_1 (inside (wrapped (broadcastInDim S8x1x1 ![0] bcast_S8_S8x1x1_0 pt))))
    (Host.gather gather_S8x4096x3_S8x1x1_S8x1x3_2_1_0_0_1_2_113 x (wrapped (broadcastInDim S8x1x1 ![0] bcast_S8_S8x1x1_0 pt)))
    (broadcastInDim S8x1x3 ![] bcast_S_S8x1x3 (constant S_ .f32 0x7FC00000#32))

/-- Every point's difference to one point of its cloud. -/
def apart (x : FVec F S8x4096x3 .f32) (p : FVec F S8x1x3 .f32) : FVec F S8x4096x3 .f32 :=
  subf x (broadcastInDim S8x4096x3 ![0, 1, 2] bcast_S8x1x3_S8x4096x3_0_1_2 p)

/-- The least squared distances once one more point is chosen. -/
def nearer (x : FVec F S8x4096x3 .f32) (p : FVec F S8x1x3 .f32) (d : FVec F S8x4096 .f32) : FVec F S8x4096 .f32 :=
  minimumf d (Host.reduceAdd (mulf (apart x p) (apart x p)) (constant S_ .f32 0x00000000#32) reducesTo_S8x4096x3_S8x4096_d2 h_S_)

/-- The first point at the greatest distance. -/
def farthest (d : FVec F S8x4096 .f32) : IVec S8 32 := fun j =>
  (Host.argReduce reducer_argmax_f32_i32 d (iotaInDim S8x4096 32 1) (constant S_ .f32 0xFF800000#32) (constantI S_ 32 0#32) reducesTo_S8x4096_S8_d1 h_S_ j).2

/-- One trip of the loop. -/
def turn (s : Carry F) : Carry F where
  points := s.points
  count := next s.count
  index := next s.index
  chosen := kept s.chosen s.index s.last
  dist := nearer s.points (taken s.points s.last) s.dist
  last := farthest (nearer s.points (taken s.points s.last) s.dist)

/-- The last point chosen after a trip. -/
theorem turn_last (s : Carry F) : (turn s).last = farthest (nearer s.points (taken s.points s.last) s.dist) := by
  unfold turn
  dsimp only

/-- What the loop starts from. -/
def start (x : FVec F S8x4096x3 .f32) : Carry F where
  points := x
  count := constantI S_ 32 0#32
  index := constantI S_ 32 0#32
  chosen := broadcastInDim S8x1024 ![] bcast_S_S8x1024 (constantI S_ 32 0#32)
  dist := broadcastInDim S8x4096 ![] bcast_S_S8x4096 (constant S_ .f32 0x501502F9#32)
  last := broadcastInDim S8 ![] bcast_S_S8 (constantI S_ 32 0#32)

/-- The clouds' numbers, in a column. -/
def numbers : IVec S8x1 32 := shapeCast S8x1 (iotaInDim S8 32 0) shapeCasts_S8_S8x1

/-- The numbers of the clouds, one for each sample, next to the samples' points. -/
def rows (ids : IVec S8x1024 32) : IVec S8x1024x2 32 :=
  concatenate S8x1024x2 2
    [⟨S8x1024x1, broadcastInDim S8x1024x1 ![0, 1] bcast_S8x1024_S8x1024x1_0_1 (broadcastInDim S8x1024 ![0, 1] bcast_S8x1_S8x1024_0_1
        (select (cmpi .slt numbers (broadcastInDim S8x1 ![] bcast_S_S8x1 (constantI S_ 32 0#32)))
          (addi numbers (broadcastInDim S8x1 ![] bcast_S_S8x1 (constantI S_ 32 8#32)))
          numbers))⟩,
      ⟨S8x1024x1, broadcastInDim S8x1024x1 ![0, 1] bcast_S8x1024_S8x1024x1_0_1
        (select (cmpi .slt ids (broadcastInDim S8x1024 ![] bcast_S_S8x1024 (constantI S_ 32 0#32)))
          (addi ids (broadcastInDim S8x1024 ![] bcast_S_S8x1024 (constantI S_ 32 4096#32))) ids)⟩]
    concatenates_S8x1024x1_S8x1024x1_S8x1024x2_d2

/-- The rows of the points at the chosen places. -/
def fetched (x : FVec F S8x4096x3 .f32) (ids : IVec S8x1024 32) : FVec F S8x1024x3 .f32 :=
  Host.gather gather_S8x4096x3_S8x1024x2_S8x1024x3_2_01_n_n_01_2_113 x (rows ids)

/-! ## What the buffers hold -/

/-- What the loop carries, as the buffers hold it. -/
def carried (W : Valuation τ sig (Elt F)) : Carry F where
  points := W main_v3_0
  count := W main_v3_1
  index := W main_v3_2
  chosen := W main_v3_3
  dist := W main_v3_4
  last := W main_v3_5

/-- Before the loop the buffers hold what the loop starts from, and the argument. -/
theorem before_at (W : Valuation τ sig (Elt F)) : carried (after before W) = start (W main_arg0) ∧ after before W main_arg0 = W main_arg0 := by
  constructor
  · have h0 : after before W main_v3_0 = W main_arg0 := by after_results <;> rfl
    have h1 : after before W main_v3_1 = (start (F := F) (W main_arg0)).count := by after_results <;> rfl
    have h2 : after before W main_v3_2 = (start (F := F) (W main_arg0)).index := by after_results <;> rfl
    have h3 : after before W main_v3_3 = (start (F := F) (W main_arg0)).chosen := by after_results <;> rfl
    have h4 : after before W main_v3_4 = (start (F := F) (W main_arg0)).dist := by after_results <;> rfl
    have h5 : after before W main_v3_5 = (start (F := F) (W main_arg0)).last := by after_results <;> rfl
    unfold carried; rw [h0, h1, h2, h3, h4, h5]; rfl
  · after_results <;> rfl

/-- The test changes nothing the loop carries. -/
theorem test_at (W : Valuation τ sig (Elt F)) : carried (after test W) = carried W ∧ after test W main_arg0 = W main_arg0 := by
  constructor
  · have h0 : after test W main_v3_0 = W main_v3_0 := by after_results <;> rfl
    have h1 : after test W main_v3_1 = W main_v3_1 := by after_results <;> rfl
    have h2 : after test W main_v3_2 = W main_v3_2 := by after_results <;> rfl
    have h3 : after test W main_v3_3 = W main_v3_3 := by after_results <;> rfl
    have h4 : after test W main_v3_4 = W main_v3_4 := by after_results <;> rfl
    have h5 : after test W main_v3_5 = W main_v3_5 := by after_results <;> rfl
    unfold carried; rw [h0, h1, h2, h3, h4, h5]
  · after_results <;> rfl

/-- What a trip's first part leaves. -/
theorem keep_at (W : Valuation τ sig (Elt F)) :
    after keep W main_arg0 = W main_arg0 ∧ after keep W main_v3_0 = W main_v3_0 ∧ after keep W main_v3_1 = W main_v3_1 ∧ after keep W main_v3_4 = W main_v3_4
      ∧ after keep W main_while0b_v21 = next (W main_v3_2) ∧ after keep W main_while0b_v27 = kept (W main_v3_3) (W main_v3_2) (W main_v3_5)
      ∧ after keep W main_while0b_v28 = broadcastInDim S8x1x1 ![0] bcast_S8_S8x1x1_0 (W main_v3_5 : IVec S8 32) := by
  refine ⟨?_, ?_, ?_, ?_, ?_, ?_, ?_⟩ <;> (after_results <;> rfl)

/-- What a trip's second part leaves. -/
theorem take_at (W : Valuation τ sig (Elt F)) (pt : IVec S8 32) (h : W main_while0b_v28 = broadcastInDim S8x1x1 ![0] bcast_S8_S8x1x1_0 pt) :
    after take W main_arg0 = W main_arg0 ∧ after take W main_v3_0 = W main_v3_0 ∧ after take W main_v3_1 = W main_v3_1 ∧ after take W main_v3_4 = W main_v3_4
      ∧ after take W main_while0b_v21 = W main_while0b_v21 ∧ after take W main_while0b_v27 = W main_while0b_v27
      ∧ after take W main_while0b_v29 = taken (F := F) (W main_v3_0) pt := by
  refine ⟨?_, ?_, ?_, ?_, ?_, ?_, ?_⟩
  iterate 6 (after_results <;> rfl)
  unfold taken
  rw [← h]
  after_results <;> rfl

/-- What a trip's third part leaves. -/
theorem near_at (W : Valuation τ sig (Elt F)) :
    after near W main_arg0 = W main_arg0 ∧ after near W main_v3_0 = W main_v3_0 ∧ after near W main_v3_1 = W main_v3_1
      ∧ after near W main_while0b_v21 = W main_while0b_v21 ∧ after near W main_while0b_v27 = W main_while0b_v27
      ∧ after near W main_while0b_v34 = nearer (F := F) (W main_v3_0) (W main_while0b_v29) (W main_v3_4) := by
  refine ⟨?_, ?_, ?_, ?_, ?_, ?_⟩ <;> (after_results <;> rfl)

/-- What a trip's fourth part leaves. -/
theorem far_at (W : Valuation τ sig (Elt F)) :
    after far W main_arg0 = W main_arg0 ∧ after far W main_v3_0 = W main_v3_0 ∧ after far W main_v3_1 = W main_v3_1
      ∧ after far W main_while0b_v21 = W main_while0b_v21 ∧ after far W main_while0b_v27 = W main_while0b_v27
      ∧ after far W main_while0b_v34 = W main_while0b_v34 ∧ after far W main_while0b_v35 = farthest (F := F) (W main_while0b_v34) := by
  refine ⟨?_, ?_, ?_, ?_, ?_, ?_, ?_⟩ <;> (after_results <;> rfl)

/-- What a trip's last part leaves. -/
theorem carry_at (W : Valuation τ sig (Elt F)) :
    after carry W main_arg0 = W main_arg0 ∧ carried (after carry W)
      = ⟨W main_v3_0, next (W main_v3_1), W main_while0b_v21, W main_while0b_v27, W main_while0b_v34, W main_while0b_v35⟩ := by
  refine ⟨?_, ?_⟩
  · after_results <;> rfl
  · have h0 : after carry W main_v3_0 = W main_v3_0 := by after_results <;> rfl
    have h1 : after carry W main_v3_1 = next (W main_v3_1) := by after_results <;> rfl
    have h2 : after carry W main_v3_2 = W main_while0b_v21 := by after_results <;> rfl
    have h3 : after carry W main_v3_3 = W main_while0b_v27 := by after_results <;> rfl
    have h4 : after carry W main_v3_4 = W main_while0b_v34 := by after_results <;> rfl
    have h5 : after carry W main_v3_5 = W main_while0b_v35 := by after_results <;> rfl
    unfold carried; rw [h0, h1, h2, h3, h4, h5]

/-- A trip's parts take what the loop carries one turn on, and keep the argument. -/
theorem parts_at (W : Valuation τ sig (Elt F)) : carried (afterL parts W) = turn (carried W) ∧ afterL parts W main_arg0 = W main_arg0 := by
  simp only [parts, afterL_cons, afterL_nil]
  obtain ⟨a1, a2, a3, a4, a5, a6, a7⟩ := keep_at W
  obtain ⟨b1, b2, b3, b4, b5, b6, b7⟩ := take_at (after keep W) _ a7
  obtain ⟨c1, c2, c3, c4, c5, c6⟩ := near_at (after take (after keep W))
  obtain ⟨d1, d2, d3, d4, d5, d6, d7⟩ := far_at (after near (after take (after keep W)))
  obtain ⟨e1, e2⟩ := carry_at (after far (after near (after take (after keep W))))
  constructor
  · rw [e2, d7, d6, d5, d4, d3, d2, c6, c5, c4, c3, c2, b7, b6, b5, b4, b3, b2, a6, a5, a4, a3, a2]
    rfl
  · rw [e1, d1, c1, b1, a1]

/-- Before each run of the test the buffers hold the turns so far. -/
theorem trips_at (W : Dev nD → Valuation τ sig (Elt F)) (c : Dev nD) (x : FVec F S8x4096x3 .f32) (h : carried (W c) = start x)
    (ha : W c main_arg0 = x) (k : ℕ) :
    carried (atTrip test parts W k c) = turn^[k] (start x) ∧ atTrip test parts W k c main_arg0 = x := by
  induction k with
  | zero => exact ⟨h, ha⟩
  | succ k ih =>
    rw [atTrip_succ, Function.iterate_succ_apply', (parts_at _).1, (parts_at _).2, (test_at _).1, (test_at _).2, ih.1]
    exact ⟨rfl, ih.2⟩

/-- The counter after so many turns. -/
theorem count_at (x : FVec F S8x4096x3 .f32) (k : ℕ) : (turn^[k] (start x)).count = fun _ => BitVec.ofNat 32 k := by
  induction k with
  | zero => rfl
  | succ k ih =>
    rw [Function.iterate_succ_apply']
    show next (turn^[k] (start x)).count = _
    rw [ih]
    funext j
    show BitVec.ofNat 32 k + 1#32 = BitVec.ofNat 32 (k + 1)
    rw [BitVec.ofNat_add]

/-- After the loop the chosen points' rows are fetched. -/
theorem read_at (W : Valuation τ sig (Elt F)) :
    after read W main_v20 = fetched (F := F) (W main_arg0) (W main_v3_3) ∧ after read W main_arg0 = W main_arg0 := by
  constructor
  · after_results <;> rfl
  · after_results <;> rfl

/-- The counter is below the number of samples exactly while there are trips to run. -/
theorem below (k : ℕ) (hk : k ≤ 1024) : IntOp.cmpi .slt (BitVec.ofNat 32 k) 1024#32 = 1#1 ↔ k < 1024 := by
  have h1 : (BitVec.ofNat 32 k).toInt = (k : Int) := Predicate.toInt_ofNat_small k (by omega)
  have h2 : (1024#32 : BitVec 32).toInt = 1024 := by decide
  have h : (BitVec.ofNat 32 k).slt 1024#32 = decide (k < 1024) := by
    rw [BitVec.slt, h1, h2]
    exact decide_eq_decide.mpr (by omega)
  show BitVec.ofBool ((BitVec.ofNat 32 k).slt 1024#32) = 1#1 ↔ _
  rw [h]
  by_cases hlt : k < 1024
  · rw [decide_eq_true hlt]; exact ⟨fun _ => hlt, fun _ => rfl⟩
  · rw [decide_eq_false hlt]; exact ⟨fun q => absurd q (by decide), fun q => absurd q hlt⟩

/-! ## The run -/

/-- What the buffers hold where the loop is entered. -/
abbrev entry (m : (ℓ : Loc nD τ sig) → Buf (Elt F) ℓ) : Dev nD → Valuation τ sig (Elt F) := entryContents [before] m

/-- There the buffers hold what the loop starts from. -/
theorem entry_at (m : (ℓ : Loc nD τ sig) → Buf (Elt F) ℓ) (c : Dev nD) :
    carried (entry m c) = start (m ((c : Thread nD τ).loc main_arg0)) ∧ entry m c main_arg0 = m ((c : Thread nD τ).loc main_arg0) :=
  before_at (launchContents m c)

set_option backward.isDefEq.respectTransparency.types false in
/-- The test, run for the k-th time, answers whether k is below the number of samples. -/
theorem test_run (m : (ℓ : Loc nD τ sig) → Buf (Elt F) ℓ) :
    CondSpec (pcfgs (F := F)) defs₀ loops main_while0_cond test parts (entry m) 1024 := by
  intro k hk c bd
  have hctr : atTrip test parts (entry m) k c main_v3_1 = fun _ => BitVec.ofNat 32 k := by
    have h := (trips_at (entry m) c _ (entry_at m c).1 (entry_at m c).2 k).1
    exact (congrArg Carry.count h).trans (count_at _ k)
  simp only [main_while0_cond, bind_pure]
  rw [wp_bind]
  iintro ⟨Hb, Hh⟩
  iapply (wp_hlo_within (Variants.lift Variants.none) (c : Thread nD τ) bd Set.univ (sub_ucRefs _ (nullary_bufs_sub ..))) $$ [Hb Hh]
  · isplitl [Hb]; · iexact Hb
    iexact Hh
  iintro ⟨Hb, Hh⟩
  rw [wp_ret]; imodintro
  iapply (wp_hlo_within (Variants.lift Variants.none) (c : Thread nD τ) bd Set.univ (sub_ucRefs _ (binary_bufs_sub ..))) $$ [Hb Hh]
  · isplitl [Hb]; · iexact Hb
    iexact Hh
  iintro ⟨Hb, Hh⟩
  rw [HostLoop.elt_apply, wp_ret]; imodintro
  isplitr
  · ipureintro
    show Iff (IntOp.cmpi .slt (HloOp.result _ (atTrip test parts (entry m) k c) main_v3_1 HostLoop.idx0)
        (HloOp.result _ (atTrip test parts (entry m) k c) main_while0c_c_12 HostLoop.idx0) = 1#1) (k < 1024)
    rw [nullary_result_ne _ _ _ _ (by decide), nullary_result, hctr]
    exact below k hk
  isplitl [Hb]; · iexact Hb
  iexact Hh

/-- What the result's and the argument's buffers hold at the end. -/
theorem finals (m : (ℓ : Loc nD τ sig) → Buf (Elt F) ℓ) (c : Dev nD) :
    finalContents test [before] parts [read] 1024 m c main_v20
        = fetched (F := F) (m ((c : Thread nD τ).loc main_arg0)) (turn^[1024] (start (F := F) (m ((c : Thread nD τ).loc main_arg0)))).chosen
      ∧ finalContents test [before] parts [read] 1024 m c main_arg0 = m ((c : Thread nD τ).loc main_arg0) := by
  obtain ⟨h1, h2⟩ := trips_at (entry m) c _ (entry_at m c).1 (entry_at m c).2 1024
  generalize hx : (m ((c : Thread nD τ).loc main_arg0) : FVec F S8x4096x3 .f32) = x at h1 h2
  unfold finalContents
  rw [afterL_cons, afterL_nil]
  change carried (atTrip test parts (entryContents [before] m) 1024 c) = _ at h1
  change atTrip test parts (entryContents [before] m) 1024 c main_arg0 = _ at h2
  generalize atTrip test parts (entryContents [before] m) 1024 c = W at h1 h2
  obtain ⟨r1, r2⟩ := read_at (after test W)
  obtain ⟨t1, t2⟩ := test_at W
  constructor
  · exact r1.trans (congr (congrArg fetched (t2.trans h2)) (congrArg Carry.chosen (t1.trans h1)))
  · exact (r2.trans t2).trans h2

/-- The reference's run: its result is the rows fetched after all the turns, and its argument is unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c : Thread nD τ).loc main_v20)
          = fetched (F := F) (m ((c : Thread nD τ).loc main_arg0)) (turn^[1024] (start (F := F) (m ((c : Thread nD τ).loc main_arg0)))).chosen
        ∧ r.2.mem ((c : Thread nD τ).loc main_arg0) = m ((c : Thread nD τ).loc main_arg0) := by
  refine (θ_run _ _ _).mono ?_ (run_loop (pcfgs (F := F)) defs₀ loops main 0 main_while0_cond main_while0_body rfl [before] parts [read] test
    (.cons before_sub .nil) (.cons keep_sub (.cons take_sub (.cons near_sub (.cons far_sub (.cons carry_sub .nil))))) (.cons read_sub .nil)
    main_eq body_eq 1024 m ρ (test_run m))
  intro r h c
  exact ⟨(h c main_v20 rfl).trans (finals m c).1, (h c main_arg0 rfl).trans (finals m c).2⟩

end Cert.Proof.FarRef

end
-- ==== Proof.SampleRun.lean ====
/-
  The farthest-point call's run: the kernel body through its counted loop, the pipeline around it, and the frames of the
  program at machine words and over the extended reals.
-/
module

public import proofs.«01_k».proof.Proof.Gen.Sample
public import proofs.«01_k».proof.Proof.Gen.SampleIdeal
public import proofs.«01_k».proof.Proof.Gen.Sample.Launch
public import proofs.«01_k».proof.Proof.Gen.Sample.Skeleton
public import proofs.«01_k».proof.Proof.Gen.Sample.Points
public import proofs.«01_k».proof.Proof.Gen.Sample.Frame
public import Idealize.ShloMosaic.Lib.Tactic
public import Idealize.ShloMosaic.Lib.VecWindow

@[expose] public section

noncomputable section

namespace Cert.Proof.Far

open Cert.Sample Cert.Sample.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf ΦA)

variable {F : FTy → Type} [FloatOps F]

local notation "𝕄" => MT nD τ sig Unit (Elt F) ℕ (UR sig nD τ) ℕ

/-! ## The loop as a fold -/

/-- What the loop carries: the least squared distances, the last point chosen, and the four rows of results so far. -/
abbrev Carry (F : FTy → Type) : Type :=
  FVec F S8x4096 .f32 × FVec F S8x1 .f32 × FVec F S8x1024 .f32 × FVec F S8x1024 .f32 × FVec F S8x1024 .f32 × FVec F S8x1024 .f32

/-- One trip of the loop, from the three coordinate arrays as loaded. -/
def trip (x y z : Vec F S8x4096 .f32) (t : Fin k0_t1_loop.trips) (a : Carry F) : Carry F :=
  (k0_pay16 (k0_pay1 x) (k0_pay2 y) (k0_pay3 z) (k0_pay4 x) a.1 a.2.1,
    k0_pay10 (k0_pay22 (k0_pay1 x) (k0_pay2 y) (k0_pay3 z) (k0_pay4 x) a.1 a.2.1),
    k0_pay18 (k0_pay5 x) 0#32 1#32 t a.2.1 a.2.2.1,
    k0_pay19 (k0_pay1 x) (k0_pay4 x) (k0_pay5 x) 0#32 1#32 t a.2.1 a.2.2.2.1,
    k0_pay20 (k0_pay2 y) (k0_pay4 x) (k0_pay5 x) 0#32 1#32 t a.2.1 a.2.2.2.2.1,
    k0_pay21 (k0_pay3 z) (k0_pay4 x) (k0_pay5 x) 0#32 1#32 t a.2.1 a.2.2.2.2.2)

/-- What the kernel's loop starts from. -/
def start : Carry F := (k0_pay6, k0_pay7, k0_pay8, k0_pay9, k0_pay9, k0_pay9)

/-- What the loop ends with. -/
def ended (x y z : Vec F S8x4096 .f32) : Carry F := Scf.fold (trip x y z) start

/-- A trip's region computes one `trip` and touches no memory. -/
theorem body_pure (M0 : Memref sig .tc .vmem S8x4096 .f32) (h0 : M0.IsWhole) (M1 : Memref sig .tc .vmem S8x4096 .f32) (h1 : M1.IsWhole)
    (M2 : Memref sig .tc .vmem S8x4096 .f32) (h2 : M2.IsWhole) (M3 : Memref sig .tc .vmem S8x1024 .i32) (h3 : M3.IsWhole)
    (M4 : Memref sig .tc .vmem S8x1024 .f32) (h4 : M4.IsWhole) (M5 : Memref sig .tc .vmem S8x1024 .f32) (h5 : M5.IsWhole)
    (M6 : Memref sig .tc .vmem S8x1024 .f32) (h6 : M6.IsWhole) (x y z : Vec F S8x4096 .f32) (t : Fin k0_t1_loop.trips) (a : Carry F) :
    k0_t1_body M0 h0 M1 h1 M2 h2 M3 h3 M4 h4 M5 h5 M6 h6 x y z t a = .ret (trip x y z t a) := by
  obtain ⟨a1, a2, a3, a4, a5, a6⟩ := a
  unfold k0_t1_body
  rw [k0_part1_eq_skeleton]
  rfl

/-- So the region is the function `trip`, returned. -/
theorem body_fun (M0 : Memref sig .tc .vmem S8x4096 .f32) (h0 : M0.IsWhole) (M1 : Memref sig .tc .vmem S8x4096 .f32) (h1 : M1.IsWhole)
    (M2 : Memref sig .tc .vmem S8x4096 .f32) (h2 : M2.IsWhole) (M3 : Memref sig .tc .vmem S8x1024 .i32) (h3 : M3.IsWhole)
    (M4 : Memref sig .tc .vmem S8x1024 .f32) (h4 : M4.IsWhole) (M5 : Memref sig .tc .vmem S8x1024 .f32) (h5 : M5.IsWhole)
    (M6 : Memref sig .tc .vmem S8x1024 .f32) (h6 : M6.IsWhole) (x y z : Vec F S8x4096 .f32) :
    k0_t1_body M0 h0 M1 h1 M2 h2 M3 h3 M4 h4 M5 h5 M6 h6 x y z = fun t a => .ret (trip x y z t a) :=
  funext fun t => funext fun a => body_pure M0 h0 M1 h1 M2 h2 M3 h3 M4 h4 M5 h5 M6 h6 x y z t a

/-- The kernel body, from any contents of its four outputs' buffers, leaves there what the loop ends with (the first
    row converted to integers), and its three inputs as they were. -/
theorem kernel_run (c : Dev nD)
    (M0 : Memref sig .tc .vmem S8x4096 .f32) (h0 : M0.IsWhole) (M1 : Memref sig .tc .vmem S8x4096 .f32) (h1 : M1.IsWhole)
    (M2 : Memref sig .tc .vmem S8x4096 .f32) (h2 : M2.IsWhole) (M3 : Memref sig .tc .vmem S8x1024 .i32) (h3 : M3.IsWhole)
    (M4 : Memref sig .tc .vmem S8x1024 .f32) (h4 : M4.IsWhole) (M5 : Memref sig .tc .vmem S8x1024 .f32) (h5 : M5.IsWhole)
    (M6 : Memref sig .tc .vmem S8x1024 .f32) (h6 : M6.IsWhole) (x y z : Vec F S8x4096 .f32)
    (E : Set ℕ) (K : PUnit → sProp 𝕄) :
    iprop(owns (c : Thread nD τ) M0 fullShare x ∗ owns (c : Thread nD τ) M1 fullShare y ∗ owns (c : Thread nD τ) M2 fullShare z
        ∗ (∃ d, owns (c : Thread nD τ) M3 fullShare d) ∗ (∃ d, owns (c : Thread nD τ) M4 fullShare d)
        ∗ (∃ d, owns (c : Thread nD τ) M5 fullShare d) ∗ (∃ d, owns (c : Thread nD τ) M6 fullShare d)
        ∗ (iprop(owns (c : Thread nD τ) M0 fullShare x ∗ owns (c : Thread nD τ) M1 fullShare y ∗ owns (c : Thread nD τ) M2 fullShare z
            ∗ owns (c : Thread nD τ) M3 fullShare (k0_pay11 (ended x y z).2.2.1) ∗ owns (c : Thread nD τ) M4 fullShare (ended x y z).2.2.2.1
            ∗ owns (c : Thread nD τ) M5 fullShare (ended x y z).2.2.2.2.1 ∗ owns (c : Thread nD τ) M6 fullShare (ended x y z).2.2.2.2.2) -∗ K ⟨⟩))
      ⊢ wp frame (wpE (defs₀ (F := F)) Variants.none c none) E (cc0__fps_body M0 h0 M1 h1 M2 h2 M3 h3 M4 h4 M5 h5 M6 h6) K := by
  unfold owns
  iintro ⟨⟨%f0, %hf0, H0⟩, ⟨%f1, %hf1, H1⟩, ⟨%f2, %hf2, H2⟩, ⟨%d3, %f3, -, H3⟩, ⟨%d4, %f4, -, H4⟩, ⟨%d5, %f5, -, H5⟩, ⟨%d6, %f6, -, H6⟩, Hk⟩
  obtain rfl := h0.eq_unread hf0; obtain rfl := h1.eq_unread hf1; obtain rfl := h2.eq_unread hf2
  have he : ended (F := F) (View.readAt (Elt F) M0.view (Rect.unit (s := S8x4096) ![0, 0] S8x4096.size inb_S8x4096_S8x4096_0_0).toLoadRect (h0.unread x))
      (View.readAt (Elt F) M1.view (Rect.unit (s := S8x4096) ![0, 0] S8x4096.size inb_S8x4096_S8x4096_0_0).toLoadRect (h1.unread y))
      (View.readAt (Elt F) M2.view (Rect.unit (s := S8x4096) ![0, 0] S8x4096.size inb_S8x4096_S8x4096_0_0).toLoadRect (h2.unread z)) = ended x y z := by
    rw [(View.readAt_full M0.view (h0.unread x) inb_S8x4096_S8x4096_0_0).trans (h0.read_unread x),
      (View.readAt_full M1.view (h1.unread y) inb_S8x4096_S8x4096_0_0).trans (h1.read_unread y),
      (View.readAt_full M2.view (h2.unread z) inb_S8x4096_S8x4096_0_0).trans (h2.read_unread z)]
  sl_unfold [cc0__fps_body]
  sl_exec!
  rw [body_fun]
  sl_exec!
  sl_step
  iapply Hk
  isplitl [H0]
  · iexists _; isplitr; · ipureintro; exact h0.read_unread _
    iexact H0
  isplitl [H1]
  · iexists _; isplitr; · ipureintro; exact h1.read_unread _
    iexact H1
  isplitl [H2]
  · iexists _; isplitr; · ipureintro; exact h2.read_unread _
    iexact H2
  isplitl [H3]
  · iexists _; isplitr; swap; · iexact H3
    ipureintro
    sl_unfold_words
    exact (View.read_writes_full _ _ _ _ _).trans (congrArg (fun e : Carry F => k0_pay11 e.2.2.1) he)
  isplitl [H4]
  · iexists _; isplitr; swap; · iexact H4
    ipureintro
    sl_unfold_words
    exact (View.read_writes_full _ _ _ _ _).trans (congrArg (fun e : Carry F => e.2.2.2.1) he)
  isplitl [H5]
  · iexists _; isplitr; swap; · iexact H5
    ipureintro
    sl_unfold_words
    exact (View.read_writes_full _ _ _ _ _).trans (congrArg (fun e : Carry F => e.2.2.2.2.1) he)
  iexists _; isplitr; swap; · iexact H6
  ipureintro
  sl_unfold_words
  exact (View.read_writes_full _ _ _ _ _).trans (congrArg (fun e : Carry F => e.2.2.2.2.2) he)

/-! ## The pipeline -/

variable (m : (ℓ : Loc nD τ sig) → Buf (Elt F) ℓ) (ρ : Dev nD → PrngReg)

/-- What the loop ends with on the blocks of a grid point. -/
def endedAt (c : Dev nD) (t : Fin cfg0.N) : Carry F := ended (iblk m c 0 t) (iblk m c 1 t) (iblk m c 2 t)

/-- The pipeline's data: the arrays as the region finds them; after the body each input's buffer at its block, each
    output's at its part of what the loop ends with; nothing owed. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => k0_pay11 (endedAt m c t).2.2.1
    | ⟨4, _⟩ => (endedAt m c t).2.2.2.1
    | ⟨5, _⟩ => (endedAt m c t).2.2.2.2.1
    | ⟨6, _⟩ => (endedAt m c t).2.2.2.2.2
  Φ _ := ΦA spec0 c
  q _ := fullShare
  owed _ := 0

/-- The body leaves the first coordinate's block as it was. -/
theorem after0 (c : Dev nD) (t : Fin cfg0.N) : (dats m 0 c).after 0 t = iblk m c 0 t := by dsimp only [dats]
/-- The body leaves the second coordinate's block as it was. -/
theorem after1 (c : Dev nD) (t : Fin cfg0.N) : (dats m 0 c).after 1 t = iblk m c 1 t := by dsimp only [dats]
/-- The body leaves the third coordinate's block as it was. -/
theorem after2 (c : Dev nD) (t : Fin cfg0.N) : (dats m 0 c).after 2 t = iblk m c 2 t := by dsimp only [dats]
/-- The body leaves the chosen columns' numbers in the first result's block. -/
theorem after3 (c : Dev nD) (t : Fin cfg0.N) : (dats m 0 c).after 3 t = k0_pay11 (endedAt m c t).2.2.1 := by dsimp only [dats]
/-- The body leaves the chosen points' first coordinates in the second result's block. -/
theorem after4 (c : Dev nD) (t : Fin cfg0.N) : (dats m 0 c).after 4 t = (endedAt m c t).2.2.2.1 := by dsimp only [dats]
/-- The body leaves the chosen points' second coordinates in the third result's block. -/
theorem after5 (c : Dev nD) (t : Fin cfg0.N) : (dats m 0 c).after 5 t = (endedAt m c t).2.2.2.2.1 := by dsimp only [dats]
/-- The body leaves the chosen points' third coordinates in the fourth result's block. -/
theorem after6 (c : Dev nD) (t : Fin cfg0.N) : (dats m 0 c).after 6 t = (endedAt m c t).2.2.2.2.2 := by dsimp only [dats]

/-- The body finds the first coordinate's block. -/
theorem before0 (c : Dev nD) (t : Fin cfg0.N) (d) : (dats m 0 c).before 0 t d = iblk m c 0 t :=
  before0_0_of m (dats m 0 c) rfl (after0 m c) t d
/-- The body finds the second coordinate's block. -/
theorem before1 (c : Dev nD) (t : Fin cfg0.N) (d) : (dats m 0 c).before 1 t d = iblk m c 1 t :=
  before0_1_of m (dats m 0 c) rfl (after1 m c) t d
/-- The body finds the third coordinate's block. -/
theorem before2 (c : Dev nD) (t : Fin cfg0.N) (d) : (dats m 0 c).before 2 t d = iblk m c 2 t :=
  before0_2_of m (dats m 0 c) rfl (after2 m c) t d

/-- The body at a grid point turns the buffers as it finds them into what the data say. -/
theorem body_ok (c : Dev nD) : BodyObligation (dats (F := F) m 0 c) (defs₀ (F := F)) Variants.none () Set.univ := fun t => by
  rw [bigSep_W0, bigSep_W0]
  sl_whnfR [defs₀, Defs.onTc]
  simp only [before0, before1, before2]
  rw [show (dats m 0 c).Φ t.succ = (dats m 0 c).Φ t.castSucc from rfl,
    show (dats m 0 c).owesAt () t.succ = (dats m 0 c).owesAt () t.castSucc from rfl,
    after0, after1, after2, after3, after4, after5, after6]
  unfold endedAt
  iintro ⟨HΦ, Ho, ⟨%d0, H0⟩, ⟨%d1, H1⟩, ⟨%d2, H2⟩, ⟨%d3, H3⟩, ⟨%d4, H4⟩, ⟨%d5, H5⟩, ⟨%d6, H6⟩⟩
  iapply (kernel_run c _ _ _ _ _ _ _ _ _ _ _ _ _ _ (iblk m c 0 t) (iblk m c 1 t) (iblk m c 2 t) Set.univ _)
  isplitl [H0]; · iexact H0
  isplitl [H1]; · iexact H1
  isplitl [H2]; · iexact H2
  isplitl [H3]; · iexists _; iexact H3
  isplitl [H4]; · iexists _; iexact H4
  isplitl [H5]; · iexists _; iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

set_option backward.isDefEq.respectTransparency.types false in
/-- The program runs, from any memory with zero counters, to the memory that the pipeline's data and the lines after the
    call give, with every counter at zero. -/
theorem run_main : θ_run defs (onTc (τ := τ) (main (F := F))) (s₀ m ρ)
    (fun r => Pipeline.FramePost cfgs (dats m) 0 (Pipeline.afterTail₀ cfgs (dats m) 0 (V0 m) [hostOps1]) r ∧ r.2.sem = fun _ => 0) :=
  Pipeline.θ_run_frame_around (Q' := _) cfgs (dats m) (0 : Fin 1) launch0 defs₀ Variants.none m ρ main
    (fun c => (body_ok m c).loose) (fun c => (dats m 0 c).share_full fun _ => rfl) (fun _ _ => rfl)
    (V0 m) [hostOps1] sfx_sub sfx_fresh sfx_keeps (hmain m Variants.none) (fun _ _ => rfl) (fun _ _ => rfl)

/-- Its argument ends as it began, and every counter at zero. -/
theorem frame_run : θ_run defs (onTc (τ := τ) (main (F := F))) ⟨m, fun _ => 0, ρ⟩ (fun r => (∀ c : Dev nD,
      r.2.mem ((c.tc : Thread nD τ).loc main_arg0) = m ((c.tc : Thread nD τ).loc main_arg0))
      ∧ r.2.sem = fun _ => 0) :=
  θ_run_with_sems (frame_of m ρ (dats m) fun _ _ => rfl) (run_main (F := F) m ρ)

end Cert.Proof.Far

end
-- ==== Proof.Farthest.lean ====
/-
  Farthest-point sampling as a recursion over the extended reals: the state after `t` picks, and the first index of a
  greatest value, which both programs are shown to compute.
-/
module

public import Mathlib.Data.EReal.Operations
public import Idealize.ShloMosaic.PureOps.Ideal

@[expose] public section

noncomputable section

namespace Cert.Proof.Farthest

open Idealize.ShloMosaic

/-- `i` is the first index at which `d` is greatest. -/
def IsTop {n : ℕ} (d : Fin n → EReal) (i : Fin n) : Prop := (∀ k, d k ≤ d i) ∧ ∀ k, k < i → d k < d i

/-- There is such an index. -/
theorem exists_top (d : Fin 4096 → EReal) : ∃ i, IsTop d i := by
  obtain ⟨m, -, hm⟩ := Finset.exists_max_image Finset.univ d ⟨0, Finset.mem_univ _⟩
  let S : Finset (Fin 4096) := Finset.univ.filter fun i => d i = d m
  have hS : S.Nonempty := ⟨m, by simp [S]⟩
  have h1 : d (S.min' hS) = d m := (Finset.mem_filter.1 (S.min'_mem hS)).2
  refine ⟨S.min' hS, fun k => h1 ▸ hm k (Finset.mem_univ _), fun k hk => ?_⟩
  refine lt_of_le_of_ne (h1 ▸ hm k (Finset.mem_univ _)) fun he => ?_
  exact absurd (S.min'_le k (Finset.mem_filter.2 ⟨Finset.mem_univ _, he.trans h1⟩)) (not_le.2 hk)

/-- The first index at which `d` is greatest. -/
def top (d : Fin 4096 → EReal) : Fin 4096 := Classical.choose (exists_top d)

/-- The place chosen is a first greatest one. -/
theorem top_spec (d : Fin 4096 → EReal) : IsTop d (top d) := Classical.choose_spec (exists_top d)

/-- One step for a cloud `X` of points: each point's least squared distance to a point picked so far, then the point for
    which it is greatest. -/
def step (X : Fin 4096 → Fin 3 → EReal) (s : (Fin 4096 → EReal) × Fin 4096) : (Fin 4096 → EReal) × Fin 4096 :=
  (fun n => min (s.1 n) (∑ c, (X n c - X s.2 c) * (X n c - X s.2 c)),
    top fun n => min (s.1 n) (∑ c, (X n c - X s.2 c) * (X n c - X s.2 c)))

/-- The state after `t` steps: from a distance larger than any expected and the first point. -/
def state (X : Fin 4096 → Fin 3 → EReal) : ℕ → (Fin 4096 → EReal) × Fin 4096
  | 0 => (fun _ => Ideal.ofBits .f32 0x501502F9#32, 0)
  | t + 1 => step X (state X t)

/-- The `t`-th point picked. -/
def pick (X : Fin 4096 → Fin 3 → EReal) (t : ℕ) : Fin 4096 := (state X t).2

/-! ## A fold that keeps the better of two -/

/-- A fold that keeps one of its two operands, never leaves `T`, and moves to `T` from anything in `P`, ends at `T` when
    it starts in `P`, meets members of `P` only, and starts at `T` or meets it. -/
theorem foldl_best {α : Type} (f : α → α → α) (P : α → Prop) (T : α) (hP : ∀ a b, P a → P b → P (f a b))
    (hl : ∀ a, P a → f T a = T) (hr : ∀ a, P a → f a T = T) :
    ∀ (l : List α) (a : α), P a → (∀ b ∈ l, P b) → (a = T ∨ T ∈ l) → l.foldl f a = T
  | [], a, _, _, h => h.resolve_right (List.not_mem_nil)
  | b :: l, a, ha, hb, h => by
    refine foldl_best f P T hP hl hr l (f a b) (hP a b ha (hb b List.mem_cons_self)) (fun c hc => hb c (List.mem_cons_of_mem _ hc)) ?_
    rcases h with h | h
    · exact .inl (h ▸ hl b (hb b List.mem_cons_self))
    rcases List.mem_cons.1 h with h | h
    · exact .inl (h ▸ hr a ha)
    · exact .inr h

end Cert.Proof.Farthest

end
-- ==== Proof.SampleTrip.lean ====
/-
  One trip of the farthest-point loop read over the extended reals: each value of its body at an index, in terms of the
  point that the trip starts from.
-/
module

public import proofs.«01_k».proof.Proof.SampleRun
public import proofs.«01_k».proof.Proof.Farthest
public import Idealize.ShloMosaic.Lib.Pipeline.Value
public import Idealize.ShloMosaic.Lib.ValueIdx
public import Idealize.ShloMosaic.Lib.ValueLayoutCasts
public import Idealize.ShloMosaic.PureOps.Ideal.Laws

@[expose] public section

noncomputable section

namespace Cert.Proof.Far

open Cert.Sample Cert.Sample.Gen Cert.Proof.Farthest
open Idealize.ShloMosaic
open Idealize.ShloMosaic.ValueIdx Idealize.ShloMosaic.TcCoe

/-- A natural number as an extended real. -/
abbrev num (n : ℕ) : EReal := ((n : ℝ) : EReal)

/-- Different numbers stay different as extended reals. -/
theorem num_inj {a b : ℕ} : num a = num b ↔ a = b := by
  unfold num; rw [EReal.coe_eq_coe_iff, Nat.cast_inj]

/-- Numbers keep their order as extended reals. -/
theorem num_le {a b : ℕ} : num a ≤ num b ↔ a ≤ b := by
  unfold num; rw [EReal.coe_le_coe_iff, Nat.cast_le]

/-- A small number's word converts to that number. -/
theorem sitofp_word (n : ℕ) (h : n < 2 ^ 31) : FloatOps.sitofp (F := Ideal) .f32 (BitVec.ofNat 32 n) = num n := by
  show (((BitVec.ofNat 32 n).toInt : ℝ) : EReal) = num n
  have : (BitVec.ofNat 32 n).toInt = (n : ℤ) := by
    rw [BitVec.toInt_eq_toNat_cond, BitVec.toNat_ofNat]; norm_num; omega
  rw [this]; norm_num [num]

/-- The zero word is the number 0. -/
theorem zero_word : FloatOps.ofBits (F := Ideal) .f32 0x00000000#32 = (0 : EReal) := Ideal.ofBits_zero_f32

/-- The column numbers are exact: what is added to them is a product with zero. -/
theorem pay4_at (x : Vec Ideal S8x4096 .f32) (b : Fin 8) (n : Fin 4096) : k0_pay4 (F := Ideal) x (ix2 b n) = num n.val := by
  show FloatOps.sitofp (F := Ideal) .f32 (BitVec.ofNat 32 (0 * 4096 + n.val)) + _ * FloatOps.ofBits (F := Ideal) .f32 0x00000000#32 = _
  rw [zero_word, Nat.zero_mul, Nat.zero_add, sitofp_word _ (by omega), mul_zero, add_zero]

/-- The sample numbers are exact too. -/
theorem pay5_at (x : Vec Ideal S8x4096 .f32) (b : Fin 8) (s : Fin 1024) : k0_pay5 (F := Ideal) x (ix2 b s) = num s.val := by
  show FloatOps.sitofp (F := Ideal) .f32 (BitVec.ofNat 32 (0 * 1024 + s.val)) + _ * FloatOps.ofBits (F := Ideal) .f32 0x00000000#32 = _
  rw [zero_word, Nat.zero_mul, Nat.zero_add, sitofp_word _ (by omega), mul_zero, add_zero]

/-- A column broadcast along a row reads the column. -/
theorem spread_wide (v : FVec Ideal S8x1 .f32) (b : Fin 8) (n : Fin 4096) :
    broadcastTo S8x4096 v broadcasts_S8x1_S8x4096 (ix2 b n) = v (ix2 b 0) :=
  broadcastTo_apply v _ _ _ (fun a => by fin_cases a <;> rfl)

/-- The same of a row as long as the sample. -/
theorem spread_narrow (v : FVec Ideal S8x1 .f32) (b : Fin 8) (s : Fin 1024) :
    broadcastTo S8x1024 v broadcasts_S8x1_S8x1024 (ix2 b s) = v (ix2 b 0) :=
  broadcastTo_apply v _ _ _ (fun a => by fin_cases a <;> rfl)

/-- The row index that a reduction along the rows reads. -/
theorem lift_row (b : Fin 8) (n : Fin 4096) : reduces_S8x4096_S8.lift (ix1 b) n = ix2 b n := by
  funext a; fin_cases a <;> rfl

/-- Comparing for equality gives the bit of the equality. -/
theorem of_eq (a b : EReal) : FloatOps.cmpf (F := Ideal) (φ := .f32) .oeq a b = if a = b then 1#1 else 0#1 := by
  rw [Ideal.cmpf_def]
  unfold Ideal.cmp
  by_cases h : a = b <;> simp [h]

/-- A row's sum of the entries at the chosen column is the entry there. -/
theorem pick_at (v : FVec Ideal S8x4096 .f32) (x : Vec Ideal S8x4096 .f32) (far : FVec Ideal S8x1 .f32) (b : Fin 8) (f : Fin 4096)
    (hf : far (ix2 b 0) = num f.val) :
    multiReduction .add [1] S8 (select (k0_pay12 (k0_pay4 (F := Ideal) x) far) v (broadcast S8x4096 (Scalar.ofBits .f32 0x00000000#32)))
      0x00000000#32 reduces_S8x4096_S8 (.inl rfl) rfl (ix1 b) = v (ix2 b f) := by
  refine (Ideal.multiReduction_add_single _ _ _ _ _ _).trans ?_
  refine (Finset.sum_eq_single f (fun n _ hn => ?_) (fun h => absurd (Finset.mem_univ _) h)).trans ?_
  · rw [lift_row]
    show Scalar.select (FloatOps.cmpf .oeq (k0_pay4 x (ix2 b n)) (broadcastTo S8x4096 far broadcasts_S8x1_S8x4096 (ix2 b n))) _
      (FloatOps.ofBits (F := Ideal) .f32 0x00000000#32) = _
    rw [spread_wide, hf, pay4_at, of_eq, if_neg (fun h => hn (Fin.ext (num_inj.1 h))), zero_word]
    rfl
  · rw [lift_row]
    show Scalar.select (FloatOps.cmpf .oeq (k0_pay4 x (ix2 b f)) (broadcastTo S8x4096 far broadcasts_S8x1_S8x4096 (ix2 b f))) (v (ix2 b f)) _ = _
    rw [spread_wide, hf, pay4_at, of_eq, if_pos rfl]
    rfl

/-- The first masked sum is the chosen point's first coordinate. -/
theorem pay13_at (v : FVec Ideal S8x4096 .f32) (x : Vec Ideal S8x4096 .f32) (far : FVec Ideal S8x1 .f32) (b : Fin 8) (f : Fin 4096)
    (hf : far (ix2 b 0) = num f.val) : k0_pay13 v (k0_pay4 (F := Ideal) x) far (ix2 b 0) = v (ix2 b f) :=
  (shapeCast_a_a1_apply _ _ _ _).trans (pick_at v x far b f hf)

/-- The second masked sum is the chosen point's second coordinate. -/
theorem pay14_at (v : FVec Ideal S8x4096 .f32) (x : Vec Ideal S8x4096 .f32) (far : FVec Ideal S8x1 .f32) (b : Fin 8) (f : Fin 4096)
    (hf : far (ix2 b 0) = num f.val) : k0_pay14 v (k0_pay4 (F := Ideal) x) far (ix2 b 0) = v (ix2 b f) :=
  (shapeCast_a_a1_apply _ _ _ _).trans (pick_at v x far b f hf)

/-- The third masked sum is the chosen point's third coordinate. -/
theorem pay15_at (v : FVec Ideal S8x4096 .f32) (x : Vec Ideal S8x4096 .f32) (far : FVec Ideal S8x1 .f32) (b : Fin 8) (f : Fin 4096)
    (hf : far (ix2 b 0) = num f.val) : k0_pay15 v (k0_pay4 (F := Ideal) x) far (ix2 b 0) = v (ix2 b f) :=
  (shapeCast_a_a1_apply _ _ _ _).trans (pick_at v x far b f hf)

/-- The least squared distances after a trip. -/
theorem pay16_at (x y z : Vec Ideal S8x4096 .f32) (d : FVec Ideal S8x4096 .f32) (far : FVec Ideal S8x1 .f32) (b : Fin 8)
    (f n : Fin 4096) (hf : far (ix2 b 0) = num f.val) :
    k0_pay16 x y z (k0_pay4 (F := Ideal) x) d far (ix2 b n)
      = min (d (ix2 b n)) ((x (ix2 b n) - x (ix2 b f)) * (x (ix2 b n) - x (ix2 b f))
          + (y (ix2 b n) - y (ix2 b f)) * (y (ix2 b n) - y (ix2 b f)) + (z (ix2 b n) - z (ix2 b f)) * (z (ix2 b n) - z (ix2 b f))) := by
  show min (d (ix2 b n))
    ((x (ix2 b n) - broadcastTo S8x4096 (k0_pay13 x (k0_pay4 x) far) broadcasts_S8x1_S8x4096 (ix2 b n))
      * (x (ix2 b n) - broadcastTo S8x4096 (k0_pay13 x (k0_pay4 x) far) broadcasts_S8x1_S8x4096 (ix2 b n))
      + (y (ix2 b n) - broadcastTo S8x4096 (k0_pay14 y (k0_pay4 x) far) broadcasts_S8x1_S8x4096 (ix2 b n))
      * (y (ix2 b n) - broadcastTo S8x4096 (k0_pay14 y (k0_pay4 x) far) broadcasts_S8x1_S8x4096 (ix2 b n))
      + (z (ix2 b n) - broadcastTo S8x4096 (k0_pay15 z (k0_pay4 x) far) broadcasts_S8x1_S8x4096 (ix2 b n))
      * (z (ix2 b n) - broadcastTo S8x4096 (k0_pay15 z (k0_pay4 x) far) broadcasts_S8x1_S8x4096 (ix2 b n))) = _
  rw [spread_wide, spread_wide, spread_wide, pay13_at x x far b f hf, pay14_at y x far b f hf, pay15_at z x far b f hf]

/-- The trip's column is marked by a one, the others by a zero. -/
theorem pay17_at (x : Vec Ideal S8x4096 .f32) (t : Fin k0_t1_loop.trips) (b : Fin 8) (s : Fin 1024) :
    k0_pay17 (k0_pay5 (F := Ideal) x) 0#32 1#32 t (ix2 b s) = if s.val = t.val then 1 else 0 := by
  have ht : t.val < 1024 := lt_of_lt_of_le t.isLt (by decide)
  have hiv : Scf.iv (0#32) (1#32) t.val = BitVec.ofNat 32 t.val := by simp [Scf.iv]
  show FloatOps.sitofp (F := Ideal) .f32 (BitVec.setWidth 32 (FloatOps.cmpf (F := Ideal) (φ := .f32) .oeq (k0_pay5 x (ix2 b s))
    (FloatOps.sitofp (F := Ideal) .f32 (Scf.iv (0#32) (1#32) t.val)))) = _
  rw [hiv, sitofp_word _ (by omega), pay5_at, of_eq]
  by_cases h : s.val = t.val
  · rw [if_pos (num_inj.2 h), if_pos h]
    exact (sitofp_word 1 (by norm_num)).trans (by norm_num [num])
  · rw [if_neg (fun e => h (num_inj.1 e)), if_neg h]
    exact (sitofp_word 0 (by norm_num)).trans (by norm_num [num])

/-- A row of results after a trip: the trip's column gains what is put there. -/
theorem put_at (x : Vec Ideal S8x4096 .f32) (t : Fin k0_t1_loop.trips) (a : FVec Ideal S8x1024 .f32) (v : FVec Ideal S8x1 .f32)
    (b : Fin 8) (s : Fin 1024) :
    addf a (mulf (broadcastTo S8x1024 v broadcasts_S8x1_S8x1024) (k0_pay17 (k0_pay5 (F := Ideal) x) 0#32 1#32 t)) (ix2 b s)
      = a (ix2 b s) + v (ix2 b 0) * (if s.val = t.val then 1 else 0) := by
  show a (ix2 b s) + broadcastTo S8x1024 v broadcasts_S8x1_S8x1024 (ix2 b s) * k0_pay17 (k0_pay5 (F := Ideal) x) 0#32 1#32 t (ix2 b s) = _
  rw [spread_narrow, pay17_at]

/-- The next point: the first column at which the distances are greatest. -/
theorem next_at (d : FVec Ideal S8x4096 .f32) (x : Vec Ideal S8x4096 .f32) (b : Fin 8) :
    multiReduction .minimumf [1] S8 (select (cmpf .oeq d (broadcastTo S8x4096 (shapeCast S8x1
        (multiReduction .maximumf [1] S8 d 0xFF800000#32 reduces_S8x4096_S8 (.inl rfl) rfl) shapeCasts_S8_S8x1) broadcasts_S8x1_S8x4096))
      (k0_pay4 (F := Ideal) x) (broadcast S8x4096 (Scalar.ofBits .f32 0x45800000#32))) 0x7F800000#32 reduces_S8x4096_S8 (.inl rfl) rfl (ix1 b)
      = num (top fun n => d (ix2 b n)).val := by
  have hbot : FloatOps.ofBits (F := Ideal) .f32 0xFF800000#32 = (⊥ : EReal) := by
    show Ideal.ofBits .f32 0xFF800000#32 = _; simp [Ideal.ofBits, Ideal.ieee]
  have htop : FloatOps.ofBits (F := Ideal) .f32 0x7F800000#32 = (⊤ : EReal) := by
    show Ideal.ofBits .f32 0x7F800000#32 = _; simp [Ideal.ofBits, Ideal.ieee]
  have hbig : FloatOps.ofBits (F := Ideal) .f32 0x45800000#32 = num 4096 := by
    show Ideal.ofBits .f32 0x45800000#32 = _; simp [Ideal.ofBits, Ideal.ieee, num, -EReal.coe_mul]; norm_num
  obtain ⟨h1, h2⟩ := top_spec fun n => d (ix2 b n)
  generalize (top fun n => d (ix2 b n)) = i at h1 h2 ⊢
  have hmax : multiReduction .maximumf [1] S8 d 0xFF800000#32 reduces_S8x4096_S8 (.inl rfl) rfl (ix1 b) = d (ix2 b i) := by
    refine (Ideal.multiReduction_maximumf_single _ _ _ _ _ _).trans ?_
    refine le_antisymm ((Finset.fold_max_le _).2 ⟨?_, fun (n : Fin 4096) _ => ?_⟩) ((Finset.le_fold_max _).2 (.inr ⟨i, Finset.mem_univ _, ?_⟩))
    · rw [hbot]; exact bot_le
    · show d (reduces_S8x4096_S8.lift (ix1 b) n) ≤ _; rw [lift_row]; exact h1 n
    · show _ ≤ d (reduces_S8x4096_S8.lift (ix1 b) i); rw [lift_row]
  have hsel : ∀ n : Fin 4096, select (cmpf .oeq d (broadcastTo S8x4096 (shapeCast S8x1
        (multiReduction .maximumf [1] S8 d 0xFF800000#32 reduces_S8x4096_S8 (.inl rfl) rfl) shapeCasts_S8_S8x1) broadcasts_S8x1_S8x4096))
      (k0_pay4 (F := Ideal) x) (broadcast S8x4096 (Scalar.ofBits .f32 0x45800000#32)) (ix2 b n)
      = if d (ix2 b n) = d (ix2 b i) then num n.val else num 4096 := fun n => by
    show Scalar.select (FloatOps.cmpf .oeq (d (ix2 b n)) (broadcastTo S8x4096 (shapeCast S8x1
        (multiReduction .maximumf [1] S8 d 0xFF800000#32 reduces_S8x4096_S8 (.inl rfl) rfl) shapeCasts_S8_S8x1) broadcasts_S8x1_S8x4096 (ix2 b n)))
      (k0_pay4 (F := Ideal) x (ix2 b n)) (FloatOps.ofBits (F := Ideal) .f32 0x45800000#32) = _
    rw [spread_wide, shapeCast_a_a1_apply, hmax, of_eq, pay4_at, hbig]
    by_cases h : d (ix2 b n) = d (ix2 b i)
    · rw [if_pos h, if_pos h]; rfl
    · rw [if_neg h, if_neg h]; rfl
  refine (multiReduction_minimumf_eq_fold _ _ _ _ _ _).trans ?_
  refine (reduces_S8x4096_S8.fold_filter_drop_single _ _ _ (ix1 b)).trans ?_
  refine le_antisymm ((Finset.fold_min_le _).2 (.inr ⟨i, Finset.mem_univ _, ?_⟩)) ((Finset.le_fold_min _).2 ⟨?_, fun (n : Fin 4096) _ => ?_⟩)
  · show select _ _ _ (reduces_S8x4096_S8.lift (ix1 b) i) ≤ _
    rw [lift_row, hsel, if_pos rfl]
  · rw [htop]; exact le_top
  · show _ ≤ select _ _ _ (reduces_S8x4096_S8.lift (ix1 b) n)
    rw [lift_row, hsel]
    by_cases h : d (ix2 b n) = d (ix2 b i)
    · rw [if_pos h]
      exact num_le.2 (not_lt.1 fun hn => absurd h (ne_of_lt (h2 n hn)))
    · rw [if_neg h]
      exact num_le.2 i.isLt.le

end Cert.Proof.Far

end
-- ==== Proof.SampleLoop.lean ====
/-
  What the farthest-point kernel's loop computes over the extended reals: the picked points' coordinates.
-/
module

public import proofs.«01_k».proof.Proof.SampleTrip

@[expose] public section

noncomputable section

namespace Cert.Proof.Far

open Cert.Sample Cert.Sample.Gen Cert.Proof.Farthest
open Idealize.ShloMosaic
open Idealize.ShloMosaic.ValueIdx Idealize.ShloMosaic.TcCoe

/-- One row of three coordinate arrays as a cloud of points. -/
def cloud (x y z : Vec Ideal S8x4096 .f32) (b : Fin 8) : Fin 4096 → Fin 3 → EReal :=
  fun n c => (![x, y, z] : Fin 3 → Vec Ideal S8x4096 .f32) c (ix2 b n)

/-- The first coordinate's block is read as it is. -/
theorem pay1_eq (x : Vec Ideal S8x4096 .f32) : k0_pay1 (F := Ideal) x = x := shapeCast_self _ _
/-- The second coordinate's block is read as it is. -/
theorem pay2_eq (x : Vec Ideal S8x4096 .f32) : k0_pay2 (F := Ideal) x = x := shapeCast_self _ _
/-- The third coordinate's block is read as it is. -/
theorem pay3_eq (x : Vec Ideal S8x4096 .f32) : k0_pay3 (F := Ideal) x = x := shapeCast_self _ _

/-- What the loop carries before trip `t`: the distances and the point of the recursion, and the coordinates of the points
    picked so far, zeros after them. -/
structure Holds (x y z : Vec Ideal S8x4096 .f32) (t : ℕ) (a : Carry Ideal) : Prop where
  dist : ∀ (b : Fin 8) (n : Fin 4096), a.1 (ix2 b n) = (state (cloud x y z b) t).1 n
  far : ∀ b : Fin 8, a.2.1 (ix2 b (0 : Fin 1)) = num (pick (cloud x y z b) t).val
  px : ∀ (b : Fin 8) (s : Fin 1024), a.2.2.2.1 (ix2 b s) = if s.val < t then cloud x y z b (pick (cloud x y z b) s.val) 0 else 0
  py : ∀ (b : Fin 8) (s : Fin 1024), a.2.2.2.2.1 (ix2 b s) = if s.val < t then cloud x y z b (pick (cloud x y z b) s.val) 1 else 0
  pz : ∀ (b : Fin 8) (s : Fin 1024), a.2.2.2.2.2 (ix2 b s) = if s.val < t then cloud x y z b (pick (cloud x y z b) s.val) 2 else 0

/-- It holds before the first trip. -/
theorem holds_start (x y z : Vec Ideal S8x4096 .f32) : Holds x y z 0 (start (F := Ideal)) where
  dist _ _ := rfl
  far b := zero_word.trans (by norm_num [num, pick, state])
  px b s := zero_word.trans (by simp)
  py b s := zero_word.trans (by simp)
  pz b s := zero_word.trans (by simp)

/-- Adding a product with the mark of column `t` writes that column of a row of zeros and changes no other. -/
theorem put_col {s t : ℕ} (w : ℕ → EReal) (v : EReal) (hv : v = w t) :
    (if s < t then w s else 0) + v * (if s = t then 1 else 0) = if s < t + 1 then w s else 0 := by
  rcases lt_trichotomy s t with h | h | h
  · rw [if_pos h, if_neg h.ne, if_pos (by omega), mul_zero, add_zero]
  · subst h; rw [if_neg (lt_irrefl _), if_pos rfl, if_pos (by omega), mul_one, zero_add, hv]
  · rw [if_neg (by omega), if_neg h.ne', if_neg (by omega), mul_zero, add_zero]

/-- The distances that a trip leaves are the recursion's. -/
theorem dist_step {x y z : Vec Ideal S8x4096 .f32} {t : ℕ} {a : Carry Ideal} (h : Holds x y z t a) (b : Fin 8) (n : Fin 4096) :
    k0_pay16 x y z (k0_pay4 (F := Ideal) x) a.1 a.2.1 (ix2 b n) = (state (cloud x y z b) (t + 1)).1 n := by
  rw [pay16_at x y z a.1 a.2.1 b _ n (h.far b), h.dist]
  show _ = min _ (∑ c, _)
  rw [Fin.sum_univ_three]
  rfl

/-- So is the point that it leaves. -/
theorem far_step {x y z : Vec Ideal S8x4096 .f32} {t : ℕ} {a : Carry Ideal} (h : Holds x y z t a) (b : Fin 8) :
    k0_pay10 (k0_pay22 x y z (k0_pay4 (F := Ideal) x) a.1 a.2.1) (ix2 b 0) = num (pick (cloud x y z b) (t + 1)).val := by
  have e := funext fun n => dist_step h b n
  have e1 := next_at (k0_pay16 x y z (k0_pay4 (F := Ideal) x) a.1 a.2.1) x b
  rw [e] at e1
  unfold k0_pay10
  refine (shapeCast_a_a1_apply _ _ _ _).trans ?_
  unfold k0_pay22
  exact e1

/-- A trip carries it on. -/
theorem holds_step {x y z : Vec Ideal S8x4096 .f32} (t : Fin k0_t1_loop.trips) {a : Carry Ideal} (h : Holds x y z t.val a) :
    Holds x y z (t.val + 1) (trip x y z t a) := by
  unfold trip
  rw [pay1_eq, pay2_eq, pay3_eq]
  refine ⟨fun b n => dist_step h b n, fun b => ?_, fun b s => ?_, fun b s => ?_, fun b s => ?_⟩
  · dsimp only
    exact far_step h b
  · refine (put_at x t a.2.2.2.1 (k0_pay13 x (k0_pay4 x) a.2.1) b s).trans ?_
    rw [h.px, pay13_at x x a.2.1 b _ (h.far b)]
    exact put_col (fun i => cloud x y z b (pick (cloud x y z b) i) 0) _ rfl
  · refine (put_at x t a.2.2.2.2.1 (k0_pay14 y (k0_pay4 x) a.2.1) b s).trans ?_
    rw [h.py, pay14_at y x a.2.1 b _ (h.far b)]
    exact put_col (fun i => cloud x y z b (pick (cloud x y z b) i) 1) _ rfl
  · refine (put_at x t a.2.2.2.2.2 (k0_pay15 z (k0_pay4 x) a.2.1) b s).trans ?_
    rw [h.pz, pay15_at z x a.2.1 b _ (h.far b)]
    exact put_col (fun i => cloud x y z b (pick (cloud x y z b) i) 2) _ rfl

/-- A property of the trips run so far that each trip carries on holds at the end of a counted fold. -/
theorem fold_ind {σ : Type} {n : ℕ} (g : Fin n → σ → σ) (a : σ) (I : ℕ → σ → Prop) (h0 : I 0 a)
    (hs : ∀ t : Fin n, ∀ e, I t.val e → I (t.val + 1) (g t e)) : I n (Scf.fold g a) := by
  rw [Scf.fold_eq]
  have key : ∀ k, (hk : k ≤ n) → I k (((List.finRange n).take k).foldl (fun acc i => g i acc) a) := fun k => by
    induction k with
    | zero => intro _; exact h0
    | succ k ih =>
      intro hk
      have hlt : k < (List.finRange n).length := by rw [List.length_finRange]; omega
      rw [List.take_succ_eq_append_getElem hlt, List.foldl_append, List.getElem_finRange]
      exact hs ⟨k, hk⟩ _ (ih (by omega))
  have := key n le_rfl
  rwa [List.take_of_length_le (by rw [List.length_finRange])] at this

/-- What the loop ends with: every picked point's coordinates. -/
theorem holds_ended (x y z : Vec Ideal S8x4096 .f32) : Holds x y z 1024 (ended x y z) :=
  fold_ind (trip x y z) start (Holds x y z) (holds_start x y z) fun t _ h => holds_step t h

end Cert.Proof.Far

end
-- ==== Proof.SampleValue.lean ====
/-
  The farthest-point call's result, read off its run: every picked point's coordinates.
-/
module

public import proofs.«01_k».proof.Proof.SampleLoop
public import Idealize.ShloMosaic.Lib.Pipeline.ValueKit

@[expose] public section

noncomputable section

namespace Cert.Proof.Far

open Cert.Sample Cert.Sample.Gen Cert.Proof.Farthest
open Idealize.ShloMosaic hiding ix2 ix3 ix4
open Idealize.SL.Sem
open Idealize.ShloMosaic.ValueIdx Idealize.ShloMosaic.TcCoe Idealize.ShloMosaic.StableHlo

variable {F : FTy → Type} [FloatOps F]
variable (m : (ℓ : Loc nD τ sig) → Buf (Elt F) ℓ)

/-- The one grid point. -/
abbrev t0 : Fin cfg0.N := ⟨0, by decide +kernel⟩

/-- Each output's array ends at what the body leaves at the one grid point. -/
theorem arr4 (c : Dev nD) : (dats m 0 c).arrAt 4 cfg0.N = (endedAt m c t0).2.2.2.1 :=
  (dats m 0 c).arrAt_eq_of_after_last 4 t0 (by decide +kernel) _ fun j => by rw [after4]; rfl
/-- The same of the second coordinates. -/
theorem arr5 (c : Dev nD) : (dats m 0 c).arrAt 5 cfg0.N = (endedAt m c t0).2.2.2.2.1 :=
  (dats m 0 c).arrAt_eq_of_after_last 5 t0 (by decide +kernel) _ fun j => by rw [after5]; rfl
/-- The same of the third coordinates. -/
theorem arr6 (c : Dev nD) : (dats m 0 c).arrAt 6 cfg0.N = (endedAt m c t0).2.2.2.2.2 :=
  (dats m 0 c).arrAt_eq_of_after_last 6 t0 (by decide +kernel) _ fun j => by rw [after6]; rfl

/-- One coordinate of the points, as sliced and reshaped before the call. -/
theorem slice_at (X : S8x4096x3.Idx → Elt F .f32) (k : Fin 3) (h : S8x4096x3.Slices ![0, 0, k.val] S8x4096x1) (b : Fin 8) (n : Fin 4096) :
    shapeCast S8x4096 (extractStridedSlice S8x4096x1 ![0, 0, k.val] X h) shapeCasts_S8x4096x1_S8x4096 (ix2 b n) = X (ix3 b n k) := by
  refine (shapeCast_apply _ _ _ (ix3 b n (0 : Fin 1)) ?_).trans ?_
  · rw [rowMajor_val3 _ 4096 1 rfl rfl, rowMajor_val2 _ 4096 rfl]
    show b.val * (4096 * 1) + n.val * 1 + 0 = b.val * 4096 + n.val
    omega
  · refine congrArg X ?_
    funext a; fin_cases a
    · exact Fin.ext (Nat.zero_add _)
    · exact Fin.ext (Nat.zero_add _)
    · exact Fin.ext (Nat.add_zero _)

/-- The three blocks that the body reads are the three coordinates of the points. -/
theorem block0 (c : Dev nD) (b : Fin 8) (n : Fin 4096) :
    iblk m c 0 t0 (ix2 b n) = m ((c : Thread nD τ).loc main_arg0) (ix3 b n 0) := by
  refine Eq.trans (b := V m c main_v1 (ix2 b n)) (congrArg (V m c main_v1) ?_) ?_
  · funext a; fin_cases a <;> exact Fin.ext (by simp; rfl)
  · have h : ∀ W : Valuation τ sig (Elt F), after (hostOps0 (F := F)) W (Proc.devRef .tc main_v1)
        = shapeCast S8x4096 (extractStridedSlice S8x4096x1 ![0, 0, 0] (W (Proc.devRef .tc main_arg0)) slices_S8x4096x3_S8x4096x1_0_0_0) shapeCasts_S8x4096x1_S8x4096 := by
      intro W; after_results <;> rfl
    exact (congrFun (h _) _).trans (slice_at _ 0 _ b n)

/-- The same of the second coordinate. -/
theorem block1 (c : Dev nD) (b : Fin 8) (n : Fin 4096) :
    iblk m c 1 t0 (ix2 b n) = m ((c : Thread nD τ).loc main_arg0) (ix3 b n 1) := by
  refine Eq.trans (b := V m c main_v3 (ix2 b n)) (congrArg (V m c main_v3) ?_) ?_
  · funext a; fin_cases a <;> exact Fin.ext (by simp; rfl)
  · have h : ∀ W : Valuation τ sig (Elt F), after (hostOps0 (F := F)) W (Proc.devRef .tc main_v3)
        = shapeCast S8x4096 (extractStridedSlice S8x4096x1 ![0, 0, 1] (W (Proc.devRef .tc main_arg0)) slices_S8x4096x3_S8x4096x1_0_0_1) shapeCasts_S8x4096x1_S8x4096 := by
      intro W; after_results <;> rfl
    exact (congrFun (h _) _).trans (slice_at _ 1 _ b n)

/-- The same of the third coordinate. -/
theorem block2 (c : Dev nD) (b : Fin 8) (n : Fin 4096) :
    iblk m c 2 t0 (ix2 b n) = m ((c : Thread nD τ).loc main_arg0) (ix3 b n 2) := by
  refine Eq.trans (b := V m c main_v5 (ix2 b n)) (congrArg (V m c main_v5) ?_) ?_
  · funext a; fin_cases a <;> exact Fin.ext (by simp; rfl)
  · have h : ∀ W : Valuation τ sig (Elt F), after (hostOps0 (F := F)) W (Proc.devRef .tc main_v5)
        = shapeCast S8x4096 (extractStridedSlice S8x4096x1 ![0, 0, 2] (W (Proc.devRef .tc main_arg0)) slices_S8x4096x3_S8x4096x1_0_0_2) shapeCasts_S8x4096x1_S8x4096 := by
      intro W; after_results <;> rfl
    exact (congrFun (h _) _).trans (slice_at _ 2 _ b n)

/-- Three columns side by side, read at each column. -/
theorem side0 {α : Type} (x y z : S8x1024x1.Idx → α) (h) (b : Fin 8) (s : Fin 1024) :
    concatenate S8x1024x3 2 [⟨S8x1024x1, x⟩, ⟨S8x1024x1, y⟩, ⟨S8x1024x1, z⟩] h (ix3 b s 0) = x (ix3 b s 0) :=
  concatenate_apply_piece (t := S8x1024x3) 2 _ h _ 0 (show 0 < 3 by omega) S8x1024x1 x rfl rfl 0 rfl _
    (fun x hx => by fin_cases x <;> first | rfl | exact absurd rfl hx) rfl
/-- At the second column, the second. -/
theorem side1 {α : Type} (x y z : S8x1024x1.Idx → α) (h) (b : Fin 8) (s : Fin 1024) :
    concatenate S8x1024x3 2 [⟨S8x1024x1, x⟩, ⟨S8x1024x1, y⟩, ⟨S8x1024x1, z⟩] h (ix3 b s 1) = y (ix3 b s 0) :=
  concatenate_apply_piece (t := S8x1024x3) 2 _ h _ 1 (show 1 < 3 by omega) S8x1024x1 y rfl rfl 1 rfl _
    (fun x hx => by fin_cases x <;> first | rfl | exact absurd rfl hx) rfl
/-- At the third column, the third. -/
theorem side2 {α : Type} (x y z : S8x1024x1.Idx → α) (h) (b : Fin 8) (s : Fin 1024) :
    concatenate S8x1024x3 2 [⟨S8x1024x1, x⟩, ⟨S8x1024x1, y⟩, ⟨S8x1024x1, z⟩] h (ix3 b s 2) = z (ix3 b s 0) :=
  concatenate_apply_piece (t := S8x1024x3) 2 _ h _ 2 (show 2 < 3 by omega) S8x1024x1 z rfl rfl 2 rfl _
    (fun x hx => by fin_cases x <;> first | rfl | exact absurd rfl hx) rfl

/-- A row as a column of its own. -/
theorem column (v : S8x1024.Idx → Elt F .f32) (b : Fin 8) (s : Fin 1024) :
    broadcastInDim S8x1024x1 ![0, 1] bcast_S8x1024_S8x1024x1_0_1 v (ix3 b s 0) = v (ix2 b s) :=
  broadcastInDim_apply _ _ _ _ _ (fun x => by fin_cases x <;> rfl)

/-- The lines after the call put three arrays side by side as the last coordinate. -/
theorem tail0 (W : Valuation τ sig (Elt F)) (b : Fin 8) (s : Fin 1024) :
    after (hostOps1 (F := F)) W (Proc.devRef .tc main_v10) (ix3 b s 0) = W (Proc.devRef .tc main_v6_1) (ix2 b s) := by
  simp only [hostOps1, after_cons, after_nil]
  rw [nary_result]
  refine (side0 _ _ _ _ b s).trans ?_
  refine Eq.trans (congrFun (g := broadcastInDim S8x1024x1 ![0, 1] bcast_S8x1024_S8x1024x1_0_1 (W (Proc.devRef .tc main_v6_1))) ?_ _) (column _ b s)
  show HloOp.result _ (HloOp.result _ (HloOp.result _ W)) (Proc.devRef .tc main_v7) = _
  after_results
/-- The second coordinate of the result. -/
theorem tail1 (W : Valuation τ sig (Elt F)) (b : Fin 8) (s : Fin 1024) :
    after (hostOps1 (F := F)) W (Proc.devRef .tc main_v10) (ix3 b s 1) = W (Proc.devRef .tc main_v6_2) (ix2 b s) := by
  simp only [hostOps1, after_cons, after_nil]
  rw [nary_result]
  refine (side1 _ _ _ _ b s).trans ?_
  refine Eq.trans (congrFun (g := broadcastInDim S8x1024x1 ![0, 1] bcast_S8x1024_S8x1024x1_0_1 (W (Proc.devRef .tc main_v6_2))) ?_ _) (column _ b s)
  show HloOp.result _ (HloOp.result _ (HloOp.result _ W)) (Proc.devRef .tc main_v8) = _
  after_results
/-- The third coordinate of the result. -/
theorem tail2 (W : Valuation τ sig (Elt F)) (b : Fin 8) (s : Fin 1024) :
    after (hostOps1 (F := F)) W (Proc.devRef .tc main_v10) (ix3 b s 2) = W (Proc.devRef .tc main_v6_3) (ix2 b s) := by
  simp only [hostOps1, after_cons, after_nil]
  rw [nary_result]
  refine (side2 _ _ _ _ b s).trans ?_
  refine Eq.trans (congrFun (g := broadcastInDim S8x1024x1 ![0, 1] bcast_S8x1024_S8x1024x1_0_1 (W (Proc.devRef .tc main_v6_3))) ?_ _) (column _ b s)
  show HloOp.result _ (HloOp.result _ (HloOp.result _ W)) (Proc.devRef .tc main_v9) = _
  after_results

/-- The picked points' coordinates, of an array of points. -/
def picked (X : S8x4096x3.Idx → EReal) : S8x1024x3.Idx → EReal := fun j =>
  X (ix3 (j 0 : Fin 8) (pick (fun n c => X (ix3 (j 0 : Fin 8) n c)) (j 1).val) (j 2 : Fin 3))

/-- The result's buffer holds the picked points' coordinates. -/
theorem result_eq (m : (ℓ : Loc nD τ sig) → Buf (Elt Ideal) ℓ) (c : Dev nD) :
    Pipeline.afterTail₀ cfgs (dats m) 0 (V0 m) [hostOps1] c main_v10 = picked (m ((c : Thread nD τ).loc main_arg0)) := by
  have hc : ∀ b, cloud (iblk m c 0 t0) (iblk m c 1 t0) (iblk m c 2 t0) b = fun n k => m ((c : Thread nD τ).loc main_arg0) (ix3 b n k) := fun b => by
    funext n k
    fin_cases k
    · exact block0 m c b n
    · exact block1 m c b n
    · exact block2 m c b n
  have hinj : Function.Injective (Pipeline.arrRef (cfgs 0).spec) := by decide
  have H := holds_ended (iblk m c 0 t0) (iblk m c 1 t0) (iblk m c 2 t0)
  have h1 : ∀ s : Fin 1024, s.val < 1024 := fun s => s.isLt
  funext j
  obtain ⟨b, s, k, rfl⟩ : ∃ (b : Fin 8) (s : Fin 1024) (k : Fin 3), j = ix3 b s k :=
    ⟨j 0, j 1, j 2, by funext a; fin_cases a <;> rfl⟩
  show after (hostOps1 (F := Ideal)) (Pipeline.withArrays (cfgs 0).spec c (V0 m c) fun w => (dats m 0 c).arrAt w cfg0.N) (Proc.devRef .tc main_v10) (ix3 b s k)
    = m ((c : Thread nD τ).loc main_arg0) (ix3 b (pick (fun n k => m ((c : Thread nD τ).loc main_arg0) (ix3 b n k)) s.val) k)
  fin_cases k
  · refine (tail0 _ b s).trans ?_
    refine (congrFun (Pipeline.withArrays_arr (cfgs 0).spec hinj c (V0 m c) _ 4) _).trans ?_
    rw [arr4]
    refine (H.px b s).trans ?_
    rw [if_pos (h1 s), hc]; rfl
  · refine (tail1 _ b s).trans ?_
    refine (congrFun (Pipeline.withArrays_arr (cfgs 0).spec hinj c (V0 m c) _ 5) _).trans ?_
    rw [arr5]
    refine (H.py b s).trans ?_
    rw [if_pos (h1 s), hc]; rfl
  · refine (tail2 _ b s).trans ?_
    refine (congrFun (Pipeline.withArrays_arr (cfgs 0).spec hinj c (V0 m c) _ 6) _).trans ?_
    rw [arr6]
    refine (H.pz b s).trans ?_
    rw [if_pos (h1 s), hc]; rfl

end Cert.Proof.Far

end
-- ==== Proof.SampleRef.lean ====
/-
  The sampling reference read over the extended reals: each part of a trip at an index, the loop's state after any number of
  trips, and its result, the rows of the points of the farthest-point recursion.
-/
module

public import proofs.«01_k».proof.Proof.SampleRefRun
public import proofs.«01_k».proof.Proof.SampleValue
public import Idealize.ShloMosaic.Lib.Routing.OpsOne
public import Idealize.ShloMosaic.Lib.ReduceAll
public import Idealize.ShloMosaic.PureOps.Reduce

@[expose] public section

noncomputable section

namespace Cert.Proof.FarRef

open Cert.SampleReferenceIdeal Cert.SampleReferenceIdeal.Gen Cert.Proof.Farthest
open Idealize.ShloMosaic hiding ix1 ix2 ix3 ix4
open Idealize.ShloMosaic.ValueIdx Idealize.ShloMosaic.TcCoe Idealize.ShloMosaic.StableHlo

/-! ## Words -/

/-- A small number's word, read signed, is that number. -/
theorem word_int (n : ℕ) (h : n < 4096) : (BitVec.ofNat 32 n).toInt = (n : Int) := Predicate.toInt_ofNat_small n (by omega)

/-- A small number's word is not below nought. -/
theorem word_slt (n : ℕ) (h : n < 4096) : IntOp.cmpi .slt (BitVec.ofNat 32 n) 0#32 = 0#1 := by
  refine eq_zero_of_ne_one fun e => ?_
  have e' := IntOp.cmpi_slt.1 e
  rw [word_int n h, show (0#32 : BitVec 32).toInt = 0 by decide] at e'
  omega

/-- A small number's word counted from the end where it is below nought is the word. -/
theorem word_wrap (n : ℕ) (h : n < 4096) (v : BitVec 32) :
    Scalar.select (IntOp.cmpi .slt (BitVec.ofNat 32 n) 0#32) v (BitVec.ofNat 32 n) = BitVec.ofNat 32 n := by
  rw [word_slt n h, select_zero]

/-! ## Writing down the last point chosen -/

/-- The column of the sample's number becomes the last point chosen; the others stay. -/
theorem kept_at (ids : IVec S8x1024 32) (i : IVec S_ 32) (pt : IVec S8 32) (t : ℕ) (ht : t < 1024) (hi : i = fun _ => BitVec.ofNat 32 t)
    (b : Fin 8) (s : Fin 1024) : kept ids i pt (ix2 b s) = if s.val = t then pt (ix1 b) else ids (ix2 b s) := by
  unfold kept
  refine (Routing.scatter_col_signed (A := 8) (N := 1024) scatter_S8x1024_S1_S8_0_1_1_0 rfl rfl ids _ pt ⟨t, ht⟩ ?_ b s).trans ?_
  · rw [broadcastInDim_apply _ _ _ _ (fun a => a.elim0) (fun a => a.elim0)]
    show (Scalar.select (IntOp.cmpi .slt (i _) 0#32) (IntOp.addi (i _) 1024#32) (i _)).toInt = (t : Int)
    rw [hi, word_wrap t (by omega), word_int t (by omega)]
  · exact if_congr Fin.ext_iff rfl rfl

/-! ## The coordinates of the last point chosen -/

/-- The number of the last point chosen of a cloud. -/
theorem wrapped_at (pt : IVec S8 32) (p : Fin 8 → Fin 4096) (hp : ∀ b : Fin 8, pt (ix1 b) = BitVec.ofNat 32 (p b).val) (j : S8x1x1.Idx) :
    wrapped (broadcastInDim S8x1x1 ![0] bcast_S8_S8x1x1_0 pt) j = BitVec.ofNat 32 (p (j 0 : Fin 8)).val := by
  have e : broadcastInDim S8x1x1 ![0] bcast_S8_S8x1x1_0 pt j = BitVec.ofNat 32 (p (j 0 : Fin 8)).val :=
    (broadcastInDim_apply _ _ _ _ (ix1 (j 0 : Fin 8)) (fun x => by fin_cases x; rfl)).trans (hp _)
  show Scalar.select (IntOp.cmpi .slt (broadcastInDim S8x1x1 ![0] bcast_S8_S8x1x1_0 pt j) 0#32)
    (IntOp.addi (broadcastInDim S8x1x1 ![0] bcast_S8_S8x1x1_0 pt j) 4096#32) (broadcastInDim S8x1x1 ![0] bcast_S8_S8x1x1_0 pt j) = _
  rw [e]
  exact word_wrap _ (p (j 0 : Fin 8)).isLt _

/-- Numbers of points are numbers of points. -/
theorem inside_at (i : IVec S8x1x1 32) (p : Fin 8 → Fin 4096) (hi : ∀ j : S8x1x1.Idx, i j = BitVec.ofNat 32 (p (j 0 : Fin 8)).val) (j : S8x1.Idx) :
    inside i j = 1#1 := by
  unfold inside
  refine Host.reduce_andi_one _ _ _ _ _ rfl fun k => ?_
  show IntOp.andi (IntOp.cmpi .sge (i k) 0#32) (IntOp.cmpi .sle (i k) 4095#32) = 1#1
  have h := (p (k 0 : Fin 8)).isLt
  rw [hi, IntOp.andi_eq_one]
  refine ⟨IntOp.cmpi_sge.2 ?_, IntOp.cmpi_sle.2 ?_⟩
  · rw [word_int _ h, show (0#32 : BitVec 32).toInt = 0 by decide]; omega
  · rw [word_int _ h, show (4095#32 : BitVec 32).toInt = 4095 by decide]; omega

/-- A gather of one row of each cloud: the entry it reads. -/
theorem gather_one {α : Type} (x : S8x4096x3.Idx → α) (q : IVec S8x1x1 32) (b : Fin 8) (c : Fin 3) (n : Fin 4096)
    (hn : min (q (ix3 b (0 : Fin 1) (0 : Fin 1))).toInt.toNat 4095 = n.val) :
    Host.gather gather_S8x4096x3_S8x1x1_S8x1x3_2_1_0_0_1_2_113 x q (ix3 b (0 : Fin 1) c) = x (ix3 b n c) := by
  unfold Host.gather
  refine congrArg x (funext fun a => Fin.ext ?_)
  show GatherDims.start _ (ix3 b (0 : Fin 1) c) q a + GatherDims.batchCoord _ (ix3 b (0 : Fin 1) c) a + GatherDims.offCoord _ (ix3 b (0 : Fin 1) c) a = _
  have h3 : a = 0 ∨ a = 1 ∨ a = 2 := by
    match a with
    | ⟨0, _⟩ => exact .inl rfl
    | ⟨1, _⟩ => exact .inr (.inl rfl)
    | ⟨2, _⟩ => exact .inr (.inr rfl)
  rcases h3 with rfl | rfl | rfl
  · rw [GatherDims.offCoord_eq_zero _ _ _ (fun h => ((GatherDims.mem_sKept _ _).mp h).2 (by decide))]
    unfold GatherDims.start
    rw [dif_neg (by decide)]
    unfold GatherDims.batchCoord
    rw [dif_pos (by decide)]
    simp only [Nat.add_zero, Nat.zero_add]
    rfl
  · rw [GatherDims.batchCoord_eq_zero _ _ _ (by decide), GatherDims.offCoord_eq_zero _ _ _ (fun h => ((GatherDims.mem_sKept _ _).mp h).1 (by decide))]
    refine Eq.trans ?_ hn
    simp only [Nat.add_zero]
    unfold GatherDims.start
    rw [dif_pos (by decide)]
    refine congrArg (fun z => min (q z).toInt.toNat 4095) (funext fun e => Fin.ext ?_)
    match e with
    | ⟨0, _⟩ => rfl
    | ⟨1, _⟩ => rfl
    | ⟨2, _⟩ => rfl
  · rw [GatherDims.batchCoord_eq_zero _ _ _ (by decide)]
    unfold GatherDims.start
    rw [dif_neg (by decide)]
    simp only [Nat.add_zero, Nat.zero_add]
    unfold GatherDims.offCoord
    rw [dif_pos (by decide)]
    rfl

/-- The coordinates taken are those of the last point chosen. -/
theorem taken_at (X : FVec Ideal S8x4096x3 .f32) (pt : IVec S8 32) (p : Fin 8 → Fin 4096) (hp : ∀ b : Fin 8, pt (ix1 b) = BitVec.ofNat 32 (p b).val)
    (b : Fin 8) (c : Fin 3) : taken (F := Ideal) X pt (ix3 b (0 : Fin 1) c) = X (ix3 b (p b) c) := by
  have hw := wrapped_at pt p hp
  unfold taken
  show Scalar.select (broadcastInDim S8x1x3 ![0, 1] bcast_S8x1_S8x1x3_0_1 (inside (wrapped (broadcastInDim S8x1x1 ![0] bcast_S8_S8x1x1_0 pt))) (ix3 b (0 : Fin 1) c))
    (Host.gather gather_S8x4096x3_S8x1x1_S8x1x3_2_1_0_0_1_2_113 X (wrapped (broadcastInDim S8x1x1 ![0] bcast_S8_S8x1x1_0 pt)) (ix3 b (0 : Fin 1) c)) _ = _
  rw [broadcastInDim_apply _ _ _ _ (ix2 b (0 : Fin 1)) (fun x => by fin_cases x <;> rfl), inside_at _ p hw, select_one]
  refine gather_one _ _ _ _ _ ?_
  rw [hw]
  show min (BitVec.ofNat 32 (p b).val).toInt.toNat 4095 = (p b).val
  rw [word_int _ (p b).isLt]
  have := (p b).isLt
  omega

/-! ## The least squared distances -/

/-- A point's coordinates, in the order that a sum over them reads them. -/
theorem lift_point (h : S8x4096x3.Reduces [2] S8x4096) (b : Fin 8) (n : Fin 4096) (c : Fin 3) : h.lift (ix2 b n) c = ix3 b n c := by
  funext a; fin_cases a <;> rfl

/-- The least squared distance of a point once one more is chosen. -/
theorem nearer_at (X : FVec Ideal S8x4096x3 .f32) (q : FVec Ideal S8x1x3 .f32) (d : FVec Ideal S8x4096 .f32) (b : Fin 8) (n : Fin 4096) :
    nearer X q d (ix2 b n) = min (d (ix2 b n)) (∑ c : Fin 3, (X (ix3 b n c) - q (ix3 b (0 : Fin 1) c)) * (X (ix3 b n c) - q (ix3 b (0 : Fin 1) c))) := by
  unfold nearer
  refine congrArg (min (d (ix2 b n))) ?_
  refine (Ideal.hostReduceAdd_single (a := 2) _ (by decide) _ _ _).trans ?_
  rw [show constant (F := Ideal) S_ .f32 0x00000000#32 (Shape.Idx.first h_S_) = (0 : EReal) from Ideal.ofBits_zero_f32, zero_add]
  refine Finset.sum_congr rfl fun (c : Fin 3) _ => ?_
  rw [lift_point]
  have e : broadcastInDim S8x4096x3 ![0, 1, 2] bcast_S8x1x3_S8x4096x3_0_1_2 q (ix3 b n c) = q (ix3 b (0 : Fin 1) c) :=
    broadcastInDim_apply _ _ _ _ _ (fun x => by fin_cases x <;> rfl)
  show (X (ix3 b n c) - broadcastInDim S8x4096x3 ![0, 1, 2] bcast_S8x1x3_S8x4096x3_0_1_2 q (ix3 b n c))
    * (X (ix3 b n c) - broadcastInDim S8x4096x3 ![0, 1, 2] bcast_S8x1x3_S8x4096x3_0_1_2 q (ix3 b n c)) = _
  rw [e]

/-! ## The first point at the greatest distance -/

/-- The better of two pairs of a distance and a point: the greater distance, and the earlier point of two at the same distance. -/
theorem better (a b : EReal × BitVec 32) : reducer_argmax_f32_i32 (F := Ideal) a b
    = if b.1 < a.1 then a else if a.1 = b.1 ∧ a.2.toInt < b.2.toInt then (b.1, a.2) else b := by
  have h1 : FloatOps.cmpf (F := Ideal) (φ := .f32) .ogt a.1 b.1 = if b.1 < a.1 then 1#1 else 0#1 := by
    rw [Ideal.cmpf_def]; unfold Ideal.cmp; by_cases h : b.1 < a.1 <;> simp [h]
  have h2 : FloatOps.cmpf (F := Ideal) (φ := .f32) .une a.1 a.1 = 0#1 := by
    rw [Ideal.cmpf_def]; unfold Ideal.cmp; simp
  have h3 : FloatOps.cmpf (F := Ideal) (φ := .f32) .oeq a.1 b.1 = if a.1 = b.1 then 1#1 else 0#1 := by
    rw [Ideal.cmpf_def]; unfold Ideal.cmp; by_cases h : a.1 = b.1 <;> simp [h]
  have h4 : IntOp.cmpi .slt a.2 b.2 = if a.2.toInt < b.2.toInt then 1#1 else 0#1 := by
    by_cases h : a.2.toInt < b.2.toInt
    · rw [if_pos h]; exact IntOp.cmpi_slt.2 h
    · rw [if_neg h]; exact eq_zero_of_ne_one fun e => h (IntOp.cmpi_slt.1 e)
  unfold reducer_argmax_f32_i32
  dsimp only
  rw [h1, h2, h3, h4]
  by_cases c1 : b.1 < a.1
  · rw [if_pos c1, if_pos c1]
    by_cases c3 : a.2.toInt < b.2.toInt <;> simp only [c1.ne', c3, if_true, if_false] <;> rfl
  · rw [if_neg c1, if_neg c1]
    by_cases c2 : a.1 = b.1 <;> by_cases c3 : a.2.toInt < b.2.toInt <;> simp only [c2, c3, if_true, if_false, and_true, and_false, and_self] <;> rfl

/-- No distance is below the one a maximum starts from. -/
theorem least_word : Ideal.ofBits .f32 0xFF800000#32 = (⊥ : EReal) := by
  simp [Ideal.ofBits, Ideal.ieee]

/-- The point found is the first one at the greatest distance. -/
theorem farthest_at (d : FVec Ideal S8x4096 .f32) (b : Fin 8) :
    farthest (F := Ideal) d (ix1 b) = BitVec.ofNat 32 (top fun n => d (ix2 b n)).val := by
  obtain ⟨h1, h2⟩ := top_spec fun n => d (ix2 b n)
  generalize htop : (top fun n => d (ix2 b n)) = i at h1 h2
  unfold farthest
  show (Host.argReduce (F := Ideal) (φ := .f32) reducer_argmax_f32_i32 d (iotaInDim S8x4096 32 1) (constant S_ .f32 0xFF800000#32) (constantI S_ 32 0#32)
    reducesTo_S8x4096_S8_d1 h_S_ (ix1 b)).2 = _
  rw [Ideal.argReduce_eq_reduce2, Host.reduce2_eq_foldl_fiber]
  have key : ∀ k : S8x4096.Idx, reducesTo_S8x4096_S8_d1.drop k = ix1 b → k = ix2 b (k 1 : Fin 4096) := fun k hk => by
    have e : (k 0).val = b.val := (Shape.ReducesTo.drop_apply_val reducesTo_S8x4096_S8_d1 k 0).symm.trans (congrArg (fun z : S8.Idx => (z 0).val) hk)
    funext a
    match a with
    | ⟨0, _⟩ => exact Fin.ext e
    | ⟨1, _⟩ => rfl
  refine congrArg Prod.snd (foldl_best (T := (d (ix2 b i), BitVec.ofNat 32 i.val)) (reducer_argmax_f32_i32 (F := Ideal))
    (fun e => e.1 < d (ix2 b i) ∨ e.1 = d (ix2 b i) ∧ (i.val : Int) ≤ e.2.toInt) ?_ ?_ ?_ _ _ ?_ ?_ ?_)
  · intro a c ha hc
    rw [better]
    by_cases c1 : c.1 < a.1
    · rw [if_pos c1]; exact ha
    rw [if_neg c1]
    by_cases c2 : a.1 = c.1 ∧ a.2.toInt < c.2.toInt
    · rw [if_pos c2, ← c2.1]; exact ha
    · rw [if_neg c2]; exact hc
  · intro a ha
    rw [better]
    rcases ha with ha | ⟨ha, hi⟩
    · rw [if_pos ha]
    · rw [if_neg (by rw [ha]; exact lt_irrefl _)]
      by_cases c2 : d (ix2 b i) = a.1 ∧ (BitVec.ofNat 32 i.val).toInt < a.2.toInt
      · rw [if_pos c2, ha]
      · rw [if_neg c2]
        refine Prod.ext ha (BitVec.eq_of_toInt_eq ?_)
        have := not_lt.1 fun h => c2 ⟨ha.symm, h⟩
        rw [word_int _ i.isLt] at this ⊢
        exact le_antisymm this hi
  · intro a ha
    rw [better]
    rcases ha with ha | ⟨ha, hi⟩
    · rw [if_neg (not_lt.2 ha.le), if_neg fun h => ha.ne h.1]
    · rw [if_neg (by rw [ha]; exact lt_irrefl _), if_neg fun h => ?_]
      have := h.2
      rw [word_int _ i.isLt] at this
      omega
  · show (Ideal.ofBits .f32 0xFF800000#32 : EReal) < _ ∨ (Ideal.ofBits .f32 0xFF800000#32 : EReal) = _ ∧ (i.val : Int) ≤ (0#32 : BitVec 32).toInt
    rw [least_word]
    by_cases hd : (⊥ : EReal) < d (ix2 b i)
    · exact .inl hd
    · have hb : d (ix2 b i) = ⊥ := not_bot_lt_iff.1 hd
      refine .inr ⟨hb.symm, ?_⟩
      have hi : i.val = 0 := by
        by_contra hne
        have h0 : d (ix2 b 0) < d (ix2 b i) := h2 0 (Nat.pos_of_ne_zero hne)
        rw [hb] at h0
        exact not_lt_bot h0
      rw [hi]; decide
  · intro e he
    obtain ⟨n, hn, rfl⟩ := List.mem_map.1 he
    have hk := key _ (of_decide_eq_true (List.mem_filter.1 hn).2)
    generalize S8x4096.rowMajor.symm n = k at hk
    show d k < d (ix2 b i) ∨ d k = d (ix2 b i) ∧ (i.val : Int) ≤ (BitVec.ofNat 32 (k 1).val).toInt
    rw [word_int _ (k 1).isLt, hk]
    rcases lt_or_eq_of_le (h1 (k 1)) with h | h
    · exact .inl h
    · refine .inr ⟨h, ?_⟩
      have : ¬ (k 1 : Fin 4096) < i := fun hlt => absurd (h2 _ hlt) (by rw [h]; exact lt_irrefl _)
      have := not_lt.1 this
      exact_mod_cast this
  · refine .inr (List.mem_map.2 ⟨S8x4096.rowMajor (ix2 b i), List.mem_filter.2 ⟨List.mem_finRange _, decide_eq_true ?_⟩, ?_⟩)
    · rw [Equiv.symm_apply_apply]
      funext a
      match a with
      | ⟨0, _⟩ => exact Fin.ext (Shape.ReducesTo.drop_apply_val reducesTo_S8x4096_S8_d1 (ix2 b i) 0)
    · rw [Equiv.symm_apply_apply]; rfl

/-! ## The loop -/

/-- A cloud's points. -/
abbrev cloud (X : FVec Ideal S8x4096x3 .f32) (b : Fin 8) : Fin 4096 → Fin 3 → EReal := fun n c => X (ix3 b n c)

/-- What the loop carries before trip `t`: the points; the trip's number; the distances and the point of the recursion; and
    the points picked so far, noughts after them. -/
structure Holds (X : FVec Ideal S8x4096x3 .f32) (t : ℕ) (s : Carry Ideal) : Prop where
  points : s.points = X
  index : s.index = fun _ => BitVec.ofNat 32 t
  chosen : ∀ (b : Fin 8) (k : Fin 1024), s.chosen (ix2 b k) = if k.val < t then BitVec.ofNat 32 (pick (cloud X b) k.val).val else 0#32
  dist : ∀ (b : Fin 8) (n : Fin 4096), s.dist (ix2 b n) = (state (cloud X b) t).1 n
  last : ∀ b : Fin 8, s.last (ix1 b) = BitVec.ofNat 32 (pick (cloud X b) t).val

/-- It holds where the loop starts. -/
theorem holds_start (X : FVec Ideal S8x4096x3 .f32) : Holds X 0 (start X) where
  points := rfl
  index := rfl
  chosen b k := by rw [if_neg (Nat.not_lt_zero _)]; rfl
  dist b n := rfl
  last b := rfl

/-- A trip takes the distances one step on. -/
theorem dist_turn {X : FVec Ideal S8x4096x3 .f32} {t : ℕ} {s : Carry Ideal} (h : Holds X t s) (b : Fin 8) (n : Fin 4096) :
    nearer s.points (taken s.points s.last) s.dist (ix2 b n) = (state (cloud X b) (t + 1)).1 n := by
  rw [nearer_at, h.dist, h.points]
  show _ = min _ (∑ c, _)
  refine congrArg (min _) (Finset.sum_congr rfl fun c _ => ?_)
  rw [taken_at X s.last (fun b => pick (cloud X b) t) h.last]
  rfl

/-- A trip ends with the next point of the recursion. -/
theorem last_turn {X : FVec Ideal S8x4096x3 .f32} {t : ℕ} {s : Carry Ideal} (h : Holds X t s) (b : Fin 8) :
    farthest (F := Ideal) (nearer s.points (taken s.points s.last) s.dist) (ix1 b) = BitVec.ofNat 32 (pick (cloud X b) (t + 1)).val := by
  have e := funext fun n => dist_turn h b n
  exact (farthest_at _ b).trans (congrArg (fun d => BitVec.ofNat 32 (top d).val) e)

/-- It holds after a trip. -/
theorem holds_turn {X : FVec Ideal S8x4096x3 .f32} {t : ℕ} (ht : t < 1024) {s : Carry Ideal} (h : Holds X t s) : Holds X (t + 1) (turn s) where
  points := h.points
  index := by
    show next s.index = _
    rw [h.index]
    funext j
    show BitVec.ofNat 32 t + 1#32 = BitVec.ofNat 32 (t + 1)
    rw [BitVec.ofNat_add]
  chosen b k := by
    show kept s.chosen s.index s.last (ix2 b k) = _
    rw [kept_at _ _ _ t ht h.index, h.last, h.chosen]
    rcases lt_trichotomy k.val t with hk | hk | hk
    · rw [if_neg hk.ne, if_pos hk, if_pos (by omega)]
    · rw [if_pos hk, if_pos (by omega), hk]
    · rw [if_neg hk.ne', if_neg (by omega), if_neg (by omega)]
  dist b n := dist_turn h b n
  last b := by
    rw [turn_last]
    exact last_turn h b

/-- It holds after all the trips. -/
theorem holds_turns (X : FVec Ideal S8x4096x3 .f32) (t : ℕ) (ht : t ≤ 1024) : Holds X t (turn^[t] (start X)) := by
  induction t with
  | zero => exact holds_start X
  | succ t ih => rw [Function.iterate_succ_apply']; exact holds_turn (by omega) (ih (by omega))

/-! ## The rows fetched -/

/-- A gather of rows by pairs of a cloud and a point: the entry it reads. -/
theorem gather_rows {α : Type} (x : S8x4096x3.Idx → α) (q : IVec S8x1024x2 32) (b : Fin 8) (k : Fin 1024) (c : Fin 3) (b' : Fin 8) (n : Fin 4096)
    (hb : min (q (ix3 b k (0 : Fin 2))).toInt.toNat 7 = b'.val) (hn : min (q (ix3 b k (1 : Fin 2))).toInt.toNat 4095 = n.val) :
    Host.gather gather_S8x4096x3_S8x1024x2_S8x1024x3_2_01_n_n_01_2_113 x q (ix3 b k c) = x (ix3 b' n c) := by
  unfold Host.gather
  refine congrArg x (funext fun a => Fin.ext ?_)
  show GatherDims.start _ (ix3 b k c) q a + GatherDims.batchCoord _ (ix3 b k c) a + GatherDims.offCoord _ (ix3 b k c) a = _
  rw [GatherDims.batchCoord_eq_zero _ _ _ List.not_mem_nil]
  have h3 : a = 0 ∨ a = 1 ∨ a = 2 := by
    match a with
    | ⟨0, _⟩ => exact .inl rfl
    | ⟨1, _⟩ => exact .inr (.inl rfl)
    | ⟨2, _⟩ => exact .inr (.inr rfl)
  rcases h3 with rfl | rfl | rfl
  · rw [GatherDims.offCoord_eq_zero _ _ _ (fun h => ((GatherDims.mem_sKept _ _).mp h).1 (by decide))]
    refine Eq.trans ?_ hb
    simp only [Nat.add_zero]
    unfold GatherDims.start
    rw [dif_pos (by decide)]
    refine congrArg (fun z => min (q z).toInt.toNat 7) (funext fun e => Fin.ext ?_)
    match e with
    | ⟨0, _⟩ => rfl
    | ⟨1, _⟩ => rfl
    | ⟨2, _⟩ => rfl
  · rw [GatherDims.offCoord_eq_zero _ _ _ (fun h => ((GatherDims.mem_sKept _ _).mp h).1 (by decide))]
    refine Eq.trans ?_ hn
    simp only [Nat.add_zero]
    unfold GatherDims.start
    rw [dif_pos (by decide)]
    refine congrArg (fun z => min (q z).toInt.toNat 4095) (funext fun e => Fin.ext ?_)
    match e with
    | ⟨0, _⟩ => rfl
    | ⟨1, _⟩ => rfl
    | ⟨2, _⟩ => rfl
  · unfold GatherDims.start
    rw [dif_neg (by decide)]
    simp only [Nat.add_zero, Nat.zero_add]
    unfold GatherDims.offCoord
    rw [dif_pos (by decide)]
    rfl

/-- The first of a pair is the cloud's number. -/
theorem rows_cloud (ids : IVec S8x1024 32) (b : Fin 8) (k : Fin 1024) : rows ids (ix3 b k (0 : Fin 2)) = BitVec.ofNat 32 b.val := by
  have hnum : numbers (ix2 b (0 : Fin 1)) = BitVec.ofNat 32 b.val := by
    unfold numbers
    refine (shapeCast_apply _ _ _ (ix1 b) ?_).trans rfl
    rw [rowMajor_val1, rowMajor_val2 _ 1 rfl]
    show b.val = b.val * 1 + 0
    omega
  unfold rows
  refine (concatenate_pair_apply_left (t := S8x1024x2) (s₁ := S8x1024x1) (s₂ := S8x1024x1) 2 _ _ _ _ rfl (ix3 b k (0 : Fin 1)) ?_).trans ?_
  · intro x; fin_cases x <;> rfl
  rw [broadcastInDim_apply _ _ _ _ (ix2 b k) (fun x => by fin_cases x <;> rfl), broadcastInDim_apply _ _ _ _ (ix2 b (0 : Fin 1)) (fun x => by fin_cases x <;> rfl)]
  show Scalar.select (IntOp.cmpi .slt (numbers (ix2 b (0 : Fin 1))) 0#32) (IntOp.addi (numbers (ix2 b (0 : Fin 1))) 8#32) (numbers (ix2 b (0 : Fin 1))) = _
  rw [hnum, word_wrap _ (by omega)]

/-- The second is the point's. -/
theorem rows_point (ids : IVec S8x1024 32) (b : Fin 8) (k : Fin 1024) (p : Fin 4096) (hp : ids (ix2 b k) = BitVec.ofNat 32 p.val) :
    rows ids (ix3 b k (1 : Fin 2)) = BitVec.ofNat 32 p.val := by
  unfold rows
  refine (concatenate_pair_apply_right (t := S8x1024x2) (s₁ := S8x1024x1) (s₂ := S8x1024x1) 2 _ _ _ _ rfl rfl (ix3 b k (0 : Fin 1)) ?_ ?_).trans ?_
  · intro x hx; fin_cases x <;> first | rfl | exact absurd rfl hx
  · rfl
  rw [broadcastInDim_apply _ _ _ _ (ix2 b k) (fun x => by fin_cases x <;> rfl)]
  show Scalar.select (IntOp.cmpi .slt (ids (ix2 b k)) 0#32) (IntOp.addi (ids (ix2 b k)) 4096#32) (ids (ix2 b k)) = _
  rw [hp, word_wrap _ p.isLt]

/-- The reference's result: the rows of the points that the recursion picks. -/
theorem fetched_eq (X : FVec Ideal S8x4096x3 .f32) : fetched (F := Ideal) X (turn^[1024] (start X)).chosen = Far.picked X := by
  funext j
  have h := holds_turns X 1024 le_rfl
  obtain ⟨b, k, c, rfl⟩ : ∃ (b : Fin 8) (k : Fin 1024) (c : Fin 3), j = ix3 b k c := ⟨j 0, j 1, j 2, by funext a; fin_cases a <;> rfl⟩
  have hp := (h.chosen b k).trans (if_pos k.isLt)
  unfold fetched
  refine gather_rows _ _ _ _ _ b (pick (cloud X b) k.val) ?_ ?_
  · rw [rows_cloud, word_int _ (by omega)]; omega
  · rw [rows_point _ _ _ _ hp, word_int _ (pick (cloud X b) k.val).isLt]
    have := (pick (cloud X b) k.val).isLt
    omega

end Cert.Proof.FarRef

end
-- ==== Proof.Nearest.lean ====
/-
  The nearest points of a cloud as a recursion over the extended reals: the first index of a least value, taken again and
  again with what is taken made large. A stable sort puts the same indices first.
-/
module

public import Mathlib.Data.EReal.Operations
public import Idealize.ShloMosaic.PureOps.Ideal
public import Idealize.ShloMosaic.Lib.SortFacts

@[expose] public section

noncomputable section

namespace Cert.Proof.Nearest

open Idealize.ShloMosaic

/-- `i` is the first index at which `d` is least. -/
def IsLow {n : ℕ} (d : Fin n → EReal) (i : Fin n) : Prop := (∀ k, d i ≤ d k) ∧ ∀ k, k < i → d i < d k

/-- There is such an index. -/
theorem exists_low (d : Fin 4096 → EReal) : ∃ i, IsLow d i := by
  obtain ⟨m, -, hm⟩ := Finset.exists_min_image Finset.univ d ⟨0, Finset.mem_univ _⟩
  let S : Finset (Fin 4096) := Finset.univ.filter fun i => d i = d m
  have hS : S.Nonempty := ⟨m, by simp [S]⟩
  have h1 : d (S.min' hS) = d m := (Finset.mem_filter.1 (S.min'_mem hS)).2
  refine ⟨S.min' hS, fun k => h1 ▸ hm k (Finset.mem_univ _), fun k hk => ?_⟩
  refine lt_of_le_of_ne (h1 ▸ hm k (Finset.mem_univ _)) fun he => ?_
  exact absurd (S.min'_le k (Finset.mem_filter.2 ⟨Finset.mem_univ _, he.symm.trans h1⟩)) (not_le.2 hk)

/-- There is only one. -/
theorem IsLow.eq {n : ℕ} {d : Fin n → EReal} {i j : Fin n} (hi : IsLow d i) (hj : IsLow d j) : i = j := by
  rcases lt_trichotomy i j with h | h | h
  · exact absurd (hi.1 j) (not_le.2 (hj.2 i h))
  · exact h
  · exact absurd (hj.1 i) (not_le.2 (hi.2 j h))

/-- The first index at which `d` is least. -/
def low (d : Fin 4096 → EReal) : Fin 4096 := Classical.choose (exists_low d)

/-- It is that index. -/
theorem low_spec (d : Fin 4096 → EReal) : IsLow d (low d) := Classical.choose_spec (exists_low d)

/-- The values after `t` steps: each step adds `Y` to the first least value. -/
def raised (D : Fin 4096 → EReal) (Y : EReal) : ℕ → Fin 4096 → EReal
  | 0 => D
  | t + 1 => fun n => raised D Y t n + if n = low (raised D Y t) then Y else 0

/-- The index that step `t` takes. -/
def taken (D : Fin 4096 → EReal) (Y : EReal) (t : ℕ) : Fin 4096 := low (raised D Y t)

/-! ## The stable sort of positions by their values -/

/-- Position `a` comes before position `b`: its value is less, or the values agree and it is the earlier position. -/
def Before {n : ℕ} (D : Fin n → ℝ) (a b : Fin n) : Prop := D a < D b ∨ (D a = D b ∧ a < b)

/-- Inserting a position that is earlier than all those of an ordered list keeps the list ordered. -/
theorem pairwise_insert {n : ℕ} (D : Fin n → ℝ) (a : Fin n) :
    ∀ l : List (Fin n), (∀ b ∈ l, a < b) → l.Pairwise (Before D) →
      (insertBefore (fun a b => decide (D a < D b)) a l).Pairwise (Before D)
  | [], _, _ => List.pairwise_singleton _ _
  | b :: l, ha, hl => by
    rw [List.pairwise_cons] at hl
    unfold insertBefore
    split
    · rename_i h
      have h' : D b < D a := by simpa using h
      refine List.pairwise_cons.2 ⟨fun c hc => ?_, pairwise_insert D a l (fun c hc => ha c (List.mem_cons_of_mem _ hc)) hl.2⟩
      rcases List.mem_cons.1 ((perm_insertBefore _ a l).mem_iff.1 hc) with rfl | hc'
      · exact .inl h'
      · exact hl.1 c hc'
    · rename_i h
      have h' : D a ≤ D b := by simpa using h
      have hab : Before D a b := (lt_or_eq_of_le h').imp id fun e => ⟨e, ha b List.mem_cons_self⟩
      refine List.pairwise_cons.2 ⟨fun c hc => ?_, List.pairwise_cons.2 hl⟩
      rcases List.mem_cons.1 hc with rfl | hc'
      · exact hab
      · have hc2 := ha c hc
        rcases hl.1 c hc' with h2 | ⟨h2, -⟩
        · exact .inl (lt_of_le_of_lt h' h2)
        · rw [h2] at h'
          exact (lt_or_eq_of_le h').imp id fun e => ⟨e, hc2⟩

/-- The stable sort of a list of increasing positions is ordered. -/
theorem pairwise_sort {n : ℕ} (D : Fin n → ℝ) :
    ∀ l : List (Fin n), l.Pairwise (· < ·) → (stableSort (fun a b => decide (D a < D b)) l).Pairwise (Before D)
  | [], _ => List.Pairwise.nil
  | a :: l, h => by
    rw [List.pairwise_cons] at h
    unfold stableSort
    exact pairwise_insert D a _ (fun b hb => h.1 b ((perm_stableSort _ l).mem_iff.1 hb)) (pairwise_sort D l h.2)

/-- Earlier places of the stable sort hold positions that come before those at later places. -/
theorem sorted_before {n : ℕ} (D : Fin n → ℝ) {i j : Fin n} (h : i < j) :
    Before D (sortedFrom (fun a b => decide (D a < D b)) i) (sortedFrom (fun a b => decide (D a < D b)) j) := by
  have hp := List.pairwise_iff_get.1 (pairwise_sort D (List.finRange n) (List.pairwise_lt_finRange n))
  unfold sortedFrom sortPositions
  exact hp _ _ (by simp only [Fin.lt_def, Fin.val_cast]; exact h)

/-! ## They agree -/

/-- The positions at the first `t` places of the stable sort. -/
def Gone {n : ℕ} (D : Fin n → ℝ) (t : ℕ) (k : Fin n) : Prop :=
  ∃ i : Fin n, i.val < t ∧ sortedFrom (fun a b => decide (D a < D b)) i = k

open scoped Classical in
/-- With `Y` added at the first `t` places of the stable sort, the first least value is at place `t`. -/
theorem low_of {D : Fin 4096 → ℝ} {Y : ℝ} (h0 : ∀ n, 0 ≤ D n) (hY : ∀ n, D n < Y) (t : Fin 4096) {d : Fin 4096 → EReal}
    (hd : ∀ n, d n = ((D n + if Gone D t.val n then Y else 0 : ℝ) : EReal)) :
    low d = sortedFrom (fun a b => decide (D a < D b)) t := by
  have hfresh : ¬ Gone D t.val (sortedFrom (fun a b => decide (D a < D b)) t) := by
    rintro ⟨i, hi, he⟩
    have := sortedFrom_injective _ he
    subst this
    exact lt_irrefl _ hi
  have hgone : ∀ k, Gone D t.val k → D (sortedFrom (fun a b => decide (D a < D b)) t) < D k + Y := fun k _ => by
    have := h0 k; have := hY (sortedFrom (fun a b => decide (D a < D b)) t); linarith
  have hleft : ∀ k, ¬ Gone D t.val k → k = sortedFrom (fun a b => decide (D a < D b)) t
      ∨ Before D (sortedFrom (fun a b => decide (D a < D b)) t) k := fun k hk => by
    obtain ⟨j, rfl⟩ := sortedFrom_surjective (fun a b => decide (D a < D b)) k
    rcases lt_trichotomy j t with h | rfl | h
    · exact absurd ⟨j, h, rfl⟩ hk
    · exact .inl rfl
    · exact .inr (sorted_before D h)
  refine (low_spec d).eq ⟨fun k => ?_, fun k hk => ?_⟩
  · rw [hd, hd, if_neg hfresh, add_zero, EReal.coe_le_coe_iff]
    by_cases h : Gone D t.val k
    · rw [if_pos h]; exact (hgone k h).le
    · rw [if_neg h, add_zero]
      rcases hleft k h with h | h | h
      · exact (congrArg D h).ge
      · exact h.le
      · exact h.1.le
  · rw [hd, hd, if_neg hfresh, add_zero, EReal.coe_lt_coe_iff]
    by_cases h : Gone D t.val k
    · rw [if_pos h]; exact hgone k h
    · rw [if_neg h, add_zero]
      rcases hleft k h with h | h | h
      · exact absurd hk (h ▸ lt_irrefl _)
      · exact h
      · exact absurd hk (lt_asymm h.2)

open scoped Classical in
/-- After `t` steps the values are the first ones with `Y` added at the first `t` places of the stable sort. -/
theorem raised_eq {D : Fin 4096 → ℝ} {Y : ℝ} (h0 : ∀ n, 0 ≤ D n) (hY : ∀ n, D n < Y) :
    ∀ t ≤ 4096, ∀ n, raised (fun n => (D n : EReal)) Y t n = ((D n + if Gone D t n then Y else 0 : ℝ) : EReal) := by
  intro t
  induction t with
  | zero => intro _ n; simp [raised, Gone]
  | succ t ih =>
    intro ht n
    have hl := low_of h0 hY ⟨t, by omega⟩ (ih (by omega))
    have hg : Gone D (t + 1) n ↔ Gone D t n ∨ n = sortedFrom (fun a b => decide (D a < D b)) ⟨t, by omega⟩ := by
      constructor
      · rintro ⟨i, hi, rfl⟩
        rcases Nat.lt_succ_iff_lt_or_eq.1 hi with h | h
        · exact .inl ⟨i, h, rfl⟩
        · exact .inr (congrArg _ (Fin.ext h))
      · rintro (⟨i, hi, he⟩ | he)
        · exact ⟨i, by omega, he⟩
        · exact ⟨⟨t, by omega⟩, Nat.lt_succ_self t, he.symm⟩
    show raised (fun n => (D n : EReal)) Y t n + (if n = low (raised (fun n => (D n : EReal)) Y t) then (Y : EReal) else 0) = _
    rw [hl, ih (by omega)]
    by_cases h : n = sortedFrom (fun a b => decide (D a < D b)) ⟨t, by omega⟩
    · have hn : ¬ Gone D t n := by
        rintro ⟨i, hi, he⟩
        have := sortedFrom_injective _ (he.trans h)
        subst this
        exact lt_irrefl _ hi
      rw [if_pos h, if_neg hn, if_pos (hg.2 (.inr h)), add_zero, ← EReal.coe_add]
    · rw [if_neg h, add_zero]
      have : Gone D (t + 1) n ↔ Gone D t n := hg.trans (or_iff_left h)
      simp only [this]

/-- The index that step `t` takes is the one at place `t` of the stable sort. -/
theorem taken_eq {D : Fin 4096 → ℝ} {Y : ℝ} (h0 : ∀ n, 0 ≤ D n) (hY : ∀ n, D n < Y) (t : Fin 4096) :
    taken (fun n => (D n : EReal)) Y t.val = sortedFrom (fun a b => decide (D a < D b)) t :=
  low_of h0 hY t (raised_eq h0 hY t.val t.isLt.le)

end Cert.Proof.Nearest

end
-- ==== Proof.NearTrip.lean ====
/-
  The nearest-neighbour kernel's loop read over the extended reals: each value of its body at an index, and the indices
  that its sixteen trips leave in the rows of results.
-/
module

public import proofs.«01_k».proof.Proof.Gen.Near
public import proofs.«01_k».proof.Proof.Gen.Near.Skeleton
public import proofs.«01_k».proof.Proof.SampleLoop
public import proofs.«01_k».proof.Proof.Nearest
public import Idealize.ShloMosaic.Lib.ValueIdx
public import Idealize.ShloMosaic.Lib.ValueLayoutCasts
public import Idealize.ShloMosaic.PureOps.Ideal.Laws

@[expose] public section

noncomputable section

namespace Cert.Proof.Close

open Cert.Near Cert.Near.Gen Cert.Proof.Nearest
open Cert.Proof.Far (num num_inj num_le of_eq sitofp_word zero_word put_col fold_ind)
open Idealize.ShloMosaic
open Idealize.ShloMosaic.ValueIdx Idealize.ShloMosaic.TcCoe

/-- What makes a distance large: the kernel's word for it, as an extended real. -/
abbrev big : EReal := Ideal.ofBits .f32 0x7149F2CA#32

section
variable (v6 : FVec Ideal S256x1 .f32) (v8 v10 v12 : FVec Ideal S1x4096 .f32) (v35 : FVec Ideal S256x4096 .f32)
  (v38 : FVec Ideal S256x1 .f32)

/-- The column numbers are exact: what is added to them is a product with zero. -/
theorem col_at (r : Fin 256) (n : Fin 4096) : k0_pay2 (F := Ideal) v6 v8 v10 v12 v35 v38 (ix2 r n) = num n.val := by
  show FloatOps.sitofp (F := Ideal) .f32 (BitVec.ofNat 32 (0 * 4096 + n.val)) + _ * FloatOps.ofBits (F := Ideal) .f32 0x00000000#32 = _
  rw [zero_word, Nat.zero_mul, Nat.zero_add, sitofp_word _ (by omega), mul_zero, add_zero]

/-- A column broadcast along a row reads the column. -/
theorem spread_wide (v : FVec Ideal S256x1 .f32) (r : Fin 256) (n : Fin 4096) :
    broadcastTo S256x4096 v broadcasts_S256x1_S256x4096 (ix2 r n) = v (ix2 r 0) :=
  broadcastTo_apply v _ _ _ (fun a => by fin_cases a <;> rfl)

/-- So does one broadcast along a row of results. -/
theorem spread_narrow (v : FVec Ideal S256x1 .f32) (r : Fin 256) (j : Fin 16) :
    broadcastTo S256x16 v broadcasts_S256x1_S256x16 (ix2 r j) = v (ix2 r 0) :=
  broadcastTo_apply v _ _ _ (fun a => by fin_cases a <;> rfl)

/-- A row broadcast over the rows reads the row. -/
theorem spread_down (v : FVec Ideal S1x4096 .f32) (r : Fin 256) (n : Fin 4096) :
    broadcastTo S256x4096 v broadcasts_S1x4096_S256x4096 (ix2 r n) = v (ix2 0 n) :=
  broadcastTo_apply v _ _ _ (fun a => by fin_cases a <;> rfl)

/-- The index that a reduction along the rows reads. -/
theorem lift_row (r : Fin 256) (n : Fin 4096) : reduces_S256x4096_S256.lift (ix1 r) n = ix2 r n := by
  funext a; fin_cases a <;> rfl

/-- The word for plus infinity is the greatest extended real. -/
theorem top_word : FloatOps.ofBits (F := Ideal) .f32 0x7F800000#32 = (⊤ : EReal) := by
  show Ideal.ofBits .f32 0x7F800000#32 = _; simp [Ideal.ofBits, Ideal.ieee]

/-- The trip's index: the first column at which the distances are least. -/
theorem low_at (d : FVec Ideal S256x4096 .f32) (r : Fin 256) :
    k0_pay4 v6 v8 v10 v12 v35 v38 d (ix2 r 0) = num (low fun n => d (ix2 r n)).val := by
  have hbig : FloatOps.ofBits (F := Ideal) .f32 0x45800000#32 = num 4096 := by
    show Ideal.ofBits .f32 0x45800000#32 = _; simp [Ideal.ofBits, Ideal.ieee, num, -EReal.coe_mul]; norm_num
  obtain ⟨h1, h2⟩ := low_spec fun n => d (ix2 r n)
  generalize (low fun n => d (ix2 r n)) = i at h1 h2 ⊢
  have hmin : multiReduction .minimumf [1] S256 d 0x7F800000#32 reduces_S256x4096_S256 (.inl rfl) rfl (ix1 r) = d (ix2 r i) := by
    refine (multiReduction_minimumf_eq_fold _ _ _ _ _ _).trans ?_
    refine (reduces_S256x4096_S256.fold_filter_drop_single _ _ _ (ix1 r)).trans ?_
    refine le_antisymm ((Finset.fold_min_le _).2 (.inr ⟨i, Finset.mem_univ _, ?_⟩)) ((Finset.le_fold_min _).2 ⟨?_, fun (n : Fin 4096) _ => ?_⟩)
    · show d (reduces_S256x4096_S256.lift (ix1 r) i) ≤ _; rw [lift_row]
    · rw [top_word]; exact le_top
    · show _ ≤ d (reduces_S256x4096_S256.lift (ix1 r) n); rw [lift_row]; exact h1 n
  have hsel : ∀ n : Fin 4096, select (cmpf .oeq d (broadcastTo S256x4096 (shapeCast S256x1
        (multiReduction .minimumf [1] S256 d 0x7F800000#32 reduces_S256x4096_S256 (.inl rfl) rfl) shapeCasts_S256_S256x1) broadcasts_S256x1_S256x4096))
      (k0_pay2 (F := Ideal) v6 v8 v10 v12 v35 v38) (broadcast S256x4096 (Scalar.ofBits .f32 0x45800000#32)) (ix2 r n)
      = if d (ix2 r n) = d (ix2 r i) then num n.val else num 4096 := fun n => by
    show Scalar.select (FloatOps.cmpf .oeq (d (ix2 r n)) (broadcastTo S256x4096 (shapeCast S256x1
        (multiReduction .minimumf [1] S256 d 0x7F800000#32 reduces_S256x4096_S256 (.inl rfl) rfl) shapeCasts_S256_S256x1) broadcasts_S256x1_S256x4096 (ix2 r n)))
      (k0_pay2 (F := Ideal) v6 v8 v10 v12 v35 v38 (ix2 r n)) (FloatOps.ofBits (F := Ideal) .f32 0x45800000#32) = _
    rw [spread_wide, shapeCast_a_a1_apply, hmin, of_eq, col_at, hbig]
    by_cases h : d (ix2 r n) = d (ix2 r i)
    · rw [if_pos h, if_pos h]; rfl
    · rw [if_neg h, if_neg h]; rfl
  unfold k0_pay4
  refine (shapeCast_a_a1_apply _ _ _ _).trans ?_
  refine (multiReduction_minimumf_eq_fold _ _ _ _ _ _).trans ?_
  refine (reduces_S256x4096_S256.fold_filter_drop_single _ _ _ (ix1 r)).trans ?_
  refine le_antisymm ((Finset.fold_min_le _).2 (.inr ⟨i, Finset.mem_univ _, ?_⟩)) ((Finset.le_fold_min _).2 ⟨?_, fun (n : Fin 4096) _ => ?_⟩)
  · show select _ _ _ (reduces_S256x4096_S256.lift (ix1 r) i) ≤ _
    rw [lift_row, hsel, if_pos rfl]
  · rw [top_word]; exact le_top
  · show _ ≤ select _ _ _ (reduces_S256x4096_S256.lift (ix1 r) n)
    rw [lift_row, hsel]
    by_cases h : d (ix2 r n) = d (ix2 r i)
    · rw [if_pos h]
      exact num_le.2 (not_lt.1 fun hn => absurd h.symm (ne_of_lt (h2 n hn)))
    · rw [if_neg h]
      exact num_le.2 i.isLt.le

/-- A truth value converted to a number is one or zero. -/
theorem bit_num (p : Prop) [Decidable p] :
    FloatOps.sitofp (F := Ideal) .f32 (BitVec.setWidth 32 (if p then 1#1 else 0#1)) = if p then 1 else 0 := by
  by_cases h : p
  · rw [if_pos h, if_pos h]; exact (sitofp_word 1 (by norm_num)).trans (by norm_num [num])
  · rw [if_neg h, if_neg h]; exact (sitofp_word 0 (by norm_num)).trans (by norm_num [num])

/-- The distances after a trip: the trip's column is made large. -/
theorem raise_at (d : FVec Ideal S256x4096 .f32) (r : Fin 256) (n : Fin 4096) :
    k0_pay6 v6 v8 v10 v12 v35 v38 d (ix2 r n) = d (ix2 r n) + if n = low (fun n => d (ix2 r n)) then big else 0 := by
  show d (ix2 r n) + FloatOps.sitofp (F := Ideal) .f32 (BitVec.setWidth 32 (FloatOps.cmpf (F := Ideal) (φ := .f32) .oeq
      (k0_pay2 v6 v8 v10 v12 v35 v38 (ix2 r n))
      (broadcastTo S256x4096 (k0_pay4 v6 v8 v10 v12 v35 v38 d) broadcasts_S256x1_S256x4096 (ix2 r n)))) * big = _
  rw [spread_wide, low_at, col_at, of_eq, bit_num]
  by_cases h : n = low (fun n => d (ix2 r n))
  · rw [if_pos h, if_pos (num_inj.2 (congrArg Fin.val h)), one_mul]
  · rw [if_neg h, if_neg (fun e => h (Fin.ext (num_inj.1 e))), zero_mul]

/-- The numbers of a row's columns of results are exact too. -/
theorem out_col_at (d : FVec Ideal S256x4096 .f32) (r : Fin 256) (j : Fin 16) :
    addf (sitofp (F := Ideal) .f32 (iota .tc S256x16 32 [1] iota_S256x16_d1_w32))
      (mulf (extractStridedSlice S256x16 ![0, 0] d slices_S256x4096_o0_0_S256x16) (broadcast S256x16 (Scalar.ofBits .f32 0x00000000#32)))
      (ix2 r j) = num j.val := by
  show FloatOps.sitofp (F := Ideal) .f32 (BitVec.ofNat 32 (0 * 16 + j.val)) + _ * FloatOps.ofBits (F := Ideal) .f32 0x00000000#32 = _
  rw [zero_word, Nat.zero_mul, Nat.zero_add, sitofp_word _ (by omega), mul_zero, add_zero]

/-- Adding a column's product with the mark of one column of results. -/
theorem mark_at (p : FVec Ideal S256x1 .f32) (q : FVec Ideal S256x16 .f32) (w : Ideal .f32) (a : FVec Ideal S256x16 .f32)
    (r : Fin 256) (j : Fin 16) :
    addf a (mulf (broadcastTo S256x16 p broadcasts_S256x1_S256x16) (sitofp .f32 (extui 32 (cmpf .oeq q (broadcast S256x16 w)) natLt_1_32)))
      (ix2 r j) = a (ix2 r j) + p (ix2 r 0) * if q (ix2 r j) = w then 1 else 0 := by
  show a (ix2 r j) + broadcastTo S256x16 p broadcasts_S256x1_S256x16 (ix2 r j)
    * FloatOps.sitofp (F := Ideal) .f32 (BitVec.setWidth 32 (FloatOps.cmpf (F := Ideal) (φ := .f32) .oeq (q (ix2 r j)) w)) = _
  rw [spread_narrow, of_eq, bit_num]

/-- A row of results after a trip: the trip's column gains the trip's index. -/
theorem put_at (t : Fin k0_t1_loop.trips) (d : FVec Ideal S256x4096 .f32) (a : FVec Ideal S256x16 .f32) (r : Fin 256) (j : Fin 16) :
    k0_pay5 v6 v8 v10 v12 v35 v38 t d a (ix2 r j)
      = a (ix2 r j) + num (low fun n => d (ix2 r n)).val * if j.val = t.val then 1 else 0 := by
  have ht : t.val < 16 := lt_of_lt_of_le t.isLt (by decide)
  have hiv : Scf.iv (0#32) (1#32) t.val = BitVec.ofNat 32 t.val := by simp [Scf.iv]
  unfold k0_pay5
  refine (mark_at _ _ _ a r j).trans ?_
  rw [out_col_at, low_at, hiv]
  show _ + _ * (if num j.val = FloatOps.sitofp (F := Ideal) .f32 (BitVec.ofNat 32 t.val) then 1 else 0) = _
  rw [sitofp_word _ (by omega)]
  by_cases h : j.val = t.val
  · rw [if_pos h, if_pos (num_inj.2 h)]
  · rw [if_neg h, if_neg (fun e => h (num_inj.1 e))]

/-- What the loop carries before trip `t`: the distances with the indices taken so far made large, and those indices,
    zeros after them. -/
structure Holds (t : ℕ) (a : FVec Ideal S256x4096 .f32 × FVec Ideal S256x16 .f32) : Prop where
  /-- The distances. -/
  dist : ∀ (r : Fin 256) (n : Fin 4096), a.1 (ix2 r n) = raised (fun n => k0_pay1 v6 v8 v10 v12 v35 v38 (ix2 r n)) big t n
  /-- The indices. -/
  idx : ∀ (r : Fin 256) (j : Fin 16), a.2 (ix2 r j)
    = if j.val < t then num (taken (fun n => k0_pay1 v6 v8 v10 v12 v35 v38 (ix2 r n)) big j.val).val else 0

/-- Sixteen trips leave the sixteen indices taken. -/
theorem holds_ended : Holds v6 v8 v10 v12 v35 v38 16 (Scf.fold (n := k0_t1_loop.trips)
    (fun t (a : FVec Ideal S256x4096 .f32 × FVec Ideal S256x16 .f32) =>
      (k0_pay6 v6 v8 v10 v12 v35 v38 a.1, k0_pay5 v6 v8 v10 v12 v35 v38 t a.1 a.2))
    (k0_pay1 v6 v8 v10 v12 v35 v38, k0_pay3 (F := Ideal))) := by
  refine fold_ind (n := k0_t1_loop.trips) _ _ (Holds v6 v8 v10 v12 v35 v38) ⟨fun r n => rfl, fun r j => ?_⟩ fun t a h => ⟨fun r n => ?_, fun r j => ?_⟩
  · exact zero_word.trans (by simp)
  · refine (raise_at v6 v8 v10 v12 v35 v38 a.1 r n).trans ?_
    rw [funext (h.dist r), h.dist r n]
    rfl
  · refine (put_at v6 v8 v10 v12 v35 v38 t a.1 a.2 r j).trans ?_
    rw [h.idx]
    refine put_col (fun i => num (taken (fun n => k0_pay1 v6 v8 v10 v12 v35 v38 (ix2 r n)) big i).val) _ ?_
    rw [funext (h.dist r)]
    rfl

end

/-- A small number converts to its word. -/
theorem fptosi_num (k : ℕ) (h : k < 4096) : FloatOps.fptosi (F := Ideal) (φ := .f32) 32 (num k) = BitVec.ofNat 32 k := by
  show BitVec.ofInt 32 (max (-(2 ^ (32 - 1) : ℕ) : ℤ) (min (((2 ^ (32 - 1) : ℕ) : ℤ) - 1) (if (0 : ℝ) ≤ (k : ℝ) then ⌊(k : ℝ)⌋ else ⌈(k : ℝ)⌉))) = _
  rw [if_pos (Nat.cast_nonneg k), Int.floor_natCast, min_eq_right (by norm_num; omega), max_eq_right (by norm_num)]
  exact BitVec.ofInt_natCast _ _

end Cert.Proof.Close

end
-- ==== Proof.NearValue.lean ====
/-
  What the nearest-neighbour program leaves in its result: for each centre the sixteen indices that its loop takes, each as
  a row of the table of all clouds.
-/
module

public import proofs.«01_k».proof.Proof.NearTrip
public import proofs.«01_k».proof.Proof.Gen.NearIdeal
public import proofs.«01_k».proof.Proof.Gen.Near.Launch
public import proofs.«01_k».proof.Proof.Gen.Near.Points
public import proofs.«01_k».proof.Proof.Gen.Near.Frame
public import Idealize.ShloMosaic.Lib.Pipeline.ValueKit

@[expose] public section

noncomputable section

namespace Cert.Proof.Close

open Cert.Near Cert.Near.Gen Cert.Proof.Nearest
open Cert.Proof.Far (num)
open Idealize.SL.Sem
open Idealize.ShloMosaic hiding ix2 ix3 ix4
open Idealize.ShloMosaic.ValueIdx Idealize.ShloMosaic.TcCoe Idealize.ShloMosaic.StableHlo

variable {F : FTy → Type} [FloatOps F]

/-! ## The body at a grid point -/

/-- The rows of results that the loop leaves, from the six blocks as loaded. -/
def found (x0 x1 x2 : Vec F S1x256x1 .f32) (x3 x4 x5 : Vec F S1x1x4096 .f32) : FVec F S256x16 .f32 :=
  (Scf.fold (n := k0_t1_loop.trips) (fun t (a : FVec F S256x4096 .f32 × FVec F S256x16 .f32) =>
      (k0_pay6 (k0_pay10 x2) (k0_pay11 x3) (k0_pay12 x4) (k0_pay13 x5) (k0_pay14 x0 x1 x2 x3 x4 x5) (k0_pay15 x0 x1) a.1,
        k0_pay5 (k0_pay10 x2) (k0_pay11 x3) (k0_pay12 x4) (k0_pay13 x5) (k0_pay14 x0 x1 x2 x3 x4 x5) (k0_pay15 x0 x1) t a.1 a.2))
    (k0_pay1 (k0_pay10 x2) (k0_pay11 x3) (k0_pay12 x4) (k0_pay13 x5) (k0_pay14 x0 x1 x2 x3 x4 x5) (k0_pay15 x0 x1), k0_pay3)).2

variable (V : (c : Dev nD) → (b : Ref sig .tc) → Buf (Elt F) ((c : Thread nD τ).loc b))

/-- What the first call's body leaves at a grid point. -/
theorem outs0 (c : Dev nD) (t : Fin cfg0.N) : outsAt0 V c t
    = k0_pay7 (Scalar.addi (BitVec.ofNat 32 (grid0.coords t 0).val) 0#32)
        (found (iblk0 V c 0 t) (iblk0 V c 1 t) (iblk0 V c 2 t) (iblk0 V c 3 t) (iblk0 V c 4 t) (iblk0 V c 5 t)) := by
  unfold outsAt0
  generalize iblk0 V c 0 t = x0
  generalize iblk0 V c 1 t = x1
  generalize iblk0 V c 2 t = x2
  generalize iblk0 V c 3 t = x3
  generalize iblk0 V c 4 t = x4
  generalize iblk0 V c 5 t = x5
  frame_out
  rfl

/-- What the second call's body leaves at a grid point: the same, its clouds four further on. -/
theorem outs1 (c : Dev nD) (t : Fin cfg1.N) : outsAt1 V c t
    = k0_pay7 (Scalar.addi (BitVec.ofNat 32 (grid1.coords t 0).val) 4#32)
        (found (iblk1 V c 0 t) (iblk1 V c 1 t) (iblk1 V c 2 t) (iblk1 V c 3 t) (iblk1 V c 4 t) (iblk1 V c 5 t)) := by
  unfold outsAt1
  generalize iblk1 V c 0 t = x0
  generalize iblk1 V c 1 t = x1
  generalize iblk1 V c 2 t = x2
  generalize iblk1 V c 3 t = x3
  generalize iblk1 V c 4 t = x4
  generalize iblk1 V c 5 t = x5
  frame_out
  rfl

/-! ## Its value over the extended reals -/

/-- The squared distance of a centre and a point, as the sum of their squared lengths less twice their product. -/
def gap (a b c x y z : EReal) : EReal :=
  ((a * a + b * b + c * c) + (x * x + y * y + z * z)) - Ideal.ofBits .f32 0x40000000#32 * (a * x + b * y + c * z)

/-- A block of centres' column, read at a row. -/
theorem centre_at (x : Vec Ideal S1x256x1 .f32) (r : Fin 256) :
    shapeCast S256x1 x shapeCasts_S1x256x1_S256x1 (ix2 r 0) = x (ix3 0 r 0) :=
  shapeCast_apply _ _ _ _ (by
    rw [rowMajor_val3 _ 256 1 rfl rfl, rowMajor_val2 _ 1 rfl]
    show 0 * (256 * 1) + r.val * 1 + 0 = r.val * 1 + 0
    omega)

/-- A block of points' row, read at a column. -/
theorem point_at (x : Vec Ideal S1x1x4096 .f32) (n : Fin 4096) :
    shapeCast S1x4096 x shapeCasts_S1x1x4096_S1x4096 (ix2 0 n) = x (ix3 0 0 n) :=
  shapeCast_apply _ _ _ _ (by
    rw [rowMajor_val3 _ 4096 4096 rfl rfl, rowMajor_val2 _ 4096 rfl]
    show 0 * 4096 + 0 * 4096 + n.val = 0 * 4096 + n.val
    omega)

/-- The products' sum, at a centre and a point. -/
theorem dot_at (x0 x1 x2 : Vec Ideal S1x256x1 .f32) (x3 x4 x5 : Vec Ideal S1x1x4096 .f32) (r : Fin 256) (n : Fin 4096) :
    k0_pay14 (F := Ideal) x0 x1 x2 x3 x4 x5 (ix2 r n)
      = x0 (ix3 0 r 0) * x3 (ix3 0 0 n) + x1 (ix3 0 r 0) * x4 (ix3 0 0 n) + x2 (ix3 0 r 0) * x5 (ix3 0 0 n) := by
  have h : ∀ (u : FVec Ideal S256x1 .f32) (v : FVec Ideal S1x4096 .f32), mulf
      (broadcastTo S256x4096 (extf .f32 (truncf .bf16 u bitsLt_bf16_f32) bitsLt_bf16_f32) broadcasts_S256x1_S256x4096)
      (broadcastTo S256x4096 (extf .f32 (truncf .bf16 v bitsLt_bf16_f32) bitsLt_bf16_f32) broadcasts_S1x4096_S256x4096) (ix2 r n)
        = u (ix2 r 0) * v (ix2 0 n) := fun u v => by
    refine (congrArg₂ (fun a b : EReal => a * b) (spread_wide _ r n) (spread_down _ r n)).trans ?_
    rfl
  refine Eq.trans (congrArg₂ (fun a b : EReal => a + b) (congrArg₂ (fun a b : EReal => a + b) (h _ _) (h _ _)) (h _ _)) ?_
  refine congrArg₂ (fun a b : EReal => a + b) (congrArg₂ (fun a b : EReal => a + b) ?_ ?_) ?_
  · exact congrArg₂ (fun a b : EReal => a * b) (centre_at x0 r) (point_at x3 n)
  · exact congrArg₂ (fun a b : EReal => a * b) (centre_at x1 r) (point_at x4 n)
  · exact congrArg₂ (fun a b : EReal => a * b) (centre_at x2 r) (point_at x5 n)

/-- The distance that the loop starts from, at a centre and a point. -/
theorem gap_at (x0 x1 x2 : Vec Ideal S1x256x1 .f32) (x3 x4 x5 : Vec Ideal S1x1x4096 .f32) (r : Fin 256) (n : Fin 4096) :
    k0_pay1 (F := Ideal) (k0_pay10 x2) (k0_pay11 x3) (k0_pay12 x4) (k0_pay13 x5) (k0_pay14 x0 x1 x2 x3 x4 x5) (k0_pay15 x0 x1) (ix2 r n)
      = gap (x0 (ix3 0 r 0)) (x1 (ix3 0 r 0)) (x2 (ix3 0 r 0)) (x3 (ix3 0 0 n)) (x4 (ix3 0 0 n)) (x5 (ix3 0 0 n)) := by
  refine Eq.trans (congrArg₂ (fun a b : EReal => a - Ideal.ofBits .f32 0x40000000#32 * b)
    (congrArg₂ (fun a b : EReal => a + b) (spread_wide _ r n) (spread_down _ r n)) (dot_at x0 x1 x2 x3 x4 x5 r n)) ?_
  have h1 : addf (k0_pay15 (F := Ideal) x0 x1) (mulf (k0_pay10 x2) (k0_pay10 x2)) (ix2 r 0)
      = x0 (ix3 0 r 0) * x0 (ix3 0 r 0) + x1 (ix3 0 r 0) * x1 (ix3 0 r 0) + x2 (ix3 0 r 0) * x2 (ix3 0 r 0) := by
    refine Eq.trans (b := shapeCast S256x1 x0 shapeCasts_S1x256x1_S256x1 (ix2 r 0) * shapeCast S256x1 x0 shapeCasts_S1x256x1_S256x1 (ix2 r 0)
      + shapeCast S256x1 x1 shapeCasts_S1x256x1_S256x1 (ix2 r 0) * shapeCast S256x1 x1 shapeCasts_S1x256x1_S256x1 (ix2 r 0)
      + shapeCast S256x1 x2 shapeCasts_S1x256x1_S256x1 (ix2 r 0) * shapeCast S256x1 x2 shapeCasts_S1x256x1_S256x1 (ix2 r 0)) rfl ?_
    rw [centre_at, centre_at, centre_at]
  have h2 : addf (addf (mulf (k0_pay11 (F := Ideal) x3) (k0_pay11 x3)) (mulf (k0_pay12 x4) (k0_pay12 x4))) (mulf (k0_pay13 x5) (k0_pay13 x5)) (ix2 0 n)
      = x3 (ix3 0 0 n) * x3 (ix3 0 0 n) + x4 (ix3 0 0 n) * x4 (ix3 0 0 n) + x5 (ix3 0 0 n) * x5 (ix3 0 0 n) := by
    refine Eq.trans (b := shapeCast S1x4096 x3 shapeCasts_S1x1x4096_S1x4096 (ix2 0 n) * shapeCast S1x4096 x3 shapeCasts_S1x1x4096_S1x4096 (ix2 0 n)
      + shapeCast S1x4096 x4 shapeCasts_S1x1x4096_S1x4096 (ix2 0 n) * shapeCast S1x4096 x4 shapeCasts_S1x1x4096_S1x4096 (ix2 0 n)
      + shapeCast S1x4096 x5 shapeCasts_S1x1x4096_S1x4096 (ix2 0 n) * shapeCast S1x4096 x5 shapeCasts_S1x1x4096_S1x4096 (ix2 0 n)) rfl ?_
    rw [point_at, point_at, point_at]
  exact congrArg (fun e : EReal => e - Ideal.ofBits .f32 0x40000000#32
    * (x0 (ix3 0 r 0) * x3 (ix3 0 0 n) + x1 (ix3 0 r 0) * x4 (ix3 0 0 n) + x2 (ix3 0 r 0) * x5 (ix3 0 0 n))) (congrArg₂ (fun a b : EReal => a + b) h1 h2)

variable (X : S8x4096x3.Idx → EReal) (Q : S8x1024x3.Idx → EReal)

/-- The squared distances of a centre from its cloud's points. -/
def gaps (b : Fin 8) (s : Fin 1024) (n : Fin 4096) : EReal :=
  gap (Q (ix3 b s 0)) (Q (ix3 b s 1)) (Q (ix3 b s 2)) (X (ix3 b n 0)) (X (ix3 b n 1)) (X (ix3 b n 2))

/-- The table's row of the `j`-th index taken for a centre. -/
def row (b : Fin 8) (s : Fin 1024) (j : ℕ) : BitVec 32 :=
  BitVec.ofNat 32 (taken (gaps X Q b s) big j).val + BitVec.ofNat 32 b.val * 4096#32

/-- The body's result at a centre of its block, from what its blocks hold. -/
theorem body_at (v0 : BitVec 32) (x0 x1 x2 : Vec Ideal S1x256x1 .f32) (x3 x4 x5 : Vec Ideal S1x1x4096 .f32) (b : Fin 8) (s : Fin 1024)
    (r : Fin 256) (j : Fin 16) (hv : v0 = BitVec.ofNat 32 b.val) (h0 : x0 (ix3 0 r 0) = Q (ix3 b s 0)) (h1 : x1 (ix3 0 r 0) = Q (ix3 b s 1))
    (h2 : x2 (ix3 0 r 0) = Q (ix3 b s 2)) (h3 : ∀ n, x3 (ix3 0 0 n) = X (ix3 b n 0)) (h4 : ∀ n, x4 (ix3 0 0 n) = X (ix3 b n 1))
    (h5 : ∀ n, x5 (ix3 0 0 n) = X (ix3 b n 2)) :
    k0_pay7 (F := Ideal) v0 (found x0 x1 x2 x3 x4 x5) (ix3 0 r j) = row X Q b s j.val := by
  unfold k0_pay7
  refine (shapeCast_apply _ _ _ (ix2 r j) ?_).trans ?_
  · rw [rowMajor_val3 _ 4096 16 rfl rfl, rowMajor_val2 _ 16 rfl]
    show r.val * 16 + j.val = 0 * 4096 + r.val * 16 + j.val
    omega
  · have hg : (fun n => k0_pay1 (F := Ideal) (k0_pay10 x2) (k0_pay11 x3) (k0_pay12 x4) (k0_pay13 x5) (k0_pay14 x0 x1 x2 x3 x4 x5) (k0_pay15 x0 x1)
        (ix2 r n)) = gaps X Q b s := funext fun n => by
      rw [gap_at, h0, h1, h2, h3, h4, h5]; rfl
    have H := (holds_ended (k0_pay10 x2) (k0_pay11 x3) (k0_pay12 x4) (k0_pay13 x5) (k0_pay14 x0 x1 x2 x3 x4 x5) (k0_pay15 x0 x1)).idx r j
    rw [if_pos j.isLt, hg] at H
    refine congrArg₂ (fun u w : BitVec 32 => u + w) (?_ : FloatOps.fptosi (F := Ideal) (φ := .f32) 32 (found x0 x1 x2 x3 x4 x5 (ix2 r j)) = _) ?_
    · rw [show found x0 x1 x2 x3 x4 x5 (ix2 r j) = num (taken (gaps X Q b s) big j.val).val from H]
      exact fptosi_num _ (Fin.isLt _)
    · subst hv; rfl

/-! ## The two calls' arrays -/

/-- A call's buffers hold the coordinates of the centres and of the points. -/
structure Given (V : (b : Ref sig .tc) → b.ty.Contents (Elt Ideal)) : Prop where
  /-- The centres' first coordinates. -/
  qx : ∀ b s, V main_v2 (ix3 b s 0) = Q (ix3 b s 0)
  /-- The centres' second coordinates. -/
  qy : ∀ b s, V main_v5 (ix3 b s 0) = Q (ix3 b s 1)
  /-- The centres' third coordinates. -/
  qz : ∀ b s, V main_v8 (ix3 b s 0) = Q (ix3 b s 2)
  /-- The points' first coordinates. -/
  px : ∀ b n, V main_v11 (ix3 b 0 n) = X (ix3 b n 0)
  /-- The points' second coordinates. -/
  py : ∀ b n, V main_v14 (ix3 b 0 n) = X (ix3 b n 1)
  /-- The points' third coordinates. -/
  pz : ∀ b n, V main_v17 (ix3 b 0 n) = X (ix3 b n 2)

/-- Where the first call's windows stand at a grid point. -/
theorem at0 : ∀ t : Fin grid0.N, win0_0.index t = ![(grid0.coords t 0).val, (grid0.coords t 1).val, 0]
    ∧ win0_1.index t = ![(grid0.coords t 0).val, (grid0.coords t 1).val, 0]
    ∧ win0_2.index t = ![(grid0.coords t 0).val, (grid0.coords t 1).val, 0]
    ∧ win0_3.index t = ![(grid0.coords t 0).val, 0, 0]
    ∧ win0_4.index t = ![(grid0.coords t 0).val, 0, 0]
    ∧ win0_5.index t = ![(grid0.coords t 0).val, 0, 0]
    ∧ win0_6.index t = ![(grid0.coords t 0).val, (grid0.coords t 1).val, 0] := by decide +kernel

/-- The first call's result: the first four clouds' rows. -/
theorem arr0 (V : (c : Dev nD) → (b : Ref sig .tc) → Buf (Elt Ideal) ((c : Thread nD τ).loc b)) (c : Dev nD) (h : Given X Q (V c)) :
    (dat0 V c).arrAt 6 cfg0.N = fun i : S4x1024x16.Idx => row X Q ⟨(i 0).val, lt_of_lt_of_le (i 0).isLt (by decide)⟩ (i 1) (i 2).val := by
  refine (dat0 V c).arrAt_eq_of_covers 6 _ (by decide +kernel) fun t hf y => ?_
  obtain ⟨e0, e1, e2, e3, e4, e5, e6⟩ := at0 t
  rw [after0_6, outs0]
  blk_simp [e6]
  have hy : y = ix3 (0 : Fin 1) (y 1 : Fin 256) (y 2 : Fin 16) := by
    funext a; fin_cases a
    · exact Subsingleton.elim (α := Fin 1) _ _
    · rfl
    · rfl
  refine (congrArg (k0_pay7 (F := Ideal) _ (found _ _ _ _ _ _)) hy).trans ?_
  obtain ⟨s, hs, hs'⟩ : ∃ s : Fin 1024, ((win0_6.blk t).view.emb y 1 : Fin 1024) = s ∧ s.val = (grid0.coords t 1).val * 256 + (y 1).val :=
    ⟨_, rfl, by blk_simp [e6]⟩
  rw [hs]
  refine body_at X Q _ _ _ _ _ _ _ _ _ _ _ ?_ ?_ ?_ ?_ (fun n => ?_) (fun n => ?_) (fun n => ?_)
  · exact BitVec.add_zero _
  · refine Eq.trans (b := V c main_v2 ((win0_0.blk t).view.emb (ix3 (0 : Fin 1) (y 1 : Fin 256) (0 : Fin 1)))) rfl ?_
    refine Eq.trans (congrArg (V c main_v2) ?_) (h.qx _ _)
    funext a; refine Fin.ext ?_
    fin_cases a <;> blk_simp [e0] <;> exact hs'.symm
  · refine Eq.trans (b := V c main_v5 ((win0_1.blk t).view.emb (ix3 (0 : Fin 1) (y 1 : Fin 256) (0 : Fin 1)))) rfl ?_
    refine Eq.trans (congrArg (V c main_v5) ?_) (h.qy _ _)
    funext a; refine Fin.ext ?_
    fin_cases a <;> blk_simp [e1] <;> exact hs'.symm
  · refine Eq.trans (b := V c main_v8 ((win0_2.blk t).view.emb (ix3 (0 : Fin 1) (y 1 : Fin 256) (0 : Fin 1)))) rfl ?_
    refine Eq.trans (congrArg (V c main_v8) ?_) (h.qz _ _)
    funext a; refine Fin.ext ?_
    fin_cases a <;> blk_simp [e2] <;> exact hs'.symm
  · refine Eq.trans (b := V c main_v11 ((win0_3.blk t).view.emb (ix3 (0 : Fin 1) (0 : Fin 1) n))) rfl ?_
    refine Eq.trans (congrArg (V c main_v11) ?_) (h.px _ _)
    funext a; refine Fin.ext ?_
    fin_cases a <;> blk_simp [e3]
  · refine Eq.trans (b := V c main_v14 ((win0_4.blk t).view.emb (ix3 (0 : Fin 1) (0 : Fin 1) n))) rfl ?_
    refine Eq.trans (congrArg (V c main_v14) ?_) (h.py _ _)
    funext a; refine Fin.ext ?_
    fin_cases a <;> blk_simp [e4]
  · refine Eq.trans (b := V c main_v17 ((win0_5.blk t).view.emb (ix3 (0 : Fin 1) (0 : Fin 1) n))) rfl ?_
    refine Eq.trans (congrArg (V c main_v17) ?_) (h.pz _ _)
    funext a; refine Fin.ext ?_
    fin_cases a <;> blk_simp [e5]

/-- Where the second call's windows stand at a grid point. -/
theorem at1 : ∀ t : Fin grid1.N, win1_0.index t = ![(grid1.coords t 0).val + 4, (grid1.coords t 1).val, 0]
    ∧ win1_1.index t = ![(grid1.coords t 0).val + 4, (grid1.coords t 1).val, 0]
    ∧ win1_2.index t = ![(grid1.coords t 0).val + 4, (grid1.coords t 1).val, 0]
    ∧ win1_3.index t = ![(grid1.coords t 0).val + 4, 0, 0]
    ∧ win1_4.index t = ![(grid1.coords t 0).val + 4, 0, 0]
    ∧ win1_5.index t = ![(grid1.coords t 0).val + 4, 0, 0]
    ∧ win1_6.index t = ![(grid1.coords t 0).val, (grid1.coords t 1).val, 0] := by decide +kernel

/-- The second call's result: the last four clouds' rows. -/
theorem arr1 (V : (c : Dev nD) → (b : Ref sig .tc) → Buf (Elt Ideal) ((c : Thread nD τ).loc b)) (c : Dev nD) (h : Given X Q (V c)) :
    (dat1 V c).arrAt 6 cfg1.N = fun i : S4x1024x16.Idx => row X Q ⟨(i 0).val + 4, by have : (i 0).val < 4 := (i 0).isLt; omega⟩ (i 1) (i 2).val := by
  refine (dat1 V c).arrAt_eq_of_covers 6 _ (by decide +kernel) fun t hf y => ?_
  obtain ⟨e0, e1, e2, e3, e4, e5, e6⟩ := at1 t
  rw [after1_6, outs1]
  blk_simp [e6]
  have hy : y = ix3 (0 : Fin 1) (y 1 : Fin 256) (y 2 : Fin 16) := by
    funext a; fin_cases a
    · exact Subsingleton.elim (α := Fin 1) _ _
    · rfl
    · rfl
  refine (congrArg (k0_pay7 (F := Ideal) _ (found _ _ _ _ _ _)) hy).trans ?_
  obtain ⟨s, hs, hs'⟩ : ∃ s : Fin 1024, ((win1_6.blk t).view.emb y 1 : Fin 1024) = s ∧ s.val = (grid1.coords t 1).val * 256 + (y 1).val :=
    ⟨_, rfl, by blk_simp [e6]⟩
  rw [hs]
  refine body_at X Q _ _ _ _ _ _ _ _ _ _ _ ?_ ?_ ?_ ?_ (fun n => ?_) (fun n => ?_) (fun n => ?_)
  · exact (BitVec.ofNat_add _ _).symm
  · refine Eq.trans (b := V c main_v2 ((win1_0.blk t).view.emb (ix3 (0 : Fin 1) (y 1 : Fin 256) (0 : Fin 1)))) rfl ?_
    refine Eq.trans (congrArg (V c main_v2) ?_) (h.qx _ _)
    funext a; refine Fin.ext ?_
    fin_cases a <;> blk_simp [e0] <;> exact hs'.symm
  · refine Eq.trans (b := V c main_v5 ((win1_1.blk t).view.emb (ix3 (0 : Fin 1) (y 1 : Fin 256) (0 : Fin 1)))) rfl ?_
    refine Eq.trans (congrArg (V c main_v5) ?_) (h.qy _ _)
    funext a; refine Fin.ext ?_
    fin_cases a <;> blk_simp [e1] <;> exact hs'.symm
  · refine Eq.trans (b := V c main_v8 ((win1_2.blk t).view.emb (ix3 (0 : Fin 1) (y 1 : Fin 256) (0 : Fin 1)))) rfl ?_
    refine Eq.trans (congrArg (V c main_v8) ?_) (h.qz _ _)
    funext a; refine Fin.ext ?_
    fin_cases a <;> blk_simp [e2] <;> exact hs'.symm
  · refine Eq.trans (b := V c main_v11 ((win1_3.blk t).view.emb (ix3 (0 : Fin 1) (0 : Fin 1) n))) rfl ?_
    refine Eq.trans (congrArg (V c main_v11) ?_) (h.px _ _)
    funext a; refine Fin.ext ?_
    fin_cases a <;> blk_simp [e3]
  · refine Eq.trans (b := V c main_v14 ((win1_4.blk t).view.emb (ix3 (0 : Fin 1) (0 : Fin 1) n))) rfl ?_
    refine Eq.trans (congrArg (V c main_v14) ?_) (h.py _ _)
    funext a; refine Fin.ext ?_
    fin_cases a <;> blk_simp [e4]
  · refine Eq.trans (b := V c main_v17 ((win1_5.blk t).view.emb (ix3 (0 : Fin 1) (0 : Fin 1) n))) rfl ?_
    refine Eq.trans (congrArg (V c main_v17) ?_) (h.pz _ _)
    funext a; refine Fin.ext ?_
    fin_cases a <;> blk_simp [e5]

end Cert.Proof.Close

end
-- ==== Proof.NearRun.lean ====
/-
  The nearest-neighbour program's run: what its result holds, from what its arguments hold.
-/
module

public import proofs.«01_k».proof.Proof.NearValue
public import proofs.«01_k».proof.Proof.SampleValue
public import Idealize.ShloMosaic.Lib.Tactic

@[expose] public section

noncomputable section

namespace Cert.Proof.Close

open Cert.Near Cert.Near.Gen Cert.Proof.Nearest
open Idealize.ShloMosaic hiding ix2 ix3 ix4
open Idealize.ShloMosaic.ValueIdx Idealize.ShloMosaic.TcCoe Idealize.ShloMosaic.StableHlo Idealize.ShloMosaic.Tactic
open Idealize.SL Idealize.SL.RA Idealize.SL.BI
open Idealize.ShloMosaic.Rounds
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

/-! ## The launch -/

variable (m : (ℓ : Loc nD τ sig) → Buf (Elt F) ℓ) (ρ : Dev nD → PrngReg)

set_option backward.isDefEq.respectTransparency.types false in
/-- Every run ends with the result's buffer as the last stretch leaves it, and the arguments as launched. -/
theorem run : θ_run defs (onTc (τ := τ) (main (F := F))) ⟨m, fun _ => 0, ρ⟩ (fun r => ∀ c : Dev nD,
      r.2.mem ((c.tc : Thread nD τ).loc main_v20) = W4 m ρ c (Proc.devRef .tc main_v20)
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h hz c =>
      ⟨h c _ (mem_uc main_v20 (by decide)),
       (h c _ (mem_uc main_arg0 (by decide))).trans (W4_main_arg0 m ρ c),
       (h c _ (mem_uc main_arg1 (by decide))).trans (W4_main_arg1 m ρ c)⟩)

/-! ## The stretches before and after the calls -/

/-- One coordinate of the centres, as the calls take it. -/
theorem centre (Q : S8x1024x3.Idx → Elt F .f32) (k : Fin 3) (h : S8x1024x3.Slices ![0, 0, k.val] S8x1024x1) (b : Fin 8) (s : Fin 1024) :
    broadcastInDim S8x1024x1 ![0, 1] bcast_S8x1024_S8x1024x1_0_1
      (shapeCast S8x1024 (extractStridedSlice S8x1024x1 ![0, 0, k.val] Q h) shapeCasts_S8x1024x1_S8x1024) (ix3 b s 0) = Q (ix3 b s k) := by
  refine (broadcastInDim_apply _ _ _ _ (ix2 b s) (fun x => by fin_cases x <;> rfl)).trans ?_
  refine (shapeCast_apply _ _ _ (ix3 b s (0 : Fin 1)) ?_).trans ?_
  · rw [rowMajor_val3 _ 1024 1 rfl rfl, rowMajor_val2 _ 1024 rfl]
    show b.val * (1024 * 1) + s.val * 1 + 0 = b.val * 1024 + s.val
    omega
  · refine congrArg Q ?_
    funext a; fin_cases a
    · exact Fin.ext (Nat.zero_add _)
    · exact Fin.ext (Nat.zero_add _)
    · exact Fin.ext (Nat.add_zero _)

/-- One coordinate of the points, as the calls take it. -/
theorem point (X : S8x4096x3.Idx → Elt F .f32) (k : Fin 3) (h : S8x4096x3.Slices ![0, 0, k.val] S8x4096x1) (b : Fin 8) (n : Fin 4096) :
    broadcastInDim S8x1x4096 ![0, 2] bcast_S8x4096_S8x1x4096_0_2
      (shapeCast S8x4096 (extractStridedSlice S8x4096x1 ![0, 0, k.val] X h) shapeCasts_S8x4096x1_S8x4096) (ix3 b 0 n) = X (ix3 b n k) :=
  (broadcastInDim_apply _ _ _ _ (ix2 b n) (fun x => by fin_cases x <;> rfl)).trans (Cert.Proof.Far.slice_at X k h b n)

/-- The stretch before the calls leaves the coordinates in the calls' buffers. -/
theorem given (W : Valuation τ sig (Elt Ideal)) :
    Given (W (Proc.devRef .tc main_arg0)) (W (Proc.devRef .tc main_arg1)) (fun b => after (hostOps0 (F := Ideal)) W (Proc.devRef .tc b)) where
  qx b s := by
    refine Eq.trans (congrFun (?_ : _ = broadcastInDim S8x1024x1 ![0, 1] bcast_S8x1024_S8x1024x1_0_1
      (shapeCast S8x1024 (extractStridedSlice S8x1024x1 ![0, 0, 0] (W (Proc.devRef .tc main_arg1)) slices_S8x1024x3_S8x1024x1_0_0_0) shapeCasts_S8x1024x1_S8x1024)) _) (centre _ 0 _ b s)
    after_results <;> rfl
  qy b s := by
    refine Eq.trans (congrFun (?_ : _ = broadcastInDim S8x1024x1 ![0, 1] bcast_S8x1024_S8x1024x1_0_1
      (shapeCast S8x1024 (extractStridedSlice S8x1024x1 ![0, 0, 1] (W (Proc.devRef .tc main_arg1)) slices_S8x1024x3_S8x1024x1_0_0_1) shapeCasts_S8x1024x1_S8x1024)) _) (centre _ 1 _ b s)
    after_results <;> rfl
  qz b s := by
    refine Eq.trans (congrFun (?_ : _ = broadcastInDim S8x1024x1 ![0, 1] bcast_S8x1024_S8x1024x1_0_1
      (shapeCast S8x1024 (extractStridedSlice S8x1024x1 ![0, 0, 2] (W (Proc.devRef .tc main_arg1)) slices_S8x1024x3_S8x1024x1_0_0_2) shapeCasts_S8x1024x1_S8x1024)) _) (centre _ 2 _ b s)
    after_results <;> rfl
  px b n := by
    refine Eq.trans (congrFun (?_ : _ = broadcastInDim S8x1x4096 ![0, 2] bcast_S8x4096_S8x1x4096_0_2
      (shapeCast S8x4096 (extractStridedSlice S8x4096x1 ![0, 0, 0] (W (Proc.devRef .tc main_arg0)) slices_S8x4096x3_S8x4096x1_0_0_0) shapeCasts_S8x4096x1_S8x4096)) _) (point _ 0 _ b n)
    after_results <;> rfl
  py b n := by
    refine Eq.trans (congrFun (?_ : _ = broadcastInDim S8x1x4096 ![0, 2] bcast_S8x4096_S8x1x4096_0_2
      (shapeCast S8x4096 (extractStridedSlice S8x4096x1 ![0, 0, 1] (W (Proc.devRef .tc main_arg0)) slices_S8x4096x3_S8x4096x1_0_0_1) shapeCasts_S8x4096x1_S8x4096)) _) (point _ 1 _ b n)
    after_results <;> rfl
  pz b n := by
    refine Eq.trans (congrFun (?_ : _ = broadcastInDim S8x1x4096 ![0, 2] bcast_S8x4096_S8x1x4096_0_2
      (shapeCast S8x4096 (extractStridedSlice S8x4096x1 ![0, 0, 2] (W (Proc.devRef .tc main_arg0)) slices_S8x4096x3_S8x4096x1_0_0_2) shapeCasts_S8x4096x1_S8x4096)) _) (point _ 2 _ b n)
    after_results <;> rfl

/-- Two blocks of clouds one after the other, read in the first. -/
theorem first_half {α : Type} (x y : S4x1024x16.Idx → α) (h) (b : Fin 8) (s : Fin 1024) (j : Fin 16) (hb : b.val < 4) :
    concatenate S8x1024x16 0 [⟨S4x1024x16, x⟩, ⟨S4x1024x16, y⟩] h (ix3 b s j) = x (ix3 (⟨b.val, hb⟩ : Fin 4) s j) :=
  concatenate_apply_piece (t := S8x1024x16) 0 _ h _ 0 (show 0 < 2 by omega) S4x1024x16 x rfl rfl 0 rfl _
    (fun x hx => by fin_cases x <;> first | rfl | exact absurd rfl hx) (Nat.zero_add _)

/-- And in the second. -/
theorem second_half {α : Type} (x y : S4x1024x16.Idx → α) (h) (b : Fin 8) (s : Fin 1024) (j : Fin 16) (hb : ¬ b.val < 4) :
    concatenate S8x1024x16 0 [⟨S4x1024x16, x⟩, ⟨S4x1024x16, y⟩] h (ix3 b s j) = y (ix3 (⟨b.val - 4, by omega⟩ : Fin 4) s j) :=
  concatenate_apply_piece (t := S8x1024x16) 0 _ h _ 1 (show 1 < 2 by omega) S4x1024x16 y rfl rfl 4 rfl _
    (fun x hx => by fin_cases x <;> first | rfl | exact absurd rfl hx) (show 4 + (b.val - 4) = b.val by omega)

/-- Every centre's sixteen rows of the table. -/
def rows (X : S8x4096x3.Idx → EReal) (Q : S8x1024x3.Idx → EReal) : S8x1024x16.Idx → BitVec 32 :=
  fun j => row X Q (j 0 : Fin 8) (j 1 : Fin 1024) (j 2 : Fin 16).val

/-- The result's buffer holds them. -/
theorem result_eq (m : (ℓ : Loc nD τ sig) → Buf (Elt Ideal) ℓ) (ρ : Dev nD → PrngReg) (c : Dev nD) :
    W4 m ρ c (Proc.devRef .tc main_v20) = rows (m ((c : Thread nD τ).loc main_arg0)) (m ((c : Thread nD τ).loc main_arg1)) := by
  have g1 : Given (m ((c : Thread nD τ).loc main_arg0)) (m ((c : Thread nD τ).loc main_arg1)) (V1 m ρ c) := given (W0 m ρ c)
  have k : ∀ b : Ref sig .tc, (∀ w : Fin cfg0.W, Pipeline.arrRef spec0 w = b → (cfg0.win w).isOut = false) → V2 m ρ c b = V1 m ρ c b :=
    fun b hb => W2_of m ρ c b hb
  have g2 : Given (m ((c : Thread nD τ).loc main_arg0)) (m ((c : Thread nD τ).loc main_arg1)) (V2 m ρ c) :=
    ⟨fun b s => (congrFun (k main_v2 (by decide)) _).trans (g1.qx b s),
     fun b s => (congrFun (k main_v5 (by decide)) _).trans (g1.qy b s),
     fun b s => (congrFun (k main_v8 (by decide)) _).trans (g1.qz b s),
     fun b s => (congrFun (k main_v11 (by decide)) _).trans (g1.px b s),
     fun b s => (congrFun (k main_v14 (by decide)) _).trans (g1.py b s),
     fun b s => (congrFun (k main_v17 (by decide)) _).trans (g1.pz b s)⟩
  have a1 : W3 m ρ c (Proc.devRef .tc main_v18) = _ :=
    (W3_of m ρ c main_v18 (by decide)).trans ((W2_arr m ρ c 6).trans (arr0 _ _ (V1 m ρ) c g1))
  have a2 : W3 m ρ c (Proc.devRef .tc main_v19) = _ := (W3_arr m ρ c 6).trans (arr1 _ _ (V2 m ρ) c g2)
  have ht : W4 m ρ c (Proc.devRef .tc main_v20) = concatenate S8x1024x16 0 [⟨S4x1024x16, W3 m ρ c (Proc.devRef .tc main_v18)⟩,
      ⟨S4x1024x16, W3 m ρ c (Proc.devRef .tc main_v19)⟩] concatenates_S4x1024x16_S4x1024x16_S8x1024x16_d0 := by
    show after (hostOps2 (F := Ideal)) (W3 m ρ c) (Proc.devRef .tc main_v20) = _
    after_results <;> rfl
  rw [ht, a1, a2]
  funext j
  obtain ⟨b, s, k, rfl⟩ : ∃ (b : Fin 8) (s : Fin 1024) (k : Fin 16), j = ix3 b s k :=
    ⟨j 0, j 1, j 2, by funext a; fin_cases a <;> rfl⟩
  by_cases hb : b.val < 4
  · exact (first_half _ _ _ b s k hb).trans rfl
  · refine (second_half _ _ _ b s k hb).trans ?_
    exact congrArg (fun e : Fin 8 => row _ _ e s k.val) (Fin.ext (show b.val - 4 + 4 = b.val by omega))

end Cert.Proof.Close

end
-- ==== Proof.NearRef.lean ====
/-
  The nearest-neighbour reference read over the extended reals: the squared distances under its bound on the coordinates,
  and its sort by them, whose first sixteen places are the indices that the kernel takes.
-/
module

public import proofs.«01_k».proof.Proof.NearRun
public import proofs.«01_k».proof.Proof.Gen.NearReferenceIdeal
public import proofs.«01_k».proof.Proof.Gen.NearReferenceIdeal.Run
public import proofs.«01_k».proof.Proof.Gen.Pre_bounded
public import Idealize.ShloMosaic.Lib.ReduceAll
public import Idealize.ShloMosaic.PureOps.Reduce
public import Idealize.ShloMosaic.Lib.SortFacts
public import Idealize.ShloMosaic.Lib.Pointwise

@[expose] public section

set_option maxRecDepth 16384

noncomputable section

namespace Cert.Proof.CloseRef

open Cert.NearReferenceIdeal Cert.NearReferenceIdeal.Gen Cert.Proof.Nearest
open Cert.Proof.Close (gap gaps row rows big)
open Idealize.ShloMosaic hiding ix1 ix2 ix3 ix4
open Idealize.ShloMosaic.ValueIdx Idealize.ShloMosaic.TcCoe Idealize.ShloMosaic.StableHlo

/-! ## The bound -/

/-- The bound's word, as a real number. -/
theorem bound_word : Ideal.ofBits .f32 0x56B5E621#32 = ((11920929 * 2 ^ 23 : ℝ) : EReal) := by
  simp [Ideal.ofBits, Ideal.ieee, -EReal.coe_mul]

/-- The large distance's word, as a real number. -/
theorem big_word : big = ((13234890 * 2 ^ 76 : ℝ) : EReal) := by
  simp [big, Ideal.ofBits, Ideal.ieee, -EReal.coe_mul]

/-- The word for two. -/
theorem two_word : Ideal.ofBits .f32 0x40000000#32 = ((2 : ℝ) : EReal) := by
  simp [Ideal.ofBits, Ideal.ieee, -EReal.coe_mul]; norm_num

/-- A number of absolute value at most the bound is a real number between the bound and its negative. -/
theorem real_of_le (x : EReal) (h : FloatOps.cmpf (F := Ideal) (φ := .f32) .ole (FloatOps.hostAbsf (F := Ideal) (φ := .f32) x)
      (FloatOps.ofBits (F := Ideal) .f32 0x56B5E621#32) = 1#1) :
    ∃ r : ℝ, x = r ∧ -(11920929 * 2 ^ 23) ≤ r ∧ r ≤ 11920929 * 2 ^ 23 := by
  have h' : max x (-x) ≤ ((11920929 * 2 ^ 23 : ℝ) : EReal) := by
    rw [← bound_word]
    by_contra hn
    have h2 : BitVec.ofBool (decide (max x (-x) ≤ Ideal.ofBits .f32 0x56B5E621#32)) = 1#1 := h
    rw [decide_eq_false hn] at h2
    exact absurd h2 (by decide)
  obtain ⟨h1, h2⟩ := max_le_iff.1 h'
  induction x using EReal.rec with
  | bot => exact absurd h2 (by rw [EReal.neg_bot, not_le]; exact EReal.coe_lt_top _)
  | top => exact absurd h1 (by rw [not_le]; exact EReal.coe_lt_top _)
  | coe r =>
    refine ⟨r, rfl, ?_, EReal.coe_le_coe_iff.1 h1⟩
    have := EReal.coe_le_coe_iff.1 (EReal.coe_neg r ▸ h2)
    linarith

/-- The precondition says that every coordinate is within the bound. -/
theorem within (X : FVec Ideal S8x4096x3 .f32) (Q : FVec Ideal S8x1024x3 .f32) (h : Cert.Pre_bounded.fn (F := Ideal) X Q = fun _ => 1#1) :
    (∀ i, ∃ r : ℝ, X i = (r : EReal) ∧ -(11920929 * 2 ^ 23) ≤ r ∧ r ≤ 11920929 * 2 ^ 23)
      ∧ ∀ i, ∃ r : ℝ, Q i = (r : EReal) ∧ -(11920929 * 2 ^ 23) ≤ r ∧ r ≤ 11920929 * 2 ^ 23 := by
  have e := congrFun h (fun x => x.elim0)
  obtain ⟨h1, h2⟩ := IntOp.andi_eq_one.1 e
  exact ⟨fun i => real_of_le _ (Host.reduce_andi_all _ _ _ _ _ h1 i), fun i => real_of_le _ (Host.reduce_andi_all _ _ _ _ _ h2 i)⟩

/-- The squared distance of two points, over the reals. -/
def far (a b c x y z : ℝ) : ℝ := (a - x) ^ 2 + (b - y) ^ 2 + (c - z) ^ 2

/-- The kernel's sums are that squared distance. -/
theorem gap_real (a b c x y z : ℝ) : gap a b c x y z = ((far a b c x y z : ℝ) : EReal) := by
  unfold gap far
  rw [two_word]
  norm_cast
  ring

/-- It is not below zero. -/
theorem far_nonneg (a b c x y z : ℝ) : 0 ≤ far a b c x y z := by unfold far; positivity

/-- Within the bound it is below the large distance. -/
theorem far_lt {a b c x y z : ℝ} (ha : -(11920929 * 2 ^ 23) ≤ a ∧ a ≤ 11920929 * 2 ^ 23) (hb : -(11920929 * 2 ^ 23) ≤ b ∧ b ≤ 11920929 * 2 ^ 23)
    (hc : -(11920929 * 2 ^ 23) ≤ c ∧ c ≤ 11920929 * 2 ^ 23) (hx : -(11920929 * 2 ^ 23) ≤ x ∧ x ≤ 11920929 * 2 ^ 23)
    (hy : -(11920929 * 2 ^ 23) ≤ y ∧ y ≤ 11920929 * 2 ^ 23) (hz : -(11920929 * 2 ^ 23) ≤ z ∧ z ≤ 11920929 * 2 ^ 23) :
    far a b c x y z < 13234890 * 2 ^ 76 := by
  have k : ∀ u v : ℝ, -(11920929 * 2 ^ 23) ≤ u ∧ u ≤ 11920929 * 2 ^ 23 → -(11920929 * 2 ^ 23) ≤ v ∧ v ≤ 11920929 * 2 ^ 23 →
      (u - v) ^ 2 ≤ (11920929 * 2 ^ 24) ^ 2 := fun u v hu hv =>
    sq_le_sq' (by linarith [hu.1, hv.2]) (by linarith [hu.2, hv.1])
  have h1 := k a x ha hx; have h2 := k b y hb hy; have h3 := k c z hc hz
  unfold far
  refine lt_of_le_of_lt (add_le_add (add_le_add h1 h2) h3) ?_
  norm_num

/-! ## The sort -/

/-- The first sixteen columns of an array, read at one of them. -/
theorem slice_top {α : Type} (x : S8x1024x4096.Idx → α) (h) (b : Fin 8) (s : Fin 1024) (j : Fin 16) :
    extractStridedSlice S8x1024x16 (fun _ => 0) x h (ix3 b s j) = x (ix3 b s (⟨j.val, by omega⟩ : Fin 4096)) := by
  unfold extractStridedSlice
  refine congrArg x ?_
  funext a; fin_cases a <;> exact Fin.ext (Nat.zero_add _)

/-- The first places of a stable sort: their indices, as words. -/
theorem top_at (gt : EReal → EReal → BitVec 1) (x : FVec Ideal S8x1024x4096 .f32) (h) (b : Fin 8) (s : Fin 1024) (j : Fin 16) :
    (Host.topK S8x1024x16 2 gt x h).2 (ix3 b s j)
      = BitVec.ofNat 32 (sortedFrom (fun k k' : Fin 4096 => gt (x (ix3 b s k)) (x (ix3 b s k')) == 1#1) ⟨j.val, by omega⟩).val := by
  unfold Host.topK Host.sort2
  simp only [dif_pos (show 2 < S8x1024x4096.rank by decide)]
  rw [slice_top]
  generalize (⟨j.val, by omega⟩ : Fin 4096) = i
  have e : ∀ k : Fin 4096, Shape.Idx.along (s := S8x1024x4096) (ix3 b s i) (2 : Fin 3) k = ix3 b s k := fun k => by
    funext a; fin_cases a <;> rfl
  have er : (fun k k' : Fin 4096 => gt (x (Shape.Idx.along (s := S8x1024x4096) (ix3 b s i) (2 : Fin 3) k))
      (x (Shape.Idx.along (s := S8x1024x4096) (ix3 b s i) (2 : Fin 3) k')) == 1#1) = fun k k' => gt (x (ix3 b s k)) (x (ix3 b s k')) == 1#1 := by
    funext k k'; rw [e k, e k']
  have hi : ∀ k : Fin 4096, iotaInDim S8x1024x4096 32 ⟨2, by decide⟩ (Shape.Idx.along (s := S8x1024x4096) (ix3 b s i) (2 : Fin 3) k) = BitVec.ofNat 32 k.val :=
    fun k => rfl
  refine (hi _).trans ?_
  rw [← er]
  rfl

/-- Of two squared distances, the reference's compare of their negated roots says which is less. -/
theorem before_iff (d e : ℝ) (hd : 0 ≤ d) (he : 0 ≤ e) :
    (FloatOps.cmpfTotal (F := Ideal) (φ := .f32) .gt (-(Ideal.sqrt (max (0 : EReal) d))) (-(Ideal.sqrt (max (0 : EReal) e))) == 1#1) = decide (d < e) := by
  have hs : ∀ d : ℝ, 0 ≤ d → Ideal.sqrt (max (0 : EReal) d) = ((Real.sqrt d : ℝ) : EReal) := fun d hd => by
    rw [max_eq_right (EReal.coe_nonneg.2 hd), Ideal.sqrt_coe, if_neg (not_lt.2 hd)]
  rw [hs d hd, hs e he, Ideal.cmpfTotal_def]
  unfold Ideal.cmp
  by_cases h : d < e
  · have : -(Real.sqrt e) < -(Real.sqrt d) := neg_lt_neg (Real.sqrt_lt_sqrt hd h)
    have h2 : -((Real.sqrt e : ℝ) : EReal) < -((Real.sqrt d : ℝ) : EReal) := by exact_mod_cast this
    simp [CmpDirection.ordered, h, Real.sqrt_lt_sqrt hd h]
  · have : Real.sqrt e ≤ Real.sqrt d := Real.sqrt_le_sqrt (not_lt.1 h)
    have hn : ¬ Real.sqrt d < Real.sqrt e := not_lt.2 this
    simp [CmpDirection.ordered, h, hn]

/-- The reference's product of a chosen point and a point: the three products of their coordinates, summed. -/
theorem dot_at (X : FVec Ideal S8x4096x3 .f32) (Q : FVec Ideal S8x1024x3 .f32) (b : Fin 8) (s : Fin 1024) (n : Fin 4096) :
    Host.dotGeneral (F := Ideal) dot_S8x1024x3_S8x4096x3_S8x1024x4096_2_2_1_1_0_0 none Q X (ix3 b s n)
      = ∑ k : Fin 3, Q (ix3 b s k) * X (ix3 b n k) := by
  pointwise
  rfl

/-- The sum over the coordinates, of a centre's squares. -/
theorem centre_squares (Q : FVec Ideal S8x1024x3 .f32) (b : Fin 8) (s : Fin 1024) :
    Host.reduceAdd (F := Ideal) (mulf Q Q) (constant S_ .f32 0x00000000#32) reducesTo_S8x1024x3_S8x1024_d2 h_S_ (ix2 b s)
      = ∑ k : Fin 3, Q (ix3 b s k) * Q (ix3 b s k) := by
  refine (Ideal.hostReduceAdd_single (a := 2) _ (by decide) _ _ _).trans ?_
  rw [show constant (F := Ideal) S_ .f32 0x00000000#32 (Shape.Idx.first h_S_) = (0 : EReal) from Ideal.ofBits_zero_f32, zero_add]
  refine Finset.sum_congr rfl fun (k : Fin 3) _ => ?_
  have e : ∀ h : S8x1024x3.Reduces [2] S8x1024, h.lift (ix2 b s) k = ix3 b s k := fun h => by funext a; fin_cases a <;> rfl
  rw [e]; rfl

/-- And of a point's. -/
theorem point_squares (X : FVec Ideal S8x4096x3 .f32) (b : Fin 8) (n : Fin 4096) :
    Host.reduceAdd (F := Ideal) (mulf X X) (constant S_ .f32 0x00000000#32) reducesTo_S8x4096x3_S8x4096_d2 h_S_ (ix2 b n)
      = ∑ k : Fin 3, X (ix3 b n k) * X (ix3 b n k) := by
  refine (Ideal.hostReduceAdd_single (a := 2) _ (by decide) _ _ _).trans ?_
  rw [show constant (F := Ideal) S_ .f32 0x00000000#32 (Shape.Idx.first h_S_) = (0 : EReal) from Ideal.ofBits_zero_f32, zero_add]
  refine Finset.sum_congr rfl fun (k : Fin 3) _ => ?_
  have e : ∀ h : S8x4096x3.Reduces [2] S8x4096, h.lift (ix2 b n) k = ix3 b n k := fun h => by funext a; fin_cases a <;> rfl
  rw [e]; rfl

/-! ## The result -/

/-- What the reference sorts by, at a centre and a point: the negated root of the squared distance. -/
theorem key_at (X : FVec Ideal S8x4096x3 .f32) (Q : FVec Ideal S8x1024x3 .f32) (b : Fin 8) (s : Fin 1024) (n : Fin 4096) :
    (Host.negf (Host.sqrt (maximumf (broadcastInDim S8x1024x4096 ![] bcast_S_S8x1024x4096 (id (constant S_ .f32 0x00000000#32)))
      (subf (addf (broadcastInDim S8x1024x4096 ![0, 1, 2] bcast_S8x1024x1_S8x1024x4096_0_1_2 (broadcastInDim S8x1024x1 ![0, 1] bcast_S8x1024_S8x1024x1_0_1
          (Host.reduceAdd (mulf Q Q) (constant S_ .f32 0x00000000#32) reducesTo_S8x1024x3_S8x1024_d2 h_S_)))
        (broadcastInDim S8x1024x4096 ![0, 1, 2] bcast_S8x1x4096_S8x1024x4096_0_1_2 (broadcastInDim S8x1x4096 ![0, 2] bcast_S8x4096_S8x1x4096_0_2
          (Host.reduceAdd (mulf X X) (constant S_ .f32 0x00000000#32) reducesTo_S8x4096x3_S8x4096_d2 h_S_))))
        (mulf (broadcastInDim S8x1024x4096 ![] bcast_S_S8x1024x4096 (constant S_ .f32 0x40000000#32))
          (Host.dotGeneral dot_S8x1024x3_S8x4096x3_S8x1024x4096_2_2_1_1_0_0 none Q X))))) : FVec Ideal S8x1024x4096 .f32) (ix3 b s n)
      = -(Ideal.sqrt (max (0 : EReal) (gaps X Q b s n))) := by
  have h1 : broadcastInDim S8x1024x4096 ![0, 1, 2] bcast_S8x1024x1_S8x1024x4096_0_1_2 (broadcastInDim S8x1024x1 ![0, 1] bcast_S8x1024_S8x1024x1_0_1
      (Host.reduceAdd (F := Ideal) (mulf Q Q) (constant S_ .f32 0x00000000#32) reducesTo_S8x1024x3_S8x1024_d2 h_S_)) (ix3 b s n)
        = Q (ix3 b s 0) * Q (ix3 b s 0) + Q (ix3 b s 1) * Q (ix3 b s 1) + Q (ix3 b s 2) * Q (ix3 b s 2) := by
    rw [broadcastInDim_apply _ _ _ _ (ix3 b s (0 : Fin 1)) (fun x => by fin_cases x <;> rfl),
      broadcastInDim_apply _ _ _ _ (ix2 b s) (fun x => by fin_cases x <;> rfl), centre_squares, Fin.sum_univ_three]
  have h2 : broadcastInDim S8x1024x4096 ![0, 1, 2] bcast_S8x1x4096_S8x1024x4096_0_1_2 (broadcastInDim S8x1x4096 ![0, 2] bcast_S8x4096_S8x1x4096_0_2
      (Host.reduceAdd (F := Ideal) (mulf X X) (constant S_ .f32 0x00000000#32) reducesTo_S8x4096x3_S8x4096_d2 h_S_)) (ix3 b s n)
        = X (ix3 b n 0) * X (ix3 b n 0) + X (ix3 b n 1) * X (ix3 b n 1) + X (ix3 b n 2) * X (ix3 b n 2) := by
    rw [broadcastInDim_apply _ _ _ _ (ix3 b (0 : Fin 1) n) (fun x => by fin_cases x <;> rfl),
      broadcastInDim_apply _ _ _ _ (ix2 b n) (fun x => by fin_cases x <;> rfl), point_squares, Fin.sum_univ_three]
  have h3 := dot_at X Q b s n
  rw [Fin.sum_univ_three] at h3
  have h0 : FloatOps.ofBits (F := Ideal) .f32 0x00000000#32 = (0 : EReal) := Ideal.ofBits_zero_f32
  refine Eq.trans (congrArg₂ (fun u w : EReal => -(Ideal.sqrt (max u w))) h0 (congrArg₂ (fun u w : EReal => u - Ideal.ofBits .f32 0x40000000#32 * w)
    (congrArg₂ (fun u w : EReal => u + w) h1 h2) h3)) ?_
  rfl

/-- Every squared distance is a real number, not below zero and below the large distance. -/
theorem gaps_real (X : FVec Ideal S8x4096x3 .f32) (Q : FVec Ideal S8x1024x3 .f32) (h : Cert.Pre_bounded.fn (F := Ideal) X Q = fun _ => 1#1)
    (b : Fin 8) (s : Fin 1024) : ∃ D : Fin 4096 → ℝ, gaps X Q b s = (fun n => (D n : EReal)) ∧ (∀ n, 0 ≤ D n) ∧ ∀ n, D n < 13234890 * 2 ^ 76 := by
  obtain ⟨hX, hQ⟩ := within X Q h
  choose x hx hx' using hX
  choose q hq hq' using hQ
  refine ⟨fun n => far (q (ix3 b s 0)) (q (ix3 b s 1)) (q (ix3 b s 2)) (x (ix3 b n 0)) (x (ix3 b n 1)) (x (ix3 b n 2)), funext fun n => ?_,
    fun n => far_nonneg _ _ _ _ _ _, fun n => far_lt (hq' _) (hq' _) (hq' _) (hx' _) (hx' _) (hx' _)⟩
  refine Eq.trans ?_ (gap_real _ _ _ _ _ _)
  unfold gaps
  rw [hq, hq, hq, hx, hx, hx]

/-- A cloud's first row in the table, as the reference computes it. -/
theorem base_at (b : Fin 8) (s : Fin 1024) (j : Fin 16) :
    broadcastInDim S8x1024x16 ![0, 1, 2] bcast_S8x1x1_S8x1024x16_0_1_2 (muli (broadcastInDim S8x1x1 ![] bcast_S_S8x1x1 (constantI S_ 32 4096#32))
      (broadcastInDim S8x1x1 ![0] bcast_S8_S8x1x1_0 (iotaInDim S8 32 0))) (ix3 b s j) = BitVec.ofNat 32 b.val * 4096#32 := by
  rw [broadcastInDim_apply _ _ _ _ (ix3 b (0 : Fin 1) (0 : Fin 1)) (fun x => by fin_cases x <;> rfl)]
  show 4096#32 * broadcastInDim S8x1x1 ![0] bcast_S8_S8x1x1_0 (iotaInDim S8 32 0) (ix3 b (0 : Fin 1) (0 : Fin 1)) = _
  rw [broadcastInDim_apply _ _ _ _ (ix1 b) (fun x => by fin_cases x; rfl), BitVec.mul_comm]
  rfl

/-- Within the bound, the reference's result is the rows that the kernel takes. -/
theorem reference_rows (X : FVec Ideal S8x4096x3 .f32) (Q : FVec Ideal S8x1024x3 .f32) (h : Cert.Pre_bounded.fn (F := Ideal) X Q = fun _ => 1#1) :
    addi ((Host.topK S8x1024x16 2 (FloatOps.cmpfTotal .gt) (Host.negf (Host.sqrt (maximumf (broadcastInDim S8x1024x4096 ![] bcast_S_S8x1024x4096
      (id (constant S_ .f32 0x00000000#32)))
      (subf (addf (broadcastInDim S8x1024x4096 ![0, 1, 2] bcast_S8x1024x1_S8x1024x4096_0_1_2 (broadcastInDim S8x1024x1 ![0, 1] bcast_S8x1024_S8x1024x1_0_1
          (Host.reduceAdd (mulf Q Q) (constant S_ .f32 0x00000000#32) reducesTo_S8x1024x3_S8x1024_d2 h_S_)))
        (broadcastInDim S8x1024x4096 ![0, 1, 2] bcast_S8x1x4096_S8x1024x4096_0_1_2 (broadcastInDim S8x1x4096 ![0, 2] bcast_S8x4096_S8x1x4096_0_2
          (Host.reduceAdd (mulf X X) (constant S_ .f32 0x00000000#32) reducesTo_S8x4096x3_S8x4096_d2 h_S_))))
        (mulf (broadcastInDim S8x1024x4096 ![] bcast_S_S8x1024x4096 (constant S_ .f32 0x40000000#32))
          (Host.dotGeneral dot_S8x1024x3_S8x4096x3_S8x1024x4096_2_2_1_1_0_0 none Q X)))))
      : FVec Ideal S8x1024x4096 .f32) sliceFits_S8x1024x4096_S8x1024x16).2)
      (broadcastInDim S8x1024x16 ![0, 1, 2] bcast_S8x1x1_S8x1024x16_0_1_2 (muli (broadcastInDim S8x1x1 ![] bcast_S_S8x1x1 (constantI S_ 32 4096#32))
        (broadcastInDim S8x1x1 ![0] bcast_S8_S8x1x1_0 (iotaInDim S8 32 0)))) = rows X Q := by
  funext i
  obtain ⟨b, s, j, rfl⟩ : ∃ (b : Fin 8) (s : Fin 1024) (j : Fin 16), i = ix3 b s j := ⟨i 0, i 1, i 2, by funext a; fin_cases a <;> rfl⟩
  obtain ⟨D, hD, h0, h1⟩ := gaps_real X Q h b s
  have key : ∀ n : Fin 4096, _ = _ := fun n => key_at X Q b s n
  refine congrArg₂ (fun u w : BitVec 32 => u + w) ((top_at _ _ _ b s j).trans ?_) (base_at b s j)
  refine congrArg (fun e : Fin 4096 => BitVec.ofNat 32 e.val) ?_
  rw [hD, big_word]
  refine Eq.trans (congrFun (sortedFrom_congr _ _ fun k k' _ => ?_) _) (taken_eq h0 h1 ⟨j.val, by omega⟩).symm
  rw [key k, key k', hD]
  exact before_iff (D k) (D k') (h0 k) (h0 k')

end Cert.Proof.CloseRef

end
-- ==== Proof.NearSame.lean ====
/-
  The nearest-neighbour call has two printings, one for words and one for the extended reals. Read at the extended reals
  they are the same programs, so what is proved of the first holds of the second.
-/
module

public import proofs.«01_k».proof.Proof.NearRef
public import proofs.«01_k».proof.Proof.Gen.Near.Frame

@[expose] public section

set_option maxRecDepth 4096
set_option maxHeartbeats 2000000

noncomputable section

namespace Cert.Proof.Close

open Idealize.ShloMosaic Idealize.ShloMosaic.TcCoe Idealize.SL.Sem

/-- The first part of the body of call 0 is the same in both. -/
theorem part0 : Cert.NearIdeal.k0_part1 (F := Ideal) = Cert.Near.k0_part1 (F := Ideal) := by
  delta Cert.NearIdeal.k0_part1 Cert.Near.k0_part1
  rfl

/-- So the whole body of call 0 is. -/
theorem body0 : Cert.NearIdeal.cc0__knn_body (F := Ideal) = Cert.Near.cc0__knn_body (F := Ideal) := by
  funext i a2 h2 a3 h3 a4 h4 a5 h5 a6 h6 a7 h7 a8 h8
  delta Cert.NearIdeal.cc0__knn_body Cert.Near.cc0__knn_body
  have e : Cert.NearIdeal.k0_part1 (F := Ideal) i a2 h2 a3 h3 a4 h4 a5 h5 a6 h6 a7 h7 a8 h8
      = Cert.Near.k0_part1 (F := Ideal) i a2 h2 a3 h3 a4 h4 a5 h5 a6 h6 a7 h7 a8 h8 := by rw [part0]
  refine congrArg₂ Prog.bind e ?_
  rfl

/-- The first part of the body of call 1 is the same in both. -/
theorem part1 : Cert.NearIdeal.k1_part1 (F := Ideal) = Cert.Near.k1_part1 (F := Ideal) := by
  delta Cert.NearIdeal.k1_part1 Cert.Near.k1_part1
  rfl

/-- So the whole body of call 1 is. -/
theorem body1 : Cert.NearIdeal.cc1__knn_body (F := Ideal) = Cert.Near.cc1__knn_body (F := Ideal) := by
  funext i a2 h2 a3 h3 a4 h4 a5 h5 a6 h6 a7 h7 a8 h8
  delta Cert.NearIdeal.cc1__knn_body Cert.Near.cc1__knn_body
  have e : Cert.NearIdeal.k1_part1 (F := Ideal) i a2 h2 a3 h3 a4 h4 a5 h5 a6 h6 a7 h7 a8 h8
      = Cert.Near.k1_part1 (F := Ideal) i a2 h2 a3 h3 a4 h4 a5 h5 a6 h6 a7 h7 a8 h8 := by rw [part1]
  refine congrArg₂ Prog.bind e ?_
  rfl

/-- The two printings have one table of kernel bodies. -/
theorem same_bodies : Cert.NearIdeal.defs₀ (F := Ideal) = Cert.Near.defs₀ (F := Ideal) := by
  unfold Cert.NearIdeal.defs₀ Cert.Near.defs₀
  refine congrArg Defs.onTc ?_
  rw [body0, body1]
  funext l x
  obtain ⟨_ | _ | l, hl⟩ := l
  · obtain ⟨t, s⟩ := x
    rfl
  · obtain ⟨t, s⟩ := x
    rfl
  · omega

/-- So they have the same labels' bodies, pipelines included. -/
theorem same_labels : Cert.NearIdeal.defs (F := Ideal) = Cert.Near.defs (F := Ideal) := congrArg (Pipeline.defs _) same_bodies

end Cert.Proof.Close

end
-- ==== Proof.Layers.lean ====
/-
  The two layers over the extended reals: what is computed for one centre, as the kernel sums it and as its reference does.
-/
module

public import Idealize.ShloMosaic.Lib.Pointwise

@[expose] public section

noncomputable section

namespace Cert.Proof.Layers

open Idealize.ShloMosaic

/-! ## What is computed for one centre -/

/-- The low half of a word as a number. -/
def lo (v : BitVec 32) : EReal := Ideal.ofBits .f32 (v <<< 16#32)

/-- The high half of a word as a number. -/
def hi (v : BitVec 32) : EReal := Ideal.ofBits .f32 (IntOp.andi v 4294901760#32)

/-- The first layer at one neighbour and one unit: the products' sums and the bias, less the centre's share, not below zero. -/
def first (x : Fin 128 → BitVec 32) (wl wh : Fin 128 → EReal) (b q0 q1 q2 : EReal) : EReal :=
  max ((∑ i, lo (x i) * wl i) + (∑ i, hi (x i) * wh i) + b - (q0 * wl 0 + q1 * wl 1 + q2 * wl 2)) 0

/-- The second layer at one unit: the greatest over the sixteen neighbours. -/
def second (h : Fin 16 → Fin 256 → EReal) (w : Fin 256 → EReal) (b : EReal) : EReal :=
  Finset.univ.fold max (Ideal.ofBits .f32 0xFF800000#32) fun k => (∑ c, h k c * w c) + b

/-- The mean over the units. -/
def mean (m : Fin 256 → EReal) : EReal := Ideal.div (∑ o, m o) (Ideal.ofBits .f32 0x43800000#32)

/-- A unit's distance from the mean. -/
def off (m : Fin 256 → EReal) (o : Fin 256) : EReal := m o - mean m

/-- The variance over the units, and a little more. -/
def spread (m : Fin 256 → EReal) : EReal := mean (fun o => off m o * off m o) + Ideal.ofBits .f32 0x3727C5AC#32

/-- The units normalised, scaled and moved. -/
def normed (m g t : Fin 256 → EReal) (o : Fin 256) : EReal := off m o * Ideal.rsqrt (spread m) * g o + t o

/-- The weights with rows of zeros below them. -/
def padded (w : Fin 131 → Fin 256 → EReal) (i c : Fin 256) : EReal := if h : i.val < 131 then w ⟨i.val, h⟩ c else 0

/-- The whole, for one centre. -/
def layers (x : Fin 16 → Fin 128 → BitVec 32) (q0 q1 q2 : EReal) (wl wh : Fin 128 → Fin 256 → EReal) (b1 : Fin 256 → EReal)
    (w2 : Fin 256 → Fin 256 → EReal) (b2 g t : Fin 256 → EReal) : Fin 256 → EReal :=
  normed (fun o => second (fun k c => first (x k) (fun i => wl i c) (fun i => wh i c) (b1 c) q0 q1 q2) (fun c => w2 c o) (b2 o)) g t

/-! ## The division by a root -/

/-- A product of a number by itself is not below zero. -/
theorem sq_nonneg (x : EReal) : 0 ≤ x * x := by
  induction x using EReal.rec with
  | bot => simp
  | top => simp
  | coe r => exact_mod_cast mul_self_nonneg r

/-- The word of 256. -/
theorem units_word : Ideal.ofBits .f32 0x43800000#32 = ((256 : ℝ) : EReal) := by
  simp [Ideal.ofBits, Ideal.ieee, -EReal.coe_mul]; norm_num

/-- The little more is above zero. -/
theorem eps_pos : ∃ e : ℝ, 0 < e ∧ Ideal.ofBits .f32 0x3727C5AC#32 = (e : EReal) := by
  refine ⟨_, ?_, by simp [Ideal.ofBits, Ideal.ieee, -EReal.coe_mul]; rfl⟩
  positivity

/-- The mean of numbers not below zero is not below zero. -/
theorem mean_nonneg (m : Fin 256 → EReal) (h : ∀ o, 0 ≤ m o) : 0 ≤ mean m := by
  unfold mean Ideal.div
  rw [units_word, if_neg (by norm_cast)]
  refine mul_nonneg (Finset.sum_nonneg fun o _ => h o) ?_
  rw [← EReal.coe_inv]
  exact_mod_cast (by norm_num : (0 : ℝ) ≤ 256⁻¹)

/-- The variance and a little more is above zero. -/
theorem spread_pos (m : Fin 256 → EReal) : 0 < spread m := by
  obtain ⟨e, he, hw⟩ := eps_pos
  unfold spread
  rw [hw]
  refine lt_of_lt_of_le (b := (e : EReal)) (by exact_mod_cast he) ?_
  exact le_add_of_nonneg_left (mean_nonneg _ fun o => sq_nonneg _)

/-- Dividing by the root of a number above zero is multiplying by its reciprocal root. -/
theorem div_sqrt (c y : EReal) (h : 0 < y) : Ideal.div c (Ideal.sqrt y) = c * Ideal.rsqrt y := by
  induction y using EReal.rec with
  | bot => exact absurd h (by simp)
  | top =>
    rw [Ideal.sqrt_top, Ideal.rsqrt_top, Ideal.div, if_neg (by simp)]
    simp
  | coe r =>
    have hr : 0 < r := by exact_mod_cast h
    have hs : Real.sqrt r ≠ 0 := (Real.sqrt_pos.2 hr).ne'
    rw [Ideal.sqrt_coe, Ideal.rsqrt_coe, if_neg hr.not_gt, if_neg hr.not_gt, if_neg hr.ne', Ideal.div, if_neg (by exact_mod_cast hs), EReal.coe_inv]

/-! ## The first layer's two sums -/

/-- A difference with a real number times a real number, spread out. -/
theorem sub_mul_real (p : EReal) (q u : ℝ) : (p - (q : EReal)) * (u : EReal) = p * (u : EReal) + ((-(q * u) : ℝ) : EReal) := by
  induction p using EReal.rec with
  | bot =>
    rw [EReal.bot_sub]
    rcases lt_trichotomy u 0 with h | h | h
    · rw [EReal.bot_mul_coe_of_neg h, EReal.top_add_coe]
    · subst h; simp
    · rw [EReal.bot_mul_coe_of_pos h, EReal.bot_add]
  | top =>
    rw [EReal.top_sub_coe]
    rcases lt_trichotomy u 0 with h | h | h
    · rw [EReal.top_mul_coe_of_neg h, EReal.bot_add]
    · subst h; simp
    · rw [EReal.top_mul_coe_of_pos h, EReal.top_add_coe]
  | coe r =>
    norm_cast
    ring

/-- The sum over all 256 places with the weights padded is the sum over the 131 places. -/
theorem sum_padded (p w : ℕ → EReal) :
    (∑ i : Fin 128, p i.val * (if i.val < 131 then w i.val else 0)) + (∑ i : Fin 128, p (128 + i.val) * (if 128 + i.val < 131 then w (128 + i.val) else 0))
      = ∑ i : Fin 131, p i.val * w i.val := by
  have h1 : ∀ n, ∑ i : Fin n, p i.val * (if i.val < 131 then w i.val else 0) = ∑ i ∈ Finset.range n, p i * (if i < 131 then w i else 0) :=
    fun n => Fin.sum_univ_eq_sum_range (fun i => p i * (if i < 131 then w i else 0)) n
  have h2 := Fin.sum_univ_eq_sum_range (fun i => p (128 + i) * (if 128 + i < 131 then w (128 + i) else 0)) 128
  have h3 := Fin.sum_univ_eq_sum_range (fun i => p i * w i) 131
  have h4 := Finset.sum_range_add (fun i => p i * (if i < 131 then w i else 0)) 128 128
  have h5 := Finset.sum_range_add (fun i => p i * (if i < 131 then w i else 0)) 131 125
  rw [h1, h2, h3, ← h4, h5]
  rw [Finset.sum_eq_zero (s := Finset.range 125) fun i _ => by rw [if_neg (by omega), mul_zero], add_zero]
  exact Finset.sum_congr rfl fun i hi => by rw [if_pos (Finset.mem_range.1 hi)]

/-- The first layer's sum as the kernel takes it is the sum as the reference takes it, the centre being finite and so the three
    weights that it meets. -/
theorem first_sum (p w : ℕ → EReal) (b : EReal) (q u : ℕ → ℝ) (hw : ∀ i, i < 3 → w i = (u i : EReal)) :
    (∑ i : Fin 131, p i.val * w i.val) + b - ((q 0 : EReal) * w 0 + (q 1 : EReal) * w 1 + (q 2 : EReal) * w 2)
      = (∑ i : Fin 131, (if i.val < 3 then p i.val - (q i.val : EReal) else p i.val) * w i.val) + b := by
  have h3 := Fin.sum_univ_eq_sum_range (fun i => p i * w i) 131
  have h4 := Fin.sum_univ_eq_sum_range (fun i => (if i < 3 then p i - (q i : EReal) else p i) * w i) 131
  have h5 := Finset.sum_range_add (fun i => p i * w i) 3 128
  have h6 := Finset.sum_range_add (fun i => (if i < 3 then p i - (q i : EReal) else p i) * w i) 3 128
  rw [h3, h4, h5, h6]
  have h7 : ∑ i ∈ Finset.range 128, (if 3 + i < 3 then p (3 + i) - (q (3 + i) : EReal) else p (3 + i)) * w (3 + i)
      = ∑ i ∈ Finset.range 128, p (3 + i) * w (3 + i) := Finset.sum_congr rfl fun i _ => by rw [if_neg (show ¬ 3 + i < 3 by omega)]
  rw [h7]
  simp only [Finset.sum_range_succ, Finset.sum_range_zero, zero_add, Nat.ofNat_pos, if_true, Nat.one_lt_ofNat, Nat.lt_add_one]
  rw [hw 0 (by omega), hw 1 (by omega), hw 2 (by omega), sub_mul_real, sub_mul_real, sub_mul_real]
  generalize (∑ i ∈ Finset.range 128, p (3 + i) * w (3 + i)) = S
  rw [sub_eq_add_neg, ← EReal.coe_mul, ← EReal.coe_mul, ← EReal.coe_mul, ← EReal.coe_add, ← EReal.coe_add, ← EReal.coe_neg, neg_add, neg_add,
    EReal.coe_add, EReal.coe_add]
  abel

end Cert.Proof.Layers

end
-- ==== Proof.DenseBody.lean ====
/-
  The two-layer body at a grid point, read over the extended reals: each of its block's centres gets the two layers' value.
-/
module

public import proofs.«01_k».proof.Proof.Layers
public import proofs.«01_k».proof.Proof.Gen.Dense.Skeleton

@[expose] public section

noncomputable section

namespace Cert.Proof.Mix

open Cert.Dense Cert.Dense.Gen Cert.Proof.Layers
open Idealize.ShloMosaic

variable {F : FTy → Type} [FloatOps F]

/-! ## The body's stages -/

/-- The first layer of a block. -/
def early (x0 : Vec F S128x16x128 .i32) (x1 x2 x3 : Vec F S128x1 .f32) (x4 : Vec F S256x256 .bf16) (x5 : Vec F S1x256 .f32) : FVec F S128x16x256 .f32 :=
  maximumf (subf (shapeCast S128x16x256 (k0_pay3 x4 x0 x5) shapeCasts_S2048x256_S128x16x256)
    (broadcastTo S128x16x256 (shapeCast S128x1x256 (addf (k0_pay4 x4 x1 x2)
      (mulf (broadcastTo S128x256 (extf .f32 (truncf .bf16 (shapeCast S128x1 x3 shapeCasts_S128x1_S128x1) bitsLt_bf16_f32) bitsLt_bf16_f32) broadcasts_S128x1_S128x256)
        (broadcastTo S128x256 (extf .f32 (extractStridedSlice S1x256 ![2, 0] (k0_pay2 x4) slices_S256x256_o2_0_S1x256) bitsLt_bf16_f32) broadcasts_S1x256_S128x256)))
      shapeCasts_S128x256_S128x1x256) broadcasts_S128x1x256_S128x16x256))
    (broadcast S128x16x256 (Scalar.ofBits .f32 0x00000000#32))

/-- The second layer of a block, the greatest over each centre's neighbours. -/
def late (h : FVec F S128x16x256 .f32) (x6 : Vec F S256x256 .f32) (x7 : Vec F S1x256 .f32) : FVec F S128x256 .f32 :=
  multiReduction .maximumf [1] S128x256
    (shapeCast S128x16x256 (addf (matmul dot_S2048x256_S256x256_S2048x256_1_0_0_1_n_n none
      (truncf .bf16 (shapeCast S2048x256 h shapeCasts_S128x16x256_S2048x256) bitsLt_bf16_f32) (truncf .bf16 x6 bitsLt_bf16_f32)
      (constant S2048x256 .f32 0x00000000#32))
      (broadcastTo S2048x256 (shapeCast S1x256 x7 shapeCasts_S1x256_S1x256) broadcasts_S1x256_S2048x256)) shapeCasts_S2048x256_S128x16x256)
    0xFF800000#32 reduces_S128x16x256_S128x256 (.inl rfl) rfl

/-- Each centre's mean, along its row. -/
def middle (m : FVec F S128x256 .f32) : FVec F S128x1 .f32 :=
  divf (shapeCast S128x1 (multiReduction .add [1] S128 m 0x00000000#32 reduces_S128x256_S128 (.inl rfl) rfl) shapeCasts_S128_S128x1)
    (broadcast S128x1 (Scalar.ofBits .f32 0x43800000#32))

/-- Each centre's units less their mean. -/
def away (m : FVec F S128x256 .f32) : FVec F S128x256 .f32 := subf m (broadcastTo S128x256 (middle m) broadcasts_S128x1_S128x256)

/-- The block's result. -/
def whole (x0 : Vec F S128x16x128 .i32) (x1 x2 x3 : Vec F S128x1 .f32) (x4 : Vec F S256x256 .bf16) (x5 : Vec F S1x256 .f32) (x6 : Vec F S256x256 .f32)
    (x7 x8 x9 : Vec F S1x256 .f32) : FVec F S128x256 .f32 :=
  k0_pay1 (k0_pay5 (k0_pay2 x4) x6 (k0_pay3 x4 x0 x5) (k0_pay4 x4 x1 x2) x3 x7 x8) x9

/-- The block's result from the stages. -/
def ending (m : FVec F S128x256 .f32) (x8 x9 : Vec F S1x256 .f32) : FVec F S128x256 .f32 :=
  addf (mulf (mulf (away m) (broadcastTo S128x256 (rsqrt (addf (middle (mulf (away m) (away m))) (broadcast S128x1 (Scalar.ofBits .f32 0x3727C5AC#32))))
    broadcasts_S128x1_S128x256)) (broadcastTo S128x256 (shapeCast S1x256 x8 shapeCasts_S1x256_S1x256) broadcasts_S1x256_S128x256))
    (broadcastTo S128x256 (shapeCast S1x256 x9 shapeCasts_S1x256_S1x256) broadcasts_S1x256_S128x256)

/-- The block's result is that of the stages. -/
theorem whole_eq (x0 : Vec F S128x16x128 .i32) (x1 x2 x3 : Vec F S128x1 .f32) (x4 : Vec F S256x256 .bf16) (x5 : Vec F S1x256 .f32) (x6 : Vec F S256x256 .f32)
    (x7 x8 x9 : Vec F S1x256 .f32) :
    whole x0 x1 x2 x3 x4 x5 x6 x7 x8 x9 = ending (late (early x0 x1 x2 x3 x4 x5) x6 x7) x8 x9 := rfl

/-! ## The stages at an index -/

/-- The first layer at a centre, a neighbour and a unit. -/
theorem early_at (x0 : Vec Ideal S128x16x128 .i32) (x1 x2 x3 : Vec Ideal S128x1 .f32) (x4 : Vec Ideal S256x256 .bf16) (x5 : Vec Ideal S1x256 .f32)
    (r : Fin 128) (k : Fin 16) (c : Fin 256) : early (F := Ideal) x0 x1 x2 x3 x4 x5 (ix3 r k c)
      = first (fun i => x0 (ix3 r k i)) (fun i => x4 (ix2 ⟨i.val, by omega⟩ c)) (fun i => x4 (ix2 ⟨128 + i.val, by omega⟩ c)) (x5 (ix2 0 c))
        (x1 (ix2 r 0)) (x2 (ix2 r 0)) (x3 (ix2 r 0)) := by
  pointwise [early, k0_pay2, k0_pay3, k0_pay4]
  rfl

/-- The second layer at a centre and a unit. -/
theorem late_at (h : FVec Ideal S128x16x256 .f32) (x6 : Vec Ideal S256x256 .f32) (x7 : Vec Ideal S1x256 .f32) (r : Fin 128) (o : Fin 256) :
    late (F := Ideal) h x6 x7 (ix2 r o) = second (fun k c => h (ix3 r k c)) (fun c => x6 (ix2 c o)) (x7 (ix2 0 o)) := by
  pointwise [late]
  rfl

/-- The mean at a centre. -/
theorem middle_at (m : FVec Ideal S128x256 .f32) (r : Fin 128) : middle (F := Ideal) m (ix2 r 0) = mean (fun o => m (ix2 r o)) := by
  pointwise [middle]
  rfl

/-- A unit less the mean at a centre. -/
theorem away_at (m : FVec Ideal S128x256 .f32) (r : Fin 128) (o : Fin 256) : away (F := Ideal) m (ix2 r o) = off (fun o => m (ix2 r o)) o := by
  pointwise [away]
  rw [middle_at]
  rfl

/-- The result at a centre and a unit. -/
theorem ending_at (m : FVec Ideal S128x256 .f32) (x8 x9 : Vec Ideal S1x256 .f32) (r : Fin 128) (o : Fin 256) :
    ending (F := Ideal) m x8 x9 (ix2 r o) = normed (fun o => m (ix2 r o)) (fun o => x8 (ix2 0 o)) (fun o => x9 (ix2 0 o)) o := by
  pointwise [ending]
  rw [away_at, middle_at]
  have h : (fun o => mulf (away m) (away m) (ix2 r o)) = fun o => off (fun o => m (ix2 r o)) o * off (fun o => m (ix2 r o)) o :=
    funext fun o => congrArg₂ (fun a b : EReal => a * b) (away_at m r o) (away_at m r o)
  rw [h]
  rfl

/-- The body's result at a centre and a unit. -/
theorem whole_at (x0 : Vec Ideal S128x16x128 .i32) (x1 x2 x3 : Vec Ideal S128x1 .f32) (x4 : Vec Ideal S256x256 .bf16) (x5 : Vec Ideal S1x256 .f32)
    (x6 : Vec Ideal S256x256 .f32) (x7 x8 x9 : Vec Ideal S1x256 .f32) (r : Fin 128) (o : Fin 256) :
    whole (F := Ideal) x0 x1 x2 x3 x4 x5 x6 x7 x8 x9 (ix2 r o)
      = layers (fun k i => x0 (ix3 r k i)) (x1 (ix2 r 0)) (x2 (ix2 r 0)) (x3 (ix2 r 0)) (fun i c => x4 (ix2 ⟨i.val, by omega⟩ c))
        (fun i c => x4 (ix2 ⟨128 + i.val, by omega⟩ c)) (fun c => x5 (ix2 0 c)) (fun c o => x6 (ix2 c o)) (fun o => x7 (ix2 0 o))
        (fun o => x8 (ix2 0 o)) (fun o => x9 (ix2 0 o)) o := by
  rw [whole_eq, ending_at]
  refine congrArg (fun m => normed m _ _ o) (funext fun o => ?_)
  rw [late_at]
  exact congrArg (fun h => second h _ _) (funext fun k => funext fun c => early_at x0 x1 x2 x3 x4 x5 r k c)

end Cert.Proof.Mix

end
-- ==== Proof.DenseValue.lean ====
/-
  What the two-layer program's calls leave in their results: for each centre the two layers over its neighbours' rows, the
  greatest of the sixteen at each unit, and the normalization over the units.
-/
module

public import proofs.«01_k».proof.Proof.DenseBody
public import proofs.«01_k».proof.Proof.Gen.DenseIdeal
public import proofs.«01_k».proof.Proof.Gen.Dense.Launch
public import proofs.«01_k».proof.Proof.Gen.Dense.Points
public import proofs.«01_k».proof.Proof.Gen.Dense.Frame
public import Idealize.ShloMosaic.Lib.Pipeline.ValueKit

@[expose] public section

noncomputable section

namespace Cert.Proof.Mix

open Cert.Dense Cert.Dense.Gen Cert.Proof.Layers
open Idealize.SL.Sem
open Idealize.ShloMosaic Idealize.ShloMosaic.TcCoe Idealize.ShloMosaic.StableHlo

variable {F : FTy → Type} [FloatOps F]

/-- The layers' results for every centre of a call, from its ten arrays. -/
def made (x0 : S4096x16x128.Idx → BitVec 32) (x1 x2 x3 : S4096x1.Idx → EReal) (x4 : S256x256.Idx → EReal) (x5 : S1x256.Idx → EReal)
    (x6 : S256x256.Idx → EReal) (x7 x8 x9 : S1x256.Idx → EReal) : S4096x256.Idx → EReal := fun j =>
  layers (fun k i => x0 (ix3 (j 0 : Fin 4096) k i)) (x1 (ix2 (j 0 : Fin 4096) 0)) (x2 (ix2 (j 0 : Fin 4096) 0)) (x3 (ix2 (j 0 : Fin 4096) 0))
    (fun i c => x4 (ix2 ⟨i.val, by omega⟩ c)) (fun i c => x4 (ix2 ⟨128 + i.val, by omega⟩ c)) (fun c => x5 (ix2 0 c)) (fun c o => x6 (ix2 c o))
    (fun o => x7 (ix2 0 o)) (fun o => x8 (ix2 0 o)) (fun o => x9 (ix2 0 o)) (j 1 : Fin 256)

/-- The body's result at a centre of its block, from where its blocks lie in the arrays. -/
theorem body_at (x0 : Vec Ideal S128x16x128 .i32) (x1 x2 x3 : Vec Ideal S128x1 .f32) (x4 : Vec Ideal S256x256 .bf16) (x5 : Vec Ideal S1x256 .f32)
    (x6 : Vec Ideal S256x256 .f32) (x7 x8 x9 : Vec Ideal S1x256 .f32)
    (X0 : S4096x16x128.Idx → BitVec 32) (X1 X2 X3 : S4096x1.Idx → EReal) (X4 : S256x256.Idx → EReal) (X5 : S1x256.Idx → EReal)
    (X6 : S256x256.Idx → EReal) (X7 X8 X9 : S1x256.Idx → EReal) (r : Fin 128) (n : Fin 4096) (o : Fin 256)
    (h0 : ∀ k i, x0 (ix3 r k i) = X0 (ix3 n k i)) (h1 : x1 (ix2 r 0) = X1 (ix2 n 0)) (h2 : x2 (ix2 r 0) = X2 (ix2 n 0)) (h3 : x3 (ix2 r 0) = X3 (ix2 n 0))
    (h4 : ∀ i c, x4 (ix2 i c) = X4 (ix2 i c)) (h5 : ∀ c, x5 (ix2 0 c) = X5 (ix2 0 c)) (h6 : ∀ c o, x6 (ix2 c o) = X6 (ix2 c o))
    (h7 : ∀ c, x7 (ix2 0 c) = X7 (ix2 0 c)) (h8 : ∀ c, x8 (ix2 0 c) = X8 (ix2 0 c)) (h9 : ∀ c, x9 (ix2 0 c) = X9 (ix2 0 c)) :
    whole (F := Ideal) x0 x1 x2 x3 x4 x5 x6 x7 x8 x9 (ix2 r o) = made X0 X1 X2 X3 X4 X5 X6 X7 X8 X9 (ix2 n o) := by
  rw [whole_at]
  simp only [h0, h1, h2, h3, h4, h5, h6, h7, h8, h9]
  rfl

/-- What the first call's body leaves at a grid point. -/
theorem outs0 (x0 : Vec F S128x16x128 .i32) (x1 x2 x3 : Vec F S128x1 .f32) (x4 : Vec F S256x256 .bf16) (x5 : Vec F S1x256 .f32) (x6 : Vec F S256x256 .f32)
    (x7 x8 x9 : Vec F S1x256 .f32) : out0_10 x0 x1 x2 x3 x4 x5 x6 x7 x8 x9 = whole x0 x1 x2 x3 x4 x5 x6 x7 x8 x9 := by
  unfold out0_10
  frame_out
  rfl

/-- Where the first call's windows stand at a grid point. -/
theorem at0 : ∀ t : Fin grid0.N, win0_0.index t = ![(grid0.coords t 0).val, 0, 0]
    ∧ win0_1.index t = ![(grid0.coords t 0).val, 0]
    ∧ win0_2.index t = ![(grid0.coords t 0).val, 0]
    ∧ win0_3.index t = ![(grid0.coords t 0).val, 0]
    ∧ win0_4.index t = ![0, 0]
    ∧ win0_5.index t = ![0, 0]
    ∧ win0_6.index t = ![0, 0]
    ∧ win0_7.index t = ![0, 0]
    ∧ win0_8.index t = ![0, 0]
    ∧ win0_9.index t = ![0, 0]
    ∧ win0_10.index t = ![(grid0.coords t 0).val, 0] := by decide +kernel

/-- The first call's result. -/
theorem arr0 (V : (c : Dev nD) → (b : Ref sig .tc) → Buf (Elt Ideal) ((c : Thread nD τ).loc b)) (c : Dev nD) :
    (dat0 V c).arrAt 10 cfg0.N = made (V c main_v10) (V c main_v12) (V c main_v14) (V c main_v16) (V c main_v8) (V c main_v17) (V c main_arg4) (V c main_v18) (V c main_v19) (V c main_v20) := by
  refine (dat0 V c).arrAt_eq_of_covers 10 _ (by decide +kernel) fun t hf y => ?_
  obtain ⟨e0, e1, e2, e3, e4, e5, e6, e7, e8, e9, e10⟩ := at0 t
  rw [after0_10, outs0]
  blk_simp [e10]
  have hy : y = ix2 (y 0 : Fin 128) (y 1 : Fin 256) := by
    funext a; fin_cases a <;> rfl
  refine (congrArg (whole (F := Ideal) _ _ _ _ _ _ _ _ _ _) hy).trans ?_
  obtain ⟨n, hn, hn'⟩ : ∃ n : Fin 4096, ((win0_10.blk t).view.emb y 0 : Fin 4096) = n ∧ n.val = (grid0.coords t 0).val * 128 + (y 0).val :=
    ⟨_, rfl, by blk_simp [e10]⟩
  have hz : (win0_10.blk t).view.emb y = ix2 n (y 1 : Fin 256) := by
    funext a; refine Fin.ext ?_
    fin_cases a <;> blk_simp [e10] <;> first | exact hn'.symm | rfl
  refine Eq.trans ?_ (congrArg (made _ _ _ _ _ _ _ _ _ _) hz.symm)
  refine body_at _ _ _ _ _ _ _ _ _ _ _ _ _ _ _ _ _ _ _ _ _ _ _ (fun k i => ?_) ?_ ?_ ?_ (fun i k => ?_) (fun k => ?_) (fun k i => ?_) (fun k => ?_) (fun k => ?_) (fun k => ?_)
  · refine Eq.trans (b := V c main_v10 ((win0_0.blk t).view.emb (ix3 (y 0 : Fin 128) k i))) rfl ?_
    refine congrArg (V c main_v10) ?_
    funext a; refine Fin.ext ?_
    fin_cases a <;> blk_simp [e0] <;> first | exact hn'.symm | rfl
  · refine Eq.trans (b := V c main_v12 ((win0_1.blk t).view.emb (ix2 (y 0 : Fin 128) (0 : Fin 1)))) rfl ?_
    refine congrArg (V c main_v12) ?_
    funext a; refine Fin.ext ?_
    fin_cases a <;> blk_simp [e1] <;> first | exact hn'.symm | rfl
  · refine Eq.trans (b := V c main_v14 ((win0_2.blk t).view.emb (ix2 (y 0 : Fin 128) (0 : Fin 1)))) rfl ?_
    refine congrArg (V c main_v14) ?_
    funext a; refine Fin.ext ?_
    fin_cases a <;> blk_simp [e2] <;> first | exact hn'.symm | rfl
  · refine Eq.trans (b := V c main_v16 ((win0_3.blk t).view.emb (ix2 (y 0 : Fin 128) (0 : Fin 1)))) rfl ?_
    refine congrArg (V c main_v16) ?_
    funext a; refine Fin.ext ?_
    fin_cases a <;> blk_simp [e3] <;> first | exact hn'.symm | rfl
  · refine Eq.trans (b := V c main_v8 ((win0_4.blk t).view.emb (ix2 i k))) rfl ?_
    refine congrArg (V c main_v8) ?_
    funext a; refine Fin.ext ?_
    fin_cases a <;> blk_simp [e4] <;> first | exact hn'.symm | rfl
  · refine Eq.trans (b := V c main_v17 ((win0_5.blk t).view.emb (ix2 (0 : Fin 1) k))) rfl ?_
    refine congrArg (V c main_v17) ?_
    funext a; refine Fin.ext ?_
    fin_cases a <;> blk_simp [e5] <;> first | exact hn'.symm | rfl
  · refine Eq.trans (b := V c main_arg4 ((win0_6.blk t).view.emb (ix2 k i))) rfl ?_
    refine congrArg (V c main_arg4) ?_
    funext a; refine Fin.ext ?_
    fin_cases a <;> blk_simp [e6] <;> first | exact hn'.symm | rfl
  · refine Eq.trans (b := V c main_v18 ((win0_7.blk t).view.emb (ix2 (0 : Fin 1) k))) rfl ?_
    refine congrArg (V c main_v18) ?_
    funext a; refine Fin.ext ?_
    fin_cases a <;> blk_simp [e7] <;> first | exact hn'.symm | rfl
  · refine Eq.trans (b := V c main_v19 ((win0_8.blk t).view.emb (ix2 (0 : Fin 1) k))) rfl ?_
    refine congrArg (V c main_v19) ?_
    funext a; refine Fin.ext ?_
    fin_cases a <;> blk_simp [e8] <;> first | exact hn'.symm | rfl
  · refine Eq.trans (b := V c main_v20 ((win0_9.blk t).view.emb (ix2 (0 : Fin 1) k))) rfl ?_
    refine congrArg (V c main_v20) ?_
    funext a; refine Fin.ext ?_
    fin_cases a <;> blk_simp [e9] <;> first | exact hn'.symm | rfl

/-- What the second call's body leaves at a grid point. -/
theorem outs1 (x0 : Vec F S128x16x128 .i32) (x1 x2 x3 : Vec F S128x1 .f32) (x4 : Vec F S256x256 .bf16) (x5 : Vec F S1x256 .f32) (x6 : Vec F S256x256 .f32)
    (x7 x8 x9 : Vec F S1x256 .f32) : out1_10 x0 x1 x2 x3 x4 x5 x6 x7 x8 x9 = whole x0 x1 x2 x3 x4 x5 x6 x7 x8 x9 := by
  unfold out1_10
  frame_out
  rfl

/-- Where the second call's windows stand at a grid point. -/
theorem at1 : ∀ t : Fin grid1.N, win1_0.index t = ![(grid1.coords t 0).val, 0, 0]
    ∧ win1_1.index t = ![(grid1.coords t 0).val, 0]
    ∧ win1_2.index t = ![(grid1.coords t 0).val, 0]
    ∧ win1_3.index t = ![(grid1.coords t 0).val, 0]
    ∧ win1_4.index t = ![0, 0]
    ∧ win1_5.index t = ![0, 0]
    ∧ win1_6.index t = ![0, 0]
    ∧ win1_7.index t = ![0, 0]
    ∧ win1_8.index t = ![0, 0]
    ∧ win1_9.index t = ![0, 0]
    ∧ win1_10.index t = ![(grid1.coords t 0).val, 0] := by decide +kernel

/-- The second call's result. -/
theorem arr1 (V : (c : Dev nD) → (b : Ref sig .tc) → Buf (Elt Ideal) ((c : Thread nD τ).loc b)) (c : Dev nD) :
    (dat1 V c).arrAt 10 cfg1.N = made (V c main_v23) (V c main_v25) (V c main_v27) (V c main_v29) (V c main_v8) (V c main_v30) (V c main_arg4) (V c main_v31) (V c main_v32) (V c main_v33) := by
  refine (dat1 V c).arrAt_eq_of_covers 10 _ (by decide +kernel) fun t hf y => ?_
  obtain ⟨e0, e1, e2, e3, e4, e5, e6, e7, e8, e9, e10⟩ := at1 t
  rw [after1_10, outs1]
  blk_simp [e10]
  have hy : y = ix2 (y 0 : Fin 128) (y 1 : Fin 256) := by
    funext a; fin_cases a <;> rfl
  refine (congrArg (whole (F := Ideal) _ _ _ _ _ _ _ _ _ _) hy).trans ?_
  obtain ⟨n, hn, hn'⟩ : ∃ n : Fin 4096, ((win1_10.blk t).view.emb y 0 : Fin 4096) = n ∧ n.val = (grid1.coords t 0).val * 128 + (y 0).val :=
    ⟨_, rfl, by blk_simp [e10]⟩
  have hz : (win1_10.blk t).view.emb y = ix2 n (y 1 : Fin 256) := by
    funext a; refine Fin.ext ?_
    fin_cases a <;> blk_simp [e10] <;> first | exact hn'.symm | rfl
  refine Eq.trans ?_ (congrArg (made _ _ _ _ _ _ _ _ _ _) hz.symm)
  refine body_at _ _ _ _ _ _ _ _ _ _ _ _ _ _ _ _ _ _ _ _ _ _ _ (fun k i => ?_) ?_ ?_ ?_ (fun i k => ?_) (fun k => ?_) (fun k i => ?_) (fun k => ?_) (fun k => ?_) (fun k => ?_)
  · refine Eq.trans (b := V c main_v23 ((win1_0.blk t).view.emb (ix3 (y 0 : Fin 128) k i))) rfl ?_
    refine congrArg (V c main_v23) ?_
    funext a; refine Fin.ext ?_
    fin_cases a <;> blk_simp [e0] <;> first | exact hn'.symm | rfl
  · refine Eq.trans (b := V c main_v25 ((win1_1.blk t).view.emb (ix2 (y 0 : Fin 128) (0 : Fin 1)))) rfl ?_
    refine congrArg (V c main_v25) ?_
    funext a; refine Fin.ext ?_
    fin_cases a <;> blk_simp [e1] <;> first | exact hn'.symm | rfl
  · refine Eq.trans (b := V c main_v27 ((win1_2.blk t).view.emb (ix2 (y 0 : Fin 128) (0 : Fin 1)))) rfl ?_
    refine congrArg (V c main_v27) ?_
    funext a; refine Fin.ext ?_
    fin_cases a <;> blk_simp [e2] <;> first | exact hn'.symm | rfl
  · refine Eq.trans (b := V c main_v29 ((win1_3.blk t).view.emb (ix2 (y 0 : Fin 128) (0 : Fin 1)))) rfl ?_
    refine congrArg (V c main_v29) ?_
    funext a; refine Fin.ext ?_
    fin_cases a <;> blk_simp [e3] <;> first | exact hn'.symm | rfl
  · refine Eq.trans (b := V c main_v8 ((win1_4.blk t).view.emb (ix2 i k))) rfl ?_
    refine congrArg (V c main_v8) ?_
    funext a; refine Fin.ext ?_
    fin_cases a <;> blk_simp [e4] <;> first | exact hn'.symm | rfl
  · refine Eq.trans (b := V c main_v30 ((win1_5.blk t).view.emb (ix2 (0 : Fin 1) k))) rfl ?_
    refine congrArg (V c main_v30) ?_
    funext a; refine Fin.ext ?_
    fin_cases a <;> blk_simp [e5] <;> first | exact hn'.symm | rfl
  · refine Eq.trans (b := V c main_arg4 ((win1_6.blk t).view.emb (ix2 k i))) rfl ?_
    refine congrArg (V c main_arg4) ?_
    funext a; refine Fin.ext ?_
    fin_cases a <;> blk_simp [e6] <;> first | exact hn'.symm | rfl
  · refine Eq.trans (b := V c main_v31 ((win1_7.blk t).view.emb (ix2 (0 : Fin 1) k))) rfl ?_
    refine congrArg (V c main_v31) ?_
    funext a; refine Fin.ext ?_
    fin_cases a <;> blk_simp [e7] <;> first | exact hn'.symm | rfl
  · refine Eq.trans (b := V c main_v32 ((win1_8.blk t).view.emb (ix2 (0 : Fin 1) k))) rfl ?_
    refine congrArg (V c main_v32) ?_
    funext a; refine Fin.ext ?_
    fin_cases a <;> blk_simp [e8] <;> first | exact hn'.symm | rfl
  · refine Eq.trans (b := V c main_v33 ((win1_9.blk t).view.emb (ix2 (0 : Fin 1) k))) rfl ?_
    refine congrArg (V c main_v33) ?_
    funext a; refine Fin.ext ?_
    fin_cases a <;> blk_simp [e9] <;> first | exact hn'.symm | rfl

end Cert.Proof.Mix

end
-- ==== Proof.DenseRun.lean ====
/-
  The two-layer program's run: what its result holds, from what its arguments hold.
-/
module

public import proofs.«01_k».proof.Proof.DenseValue
public import Idealize.ShloMosaic.Lib.Tactic
public import Idealize.ShloMosaic.Lib.Pointwise

@[expose] public section

noncomputable section

namespace Cert.Proof.Mix

open Cert.Dense Cert.Dense.Gen Cert.Proof.Layers
open Idealize.ShloMosaic Idealize.ShloMosaic.TcCoe Idealize.ShloMosaic.StableHlo Idealize.ShloMosaic.Tactic
open Idealize.SL Idealize.SL.RA Idealize.SL.BI
open Idealize.ShloMosaic.Rounds
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

/-! ## The launch -/

variable (m : (ℓ : Loc nD τ sig) → Buf (Elt F) ℓ) (ρ : Dev nD → PrngReg)

set_option backward.isDefEq.respectTransparency.types false in
/-- Every run ends with the result's buffer as the last stretch leaves it, and the arguments as launched. -/
theorem run : θ_run defs (onTc (τ := τ) (main (F := F))) ⟨m, fun _ => 0, ρ⟩ (fun r => ∀ c : Dev nD,
      r.2.mem ((c.tc : Thread nD τ).loc main_v36) = W5 m ρ c (Proc.devRef .tc main_v36)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m ρ c b)
    (hfin := fun c s' => by
      iintro ⟨⟨Hh, -⟩, HSI⟩
      unfold StableHlo.held
      imodintro
      iapply (pointsTo_read_all (Pipeline.ucRefs τ sig) (fun b => (((c : Thread nD τ)).1, b)) (W5 m ρ c) s')
      isplitl [Hh] <;> iassumption)
    (hQ := fun s h hz c =>
      ⟨h c _ (mem_uc main_v36 (by decide)),
       (h c _ (mem_uc main_arg0 (by decide))).trans (W5_main_arg0 m ρ c),
       (h c _ (mem_uc main_arg1 (by decide))).trans (W5_main_arg1 m ρ c),
       (h c _ (mem_uc main_arg2 (by decide))).trans (W5_main_arg2 m ρ c),
       (h c _ (mem_uc main_arg3 (by decide))).trans (W5_main_arg3 m ρ c),
       (h c _ (mem_uc main_arg4 (by decide))).trans (W5_main_arg4 m ρ c),
       (h c _ (mem_uc main_arg5 (by decide))).trans (W5_main_arg5 m ρ c),
       (h c _ (mem_uc main_arg6 (by decide))).trans (W5_main_arg6 m ρ c),
       (h c _ (mem_uc main_arg7 (by decide))).trans (W5_main_arg7 m ρ c)⟩)

/-! ## The stretches before, between and after the calls -/

/-- The rows of half the clouds, one after the other. -/
theorem rows_at (R : S8x1024x16x128.Idx → BitVec 32) (o : ℕ) (h : S8x1024x16x128.Slices ![o, 0, 0, 0] S4x1024x16x128) (n : Fin 4096)
    (b : Fin 8) (s : Fin 1024) (hb : n.val + o * 1024 = b.val * 1024 + s.val) (k : Fin 16) (i : Fin 128) :
    shapeCast S4096x16x128 (extractStridedSlice S4x1024x16x128 ![o, 0, 0, 0] R h) shapeCasts_S4x1024x16x128_S4096x16x128 (ix3 n k i)
      = R (ix4 b s k i) := by
  have hs : s.val < 1024 := s.isLt
  have hn : n.val < 4096 := n.isLt
  refine (shapeCast_apply _ _ _ (ix4 (⟨n.val / 1024, by omega⟩ : Fin 4) (⟨n.val % 1024, by omega⟩ : Fin 1024) k i) ?_).trans ?_
  · rw [rowMajor_val4 _ (1024 * (16 * 128)) (16 * 128) 128 rfl rfl rfl, rowMajor_val3 _ (16 * 128) 128 rfl rfl]
    show n.val / 1024 * (1024 * (16 * 128)) + n.val % 1024 * (16 * 128) + k.val * 128 + i.val = n.val * (16 * 128) + k.val * 128 + i.val
    omega
  · refine congrArg R ?_
    funext a; fin_cases a
    · exact Fin.ext (show o + n.val / 1024 = b.val by omega)
    · exact Fin.ext (show 0 + n.val % 1024 = s.val by omega)
    · exact Fin.ext (Nat.zero_add _)
    · exact Fin.ext (Nat.zero_add _)

/-- One coordinate of half the centres, one after the other. -/
theorem column_at (Q : S8x1024x3.Idx → EReal) (k : Fin 3) (h : S8x1024x3.Slices ![0, 0, k.val] S8x1024x1) (o : ℕ) (h' : S8x1024.Slices ![o, 0] S4x1024)
    (n : Fin 4096) (b : Fin 8) (s : Fin 1024) (hb : n.val + o * 1024 = b.val * 1024 + s.val) :
    shapeCast S4096x1 (extractStridedSlice S4x1024 ![o, 0]
      (shapeCast S8x1024 (extractStridedSlice S8x1024x1 ![0, 0, k.val] Q h) shapeCasts_S8x1024x1_S8x1024) h') shapeCasts_S4x1024_S4096x1 (ix2 n 0)
      = Q (ix3 b s k) := by
  have hs : s.val < 1024 := s.isLt
  have hn : n.val < 4096 := n.isLt
  refine (shapeCast_apply _ _ _ (ix2 (⟨n.val / 1024, by omega⟩ : Fin 4) (⟨n.val % 1024, by omega⟩ : Fin 1024)) ?_).trans ?_
  · rw [rowMajor_val2 _ 1024 rfl, rowMajor_val2 _ 1 rfl]
    show n.val / 1024 * 1024 + n.val % 1024 = n.val * 1 + 0
    omega
  refine Eq.trans (b := shapeCast S8x1024 (extractStridedSlice S8x1024x1 ![0, 0, k.val] Q h) shapeCasts_S8x1024x1_S8x1024 (ix2 b s)) ?_ ?_
  · refine congrArg (shapeCast S8x1024 (extractStridedSlice S8x1024x1 ![0, 0, k.val] Q h) shapeCasts_S8x1024x1_S8x1024) ?_
    funext a; fin_cases a
    · exact Fin.ext (show o + n.val / 1024 = b.val by omega)
    · exact Fin.ext (show 0 + n.val % 1024 = s.val by omega)
  refine (shapeCast_apply _ _ _ (ix3 b s (0 : Fin 1)) ?_).trans ?_
  · rw [rowMajor_val3 _ (1024 * 1) 1 rfl rfl, rowMajor_val2 _ 1024 rfl]
    show b.val * (1024 * 1) + s.val * 1 + 0 = b.val * 1024 + s.val
    omega
  · refine congrArg Q ?_
    funext a; fin_cases a
    · exact Fin.ext (Nat.zero_add _)
    · exact Fin.ext (Nat.zero_add _)
    · exact Fin.ext (Nat.add_zero _)

/-- The weights with the zeros below them. -/
theorem padded_at (w : S131x256.Idx → EReal) (i c : Fin 256) :
    truncf (F := Ideal) .bf16 (concatenate S256x256 0 [⟨S131x256, w⟩, ⟨S125x256, broadcastInDim S125x256 ![] bcast_S_S125x256 (constant (F := Ideal) S_ .f32 0x00000000#32)⟩]
      concatenates_S131x256_S125x256_S256x256_d0) bitsLt_bf16_f32 (ix2 i c) = padded (fun i c => w (ix2 i c)) i c := by
  pointwise []
  rfl

/-- A row of 256 as a one-row array. -/
theorem bias_at (x : S256.Idx → EReal) (c : Fin 256) : broadcastInDim S1x256 ![1] bcast_S256_S1x256_1 x (ix2 0 c) = x (ix1 c) := by
  pointwise []

/-- The layers' results for every centre. -/
def table (R : S8x1024x16x128.Idx → BitVec 32) (Q : S8x1024x3.Idx → EReal) (w1 : S131x256.Idx → EReal) (b1 : S256.Idx → EReal)
    (w2 : S256x256.Idx → EReal) (b2 g t : S256.Idx → EReal) : S8x1024x256.Idx → EReal := fun j =>
  layers (fun k i => R (ix4 (j 0 : Fin 8) (j 1 : Fin 1024) k i)) (Q (ix3 (j 0 : Fin 8) (j 1 : Fin 1024) 0)) (Q (ix3 (j 0 : Fin 8) (j 1 : Fin 1024) 1))
    (Q (ix3 (j 0 : Fin 8) (j 1 : Fin 1024) 2)) (fun i c => padded (fun i c => w1 (ix2 i c)) ⟨i.val, by omega⟩ c)
    (fun i c => padded (fun i c => w1 (ix2 i c)) ⟨128 + i.val, by omega⟩ c) (fun c => b1 (ix1 c)) (fun c o => w2 (ix2 c o)) (fun o => b2 (ix1 o))
    (fun o => g (ix1 o)) (fun o => t (ix1 o)) (j 2 : Fin 256)

/-- A call's results are those of its centres, from where its arrays' entries come. -/
theorem made_eq (R : S8x1024x16x128.Idx → BitVec 32) (Q : S8x1024x3.Idx → EReal) (w1 : S131x256.Idx → EReal) (b1 : S256.Idx → EReal)
    (w2 : S256x256.Idx → EReal) (b2 g t : S256.Idx → EReal)
    (X0 : S4096x16x128.Idx → BitVec 32) (X1 X2 X3 : S4096x1.Idx → EReal) (X4 : S256x256.Idx → EReal) (X5 : S1x256.Idx → EReal)
    (X6 : S256x256.Idx → EReal) (X7 X8 X9 : S1x256.Idx → EReal) (n : Fin 4096) (b : Fin 8) (s : Fin 1024) (o : Fin 256)
    (h0 : ∀ k i, X0 (ix3 n k i) = R (ix4 b s k i)) (h1 : X1 (ix2 n 0) = Q (ix3 b s 0)) (h2 : X2 (ix2 n 0) = Q (ix3 b s 1))
    (h3 : X3 (ix2 n 0) = Q (ix3 b s 2)) (h4 : ∀ i c, X4 (ix2 i c) = padded (fun i c => w1 (ix2 i c)) i c) (h5 : ∀ c, X5 (ix2 0 c) = b1 (ix1 c))
    (h6 : X6 = w2) (h7 : ∀ c, X7 (ix2 0 c) = b2 (ix1 c)) (h8 : ∀ c, X8 (ix2 0 c) = g (ix1 c)) (h9 : ∀ c, X9 (ix2 0 c) = t (ix1 c)) :
    made X0 X1 X2 X3 X4 X5 X6 X7 X8 X9 (ix2 n o) = table R Q w1 b1 w2 b2 g t (ix3 b s o) := by
  subst h6
  show layers (fun k i => X0 (ix3 n k i)) (X1 (ix2 n 0)) (X2 (ix2 n 0)) (X3 (ix2 n 0))
    (fun i c => X4 (ix2 ⟨i.val, by omega⟩ c)) (fun i c => X4 (ix2 ⟨128 + i.val, by omega⟩ c)) (fun c => X5 (ix2 0 c)) (fun c o => X6 (ix2 c o))
    (fun o => X7 (ix2 0 o)) (fun o => X8 (ix2 0 o)) (fun o => X9 (ix2 0 o)) o = _
  simp only [h0, h1, h2, h3, h4, h5, h7, h8, h9]
  rfl

/-- The two calls' results one after the other, as clouds and centres. -/
theorem joined (A B : S4096x256.Idx → EReal) (b : Fin 8) (s : Fin 1024) (o : Fin 256) :
    shapeCast S8x1024x256 (concatenate S8192x256 0 [⟨S4096x256, A⟩, ⟨S4096x256, B⟩] concatenates_S4096x256_S4096x256_S8192x256_d0)
      shapeCasts_S8192x256_S8x1024x256 (ix3 b s o)
      = if h : b.val * 1024 + s.val < 4096 then A (ix2 ⟨b.val * 1024 + s.val, h⟩ o) else B (ix2 ⟨b.val * 1024 + s.val - 4096, by omega⟩ o) := by
  refine (shapeCast_apply _ _ _ (ix2 (⟨b.val * 1024 + s.val, by omega⟩ : Fin 8192) o) ?_).trans ?_
  · rw [rowMajor_val3 _ (1024 * 256) 256 rfl rfl, rowMajor_val2 _ 256 rfl]
    show (b.val * 1024 + s.val) * 256 + o.val = b.val * (1024 * 256) + s.val * 256 + o.val
    omega
  · pointwise []

/-- What the stretch before the calls leaves in `main_v10`. -/
theorem before_v10 (W : Valuation τ sig (Elt Ideal)) : after (hostOps0 (F := Ideal)) W (Proc.devRef .tc main_v10) = shapeCast S4096x16x128 (extractStridedSlice S4x1024x16x128 ![0, 0, 0, 0] (W (Proc.devRef .tc main_arg0)) slices_S8x1024x16x128_S4x1024x16x128_0_0_0_0) shapeCasts_S4x1024x16x128_S4096x16x128 := by
  after_results <;> rfl

/-- What the stretch before the calls leaves in `main_v1`. -/
theorem before_v1 (W : Valuation τ sig (Elt Ideal)) : after (hostOps0 (F := Ideal)) W (Proc.devRef .tc main_v1) = shapeCast S8x1024 (extractStridedSlice S8x1024x1 ![0, 0, 0] (W (Proc.devRef .tc main_arg1)) slices_S8x1024x3_S8x1024x1_0_0_0) shapeCasts_S8x1024x1_S8x1024 := by
  after_results <;> rfl

/-- What the stretch before the calls leaves in `main_v3`. -/
theorem before_v3 (W : Valuation τ sig (Elt Ideal)) : after (hostOps0 (F := Ideal)) W (Proc.devRef .tc main_v3) = shapeCast S8x1024 (extractStridedSlice S8x1024x1 ![0, 0, 1] (W (Proc.devRef .tc main_arg1)) slices_S8x1024x3_S8x1024x1_0_0_1) shapeCasts_S8x1024x1_S8x1024 := by
  after_results <;> rfl

/-- What the stretch before the calls leaves in `main_v5`. -/
theorem before_v5 (W : Valuation τ sig (Elt Ideal)) : after (hostOps0 (F := Ideal)) W (Proc.devRef .tc main_v5) = shapeCast S8x1024 (extractStridedSlice S8x1024x1 ![0, 0, 2] (W (Proc.devRef .tc main_arg1)) slices_S8x1024x3_S8x1024x1_0_0_2) shapeCasts_S8x1024x1_S8x1024 := by
  after_results <;> rfl

/-- What the stretch before the calls leaves in `main_v12`. -/
theorem before_v12 (W : Valuation τ sig (Elt Ideal)) : after (hostOps0 (F := Ideal)) W (Proc.devRef .tc main_v12) = shapeCast S4096x1 (extractStridedSlice S4x1024 ![0, 0] (shapeCast S8x1024 (extractStridedSlice S8x1024x1 ![0, 0, 0] (W (Proc.devRef .tc main_arg1)) slices_S8x1024x3_S8x1024x1_0_0_0) shapeCasts_S8x1024x1_S8x1024) slices_S8x1024_S4x1024_0_0) shapeCasts_S4x1024_S4096x1 := by
  after_results <;> rfl

/-- What the stretch before the calls leaves in `main_v14`. -/
theorem before_v14 (W : Valuation τ sig (Elt Ideal)) : after (hostOps0 (F := Ideal)) W (Proc.devRef .tc main_v14) = shapeCast S4096x1 (extractStridedSlice S4x1024 ![0, 0] (shapeCast S8x1024 (extractStridedSlice S8x1024x1 ![0, 0, 1] (W (Proc.devRef .tc main_arg1)) slices_S8x1024x3_S8x1024x1_0_0_1) shapeCasts_S8x1024x1_S8x1024) slices_S8x1024_S4x1024_0_0) shapeCasts_S4x1024_S4096x1 := by
  after_results <;> rfl

/-- What the stretch before the calls leaves in `main_v16`. -/
theorem before_v16 (W : Valuation τ sig (Elt Ideal)) : after (hostOps0 (F := Ideal)) W (Proc.devRef .tc main_v16) = shapeCast S4096x1 (extractStridedSlice S4x1024 ![0, 0] (shapeCast S8x1024 (extractStridedSlice S8x1024x1 ![0, 0, 2] (W (Proc.devRef .tc main_arg1)) slices_S8x1024x3_S8x1024x1_0_0_2) shapeCasts_S8x1024x1_S8x1024) slices_S8x1024_S4x1024_0_0) shapeCasts_S4x1024_S4096x1 := by
  after_results <;> rfl

/-- What the stretch before the calls leaves in `main_v8`. -/
theorem before_v8 (W : Valuation τ sig (Elt Ideal)) : after (hostOps0 (F := Ideal)) W (Proc.devRef .tc main_v8) = truncf (F := Ideal) .bf16 (concatenate S256x256 0 [⟨S131x256, W (Proc.devRef .tc main_arg2)⟩, ⟨S125x256, broadcastInDim S125x256 ![] bcast_S_S125x256 (constant (F := Ideal) S_ .f32 0x00000000#32)⟩] concatenates_S131x256_S125x256_S256x256_d0) bitsLt_bf16_f32 := by
  after_results <;> rfl

/-- What the stretch before the calls leaves in `main_v17`. -/
theorem before_v17 (W : Valuation τ sig (Elt Ideal)) : after (hostOps0 (F := Ideal)) W (Proc.devRef .tc main_v17) = broadcastInDim S1x256 ![1] bcast_S256_S1x256_1 (W (Proc.devRef .tc main_arg3)) := by
  after_results <;> rfl

/-- What the stretch before the calls leaves in `main_v18`. -/
theorem before_v18 (W : Valuation τ sig (Elt Ideal)) : after (hostOps0 (F := Ideal)) W (Proc.devRef .tc main_v18) = broadcastInDim S1x256 ![1] bcast_S256_S1x256_1 (W (Proc.devRef .tc main_arg5)) := by
  after_results <;> rfl

/-- What the stretch before the calls leaves in `main_v19`. -/
theorem before_v19 (W : Valuation τ sig (Elt Ideal)) : after (hostOps0 (F := Ideal)) W (Proc.devRef .tc main_v19) = broadcastInDim S1x256 ![1] bcast_S256_S1x256_1 (W (Proc.devRef .tc main_arg6)) := by
  after_results <;> rfl

/-- What the stretch before the calls leaves in `main_v20`. -/
theorem before_v20 (W : Valuation τ sig (Elt Ideal)) : after (hostOps0 (F := Ideal)) W (Proc.devRef .tc main_v20) = broadcastInDim S1x256 ![1] bcast_S256_S1x256_1 (W (Proc.devRef .tc main_arg7)) := by
  after_results <;> rfl

/-- What the stretch between the calls leaves in `main_v23`. -/
theorem between_v23 (W : Valuation τ sig (Elt Ideal)) : after (hostOps1 (F := Ideal)) W (Proc.devRef .tc main_v23) = shapeCast S4096x16x128 (extractStridedSlice S4x1024x16x128 ![4, 0, 0, 0] (W (Proc.devRef .tc main_arg0)) slices_S8x1024x16x128_S4x1024x16x128_4_0_0_0) shapeCasts_S4x1024x16x128_S4096x16x128 := by
  after_results <;> rfl

/-- What the stretch between the calls leaves in `main_v25`. -/
theorem between_v25 (W : Valuation τ sig (Elt Ideal)) : after (hostOps1 (F := Ideal)) W (Proc.devRef .tc main_v25) = shapeCast S4096x1 (extractStridedSlice S4x1024 ![4, 0] (W (Proc.devRef .tc main_v1)) slices_S8x1024_S4x1024_4_0) shapeCasts_S4x1024_S4096x1 := by
  after_results <;> rfl

/-- What the stretch between the calls leaves in `main_v27`. -/
theorem between_v27 (W : Valuation τ sig (Elt Ideal)) : after (hostOps1 (F := Ideal)) W (Proc.devRef .tc main_v27) = shapeCast S4096x1 (extractStridedSlice S4x1024 ![4, 0] (W (Proc.devRef .tc main_v3)) slices_S8x1024_S4x1024_4_0) shapeCasts_S4x1024_S4096x1 := by
  after_results <;> rfl

/-- What the stretch between the calls leaves in `main_v29`. -/
theorem between_v29 (W : Valuation τ sig (Elt Ideal)) : after (hostOps1 (F := Ideal)) W (Proc.devRef .tc main_v29) = shapeCast S4096x1 (extractStridedSlice S4x1024 ![4, 0] (W (Proc.devRef .tc main_v5)) slices_S8x1024_S4x1024_4_0) shapeCasts_S4x1024_S4096x1 := by
  after_results <;> rfl

/-- What the stretch between the calls leaves in `main_v30`. -/
theorem between_v30 (W : Valuation τ sig (Elt Ideal)) : after (hostOps1 (F := Ideal)) W (Proc.devRef .tc main_v30) = broadcastInDim S1x256 ![1] bcast_S256_S1x256_1 (W (Proc.devRef .tc main_arg3)) := by
  after_results <;> rfl

/-- What the stretch between the calls leaves in `main_v31`. -/
theorem between_v31 (W : Valuation τ sig (Elt Ideal)) : after (hostOps1 (F := Ideal)) W (Proc.devRef .tc main_v31) = broadcastInDim S1x256 ![1] bcast_S256_S1x256_1 (W (Proc.devRef .tc main_arg5)) := by
  after_results <;> rfl

/-- What the stretch between the calls leaves in `main_v32`. -/
theorem between_v32 (W : Valuation τ sig (Elt Ideal)) : after (hostOps1 (F := Ideal)) W (Proc.devRef .tc main_v32) = broadcastInDim S1x256 ![1] bcast_S256_S1x256_1 (W (Proc.devRef .tc main_arg6)) := by
  after_results <;> rfl

/-- What the stretch between the calls leaves in `main_v33`. -/
theorem between_v33 (W : Valuation τ sig (Elt Ideal)) : after (hostOps1 (F := Ideal)) W (Proc.devRef .tc main_v33) = broadcastInDim S1x256 ![1] bcast_S256_S1x256_1 (W (Proc.devRef .tc main_arg7)) := by
  after_results <;> rfl

variable (m : (ℓ : Loc nD τ sig) → Buf (Elt Ideal) ℓ) (ρ : Dev nD → PrngReg) (c : Dev nD)

/-- The first call's results. -/
theorem half0 (b : Fin 8) (s : Fin 1024) (o : Fin 256) (h : b.val * 1024 + s.val < 4096) :
    W2 m ρ c (Proc.devRef .tc main_v21) (ix2 ⟨b.val * 1024 + s.val, h⟩ o)
      = table (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (ix3 b s o) := by
  have a : W2 m ρ c (Proc.devRef .tc main_v21) = _ := (W2_arr m ρ c 10).trans (arr0 (V1 m ρ) c)
  rw [a]
  have hn : (⟨b.val * 1024 + s.val, h⟩ : Fin 4096).val + 0 * 1024 = b.val * 1024 + s.val := by simp
  exact made_eq _ _ _ _ _ _ _ _ _ _ _ _ _ _ _ _ _ _ _ b s o
    (fun k i => (congrFun (before_v10 (W0 m ρ c)) _).trans (rows_at _ 0 _ _ b s hn k i))
    ((congrFun (before_v12 (W0 m ρ c)) _).trans (column_at _ 0 _ 0 _ _ b s hn))
    ((congrFun (before_v14 (W0 m ρ c)) _).trans (column_at _ 1 _ 0 _ _ b s hn))
    ((congrFun (before_v16 (W0 m ρ c)) _).trans (column_at _ 2 _ 0 _ _ b s hn))
    (fun i c' => (congrFun (before_v8 (W0 m ρ c)) _).trans (padded_at _ i c'))
    (fun c' => (congrFun (before_v17 (W0 m ρ c)) _).trans (bias_at _ c'))
    (W1_args m ρ c main_arg4 (by decide))
    (fun c' => (congrFun (before_v18 (W0 m ρ c)) _).trans (bias_at _ c'))
    (fun c' => (congrFun (before_v19 (W0 m ρ c)) _).trans (bias_at _ c'))
    (fun c' => (congrFun (before_v20 (W0 m ρ c)) _).trans (bias_at _ c'))

/-- The second call's results. -/
theorem half1 (b : Fin 8) (s : Fin 1024) (o : Fin 256) (h : ¬ b.val * 1024 + s.val < 4096) :
    W4 m ρ c (Proc.devRef .tc main_v34) (ix2 ⟨b.val * 1024 + s.val - 4096, by omega⟩ o)
      = table (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (ix3 b s o) := by
  have a : W4 m ρ c (Proc.devRef .tc main_v34) = _ := (W4_arr m ρ c 10).trans (arr1 (V3 m ρ) c)
  rw [a]
  have hn : (⟨b.val * 1024 + s.val - 4096, by omega⟩ : Fin 4096).val + 4 * 1024 = b.val * 1024 + s.val := by
    show b.val * 1024 + s.val - 4096 + 4 * 1024 = b.val * 1024 + s.val
    omega
  have q1 : W2 m ρ c (Proc.devRef .tc main_v1) = _ := (W2_of m ρ c main_v1 (by decide)).trans (before_v1 (W0 m ρ c))
  have q3 : W2 m ρ c (Proc.devRef .tc main_v3) = _ := (W2_of m ρ c main_v3 (by decide)).trans (before_v3 (W0 m ρ c))
  have q5 : W2 m ρ c (Proc.devRef .tc main_v5) = _ := (W2_of m ρ c main_v5 (by decide)).trans (before_v5 (W0 m ρ c))
  have w8 : W3 m ρ c (Proc.devRef .tc main_v8) = _ :=
    (W3_of m ρ c main_v8 (by decide)).trans ((W2_of m ρ c main_v8 (by decide)).trans (before_v8 (W0 m ρ c)))
  have z0 : W2 m ρ c (Proc.devRef .tc main_arg0) = _ := W2_args m ρ c main_arg0 (by decide)
  have z3 : W2 m ρ c (Proc.devRef .tc main_arg3) = _ := W2_args m ρ c main_arg3 (by decide)
  have z5 : W2 m ρ c (Proc.devRef .tc main_arg5) = _ := W2_args m ρ c main_arg5 (by decide)
  have z6 : W2 m ρ c (Proc.devRef .tc main_arg6) = _ := W2_args m ρ c main_arg6 (by decide)
  have z7 : W2 m ρ c (Proc.devRef .tc main_arg7) = _ := W2_args m ρ c main_arg7 (by decide)
  have r0 := between_v23 (W2 m ρ c)
  have r1 := between_v25 (W2 m ρ c)
  have r2 := between_v27 (W2 m ρ c)
  have r3 := between_v29 (W2 m ρ c)
  have r5 := between_v30 (W2 m ρ c)
  have r7 := between_v31 (W2 m ρ c)
  have r8 := between_v32 (W2 m ρ c)
  have r9 := between_v33 (W2 m ρ c)
  rw [z0] at r0
  rw [q1] at r1
  rw [q3] at r2
  rw [q5] at r3
  rw [z3] at r5
  rw [z5] at r7
  rw [z6] at r8
  rw [z7] at r9
  exact made_eq _ _ _ _ _ _ _ _ _ _ _ _ _ _ _ _ _ _ _ b s o
    (fun k i => (congrFun r0 _).trans (rows_at _ 4 _ _ b s hn k i))
    ((congrFun r1 _).trans (column_at _ 0 _ 4 _ _ b s hn))
    ((congrFun r2 _).trans (column_at _ 1 _ 4 _ _ b s hn))
    ((congrFun r3 _).trans (column_at _ 2 _ 4 _ _ b s hn))
    (fun i c' => (congrFun w8 _).trans (padded_at _ i c'))
    (fun c' => (congrFun r5 _).trans (bias_at _ c'))
    (W3_args m ρ c main_arg4 (by decide))
    (fun c' => (congrFun r7 _).trans (bias_at _ c'))
    (fun c' => (congrFun r8 _).trans (bias_at _ c'))
    (fun c' => (congrFun r9 _).trans (bias_at _ c'))

/-- The result's buffer holds the layers' results. -/
theorem result_eq : W5 m ρ c (Proc.devRef .tc main_v36)
    = table (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) := by
  have ht : W5 m ρ c (Proc.devRef .tc main_v36) = shapeCast S8x1024x256 (concatenate S8192x256 0 [⟨S4096x256, W4 m ρ c (Proc.devRef .tc main_v21)⟩,
      ⟨S4096x256, W4 m ρ c (Proc.devRef .tc main_v34)⟩] concatenates_S4096x256_S4096x256_S8192x256_d0) shapeCasts_S8192x256_S8x1024x256 := by
    show after (hostOps2 (F := Ideal)) (W4 m ρ c) (Proc.devRef .tc main_v36) = _
    after_results <;> rfl
  have hk : W4 m ρ c (Proc.devRef .tc main_v21) = W2 m ρ c (Proc.devRef .tc main_v21) :=
    (W4_of m ρ c main_v21 (by decide)).trans (W3_of m ρ c main_v21 (by decide))
  rw [ht, hk]
  funext j
  obtain ⟨b, s, o, rfl⟩ : ∃ (b : Fin 8) (s : Fin 1024) (o : Fin 256), j = ix3 b s o :=
    ⟨j 0, j 1, j 2, by funext a; fin_cases a <;> rfl⟩
  refine (joined _ _ b s o).trans ?_
  by_cases h : b.val * 1024 + s.val < 4096
  · rw [dif_pos h]
    exact half0 m ρ c b s o h
  · rw [dif_neg h]
    exact half1 m ρ c b s o h

end Cert.Proof.Mix

end
-- ==== Proof.DenseRef.lean ====
/-
  The two layers' reference read over the extended reals: under its condition, that the centres and the three weights' rows
  that meet them are finite, it has the values that the calls leave.
-/
module

public import proofs.«01_k».proof.Proof.Layers
public import proofs.«01_k».proof.Proof.Gen.DenseReferenceIdeal
public import proofs.«01_k».proof.Proof.Gen.DenseReferenceIdeal.Run
public import proofs.«01_k».proof.Proof.Gen.Pre_finite
public import Idealize.ShloMosaic.Lib.ReduceAll
public import Idealize.ShloMosaic.PureOps.Reduce
public import Idealize.ShloMosaic.Lib.Pointwise
public import Idealize.ShloMosaic.Lib.Tactic

@[expose] public section

set_option maxRecDepth 16384

noncomputable section

namespace Cert.Proof.MixRef

open Cert.DenseReferenceIdeal Cert.DenseReferenceIdeal.Gen Cert.Proof.Layers
open Idealize.ShloMosaic Idealize.ShloMosaic.TcCoe Idealize.ShloMosaic.StableHlo

/-! ## The reference's stages -/

/-- The neighbours' points, each word's halves apart. -/
def points (R : IVec S8x1024x16x128 32) : FVec Ideal S8x1024x16x256 .f32 :=
  concatenate S8x1024x16x256 3 [⟨S8x1024x16x128, (bitcastToFloat (F := Ideal) .f32 (Host.shli R (broadcastInDim S8x1024x16x128 ![] bcast_S_S8x1024x16x128 (constantI S_ 32 16#32))))⟩,
    ⟨S8x1024x16x128, (bitcastToFloat (F := Ideal) .f32 (andi R (broadcastInDim S8x1024x16x128 ![] bcast_S_S8x1024x16x128 (constantI S_ 32 4294901760#32))))⟩]
    concatenates_S8x1024x16x128_S8x1024x16x128_S8x1024x16x256_d3

/-- The neighbours' coordinates less their centre's, and their features. -/
def grouped (P : FVec Ideal S8x1024x16x256 .f32) (Q : FVec Ideal S8x1024x3 .f32) : FVec Ideal S8x1024x16x131 .f32 :=
  concatenate S8x1024x16x131 3 [⟨S8x1024x16x3, (subf (extractStridedSlice S8x1024x16x3 ![0, 0, 0, 0] P slices_S8x1024x16x256_S8x1024x16x3_0_0_0_0)
      (broadcastInDim S8x1024x16x3 ![0, 1, 2, 3] bcast_S8x1024x1x3_S8x1024x16x3_0_1_2_3 (broadcastInDim S8x1024x1x3 ![0, 1, 3] bcast_S8x1024x3_S8x1024x1x3_0_1_3 Q)))⟩,
    ⟨S8x1024x16x128, (extractStridedSlice S8x1024x16x128 ![0, 0, 0, 3] P slices_S8x1024x16x256_S8x1024x16x128_0_0_0_3)⟩]
    concatenates_S8x1024x16x3_S8x1024x16x128_S8x1024x16x131_d3

/-- The first layer. -/
def hidden (G : FVec Ideal S8x1024x16x131 .f32) (w1 : FVec Ideal S131x256 .f32) (b1 : FVec Ideal S256 .f32) : FVec Ideal S131072x256 .f32 :=
  maximumf (addf (Host.dotGeneral dot_S131072x131_S131x256_S131072x256_1_0_0_1_n_n none (shapeCast S131072x131 G shapeCasts_S8x1024x16x131_S131072x131) w1)
    (broadcastInDim S131072x256 ![0, 1] bcast_S1x256_S131072x256_0_1 (broadcastInDim S1x256 ![1] bcast_S256_S1x256_1 b1)))
    (broadcastInDim S131072x256 ![] bcast_S_S131072x256 (constant S_ .f32 0x00000000#32))

/-- The second layer, the greatest over each centre's neighbours. -/
def greatest (H : FVec Ideal S131072x256 .f32) (w2 : FVec Ideal S256x256 .f32) (b2 : FVec Ideal S256 .f32) : FVec Ideal S8x1024x256 .f32 :=
  Host.reduce FloatOps.maximumf (shapeCast S8x1024x16x256 (addf (Host.dotGeneral dot_S131072x256_S256x256_S131072x256_1_0_0_1_n_n none H w2)
    (broadcastInDim S131072x256 ![0, 1] bcast_S1x256_S131072x256_0_1 (broadcastInDim S1x256 ![1] bcast_S256_S1x256_1 b2))) shapeCasts_S131072x256_S8x1024x16x256)
    (constant S_ .f32 0xFF800000#32) reducesTo_S8x1024x16x256_S8x1024x256_d2 h_S_

/-- The mean. -/
def middle (M : FVec Ideal S8x1024x256 .f32) : FVec Ideal S8x1024x1 .f32 :=
  Host.divf (broadcastInDim S8x1024x1 ![0, 1] bcast_S8x1024_S8x1024x1_0_1 (Host.reduceAdd M (constant S_ .f32 0x00000000#32) reducesTo_S8x1024x256_S8x1024_d2 h_S_))
    (broadcastInDim S8x1024x1 ![] bcast_S_S8x1024x1 (constant S_ .f32 0x43800000#32))

/-- The distances from it. -/
def away (M : FVec Ideal S8x1024x256 .f32) : FVec Ideal S8x1024x256 .f32 :=
  subf M (broadcastInDim S8x1024x256 ![0, 1, 2] bcast_S8x1024x1_S8x1024x256_0_1_2 (middle M))

/-- The number of units, as the variance divides by it. -/
def units : FVec Ideal S_ .f32 := subf (constant S_ .f32 0x43800000#32) (sitofp .f32 (constantI S_ 32 0#32))

/-- The variance. -/
def variance (D : FVec Ideal S8x1024x256 .f32) : FVec Ideal S8x1024x1 .f32 :=
  select (broadcastInDim S8x1024x1 ![] bcast_S_S8x1024x1 (cmpf .ogt units (constant S_ .f32 0x00000000#32)))
    (Host.divf (broadcastInDim S8x1024x1 ![0, 1] bcast_S8x1024_S8x1024x1_0_1 (Host.reduceAdd (mulf D D) (constant S_ .f32 0x00000000#32) reducesTo_S8x1024x256_S8x1024_d2 h_S_))
      (broadcastInDim S8x1024x1 ![] bcast_S_S8x1024x1 units))
    (broadcastInDim S8x1024x1 ![] bcast_S_S8x1024x1 (id (constant S_ .f32 0x7FC00000#32)))

/-- The normalization. -/
def ending (D : FVec Ideal S8x1024x256 .f32) (V : FVec Ideal S8x1024x1 .f32) (g t : FVec Ideal S256 .f32) : FVec Ideal S8x1024x256 .f32 :=
  addf (mulf (Host.divf D (broadcastInDim S8x1024x256 ![0, 1, 2] bcast_S8x1024x1_S8x1024x256_0_1_2
      (Host.sqrt (addf V (broadcastInDim S8x1024x1 ![] bcast_S_S8x1024x1 (constant S_ .f32 0x3727C5AC#32))))))
      (broadcastInDim S8x1024x256 ![0, 1, 2] bcast_S1x1x256_S8x1024x256_0_1_2 (broadcastInDim S1x1x256 ![2] bcast_S256_S1x1x256_2 g)))
    (broadcastInDim S8x1024x256 ![0, 1, 2] bcast_S1x1x256_S8x1024x256_0_1_2 (broadcastInDim S1x1x256 ![2] bcast_S256_S1x1x256_2 t))

/-- The reference's result is that of its stages. -/
theorem result_stages (m : (ℓ : Loc nD τ sig) → Buf (Elt Ideal) ℓ) (c : Dev nD) : Value.res_main_v43 m c
    = ending (away (greatest (hidden (grouped (points (m ((c.tc : Thread nD τ).loc main_arg0))) (m ((c.tc : Thread nD τ).loc main_arg1)))
        (m ((c.tc : Thread nD τ).loc main_arg2)) (m ((c.tc : Thread nD τ).loc main_arg3))) (m ((c.tc : Thread nD τ).loc main_arg4)) (m ((c.tc : Thread nD τ).loc main_arg5))))
      (variance (away (greatest (hidden (grouped (points (m ((c.tc : Thread nD τ).loc main_arg0))) (m ((c.tc : Thread nD τ).loc main_arg1)))
        (m ((c.tc : Thread nD τ).loc main_arg2)) (m ((c.tc : Thread nD τ).loc main_arg3))) (m ((c.tc : Thread nD τ).loc main_arg4)) (m ((c.tc : Thread nD τ).loc main_arg5)))))
      (m ((c.tc : Thread nD τ).loc main_arg6)) (m ((c.tc : Thread nD τ).loc main_arg7)) := rfl

/-! ## The stages at an index -/

/-- A neighbour's numbers: the words' low halves, and then their high halves. -/
def halves (x : Fin 128 → BitVec 32) (i : ℕ) : EReal :=
  if h : i < 128 then lo (x ⟨i, h⟩) else if h' : i - 128 < 128 then hi (x ⟨i - 128, h'⟩) else 0

/-- The points at an index. -/
theorem points_at (R : IVec S8x1024x16x128 32) (b : Fin 8) (s : Fin 1024) (k : Fin 16) (i : Fin 256) :
    points R (ix4 b s k i) = halves (fun i => R (ix4 b s k i)) i.val := by
  pointwise [points]
  unfold halves
  by_cases h : i.val < 128
  · rw [dif_pos h, dif_pos h]
    rfl
  · rw [dif_neg h, dif_neg h, dif_pos (show i.val - 128 < 128 by omega)]
    rfl

/-- The group at an index. -/
theorem grouped_at (P : FVec Ideal S8x1024x16x256 .f32) (Q : FVec Ideal S8x1024x3 .f32) (b : Fin 8) (s : Fin 1024) (k : Fin 16) (i : Fin 131) :
    grouped P Q (ix4 b s k i) = if h : i.val < 3 then P (ix4 b s k ⟨i.val, by omega⟩) - Q (ix3 b s ⟨i.val, h⟩) else P (ix4 b s k ⟨i.val, by omega⟩) := by
  pointwise [grouped]
  by_cases h : i.val < 3
  · rw [dif_pos h, dif_pos h]
  · rw [dif_neg h, dif_neg h]
    exact congrArg (fun n : Fin 256 => P (ix4 b s k n)) (Fin.ext (show 3 + (i.val - 3) = i.val by omega))

/-- Where a centre's neighbour lies among all. -/
def flat (b : Fin 8) (s : Fin 1024) (k : Fin 16) : Fin 131072 := ⟨(b.val * 1024 + s.val) * 16 + k.val, by omega⟩

/-- The first layer at an index. -/
theorem hidden_at (G : FVec Ideal S8x1024x16x131 .f32) (w1 : FVec Ideal S131x256 .f32) (b1 : FVec Ideal S256 .f32) (b : Fin 8) (s : Fin 1024) (k : Fin 16) (c : Fin 256) :
    hidden G w1 b1 (ix2 (flat b s k) c) = max ((∑ i, G (ix4 b s k i) * w1 (ix2 i c)) + b1 (ix1 c)) 0 := by
  have h : ∀ i, shapeCast S131072x131 G shapeCasts_S8x1024x16x131_S131072x131 (ix2 (flat b s k) i) = G (ix4 b s k i) := fun i => by
    refine shapeCast_apply _ _ _ (ix4 b s k i) ?_
    rw [rowMajor_val4 _ (1024 * (16 * 131)) (16 * 131) 131 rfl rfl rfl, rowMajor_val2 _ 131 rfl]
    show b.val * (1024 * (16 * 131)) + s.val * (16 * 131) + k.val * 131 + i.val = ((b.val * 1024 + s.val) * 16 + k.val) * 131 + i.val
    omega
  unfold hidden
  generalize shapeCast S131072x131 G shapeCasts_S8x1024x16x131_S131072x131 = G' at h ⊢
  pointwise []
  simp only [h]

/-- The second layer at an index. -/
theorem greatest_at (H : FVec Ideal S131072x256 .f32) (w2 : FVec Ideal S256x256 .f32) (b2 : FVec Ideal S256 .f32) (b : Fin 8) (s : Fin 1024) (o : Fin 256) :
    greatest H w2 b2 (ix3 b s o) = second (fun k c => H (ix2 (flat b s k) c)) (fun c => w2 (ix2 c o)) (b2 (ix1 o)) := by
  have h : ∀ (Z : FVec Ideal S131072x256 .f32) (k : Fin 16), shapeCast S8x1024x16x256 Z shapeCasts_S131072x256_S8x1024x16x256 (ix4 b s k o) = Z (ix2 (flat b s k) o) := fun Z k => by
    refine shapeCast_apply _ _ _ (ix2 (flat b s k) o) ?_
    rw [rowMajor_val4 _ (1024 * (16 * 256)) (16 * 256) 256 rfl rfl rfl, rowMajor_val2 _ 256 rfl]
    show ((b.val * 1024 + s.val) * 16 + k.val) * 256 + o.val = b.val * (1024 * (16 * 256)) + s.val * (16 * 256) + k.val * 256 + o.val
    omega
  unfold greatest
  have hr : S8x1024x16x256.Reduces [2] S8x1024x256 := by decide
  rw [Host.reduce_eq_fold_single _ _ _ _ hr]
  refine Finset.fold_congr (op := max) (b := Ideal.ofBits .f32 0xFF800000#32) fun k _ => ?_
  refine Eq.trans (congrArg (shapeCast S8x1024x16x256 _ shapeCasts_S131072x256_S8x1024x16x256) (?_ : _ = ix4 b s (k : Fin 16) o)) ?_
  · funext a; fin_cases a <;> rfl
  refine (h _ _).trans ?_
  pointwise []

/-- The mean at an index. -/
theorem middle_at (M : FVec Ideal S8x1024x256 .f32) (b : Fin 8) (s : Fin 1024) : middle M (ix3 b s 0) = mean (fun o => M (ix3 b s o)) := by
  pointwise [middle]
  rfl

/-- A distance from it at an index. -/
theorem away_at (M : FVec Ideal S8x1024x256 .f32) (b : Fin 8) (s : Fin 1024) (o : Fin 256) : away M (ix3 b s o) = off (fun o => M (ix3 b s o)) o := by
  pointwise [away]
  rw [middle_at]
  rfl

/-- The number of units is 256. -/
theorem units_at (i : S_.Idx) : units i = Ideal.ofBits .f32 0x43800000#32 := by
  have h : (FloatOps.sitofp (F := Ideal) (φ := .f32) (0#32 : BitVec 32)) = (0 : EReal) := by
    show (((0#32 : BitVec 32).toInt : ℝ) : EReal) = 0
    simp
  refine (congrArg (fun e : EReal => Ideal.ofBits .f32 0x43800000#32 - e) h).trans ?_
  exact sub_zero _

/-- The variance at an index. -/
theorem variance_at (D : FVec Ideal S8x1024x256 .f32) (b : Fin 8) (s : Fin 1024) : variance D (ix3 b s 0) = mean (fun o => D (ix3 b s o) * D (ix3 b s o)) := by
  pointwise [variance]
  rw [units_at, if_pos (by rw [units_word]; exact_mod_cast (by norm_num : (0 : ℝ) < 256))]
  rfl

/-- The result at an index. -/
theorem ending_at (D : FVec Ideal S8x1024x256 .f32) (V : FVec Ideal S8x1024x1 .f32) (g t : FVec Ideal S256 .f32) (b : Fin 8) (s : Fin 1024) (o : Fin 256) :
    ending D V g t (ix3 b s o) = Ideal.div (D (ix3 b s o)) (Ideal.sqrt (V (ix3 b s 0) + Ideal.ofBits .f32 0x3727C5AC#32)) * g (ix1 o) + t (ix1 o) := by
  pointwise [ending]

/-! ## The condition -/

/-- A number whose size is below the infinite one is finite. -/
theorem real_of_lt (x : EReal) (h : FloatOps.cmpf (F := Ideal) (φ := .f32) .olt (FloatOps.hostAbsf (F := Ideal) (φ := .f32) x)
      (FloatOps.ofBits (F := Ideal) .f32 0x7F800000#32) = 1#1) : ∃ r : ℝ, x = r := by
  have hw : Ideal.ofBits .f32 0x7F800000#32 = (⊤ : EReal) := by simp [Ideal.ofBits, Ideal.ieee]
  have h' : max x (-x) < ⊤ := by
    rw [← hw]
    by_contra hn
    have h2 : BitVec.ofBool (decide (max x (-x) < Ideal.ofBits .f32 0x7F800000#32)) = 1#1 := h
    rw [decide_eq_false hn] at h2
    exact absurd h2 (by decide)
  induction x using EReal.rec with
  | bot => exact absurd h' (by simp)
  | top => exact absurd h' (by simp)
  | coe r => exact ⟨r, rfl⟩

/-- The condition says that the centres and the first three rows of weights are finite. -/
theorem within (R : IVec S8x1024x16x128 32) (Q : FVec Ideal S8x1024x3 .f32) (w1 : FVec Ideal S131x256 .f32) (b1 : FVec Ideal S256 .f32)
    (w2 : FVec Ideal S256x256 .f32) (b2 g t : FVec Ideal S256 .f32) (h : Cert.Pre_finite.fn (F := Ideal) R Q w1 b1 w2 b2 g t = fun _ => 1#1) :
    (∀ i, ∃ r : ℝ, Q i = (r : EReal)) ∧ ∀ (i : Fin 131) (c : Fin 256), i.val < 3 → ∃ r : ℝ, w1 (ix2 i c) = (r : EReal) := by
  have e := congrFun h (fun x => x.elim0)
  obtain ⟨h1, h2⟩ := IntOp.andi_eq_one.1 e
  refine ⟨fun i => real_of_lt _ (Host.reduce_andi_all _ _ _ _ _ h1 i), fun i c hi => real_of_lt _ ?_⟩
  refine Eq.trans ?_ (Host.reduce_andi_all _ _ _ _ _ h2 (ix2 (⟨i.val, hi⟩ : Fin 3) c))
  refine congrArg (fun e : EReal => FloatOps.cmpf (F := Ideal) (φ := .f32) .olt (FloatOps.hostAbsf (F := Ideal) (φ := .f32) e)
      (FloatOps.ofBits (F := Ideal) .f32 0x7F800000#32)) (congrArg w1 ?_)
  funext a; fin_cases a
  · exact Fin.ext (Nat.zero_add _).symm
  · exact Fin.ext (Nat.zero_add _).symm

/-! ## The whole -/

/-- The first layer as the calls take it is the first layer as the reference takes it. -/
theorem first_eq (x : Fin 128 → BitVec 32) (w : Fin 131 → Fin 256 → EReal) (c : Fin 256) (b : EReal) (q : Fin 3 → EReal)
    (hq : ∀ i, ∃ r : ℝ, q i = (r : EReal)) (hw : ∀ i : Fin 131, i.val < 3 → ∃ r : ℝ, w i c = (r : EReal)) :
    first x (fun i => padded w ⟨i.val, by omega⟩ c) (fun i => padded w ⟨128 + i.val, by omega⟩ c) b (q 0) (q 1) (q 2)
      = max ((∑ i : Fin 131, (if h : i.val < 3 then halves x i.val - q ⟨i.val, h⟩ else halves x i.val) * w i c) + b) 0 := by
  choose r hr using hq
  choose u hu using hw
  have e := sum_padded (halves x) (fun n => if h : n < 131 then w ⟨n, h⟩ c else 0)
  have f := first_sum (halves x) (fun n => if h : n < 131 then w ⟨n, h⟩ c else 0) b (fun n => if h : n < 3 then r ⟨n, h⟩ else 0)
    (fun n => if h : n < 3 then u ⟨n, by omega⟩ h else 0) (fun i hi => by rw [dif_pos (by omega : i < 131), dif_pos hi]; exact hu _ hi)
  have e1 : ∑ i : Fin 128, lo (x i) * padded w ⟨i.val, by omega⟩ c
      = ∑ i : Fin 128, halves x i.val * (if i.val < 131 then (if h : i.val < 131 then w ⟨i.val, h⟩ c else 0) else 0) :=
    Finset.sum_congr rfl fun i _ => by
      have hi : i.val < 131 := by omega
      rw [if_pos hi, halves, dif_pos i.isLt, padded, dif_pos hi]
  have e2 : ∑ i : Fin 128, hi (x i) * padded w ⟨128 + i.val, by omega⟩ c
      = ∑ i : Fin 128, halves x (128 + i.val) * (if 128 + i.val < 131 then (if h : 128 + i.val < 131 then w ⟨128 + i.val, h⟩ c else 0) else 0) :=
    Finset.sum_congr rfl fun i _ => by
      have hx : halves x (128 + i.val) = hi (x i) := by
        unfold halves
        rw [dif_neg (by omega), dif_pos (by omega : 128 + i.val - 128 < 128)]
        exact congrArg (fun n => hi (x n)) (Fin.ext (Nat.add_sub_cancel_left _ _))
      rw [hx]
      unfold padded
      by_cases hi : 128 + i.val < 131
      · rw [if_pos hi, dif_pos hi]
      · rw [if_neg hi, dif_neg hi]
  unfold first
  rw [e1, e2, e]
  refine congrArg (fun e : EReal => max e 0) ?_
  refine Eq.trans ?_ (f.trans ?_)
  · rw [hr 0, hr 1, hr 2]
    rfl
  · refine congrArg (fun e : EReal => e + b) (Finset.sum_congr rfl fun i _ => ?_)
    refine congrArg₂ (fun a b : EReal => a * b) ?_ (dif_pos i.isLt)
    by_cases h : i.val < 3
    · rw [if_pos h, dif_pos h, dif_pos h, hr]
    · rw [if_neg h, dif_neg h]

/-- Under the condition the reference has the layers' value at every centre and unit. -/
theorem reference_layers (R : IVec S8x1024x16x128 32) (Q : FVec Ideal S8x1024x3 .f32) (w1 : FVec Ideal S131x256 .f32) (b1 : FVec Ideal S256 .f32)
    (w2 : FVec Ideal S256x256 .f32) (b2 g t : FVec Ideal S256 .f32) (h : Cert.Pre_finite.fn (F := Ideal) R Q w1 b1 w2 b2 g t = fun _ => 1#1)
    (b : Fin 8) (s : Fin 1024) (o : Fin 256) :
    ending (away (greatest (hidden (grouped (points R) Q) w1 b1) w2 b2)) (variance (away (greatest (hidden (grouped (points R) Q) w1 b1) w2 b2))) g t (ix3 b s o)
      = layers (fun k i => R (ix4 b s k i)) (Q (ix3 b s 0)) (Q (ix3 b s 1)) (Q (ix3 b s 2)) (fun i c => padded (fun i c => w1 (ix2 i c)) ⟨i.val, by omega⟩ c)
        (fun i c => padded (fun i c => w1 (ix2 i c)) ⟨128 + i.val, by omega⟩ c) (fun c => b1 (ix1 c)) (fun c o => w2 (ix2 c o)) (fun o => b2 (ix1 o))
        (fun o => g (ix1 o)) (fun o => t (ix1 o)) o := by
  obtain ⟨hQ, hW⟩ := within R Q w1 b1 w2 b2 g t h
  have e1 : ∀ (k : Fin 16) (c : Fin 256), hidden (grouped (points R) Q) w1 b1 (ix2 (flat b s k) c)
      = first (fun i => R (ix4 b s k i)) (fun i => padded (fun i c => w1 (ix2 i c)) ⟨i.val, by omega⟩ c)
        (fun i => padded (fun i c => w1 (ix2 i c)) ⟨128 + i.val, by omega⟩ c) (b1 (ix1 c)) (Q (ix3 b s 0)) (Q (ix3 b s 1)) (Q (ix3 b s 2)) := fun k c => by
    refine (hidden_at _ _ _ b s k c).trans (Eq.trans ?_ (first_eq (fun i => R (ix4 b s k i)) (fun i c => w1 (ix2 i c)) c (b1 (ix1 c))
      (fun i => Q (ix3 b s i)) (fun i => hQ _) (fun i hi => hW i c hi)).symm)
    refine congrArg (fun e : EReal => max (e + b1 (ix1 c)) 0) (Finset.sum_congr rfl fun i _ => congrArg (fun e : EReal => e * w1 (ix2 i c)) ?_)
    rw [grouped_at]
    by_cases h : i.val < 3
    · rw [dif_pos h, dif_pos h]
      exact congrArg (fun e : EReal => e - _) (points_at R b s k _)
    · rw [dif_neg h, dif_neg h]
      exact points_at R b s k _
  have e2 : ∀ o, greatest (hidden (grouped (points R) Q) w1 b1) w2 b2 (ix3 b s o)
      = second (fun k c => first (fun i => R (ix4 b s k i)) (fun i => padded (fun i c => w1 (ix2 i c)) ⟨i.val, by omega⟩ c)
        (fun i => padded (fun i c => w1 (ix2 i c)) ⟨128 + i.val, by omega⟩ c) (b1 (ix1 c)) (Q (ix3 b s 0)) (Q (ix3 b s 1)) (Q (ix3 b s 2)))
        (fun c => w2 (ix2 c o)) (b2 (ix1 o)) := fun o =>
    (greatest_at _ _ _ b s o).trans (congrArg (fun h => second h _ _) (funext fun k => funext fun c => e1 k c))
  rw [ending_at, variance_at]
  simp only [away_at, e2]
  unfold layers normed
  refine congrArg (fun e : EReal => e * g (ix1 o) + t (ix1 o)) ?_
  exact div_sqrt _ _ (spread_pos _)

end Cert.Proof.MixRef

end
-- ==== Proof.DenseSame.lean ====
/-
  The two-layer call has two printings, one for words and one for the extended reals. Read at the extended reals they are
  the same programs, so what is proved of the first holds of the second.
-/
module

public import proofs.«01_k».proof.Proof.Gen.DenseIdeal
public import proofs.«01_k».proof.Proof.Layers
public import proofs.«01_k».proof.Proof.Gen.Dense.Skeleton

@[expose] public section

set_option maxRecDepth 4096
set_option maxHeartbeats 2000000

noncomputable section

namespace Cert.Proof.Mix

open Idealize.ShloMosaic Idealize.ShloMosaic.TcCoe Idealize.SL.Sem

/-- The first part of the body of call 0 is the same in both. -/
theorem part0_1 : Cert.DenseIdeal.k0_part1 (F := Ideal) = Cert.Dense.k0_part1 (F := Ideal) := by
  delta Cert.DenseIdeal.k0_part1 Cert.Dense.k0_part1
  rfl

/-- The second part of the body of call 0 is the same in both. -/
theorem part0_2 : Cert.DenseIdeal.k0_part2 (F := Ideal) = Cert.Dense.k0_part2 (F := Ideal) := by
  delta Cert.DenseIdeal.k0_part2 Cert.Dense.k0_part2
  rfl

/-- So the whole body of call 0 is. -/
theorem body0 : Cert.DenseIdeal.cc0__mlp_body (F := Ideal) = Cert.Dense.cc0__mlp_body (F := Ideal) := by
  funext i a1 h1 a2 h2 a3 h3 a4 h4 a5 h5 a6 h6 a7 h7 a8 h8 a9 h9 a10 h10 a11 h11
  delta Cert.DenseIdeal.cc0__mlp_body Cert.Dense.cc0__mlp_body
  have e : Cert.DenseIdeal.k0_part1 (F := Ideal) i a1 h1 a2 h2 a3 h3 a4 h4 a5 h5 a6 h6 a7 h7 a8 h8 a9 h9 a10 h10 a11 h11
      = Cert.Dense.k0_part1 (F := Ideal) i a1 h1 a2 h2 a3 h3 a4 h4 a5 h5 a6 h6 a7 h7 a8 h8 a9 h9 a10 h10 a11 h11 := by rw [part0_1]
  refine congrArg₂ Prog.bind e ?_
  funext v
  obtain ⟨v1, v2, v22, v41⟩ := v
  have e' : Cert.DenseIdeal.k0_part2 (F := Ideal) i a1 h1 a2 h2 a3 h3 a4 h4 a5 h5 a6 h6 a7 h7 a8 h8 a9 h9 a10 h10 a11 h11 v1 v2 v22 v41
      = Cert.Dense.k0_part2 (F := Ideal) i a1 h1 a2 h2 a3 h3 a4 h4 a5 h5 a6 h6 a7 h7 a8 h8 a9 h9 a10 h10 a11 h11 v1 v2 v22 v41 := by rw [part0_2]
  refine congrArg₂ Prog.bind e' ?_
  rfl

/-- The first part of the body of call 1 is the same in both. -/
theorem part1_1 : Cert.DenseIdeal.k1_part1 (F := Ideal) = Cert.Dense.k1_part1 (F := Ideal) := by
  delta Cert.DenseIdeal.k1_part1 Cert.Dense.k1_part1
  rfl

/-- The second part of the body of call 1 is the same in both. -/
theorem part1_2 : Cert.DenseIdeal.k1_part2 (F := Ideal) = Cert.Dense.k1_part2 (F := Ideal) := by
  delta Cert.DenseIdeal.k1_part2 Cert.Dense.k1_part2
  rfl

/-- So the whole body of call 1 is. -/
theorem body1 : Cert.DenseIdeal.cc1__mlp_body (F := Ideal) = Cert.Dense.cc1__mlp_body (F := Ideal) := by
  funext i a1 h1 a2 h2 a3 h3 a4 h4 a5 h5 a6 h6 a7 h7 a8 h8 a9 h9 a10 h10 a11 h11
  delta Cert.DenseIdeal.cc1__mlp_body Cert.Dense.cc1__mlp_body
  have e : Cert.DenseIdeal.k1_part1 (F := Ideal) i a1 h1 a2 h2 a3 h3 a4 h4 a5 h5 a6 h6 a7 h7 a8 h8 a9 h9 a10 h10 a11 h11
      = Cert.Dense.k1_part1 (F := Ideal) i a1 h1 a2 h2 a3 h3 a4 h4 a5 h5 a6 h6 a7 h7 a8 h8 a9 h9 a10 h10 a11 h11 := by rw [part1_1]
  refine congrArg₂ Prog.bind e ?_
  funext v
  obtain ⟨v1, v2, v22, v41⟩ := v
  have e' : Cert.DenseIdeal.k1_part2 (F := Ideal) i a1 h1 a2 h2 a3 h3 a4 h4 a5 h5 a6 h6 a7 h7 a8 h8 a9 h9 a10 h10 a11 h11 v1 v2 v22 v41
      = Cert.Dense.k1_part2 (F := Ideal) i a1 h1 a2 h2 a3 h3 a4 h4 a5 h5 a6 h6 a7 h7 a8 h8 a9 h9 a10 h10 a11 h11 v1 v2 v22 v41 := by rw [part1_2]
  refine congrArg₂ Prog.bind e' ?_
  rfl

/-- The two printings have one table of kernel bodies. -/
theorem same_bodies : Cert.DenseIdeal.defs₀ (F := Ideal) = Cert.Dense.defs₀ (F := Ideal) := by
  unfold Cert.DenseIdeal.defs₀ Cert.Dense.defs₀
  refine congrArg Defs.onTc ?_
  rw [body0, body1]
  funext l x
  obtain ⟨_ | _ | l, hl⟩ := l
  · obtain ⟨t, s⟩ := x
    rfl
  · obtain ⟨t, s⟩ := x
    rfl
  · omega

/-- So they have the same labels' bodies, pipelines included. -/
theorem same_labels : Cert.DenseIdeal.defs (F := Ideal) = Cert.Dense.defs (F := Ideal) := congrArg (Pipeline.defs _) same_bodies

end Cert.Proof.Mix

end
-- ==== Proof.lean ====
module

public import proofs.«01_k».proof.Defs
public import proofs.«01_k».proof.Proof.Ref
public import proofs.«01_k».proof.Proof.Gen.Reference
public import proofs.«01_k».proof.Proof.SampleRef
public import proofs.«01_k».proof.Proof.NearSame
public import proofs.«01_k».proof.Proof.DenseRun
public import proofs.«01_k».proof.Proof.DenseRef
public import proofs.«01_k».proof.Proof.DenseSame

@[expose] public section

noncomputable section

namespace Cert.Proof

open Idealize.ShloMosaic Idealize.ShloMosaic.TcCoe Idealize.SL.Sem Cert.Proof.Tile

/-- The reference runs, keeps its arguments, and has no semaphore. -/
theorem frame_ReferenceIdeal : Cert.quiescent_ReferenceIdeal := fun m ρ _ =>
  (θ_run _ _ _).mono (fun r h => ⟨fun c => (h c).2, sem_eq_zero_of_no_sems (by decide) r.2⟩) (Cert.ReferenceIdeal.Value.run (F := Ideal) m ρ)

/-- The reference runs on words too, keeps its arguments, and has no semaphore. -/
theorem frame_Reference : Cert.quiescent_Reference := fun m ρ _ =>
  (θ_run _ _ _).mono (fun r h => ⟨fun c => (h c).2, sem_eq_zero_of_no_sems (by decide) r.2⟩) (Cert.ReferenceIdeal.Value.run (F := Bits) m ρ)

/-- From the same arguments the kernel and the reference end with the same rows. -/
theorem same_rows : Cert.algebraic_KernelIdeal_ReferenceIdeal := by
  intro m ρ m' ρ' hp hagree
  refine ⟨fun c => rows (F := Ideal) (m ((c.tc : Thread Cert.Kernel.nD Cert.Kernel.τ).loc Cert.Kernel.main_arg0))
      (m ((c.tc : Thread Cert.Kernel.nD Cert.Kernel.τ).loc Cert.Kernel.main_arg1)),
    (θ_run _ _ _).mono (fun _ h c => h.1 c) (run_rows (F := Ideal) m ρ hp),
    (θ_run _ _ _).mono (fun r h c => ⟨(h c).1.trans ?_, (h c).2⟩) (Cert.ReferenceIdeal.Value.run (F := Ideal) m' ρ')⟩
  rw [(hagree c).1, (hagree c).2]
  exact reference_rows (F := Ideal) _ _ fun i => below (F := Ideal) _ _ (hp c) i

/-- The same of the programs on words: from the same arguments they end with the same rows, word for word. -/
theorem same_words : Cert.bitexact_Kernel_Reference := by
  intro m ρ m' ρ' hp hagree
  refine ⟨fun c => rows (F := Bits) (m ((c.tc : Thread Cert.Kernel.nD Cert.Kernel.τ).loc Cert.Kernel.main_arg0))
      (m ((c.tc : Thread Cert.Kernel.nD Cert.Kernel.τ).loc Cert.Kernel.main_arg1)),
    (θ_run _ _ _).mono (fun _ h c => h.1 c) (run_rows (F := Bits) m ρ hp),
    (θ_run _ _ _).mono (fun r h c => ⟨(h c).1.trans ?_, (h c).2⟩) (Cert.ReferenceIdeal.Value.run (F := Bits) m' ρ')⟩
  rw [(hagree c).1, (hagree c).2]
  exact reference_rows (F := Bits) _ _ fun i => below (F := Bits) _ _ (hp c) i

/-- The farthest-point call runs on words, keeps its argument, and leaves every counter at zero. -/
theorem frame_Sample : Cert.quiescent_Sample := fun m ρ _ => Far.frame_run (F := Bits) m ρ

/-- The two printings of the farthest-point call have one table of kernel bodies. -/
theorem same_table : Cert.SampleIdeal.defs₀ (F := Ideal) = Cert.Sample.defs₀ (F := Ideal) := by
  unfold Cert.SampleIdeal.defs₀ Cert.Sample.defs₀
  refine congrArg Defs.onTc ?_
  funext l x
  obtain ⟨_ | l, hl⟩ := l
  · obtain ⟨t, s⟩ := x
    rfl
  · omega

/-- So they have the same labels' bodies, pipelines included. -/
theorem same_defs : Cert.SampleIdeal.defs (F := Ideal) = Cert.Sample.defs (F := Ideal) := congrArg (Pipeline.defs _) same_table

/-- The farthest-point call's frame over the reals. -/
theorem frame_SampleIdeal : Cert.quiescent_SampleIdeal := fun m ρ _ =>
  Eq.mpr (congrArg (fun d => (θ_run d _ _) _) same_defs) (Far.frame_run (F := Ideal) m ρ)

/-- The sampling loop of the reference runs, keeps its argument, and has no semaphore. -/
theorem frame_SampleReferenceIdeal : Cert.quiescent_SampleReferenceIdeal := fun m ρ _ =>
  (θ_run _ _ _).mono (fun r h => ⟨fun c => (h c).2, sem_eq_zero_of_no_sems (by decide) r.2⟩) (FarRef.run (F := Ideal) m ρ)

/-- What the farthest-point call leaves: the points picked from the clouds it was given, which it keeps. -/
theorem run_picked (m : (ℓ : Loc Cert.Sample.nD Cert.Sample.τ Cert.Sample.sig) → Buf (Elt Ideal) ℓ) (ρ : Dev Cert.Sample.nD → PrngReg) :
    θ_run (Cert.Sample.defs (F := Ideal)) (onTc (τ := Cert.Sample.τ) (Cert.Sample.main (F := Ideal))) ⟨m, fun _ => 0, ρ⟩ fun r =>
      ∀ c : Dev Cert.Sample.nD,
        r.2.mem ((c.tc : Thread Cert.Sample.nD Cert.Sample.τ).loc Cert.Sample.main_v10)
            = Far.picked (m ((c.tc : Thread Cert.Sample.nD Cert.Sample.τ).loc Cert.Sample.main_arg0))
          ∧ r.2.mem ((c.tc : Thread Cert.Sample.nD Cert.Sample.τ).loc Cert.Sample.main_arg0)
            = m ((c.tc : Thread Cert.Sample.nD Cert.Sample.τ).loc Cert.Sample.main_arg0) :=
  (θ_run _ _ _).mono (fun r h c => ⟨((h.1 c).2 Cert.Sample.main_v10 (by decide)).trans (Far.result_eq m c),
    ((h.1 c).2 Cert.Sample.main_arg0 (by decide)).trans rfl⟩) (Far.run_main (F := Ideal) m ρ)

/-- From the same clouds the farthest-point call and its reference end with the same points. -/
theorem same_points : Cert.algebraic_SampleIdeal_SampleReferenceIdeal := by
  intro m ρ m' ρ' _ hagree
  refine ⟨fun c => Far.picked (m ((c.tc : Thread Cert.Sample.nD Cert.Sample.τ).loc Cert.Sample.main_arg0)),
    Eq.mpr (congrArg (fun d => (θ_run d _ _) _) same_defs) (run_picked m ρ),
    (θ_run _ _ _).mono (fun r h c => ⟨(h c).1.trans ?_, (h c).2⟩) (FarRef.run (F := Ideal) m' ρ')⟩
  rw [hagree c]
  exact FarRef.fetched_eq _

/-- The nearest-neighbour call runs on words, keeps its arguments, and leaves every counter at zero. -/
theorem frame_Near : Cert.quiescent_Near := fun m ρ _ => Cert.Near.Gen.frame (F := Bits) m ρ

/-- The nearest-neighbour call's frame over the reals. -/
theorem frame_NearIdeal : Cert.quiescent_NearIdeal := fun m ρ _ =>
  Eq.mpr (congrArg (fun d => (θ_run d _ _) _) Close.same_labels) (Cert.Near.Gen.frame (F := Ideal) m ρ)

/-- So within the bound too. -/
theorem frame_NearIdeal_bounded : Cert.quiescent_NearIdeal_pre_bounded := fun m ρ _ => frame_NearIdeal m ρ trivial

/-- The nearest-neighbour reference runs, keeps its arguments, and has no semaphore. -/
theorem frame_NearReferenceIdeal : Cert.quiescent_NearReferenceIdeal := fun m ρ _ =>
  (θ_run _ _ _).mono (fun r h => ⟨fun c => (h c).2, sem_eq_zero_of_no_sems (by decide) r.2⟩) (Cert.NearReferenceIdeal.Value.run (F := Ideal) m ρ)

/-- So within the bound too. -/
theorem frame_NearReferenceIdeal_bounded : Cert.quiescent_NearReferenceIdeal_pre_bounded := fun m ρ _ => frame_NearReferenceIdeal m ρ trivial

/-- What the nearest-neighbour call leaves: the rows of the nearest points, in order, of the arguments it was given, which it keeps. -/
theorem run_nearest (m : (ℓ : Loc Cert.Near.nD Cert.Near.τ Cert.Near.sig) → Buf (Elt Ideal) ℓ) (ρ : Dev Cert.Near.nD → PrngReg) :
    θ_run (Cert.Near.defs (F := Ideal)) (onTc (τ := Cert.Near.τ) (Cert.Near.main (F := Ideal))) ⟨m, fun _ => 0, ρ⟩ fun r =>
      ∀ c : Dev Cert.Near.nD,
        r.2.mem ((c.tc : Thread Cert.Near.nD Cert.Near.τ).loc Cert.Near.main_v20)
            = Close.rows (m ((c.tc : Thread Cert.Near.nD Cert.Near.τ).loc Cert.Near.main_arg0)) (m ((c.tc : Thread Cert.Near.nD Cert.Near.τ).loc Cert.Near.main_arg1))
          ∧ r.2.mem ((c.tc : Thread Cert.Near.nD Cert.Near.τ).loc Cert.Near.main_arg0) = m ((c.tc : Thread Cert.Near.nD Cert.Near.τ).loc Cert.Near.main_arg0)
          ∧ r.2.mem ((c.tc : Thread Cert.Near.nD Cert.Near.τ).loc Cert.Near.main_arg1) = m ((c.tc : Thread Cert.Near.nD Cert.Near.τ).loc Cert.Near.main_arg1) :=
  (θ_run _ _ _).mono (fun _ h c => ⟨(h c).1.trans (Close.result_eq m ρ c), (h c).2⟩) (Close.run (F := Ideal) m ρ)

/-- Within the bound, from the same clouds and chosen points the nearest-neighbour call and its reference end with the same rows. -/
theorem same_neighbours : Cert.algebraic_NearIdeal_NearReferenceIdeal_pre_bounded := by
  intro m ρ m' ρ' hp hagree
  refine ⟨fun c => Close.rows (m ((c.tc : Thread Cert.Near.nD Cert.Near.τ).loc Cert.Near.main_arg0)) (m ((c.tc : Thread Cert.Near.nD Cert.Near.τ).loc Cert.Near.main_arg1)),
    Eq.mpr (congrArg (fun d => (θ_run d _ _) _) Close.same_labels) (run_nearest m ρ),
    (θ_run _ _ _).mono (fun r h c => ⟨(h c).1.trans ?_, (h c).2⟩) (Cert.NearReferenceIdeal.Value.run (F := Ideal) m' ρ')⟩
  rw [(hagree c).1, (hagree c).2]
  exact CloseRef.reference_rows _ _ (hp c)

/-- The two-layer call runs on words, keeps its arguments, and leaves every counter at zero. -/
theorem frame_Dense : Cert.quiescent_Dense := fun m ρ _ => Cert.Dense.Gen.frame (F := Bits) m ρ

set_option maxHeartbeats 4000000 in
/-- The two-layer call's frame over the reals. -/
theorem frame_DenseIdeal : Cert.quiescent_DenseIdeal := fun m ρ _ =>
  Eq.mpr (congrArg (fun d => (θ_run d _ _) _) Mix.same_labels) (Cert.Dense.Gen.frame (F := Ideal) m ρ)

/-- So for finite centres and weights too. -/
theorem frame_DenseIdeal_finite : Cert.quiescent_DenseIdeal_pre_finite := fun m ρ _ => frame_DenseIdeal m ρ trivial

/-- The two layers' reference runs, keeps its arguments, and has no semaphore. -/
theorem frame_DenseReferenceIdeal : Cert.quiescent_DenseReferenceIdeal := fun m ρ _ =>
  (θ_run _ _ _).mono (fun r h => ⟨fun c => (h c).2, sem_eq_zero_of_no_sems (by decide) r.2⟩) (Cert.DenseReferenceIdeal.Value.run (F := Ideal) m ρ)

/-- So for finite centres and weights too. -/
theorem frame_DenseReferenceIdeal_finite : Cert.quiescent_DenseReferenceIdeal_pre_finite := fun m ρ _ => frame_DenseReferenceIdeal m ρ trivial

/-- What the two-layer call leaves: the layers' values of the arguments it was given, which it keeps. -/
theorem run_layers (m : (ℓ : Loc Cert.Dense.nD Cert.Dense.τ Cert.Dense.sig) → Buf (Elt Ideal) ℓ) (ρ : Dev Cert.Dense.nD → PrngReg) :
    θ_run (Cert.Dense.defs (F := Ideal)) (onTc (τ := Cert.Dense.τ) (Cert.Dense.main (F := Ideal))) ⟨m, fun _ => 0, ρ⟩ fun r =>
      ∀ c : Dev Cert.Dense.nD,
        r.2.mem ((c.tc : Thread Cert.Dense.nD Cert.Dense.τ).loc Cert.Dense.main_v36) = Mix.table (m ((c.tc : Thread Cert.Dense.nD Cert.Dense.τ).loc Cert.Dense.main_arg0)) (m ((c.tc : Thread Cert.Dense.nD Cert.Dense.τ).loc Cert.Dense.main_arg1))
        (m ((c.tc : Thread Cert.Dense.nD Cert.Dense.τ).loc Cert.Dense.main_arg2)) (m ((c.tc : Thread Cert.Dense.nD Cert.Dense.τ).loc Cert.Dense.main_arg3))
        (m ((c.tc : Thread Cert.Dense.nD Cert.Dense.τ).loc Cert.Dense.main_arg4)) (m ((c.tc : Thread Cert.Dense.nD Cert.Dense.τ).loc Cert.Dense.main_arg5))
        (m ((c.tc : Thread Cert.Dense.nD Cert.Dense.τ).loc Cert.Dense.main_arg6)) (m ((c.tc : Thread Cert.Dense.nD Cert.Dense.τ).loc Cert.Dense.main_arg7))
          ∧ r.2.mem ((c.tc : Thread Cert.Dense.nD Cert.Dense.τ).loc Cert.Dense.main_arg0) = m ((c.tc : Thread Cert.Dense.nD Cert.Dense.τ).loc Cert.Dense.main_arg0)
          ∧ r.2.mem ((c.tc : Thread Cert.Dense.nD Cert.Dense.τ).loc Cert.Dense.main_arg1) = m ((c.tc : Thread Cert.Dense.nD Cert.Dense.τ).loc Cert.Dense.main_arg1)
          ∧ r.2.mem ((c.tc : Thread Cert.Dense.nD Cert.Dense.τ).loc Cert.Dense.main_arg2) = m ((c.tc : Thread Cert.Dense.nD Cert.Dense.τ).loc Cert.Dense.main_arg2)
          ∧ r.2.mem ((c.tc : Thread Cert.Dense.nD Cert.Dense.τ).loc Cert.Dense.main_arg3) = m ((c.tc : Thread Cert.Dense.nD Cert.Dense.τ).loc Cert.Dense.main_arg3)
          ∧ r.2.mem ((c.tc : Thread Cert.Dense.nD Cert.Dense.τ).loc Cert.Dense.main_arg4) = m ((c.tc : Thread Cert.Dense.nD Cert.Dense.τ).loc Cert.Dense.main_arg4)
          ∧ r.2.mem ((c.tc : Thread Cert.Dense.nD Cert.Dense.τ).loc Cert.Dense.main_arg5) = m ((c.tc : Thread Cert.Dense.nD Cert.Dense.τ).loc Cert.Dense.main_arg5)
          ∧ r.2.mem ((c.tc : Thread Cert.Dense.nD Cert.Dense.τ).loc Cert.Dense.main_arg6) = m ((c.tc : Thread Cert.Dense.nD Cert.Dense.τ).loc Cert.Dense.main_arg6)
          ∧ r.2.mem ((c.tc : Thread Cert.Dense.nD Cert.Dense.τ).loc Cert.Dense.main_arg7) = m ((c.tc : Thread Cert.Dense.nD Cert.Dense.τ).loc Cert.Dense.main_arg7) :=
  (θ_run _ _ _).mono (fun _ h c => ⟨(h c).1.trans (Mix.result_eq m ρ c), (h c).2⟩) (Mix.run (F := Ideal) m ρ)

set_option maxHeartbeats 4000000 in
/-- For finite centres and weights, from the same arguments the two-layer call and its reference end with the same values. -/
theorem same_layers : Cert.algebraic_DenseIdeal_DenseReferenceIdeal_pre_finite := by
  intro m ρ m' ρ' hp hagree
  refine ⟨fun c => Mix.table (m ((c.tc : Thread Cert.Dense.nD Cert.Dense.τ).loc Cert.Dense.main_arg0)) (m ((c.tc : Thread Cert.Dense.nD Cert.Dense.τ).loc Cert.Dense.main_arg1))
        (m ((c.tc : Thread Cert.Dense.nD Cert.Dense.τ).loc Cert.Dense.main_arg2)) (m ((c.tc : Thread Cert.Dense.nD Cert.Dense.τ).loc Cert.Dense.main_arg3))
        (m ((c.tc : Thread Cert.Dense.nD Cert.Dense.τ).loc Cert.Dense.main_arg4)) (m ((c.tc : Thread Cert.Dense.nD Cert.Dense.τ).loc Cert.Dense.main_arg5))
        (m ((c.tc : Thread Cert.Dense.nD Cert.Dense.τ).loc Cert.Dense.main_arg6)) (m ((c.tc : Thread Cert.Dense.nD Cert.Dense.τ).loc Cert.Dense.main_arg7)),
    Eq.mpr (congrArg (fun d => (θ_run d _ _) _) Mix.same_labels) (run_layers m ρ),
    (θ_run _ _ _).mono (fun r h c => ⟨(h c).1.trans ?_, (h c).2⟩) (Cert.DenseReferenceIdeal.Value.run (F := Ideal) m' ρ')⟩
  obtain ⟨e0, e1, e2, e3, e4, e5, e6, e7⟩ := hagree c
  rw [MixRef.result_stages, e0, e1, e2, e3, e4, e5, e6, e7]
  funext j
  obtain ⟨b, s, o, rfl⟩ : ∃ (b : Fin 8) (s : Fin 1024) (o : Fin 256), j = ix3 b s o :=
    ⟨j 0, j 1, j 2, by funext a; fin_cases a <;> rfl⟩
  exact MixRef.reference_layers _ _ _ _ _ _ _ _ (hp c) b s o

/-- Everything claimed. -/
theorem claim : Cert.Claim := ⟨Cert.Kernel.Gen.facts, Cert.KernelIdeal.Gen.facts, Cert.ReferenceIdeal.Gen.facts, Cert.Reference.Gen.facts,
  Cert.Sample.Gen.facts, Cert.SampleIdeal.Gen.facts, Cert.SampleReferenceIdeal.Gen.facts,
  Cert.Near.Gen.facts, Cert.NearIdeal.Gen.facts, Cert.NearReferenceIdeal.Gen.facts,
  Cert.Dense.Gen.facts, Cert.DenseIdeal.Gen.facts, Cert.DenseReferenceIdeal.Gen.facts,
  Cert.Pre_in_cloud.Gen.facts, Cert.Pre_bounded.Gen.facts, Cert.Pre_finite.Gen.facts,
  frame_Kernel, frame_KernelIdeal, frame_ReferenceIdeal, frame_Reference, frame_Sample, frame_SampleIdeal, frame_SampleReferenceIdeal,
  frame_Near, frame_NearIdeal, frame_NearIdeal_bounded, frame_NearReferenceIdeal, frame_NearReferenceIdeal_bounded,
  frame_Dense, frame_DenseIdeal, frame_DenseIdeal_finite, frame_DenseReferenceIdeal, frame_DenseReferenceIdeal_finite,
  trivial, same_rows, same_words, trivial, same_points, trivial, same_neighbours, trivial, same_layers⟩

end Cert.Proof

end
